-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 128, 2048]⟩ ⟨3, ![2, 1024, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 2048]⟩ ⟨3, ![2, 1024, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v74) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x2048 : Shape := ⟨3, ![2, 128, 2048]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)

variable [Facts]

def fn {F : FTy → Type} [FloatOps F] (main_arg0 : FVec F S2x128x512 .bf16) (main_arg1 : FVec F S512x256 .bf16) (main_arg2 : FVec F S2x128x2048 .bf16) (main_arg3 : FVec F S2x128x2048 .bf16) (main_arg4 : FVec F S256x512 .bf16) : IVec S2x128x512 1 × IVec S512x256 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  (main_v3, main_v7)
-- ==== Pre_finite_ReferenceIdeal.lean ====
abbrev S2x128x512 : Shape := ⟨3, ![2, 128, 512]⟩
abbrev S512x2048 : Shape := ⟨2, ![512, 2048]⟩
abbrev S2x1024x2048 : Shape := ⟨3, ![2, 1024, 2048]⟩
abbrev S2048x512 : Shape := ⟨2, ![2048, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x2048 : S_.BroadcastsInDim S512x2048 (![] : Fin 0 → Fin S512x2048.rank)

variable [Facts]

def fn {F : FTy → Type} [FloatOps F] (main_arg0 : FVec F S2x128x512 .bf16) (main_arg1 : FVec F S512x2048 .bf16) (main_arg2 : FVec F S2x1024x2048 .bf16) (main_arg3 : FVec F S2x1024x2048 .bf16) (main_arg4 : FVec F S2048x512 .bf16) : IVec S2x128x512 1 × IVec S512x2048 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x2048 .f32 := (extf .f32 · bitsLt_bf16_f32) main_arg1
  let main_v5 : FVec F S512x2048 .f32 := Host.absf main_v4
  let main_cst_0 : FVec F S_ .f32 := constant S_ .f32 0x7F800000#32
  let main_v6 : FVec F S512x2048 .f32 := broadcastInDim S512x2048 ![] bcast_S_S512x2048 main_cst_0
  let main_v7 : IVec S512x2048 1 := cmpf .olt main_v5 main_v6
  (main_v3, main_v7)
-- ==== Kernel.lean ====
abbrev S2x128x512 : Shape := ⟨3, ![2, 128, 512]⟩
abbrev S512x256 : Shape := ⟨2, ![512, 256]⟩
abbrev S2x128x2048 : Shape := ⟨3, ![2, 128, 2048]⟩
abbrev S256x512 : Shape := ⟨2, ![256, 512]⟩
abbrev S2x128 : Shape := ⟨2, ![2, 128]⟩
abbrev S8x2x128x256 : Shape := ⟨4, ![8, 2, 128, 256]⟩
abbrev S8x2x128 : Shape := ⟨3, ![8, 2, 128]⟩
abbrev S8x32x512 : Shape := ⟨3, ![8, 32, 512]⟩
abbrev S32x512 : Shape := ⟨2, ![32, 512]⟩
abbrev S7 : Shape := ⟨1, ![7]⟩
abbrev S8 : Shape := ⟨1, ![8]⟩
abbrev S5 : Shape := ⟨1, ![5]⟩
abbrev S_ : Shape := ⟨0, ![]⟩
abbrev S2x128x1 : Shape := ⟨3, ![2, 128, 1]⟩
abbrev S1 : Shape := ⟨1, ![1]⟩
abbrev S1x2x64x256 : Shape := ⟨4, ![1, 2, 64, 256]⟩
abbrev S2x64x256 : Shape := ⟨3, ![2, 64, 256]⟩
abbrev S1x2x128x256 : Shape := ⟨4, ![1, 2, 128, 256]⟩
abbrev S2x128x256 : Shape := ⟨3, ![2, 128, 256]⟩
abbrev S1x2x128 : Shape := ⟨3, ![1, 2, 128]⟩
abbrev S256x256 : Shape := ⟨2, ![256, 256]⟩
abbrev S128x64 : Shape := ⟨2, ![128, 64]⟩
abbrev S128x128 : Shape := ⟨2, ![128, 128]⟩
abbrev S128x1 : Shape := ⟨2, ![128, 1]⟩
abbrev S1x1x128 : Shape := ⟨3, ![1, 1, 128]⟩
abbrev S128 : Shape := ⟨1, ![128]⟩
abbrev S1x1x128x64 : Shape := ⟨4, ![1, 1, 128, 64]⟩
abbrev S128x256 : Shape := ⟨2, ![128, 256]⟩
abbrev S1x32x512 : Shape := ⟨3, ![1, 32, 512]⟩

abbrev nBuf : Space → Nat
  | .hbm => 6
  | .vmem => 16
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x2048, .bf16⟩
  | .hbm, ⟨3, _⟩ => ⟨S2x128x2048, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x2048, .bf16⟩
  | .local _ .vmem, ⟨3, _⟩ => ⟨S2x128x2048, .bf16⟩
  | .local _ .vmem, ⟨4, _⟩ => ⟨S256x512, .bf16⟩
  | .local _ .vmem, ⟨5, _⟩ => ⟨S2x128x512, .f32⟩
  | .local _ .vmem, ⟨6, _⟩ => ⟨S2x128x2048, .i8⟩
  | .local _ .vmem, ⟨7, _⟩ => ⟨S2x128x2048, .i8⟩
  | .local _ .vmem, ⟨8, _⟩ => ⟨S2x128, .bf16⟩
  | .local _ .vmem, ⟨9, _⟩ => ⟨S8x2x128x256, .i8⟩
  | .local _ .vmem, ⟨10, _⟩ => ⟨S8x2x128x256, .i8⟩
  | .local _ .vmem, ⟨11, _⟩ => ⟨S8x2x128, .bf16⟩
  | .local _ .vmem, ⟨12, _⟩ => ⟨S256x512, .bf16⟩
  | .local _ .vmem, ⟨13, _⟩ => ⟨S8x32x512, .bf16⟩
  | .local _ .vmem, ⟨14, _⟩ => ⟨S32x512, .bf16⟩
  | .local _ .vmem, ⟨15, _⟩ => ⟨S8x32x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v154 : BitVec 32 := Scalar.extui v142
  let c0_i32_95 : BitVec 32 := 0#32
  let v155 : BitVec 1 := Scalar.cmpi .ne v154 c0_i32_95
  v155

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off3 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c256_i32_1871 : BitVec 32 := 256#32
  let v3419 : BitVec 32 := Scalar.muli v153 c256_i32_1871
  ![0, v3423.toNat, v3419.toNat]
def k0_dev8 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c1_i32_1877 : BitVec 32 := 1#32
  let v3424 : BitVec 32 := Scalar.muli v153 c1_i32_1877
  let v3425 : BitVec 32 := Scalar.addi c0_i32_1878 v3424
  v3425.toNat
def k0_dev9 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c1_i32_1888 : BitVec 32 := 1#32
  let v3438 : BitVec 32 := Scalar.muli v153 c1_i32_1888
  let v3439 : BitVec 32 := Scalar.addi c0_i32_1889 v3438
  v3439.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_96 : BitVec 1 := 1#1
  let v156 : BitVec 1 := Scalar.xori v142 true_96
  let v157 : BitVec 32 := Scalar.extui v156
  let c0_i32_97 : BitVec 32 := 0#32
  let v158 : BitVec 1 := Scalar.cmpi .ne v157 c0_i32_97
  v158

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off6 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c256_i32_1871 : BitVec 32 := 256#32
  let v3419 : BitVec 32 := Scalar.muli v153 c256_i32_1871
  ![0, 0, v3419.toNat]
def k0_dev10 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c1_i32_1873 : BitVec 32 := 1#32
  let v3420 : BitVec 32 := Scalar.muli v153 c1_i32_1873
  let v3421 : BitVec 32 := Scalar.addi c0_i32_1874 v3420
  v3421.toNat
def k0_dev11 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c1_i32_1882 : BitVec 32 := 1#32
  let v3430 : BitVec 32 := Scalar.muli v153 c1_i32_1882
  let v3431 : BitVec 32 := Scalar.addi c0_i32_1883 v3430
  v3431.toNat
def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_101 : BitVec 32 := 0#32
  let c0_i32_102 : BitVec 32 := 0#32
  ![v2.toNat, 0, 0]
def k0_dev12 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_88 : BitVec 32 := 1#32
  let v143 : BitVec 32 := Scalar.addi v2 c1_i32_88
  let c8_i32_89 : BitVec 32 := 8#32
  let c0_i32_90 : BitVec 32 := 0#32
  let v144 : BitVec 1 := Scalar.cmpi .eq c8_i32_89 c0_i32_90
  let c1_i32_91 : BitVec 32 := 1#32
  let v145 : BitVec 32 := Scalar.select v144 c1_i32_91 c8_i32_89
  let v146 : BitVec 32 := Scalar.remsi v143 v145
  let c0_i32_93 : BitVec 32 := 0#32
  let v148 : BitVec 1 := Scalar.cmpi .slt v146 c0_i32_93
  let c0_i32_94 : BitVec 32 := 0#32
  let v149 : BitVec 1 := Scalar.cmpi .slt v145 c0_i32_94
  let v150 : BitVec 1 := Scalar.xori v148 v149
  let c0_i32_92 : BitVec 32 := 0#32
  let v147 : BitVec 1 := Scalar.cmpi .ne v146 c0_i32_92
  let v151 : BitVec 1 := Scalar.andi v150 v147
  let v152 : BitVec 32 := Scalar.addi v146 v145
  let v153 : BitVec 32 := Scalar.select v151 v152 v146
  let c1_i32_99 : BitVec 32 := 1#32
  let v159 : BitVec 32 := Scalar.muli v153 c1_i32_99
  let v160 : BitVec 32 := Scalar.addi c0_i32_100 v159
  v160.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v178 : BitVec 32 := Scalar.extui v142
  let c0_i32_110 : BitVec 32 := 0#32
  let v179 : BitVec 1 := Scalar.cmpi .ne v178 c0_i32_110
  v179

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off11 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c256_i32_1871 : BitVec 32 := 256#32
  let v3419 : BitVec 32 := Scalar.muli v177 c256_i32_1871
  ![0, v3423.toNat, v3419.toNat]
def k0_dev13 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_1877 : BitVec 32 := 1#32
  let v3424 : BitVec 32 := Scalar.muli v177 c1_i32_1877
  let v3425 : BitVec 32 := Scalar.addi c0_i32_1878 v3424
  v3425.toNat
def k0_dev14 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_1888 : BitVec 32 := 1#32
  let v3438 : BitVec 32 := Scalar.muli v177 c1_i32_1888
  let v3439 : BitVec 32 := Scalar.addi c0_i32_1889 v3438
  v3439.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_111 : BitVec 1 := 1#1
  let v180 : BitVec 1 := Scalar.xori v142 true_111
  let v181 : BitVec 32 := Scalar.extui v180
  let c0_i32_112 : BitVec 32 := 0#32
  let v182 : BitVec 1 := Scalar.cmpi .ne v181 c0_i32_112
  v182

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off14 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c256_i32_1871 : BitVec 32 := 256#32
  let v3419 : BitVec 32 := Scalar.muli v177 c256_i32_1871
  ![0, 0, v3419.toNat]
def k0_dev15 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_1873 : BitVec 32 := 1#32
  let v3420 : BitVec 32 := Scalar.muli v177 c1_i32_1873
  let v3421 : BitVec 32 := Scalar.addi c0_i32_1874 v3420
  v3421.toNat
def k0_dev16 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_1882 : BitVec 32 := 1#32
  let v3430 : BitVec 32 := Scalar.muli v177 c1_i32_1882
  let v3431 : BitVec 32 := Scalar.addi c0_i32_1883 v3430
  v3431.toNat
def k0_dev17 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_103 : BitVec 32 := 2#32
  let v167 : BitVec 32 := Scalar.addi v2 c2_i32_103
  let c8_i32_104 : BitVec 32 := 8#32
  let c0_i32_105 : BitVec 32 := 0#32
  let v168 : BitVec 1 := Scalar.cmpi .eq c8_i32_104 c0_i32_105
  let c1_i32_106 : BitVec 32 := 1#32
  let v169 : BitVec 32 := Scalar.select v168 c1_i32_106 c8_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c1_i32_114 : BitVec 32 := 1#32
  let v183 : BitVec 32 := Scalar.muli v177 c1_i32_114
  let v184 : BitVec 32 := Scalar.addi c0_i32_115 v183
  v184.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v202 : BitVec 32 := Scalar.extui v142
  let c0_i32_125 : BitVec 32 := 0#32
  let v203 : BitVec 1 := Scalar.cmpi .ne v202 c0_i32_125
  v203

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off17 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c256_i32_1871 : BitVec 32 := 256#32
  let v3419 : BitVec 32 := Scalar.muli v201 c256_i32_1871
  ![0, v3423.toNat, v3419.toNat]
def k0_dev18 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c1_i32_1877 : BitVec 32 := 1#32
  let v3424 : BitVec 32 := Scalar.muli v201 c1_i32_1877
  let v3425 : BitVec 32 := Scalar.addi c0_i32_1878 v3424
  v3425.toNat
def k0_dev19 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c1_i32_1888 : BitVec 32 := 1#32
  let v3438 : BitVec 32 := Scalar.muli v201 c1_i32_1888
  let v3439 : BitVec 32 := Scalar.addi c0_i32_1889 v3438
  v3439.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_126 : BitVec 1 := 1#1
  let v204 : BitVec 1 := Scalar.xori v142 true_126
  let v205 : BitVec 32 := Scalar.extui v204
  let c0_i32_127 : BitVec 32 := 0#32
  let v206 : BitVec 1 := Scalar.cmpi .ne v205 c0_i32_127
  v206

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off20 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c256_i32_1871 : BitVec 32 := 256#32
  let v3419 : BitVec 32 := Scalar.muli v201 c256_i32_1871
  ![0, 0, v3419.toNat]
def k0_dev20 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c1_i32_1873 : BitVec 32 := 1#32
  let v3420 : BitVec 32 := Scalar.muli v201 c1_i32_1873
  let v3421 : BitVec 32 := Scalar.addi c0_i32_1874 v3420
  v3421.toNat
def k0_dev21 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c1_i32_1882 : BitVec 32 := 1#32
  let v3430 : BitVec 32 := Scalar.muli v201 c1_i32_1882
  let v3431 : BitVec 32 := Scalar.addi c0_i32_1883 v3430
  v3431.toNat
def k0_dev22 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_118 : BitVec 32 := 3#32
  let v191 : BitVec 32 := Scalar.addi v2 c3_i32_118
  let c8_i32_119 : BitVec 32 := 8#32
  let c0_i32_120 : BitVec 32 := 0#32
  let v192 : BitVec 1 := Scalar.cmpi .eq c8_i32_119 c0_i32_120
  let c1_i32_121 : BitVec 32 := 1#32
  let v193 : BitVec 32 := Scalar.select v192 c1_i32_121 c8_i32_119
  let v194 : BitVec 32 := Scalar.remsi v191 v193
  let c0_i32_123 : BitVec 32 := 0#32
  let v196 : BitVec 1 := Scalar.cmpi .slt v194 c0_i32_123
  let c0_i32_124 : BitVec 32 := 0#32
  let v197 : BitVec 1 := Scalar.cmpi .slt v193 c0_i32_124
  let v198 : BitVec 1 := Scalar.xori v196 v197
  let c0_i32_122 : BitVec 32 := 0#32
  let v195 : BitVec 1 := Scalar.cmpi .ne v194 c0_i32_122
  let v199 : BitVec 1 := Scalar.andi v198 v195
  let v200 : BitVec 32 := Scalar.addi v194 v193
  let v201 : BitVec 32 := Scalar.select v199 v200 v194
  let c1_i32_129 : BitVec 32 := 1#32
  let v207 : BitVec 32 := Scalar.muli v201 c1_i32_129
  let v208 : BitVec 32 := Scalar.addi c0_i32_130 v207
  v208.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v226 : BitVec 32 := Scalar.extui v142
  let c0_i32_140 : BitVec 32 := 0#32
  let v227 : BitVec 1 := Scalar.cmpi .ne v226 c0_i32_140
  v227

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off23 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c256_i32_1871 : BitVec 32 := 256#32
  let v3419 : BitVec 32 := Scalar.muli v225 c256_i32_1871
  ![0, v3423.toNat, v3419.toNat]
def k0_dev23 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c1_i32_1877 : BitVec 32 := 1#32
  let v3424 : BitVec 32 := Scalar.muli v225 c1_i32_1877
  let v3425 : BitVec 32 := Scalar.addi c0_i32_1878 v3424
  v3425.toNat
def k0_dev24 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c1_i32_1888 : BitVec 32 := 1#32
  let v3438 : BitVec 32 := Scalar.muli v225 c1_i32_1888
  let v3439 : BitVec 32 := Scalar.addi c0_i32_1889 v3438
  v3439.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_141 : BitVec 1 := 1#1
  let v228 : BitVec 1 := Scalar.xori v142 true_141
  let v229 : BitVec 32 := Scalar.extui v228
  let c0_i32_142 : BitVec 32 := 0#32
  let v230 : BitVec 1 := Scalar.cmpi .ne v229 c0_i32_142
  v230

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off26 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c256_i32_1871 : BitVec 32 := 256#32
  let v3419 : BitVec 32 := Scalar.muli v225 c256_i32_1871
  ![0, 0, v3419.toNat]
def k0_dev25 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c1_i32_1873 : BitVec 32 := 1#32
  let v3420 : BitVec 32 := Scalar.muli v225 c1_i32_1873
  let v3421 : BitVec 32 := Scalar.addi c0_i32_1874 v3420
  v3421.toNat
def k0_dev26 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c1_i32_1882 : BitVec 32 := 1#32
  let v3430 : BitVec 32 := Scalar.muli v225 c1_i32_1882
  let v3431 : BitVec 32 := Scalar.addi c0_i32_1883 v3430
  v3431.toNat
def k0_dev27 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v215 : BitVec 32 := Scalar.addi v2 c4_i32_133
  let c8_i32_134 : BitVec 32 := 8#32
  let c0_i32_135 : BitVec 32 := 0#32
  let v216 : BitVec 1 := Scalar.cmpi .eq c8_i32_134 c0_i32_135
  let c1_i32_136 : BitVec 32 := 1#32
  let v217 : BitVec 32 := Scalar.select v216 c1_i32_136 c8_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c1_i32_144 : BitVec 32 := 1#32
  let v231 : BitVec 32 := Scalar.muli v225 c1_i32_144
  let v232 : BitVec 32 := Scalar.addi c0_i32_145 v231
  v232.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v250 : BitVec 32 := Scalar.extui v142
  let c0_i32_155 : BitVec 32 := 0#32
  let v251 : BitVec 1 := Scalar.cmpi .ne v250 c0_i32_155
  v251

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off29 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c256_i32_1871 : BitVec 32 := 256#32
  let v3419 : BitVec 32 := Scalar.muli v249 c256_i32_1871
  ![0, v3423.toNat, v3419.toNat]
def k0_dev28 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c1_i32_1877 : BitVec 32 := 1#32
  let v3424 : BitVec 32 := Scalar.muli v249 c1_i32_1877
  let v3425 : BitVec 32 := Scalar.addi c0_i32_1878 v3424
  v3425.toNat
def k0_dev29 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c1_i32_1888 : BitVec 32 := 1#32
  let v3438 : BitVec 32 := Scalar.muli v249 c1_i32_1888
  let v3439 : BitVec 32 := Scalar.addi c0_i32_1889 v3438
  v3439.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_156 : BitVec 1 := 1#1
  let v252 : BitVec 1 := Scalar.xori v142 true_156
  let v253 : BitVec 32 := Scalar.extui v252
  let c0_i32_157 : BitVec 32 := 0#32
  let v254 : BitVec 1 := Scalar.cmpi .ne v253 c0_i32_157
  v254

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off32 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c256_i32_1871 : BitVec 32 := 256#32
  let v3419 : BitVec 32 := Scalar.muli v249 c256_i32_1871
  ![0, 0, v3419.toNat]
def k0_dev30 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c1_i32_1873 : BitVec 32 := 1#32
  let v3420 : BitVec 32 := Scalar.muli v249 c1_i32_1873
  let v3421 : BitVec 32 := Scalar.addi c0_i32_1874 v3420
  v3421.toNat
def k0_dev31 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c1_i32_1882 : BitVec 32 := 1#32
  let v3430 : BitVec 32 := Scalar.muli v249 c1_i32_1882
  let v3431 : BitVec 32 := Scalar.addi c0_i32_1883 v3430
  v3431.toNat
def k0_dev32 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v239 : BitVec 32 := Scalar.addi v2 c5_i32_148
  let c8_i32_149 : BitVec 32 := 8#32
  let c0_i32_150 : BitVec 32 := 0#32
  let v240 : BitVec 1 := Scalar.cmpi .eq c8_i32_149 c0_i32_150
  let c1_i32_151 : BitVec 32 := 1#32
  let v241 : BitVec 32 := Scalar.select v240 c1_i32_151 c8_i32_149
  let v242 : BitVec 32 := Scalar.remsi v239 v241
  let c0_i32_153 : BitVec 32 := 0#32
  let v244 : BitVec 1 := Scalar.cmpi .slt v242 c0_i32_153
  let c0_i32_154 : BitVec 32 := 0#32
  let v245 : BitVec 1 := Scalar.cmpi .slt v241 c0_i32_154
  let v246 : BitVec 1 := Scalar.xori v244 v245
  let c0_i32_152 : BitVec 32 := 0#32
  let v243 : BitVec 1 := Scalar.cmpi .ne v242 c0_i32_152
  let v247 : BitVec 1 := Scalar.andi v246 v243
  let v248 : BitVec 32 := Scalar.addi v242 v241
  let v249 : BitVec 32 := Scalar.select v247 v248 v242
  let c1_i32_159 : BitVec 32 := 1#32
  let v255 : BitVec 32 := Scalar.muli v249 c1_i32_159
  let v256 : BitVec 32 := Scalar.addi c0_i32_160 v255
  v256.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v274 : BitVec 32 := Scalar.extui v142
  let c0_i32_170 : BitVec 32 := 0#32
  let v275 : BitVec 1 := Scalar.cmpi .ne v274 c0_i32_170
  v275

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off35 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c256_i32_1871 : BitVec 32 := 256#32
  let v3419 : BitVec 32 := Scalar.muli v273 c256_i32_1871
  ![0, v3423.toNat, v3419.toNat]
def k0_dev33 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_1877 : BitVec 32 := 1#32
  let v3424 : BitVec 32 := Scalar.muli v273 c1_i32_1877
  let v3425 : BitVec 32 := Scalar.addi c0_i32_1878 v3424
  v3425.toNat
def k0_dev34 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_1888 : BitVec 32 := 1#32
  let v3438 : BitVec 32 := Scalar.muli v273 c1_i32_1888
  let v3439 : BitVec 32 := Scalar.addi c0_i32_1889 v3438
  v3439.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_171 : BitVec 1 := 1#1
  let v276 : BitVec 1 := Scalar.xori v142 true_171
  let v277 : BitVec 32 := Scalar.extui v276
  let c0_i32_172 : BitVec 32 := 0#32
  let v278 : BitVec 1 := Scalar.cmpi .ne v277 c0_i32_172
  v278

def k0_off36 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off37 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off38 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c256_i32_1871 : BitVec 32 := 256#32
  let v3419 : BitVec 32 := Scalar.muli v273 c256_i32_1871
  ![0, 0, v3419.toNat]
def k0_dev35 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_1873 : BitVec 32 := 1#32
  let v3420 : BitVec 32 := Scalar.muli v273 c1_i32_1873
  let v3421 : BitVec 32 := Scalar.addi c0_i32_1874 v3420
  v3421.toNat
def k0_dev36 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_1882 : BitVec 32 := 1#32
  let v3430 : BitVec 32 := Scalar.muli v273 c1_i32_1882
  let v3431 : BitVec 32 := Scalar.addi c0_i32_1883 v3430
  v3431.toNat
def k0_dev37 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_163 : BitVec 32 := 6#32
  let v263 : BitVec 32 := Scalar.addi v2 c6_i32_163
  let c8_i32_164 : BitVec 32 := 8#32
  let c0_i32_165 : BitVec 32 := 0#32
  let v264 : BitVec 1 := Scalar.cmpi .eq c8_i32_164 c0_i32_165
  let c1_i32_166 : BitVec 32 := 1#32
  let v265 : BitVec 32 := Scalar.select v264 c1_i32_166 c8_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_174 : BitVec 32 := 1#32
  let v279 : BitVec 32 := Scalar.muli v273 c1_i32_174
  let v280 : BitVec 32 := Scalar.addi c0_i32_175 v279
  v280.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v298 : BitVec 32 := Scalar.extui v142
  let c0_i32_185 : BitVec 32 := 0#32
  let v299 : BitVec 1 := Scalar.cmpi .ne v298 c0_i32_185
  v299

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_off41 (d0 : Dev nD) : Fin 3 → Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c256_i32_1871 : BitVec 32 := 256#32
  let v3419 : BitVec 32 := Scalar.muli v297 c256_i32_1871
  ![0, v3423.toNat, v3419.toNat]
def k0_dev38 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c1_i32_1877 : BitVec 32 := 1#32
  let v3424 : BitVec 32 := Scalar.muli v297 c1_i32_1877
  let v3425 : BitVec 32 := Scalar.addi c0_i32_1878 v3424
  v3425.toNat
def k0_dev39 (d0 : Dev nD) : Nat :=
  let c0_i32_1889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c1_i32_1888 : BitVec 32 := 1#32
  let v3438 : BitVec 32 := Scalar.muli v297 c1_i32_1888
  let v3439 : BitVec 32 := Scalar.addi c0_i32_1889 v3438
  v3439.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_186 : BitVec 1 := 1#1
  let v300 : BitVec 1 := Scalar.xori v142 true_186
  let v301 : BitVec 32 := Scalar.extui v300
  let c0_i32_187 : BitVec 32 := 0#32
  let v302 : BitVec 1 := Scalar.cmpi .ne v301 c0_i32_187
  v302

def k0_off42 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1875 : BitVec 32 := 0#32
  let c0_i32_1876 : BitVec 32 := 0#32
  let c0_i32_1877 : BitVec 32 := 0#32
  ![v2.toNat, 0, 0, 0]
def k0_off44 (d0 : Dev nD) : Fin 3 → Nat :=
  let c0_i32_1878 : BitVec 32 := 0#32
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c256_i32_1871 : BitVec 32 := 256#32
  let v3419 : BitVec 32 := Scalar.muli v297 c256_i32_1871
  ![0, 0, v3419.toNat]
def k0_dev40 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c1_i32_1873 : BitVec 32 := 1#32
  let v3420 : BitVec 32 := Scalar.muli v297 c1_i32_1873
  let v3421 : BitVec 32 := Scalar.addi c0_i32_1874 v3420
  v3421.toNat
def k0_dev41 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c1_i32_1882 : BitVec 32 := 1#32
  let v3430 : BitVec 32 := Scalar.muli v297 c1_i32_1882
  let v3431 : BitVec 32 := Scalar.addi c0_i32_1883 v3430
  v3431.toNat
def k0_dev42 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_178 : BitVec 32 := 7#32
  let v287 : BitVec 32 := Scalar.addi v2 c7_i32_178
  let c8_i32_179 : BitVec 32 := 8#32
  let c0_i32_180 : BitVec 32 := 0#32
  let v288 : BitVec 1 := Scalar.cmpi .eq c8_i32_179 c0_i32_180
  let c1_i32_181 : BitVec 32 := 1#32
  let v289 : BitVec 32 := Scalar.select v288 c1_i32_181 c8_i32_179
  let v290 : BitVec 32 := Scalar.remsi v287 v289
  let c0_i32_183 : BitVec 32 := 0#32
  let v292 : BitVec 1 := Scalar.cmpi .slt v290 c0_i32_183
  let c0_i32_184 : BitVec 32 := 0#32
  let v293 : BitVec 1 := Scalar.cmpi .slt v289 c0_i32_184
  let v294 : BitVec 1 := Scalar.xori v292 v293
  let c0_i32_182 : BitVec 32 := 0#32
  let v291 : BitVec 1 := Scalar.cmpi .ne v290 c0_i32_182
  let v295 : BitVec 1 := Scalar.andi v294 v291
  let v296 : BitVec 32 := Scalar.addi v290 v289
  let v297 : BitVec 32 := Scalar.select v295 v296 v290
  let c1_i32_189 : BitVec 32 := 1#32
  let v303 : BitVec 32 := Scalar.muli v297 c1_i32_189
  let v304 : BitVec 32 := Scalar.addi c0_i32_190 v303
  v304.toNat
def k0_off45 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_195 : BitVec 32 := 0#32
  let c0_i32_196 : BitVec 32 := 0#32
  let c0_i32_197 : BitVec 32 := 0#32
  ![v2.toNat, 0, 0, 0]
def k0_off46 (d0 : Dev nD) : Fin 3 → Nat :=
  let c0_i32_198 : BitVec 32 := 0#32
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v311 : BitVec 32 := Scalar.muli v2 c256_i32
  ![0, 0, v311.toNat]
def k0_off47 (d0 : Dev nD) (c0_i32_237 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v467 : Index := Scalar.indexCast v400
  let c0_274 : Index := 0#32
  let c0_275 : Index := 0#32
  ![v467.toNat, 0, 0]
def k0_off48 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v471 : Index := Scalar.indexCast v400
  let c0_276 : Index := 0#32
  let c0_277 : Index := 0#32
  let c0_278 : Index := 0#32
  ![v471.toNat, 0, 0, 0]
def k0_off49 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v495 : Index := Scalar.indexCast v400
  let c0_288 : Index := 0#32
  let c0_289 : Index := 0#32
  let c64 : Index := 64#32
  ![v495.toNat, 0, 0, 64]
def k0_off50 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v519 : Index := Scalar.indexCast v400
  let c0_299 : Index := 0#32
  let c0_300 : Index := 0#32
  let c128 : Index := 128#32
  ![v519.toNat, 0, 0, 128]
def k0_off51 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v543 : Index := Scalar.indexCast v400
  let c0_310 : Index := 0#32
  let c0_311 : Index := 0#32
  let c192 : Index := 192#32
  ![v543.toNat, 0, 0, 192]
def k0_off52 (d0 : Dev nD) (c0_i32_237 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v567 : Index := Scalar.indexCast v400
  let c1 : Index := 1#32
  let c0_321 : Index := 0#32
  ![v567.toNat, 1, 0]
def k0_off53 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v571 : Index := Scalar.indexCast v400
  let c1_322 : Index := 1#32
  let c0_323 : Index := 0#32
  let c0_324 : Index := 0#32
  ![v571.toNat, 1, 0, 0]
def k0_off54 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v595 : Index := Scalar.indexCast v400
  let c1_334 : Index := 1#32
  let c0_335 : Index := 0#32
  let c64_336 : Index := 64#32
  ![v595.toNat, 1, 0, 64]
def k0_off55 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v619 : Index := Scalar.indexCast v400
  let c1_346 : Index := 1#32
  let c0_347 : Index := 0#32
  let c128_348 : Index := 128#32
  ![v619.toNat, 1, 0, 128]
def k0_off56 (d0 : Dev nD) (c0_i32_237 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v390 : BitVec 32 := Scalar.subi v2 c0_i32_237
  let c8_i32_238 : BitVec 32 := 8#32
  let c0_i32_239 : BitVec 32 := 0#32
  let v391 : BitVec 1 := Scalar.cmpi .eq c8_i32_238 c0_i32_239
  let c1_i32_240 : BitVec 32 := 1#32
  let v392 : BitVec 32 := Scalar.select v391 c1_i32_240 c8_i32_238
  let v393 : BitVec 32 := Scalar.remsi v390 v392
  let c0_i32_242 : BitVec 32 := 0#32
  let v395 : BitVec 1 := Scalar.cmpi .slt v393 c0_i32_242
  let c0_i32_243 : BitVec 32 := 0#32
  let v396 : BitVec 1 := Scalar.cmpi .slt v392 c0_i32_243
  let v397 : BitVec 1 := Scalar.xori v395 v396
  let c0_i32_241 : BitVec 32 := 0#32
  let v394 : BitVec 1 := Scalar.cmpi .ne v393 c0_i32_241
  let v398 : BitVec 1 := Scalar.andi v397 v394
  let v399 : BitVec 32 := Scalar.addi v393 v392
  let v400 : BitVec 32 := Scalar.select v398 v399 v393
  let v643 : Index := Scalar.indexCast v400
  let c1_358 : Index := 1#32
  let c0_359 : Index := 0#32
  let c192_360 : Index := 192#32
  ![v643.toNat, 1, 0, 192]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c2_i32_377 : BitVec 32 := 2#32
  let v678 : BitVec 1 := Scalar.cmpi .eq v677 c2_i32_377
  let c3_i32_378 : BitVec 32 := 3#32
  let v679 : BitVec 1 := Scalar.cmpi .eq v677 c3_i32_378
  let v680 : BitVec 1 := Scalar.ori v678 v679
  let c5_i32_379 : BitVec 32 := 5#32
  let v681 : BitVec 1 := Scalar.cmpi .eq v677 c5_i32_379
  let v682 : BitVec 1 := Scalar.ori v680 v681
  let c6_i32_380 : BitVec 32 := 6#32
  let v683 : BitVec 1 := Scalar.cmpi .eq v677 c6_i32_380
  let v684 : BitVec 1 := Scalar.ori v682 v683
  let v685 : BitVec 32 := Scalar.extui v684
  let c0_i32_381 : BitVec 32 := 0#32
  let v686 : BitVec 1 := Scalar.cmpi .ne v685 c0_i32_381
  v686

def k0_off57 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  ![v677.toNat]
def k0_off58 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c0_i32_1878 : BitVec 32 := 0#32
  let c2_i32_1871 : BitVec 32 := 2#32
  let v3419 : BitVec 1 := Scalar.cmpi .eq v677 c2_i32_1871
  let c5_i32_1872 : BitVec 32 := 5#32
  let v3420 : BitVec 1 := Scalar.cmpi .eq v677 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v677.toNat, 0, v3422.toNat, 0]
def k0_off59 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c2_i32_1871 : BitVec 32 := 2#32
  let v3419 : BitVec 1 := Scalar.cmpi .eq v677 c2_i32_1871
  let c5_i32_1872 : BitVec 32 := 5#32
  let v3420 : BitVec 1 := Scalar.cmpi .eq v677 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c2_i32_377 : BitVec 32 := 2#32
  let v678 : BitVec 1 := Scalar.cmpi .eq v677 c2_i32_377
  let c3_i32_378 : BitVec 32 := 3#32
  let v679 : BitVec 1 := Scalar.cmpi .eq v677 c3_i32_378
  let v680 : BitVec 1 := Scalar.ori v678 v679
  let c5_i32_379 : BitVec 32 := 5#32
  let v681 : BitVec 1 := Scalar.cmpi .eq v677 c5_i32_379
  let v682 : BitVec 1 := Scalar.ori v680 v681
  let c6_i32_380 : BitVec 32 := 6#32
  let v683 : BitVec 1 := Scalar.cmpi .eq v677 c6_i32_380
  let v684 : BitVec 1 := Scalar.ori v682 v683
  let true_382 : BitVec 1 := 1#1
  let v687 : BitVec 1 := Scalar.xori v684 true_382
  let v688 : BitVec 32 := Scalar.extui v687
  let c0_i32_383 : BitVec 32 := 0#32
  let v689 : BitVec 1 := Scalar.cmpi .ne v688 c0_i32_383
  v689

def k0_off60 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  ![v677.toNat]
def k0_off61 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c0_i32_1874 : BitVec 32 := 0#32
  let c0_i32_1875 : BitVec 32 := 0#32
  let c0_i32_1876 : BitVec 32 := 0#32
  ![v677.toNat, 0, 0, 0]
def k0_off62 (d0 : Dev nD) (c1_i32_370 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  ![v677.toNat]
def k0_off63 (d0 : Dev nD) (c1_i32_370 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v667 : BitVec 32 := Scalar.subi v2 c1_i32_370
  let c8_i32_371 : BitVec 32 := 8#32
  let c0_i32_372 : BitVec 32 := 0#32
  let v668 : BitVec 1 := Scalar.cmpi .eq c8_i32_371 c0_i32_372
  let c1_i32_373 : BitVec 32 := 1#32
  let v669 : BitVec 32 := Scalar.select v668 c1_i32_373 c8_i32_371
  let v670 : BitVec 32 := Scalar.remsi v667 v669
  let c0_i32_375 : BitVec 32 := 0#32
  let v672 : BitVec 1 := Scalar.cmpi .slt v670 c0_i32_375
  let c0_i32_376 : BitVec 32 := 0#32
  let v673 : BitVec 1 := Scalar.cmpi .slt v669 c0_i32_376
  let v674 : BitVec 1 := Scalar.xori v672 v673
  let c0_i32_374 : BitVec 32 := 0#32
  let v671 : BitVec 1 := Scalar.cmpi .ne v670 c0_i32_374
  let v675 : BitVec 1 := Scalar.andi v674 v671
  let v676 : BitVec 32 := Scalar.addi v670 v669
  let v677 : BitVec 32 := Scalar.select v675 v676 v670
  let c0_i32_387 : BitVec 32 := 0#32
  let c0_i32_388 : BitVec 32 := 0#32
  ![v677.toNat, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  let c2_i32_512 : BitVec 32 := 2#32
  let v959 : BitVec 1 := Scalar.cmpi .eq v958 c2_i32_512
  let c3_i32_513 : BitVec 32 := 3#32
  let v960 : BitVec 1 := Scalar.cmpi .eq v958 c3_i32_513
  let v961 : BitVec 1 := Scalar.ori v959 v960
  let c5_i32_514 : BitVec 32 := 5#32
  let v962 : BitVec 1 := Scalar.cmpi .eq v958 c5_i32_514
  let v963 : BitVec 1 := Scalar.ori v961 v962
  let c6_i32_515 : BitVec 32 := 6#32
  let v964 : BitVec 1 := Scalar.cmpi .eq v958 c6_i32_515
  let v965 : BitVec 1 := Scalar.ori v963 v964
  let v966 : BitVec 32 := Scalar.extui v965
  let c0_i32_516 : BitVec 32 := 0#32
  let v967 : BitVec 1 := Scalar.cmpi .ne v966 c0_i32_516
  v967

def k0_off64 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  ![v958.toNat]
def k0_off65 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  let c0_i32_1878 : BitVec 32 := 0#32
  let c2_i32_1871 : BitVec 32 := 2#32
  let v3419 : BitVec 1 := Scalar.cmpi .eq v958 c2_i32_1871
  let c5_i32_1872 : BitVec 32 := 5#32
  let v3420 : BitVec 1 := Scalar.cmpi .eq v958 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v958.toNat, 0, v3422.toNat, 0]
def k0_off66 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  let c2_i32_1871 : BitVec 32 := 2#32
  let v3419 : BitVec 1 := Scalar.cmpi .eq v958 c2_i32_1871
  let c5_i32_1872 : BitVec 32 := 5#32
  let v3420 : BitVec 1 := Scalar.cmpi .eq v958 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  let c2_i32_512 : BitVec 32 := 2#32
  let v959 : BitVec 1 := Scalar.cmpi .eq v958 c2_i32_512
  let c3_i32_513 : BitVec 32 := 3#32
  let v960 : BitVec 1 := Scalar.cmpi .eq v958 c3_i32_513
  let v961 : BitVec 1 := Scalar.ori v959 v960
  let c5_i32_514 : BitVec 32 := 5#32
  let v962 : BitVec 1 := Scalar.cmpi .eq v958 c5_i32_514
  let v963 : BitVec 1 := Scalar.ori v961 v962
  let c6_i32_515 : BitVec 32 := 6#32
  let v964 : BitVec 1 := Scalar.cmpi .eq v958 c6_i32_515
  let v965 : BitVec 1 := Scalar.ori v963 v964
  let true_517 : BitVec 1 := 1#1
  let v968 : BitVec 1 := Scalar.xori v965 true_517
  let v969 : BitVec 32 := Scalar.extui v968
  let c0_i32_518 : BitVec 32 := 0#32
  let v970 : BitVec 1 := Scalar.cmpi .ne v969 c0_i32_518
  v970

def k0_off67 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  ![v958.toNat]
def k0_off68 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_505 : BitVec 32 := 2#32
  let v948 : BitVec 32 := Scalar.subi v2 c2_i32_505
  let c8_i32_506 : BitVec 32 := 8#32
  let c0_i32_507 : BitVec 32 := 0#32
  let v949 : BitVec 1 := Scalar.cmpi .eq c8_i32_506 c0_i32_507
  let c1_i32_508 : BitVec 32 := 1#32
  let v950 : BitVec 32 := Scalar.select v949 c1_i32_508 c8_i32_506
  let v951 : BitVec 32 := Scalar.remsi v948 v950
  let c0_i32_510 : BitVec 32 := 0#32
  let v953 : BitVec 1 := Scalar.cmpi .slt v951 c0_i32_510
  let c0_i32_511 : BitVec 32 := 0#32
  let v954 : BitVec 1 := Scalar.cmpi .slt v950 c0_i32_511
  let v955 : BitVec 1 := Scalar.xori v953 v954
  let c0_i32_509 : BitVec 32 := 0#32
  let v952 : BitVec 1 := Scalar.cmpi .ne v951 c0_i32_509
  let v956 : BitVec 1 := Scalar.andi v955 v952
  let v957 : BitVec 32 := Scalar.addi v951 v950
  let v958 : BitVec 32 := Scalar.select v956 v957 v951
  let c0_i32_1874 : BitVec 32 := 0#32
  let c0_i32_1875 : BitVec 32 := 0#32
  let c0_i32_1876 : BitVec 32 := 0#32
  ![v958.toNat, 0, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  let c2_i32_647 : BitVec 32 := 2#32
  let v1240 : BitVec 1 := Scalar.cmpi .eq v1239 c2_i32_647
  let c3_i32_648 : BitVec 32 := 3#32
  let v1241 : BitVec 1 := Scalar.cmpi .eq v1239 c3_i32_648
  let v1242 : BitVec 1 := Scalar.ori v1240 v1241
  let c5_i32_649 : BitVec 32 := 5#32
  let v1243 : BitVec 1 := Scalar.cmpi .eq v1239 c5_i32_649
  let v1244 : BitVec 1 := Scalar.ori v1242 v1243
  let c6_i32_650 : BitVec 32 := 6#32
  let v1245 : BitVec 1 := Scalar.cmpi .eq v1239 c6_i32_650
  let v1246 : BitVec 1 := Scalar.ori v1244 v1245
  let v1247 : BitVec 32 := Scalar.extui v1246
  let c0_i32_651 : BitVec 32 := 0#32
  let v1248 : BitVec 1 := Scalar.cmpi .ne v1247 c0_i32_651
  v1248

def k0_off69 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  ![v1239.toNat]
def k0_off70 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  let c0_i32_1878 : BitVec 32 := 0#32
  let c2_i32_1871 : BitVec 32 := 2#32
  let v3419 : BitVec 1 := Scalar.cmpi .eq v1239 c2_i32_1871
  let c5_i32_1872 : BitVec 32 := 5#32
  let v3420 : BitVec 1 := Scalar.cmpi .eq v1239 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v1239.toNat, 0, v3422.toNat, 0]
def k0_off71 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  let c2_i32_1871 : BitVec 32 := 2#32
  let v3419 : BitVec 1 := Scalar.cmpi .eq v1239 c2_i32_1871
  let c5_i32_1872 : BitVec 32 := 5#32
  let v3420 : BitVec 1 := Scalar.cmpi .eq v1239 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  let c2_i32_647 : BitVec 32 := 2#32
  let v1240 : BitVec 1 := Scalar.cmpi .eq v1239 c2_i32_647
  let c3_i32_648 : BitVec 32 := 3#32
  let v1241 : BitVec 1 := Scalar.cmpi .eq v1239 c3_i32_648
  let v1242 : BitVec 1 := Scalar.ori v1240 v1241
  let c5_i32_649 : BitVec 32 := 5#32
  let v1243 : BitVec 1 := Scalar.cmpi .eq v1239 c5_i32_649
  let v1244 : BitVec 1 := Scalar.ori v1242 v1243
  let c6_i32_650 : BitVec 32 := 6#32
  let v1245 : BitVec 1 := Scalar.cmpi .eq v1239 c6_i32_650
  let v1246 : BitVec 1 := Scalar.ori v1244 v1245
  let true_652 : BitVec 1 := 1#1
  let v1249 : BitVec 1 := Scalar.xori v1246 true_652
  let v1250 : BitVec 32 := Scalar.extui v1249
  let c0_i32_653 : BitVec 32 := 0#32
  let v1251 : BitVec 1 := Scalar.cmpi .ne v1250 c0_i32_653
  v1251

def k0_off72 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  ![v1239.toNat]
def k0_off73 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_640 : BitVec 32 := 3#32
  let v1229 : BitVec 32 := Scalar.subi v2 c3_i32_640
  let c8_i32_641 : BitVec 32 := 8#32
  let c0_i32_642 : BitVec 32 := 0#32
  let v1230 : BitVec 1 := Scalar.cmpi .eq c8_i32_641 c0_i32_642
  let c1_i32_643 : BitVec 32 := 1#32
  let v1231 : BitVec 32 := Scalar.select v1230 c1_i32_643 c8_i32_641
  let v1232 : BitVec 32 := Scalar.remsi v1229 v1231
  let c0_i32_645 : BitVec 32 := 0#32
  let v1234 : BitVec 1 := Scalar.cmpi .slt v1232 c0_i32_645
  let c0_i32_646 : BitVec 32 := 0#32
  let v1235 : BitVec 1 := Scalar.cmpi .slt v1231 c0_i32_646
  let v1236 : BitVec 1 := Scalar.xori v1234 v1235
  let c0_i32_644 : BitVec 32 := 0#32
  let v1233 : BitVec 1 := Scalar.cmpi .ne v1232 c0_i32_644
  let v1237 : BitVec 1 := Scalar.andi v1236 v1233
  let v1238 : BitVec 32 := Scalar.addi v1232 v1231
  let v1239 : BitVec 32 := Scalar.select v1237 v1238 v1232
  let c0_i32_1874 : BitVec 32 := 0#32
  let c0_i32_1875 : BitVec 32 := 0#32
  let c0_i32_1876 : BitVec 32 := 0#32
  ![v1239.toNat, 0, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  let c2_i32_782 : BitVec 32 := 2#32
  let v1521 : BitVec 1 := Scalar.cmpi .eq v1520 c2_i32_782
  let c3_i32_783 : BitVec 32 := 3#32
  let v1522 : BitVec 1 := Scalar.cmpi .eq v1520 c3_i32_783
  let v1523 : BitVec 1 := Scalar.ori v1521 v1522
  let c5_i32_784 : BitVec 32 := 5#32
  let v1524 : BitVec 1 := Scalar.cmpi .eq v1520 c5_i32_784
  let v1525 : BitVec 1 := Scalar.ori v1523 v1524
  let c6_i32_785 : BitVec 32 := 6#32
  let v1526 : BitVec 1 := Scalar.cmpi .eq v1520 c6_i32_785
  let v1527 : BitVec 1 := Scalar.ori v1525 v1526
  let v1528 : BitVec 32 := Scalar.extui v1527
  let c0_i32_786 : BitVec 32 := 0#32
  let v1529 : BitVec 1 := Scalar.cmpi .ne v1528 c0_i32_786
  v1529

def k0_off74 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  ![v1520.toNat]
def k0_off75 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  let c0_i32_1878 : BitVec 32 := 0#32
  let c2_i32_1871 : BitVec 32 := 2#32
  let v3419 : BitVec 1 := Scalar.cmpi .eq v1520 c2_i32_1871
  let c5_i32_1872 : BitVec 32 := 5#32
  let v3420 : BitVec 1 := Scalar.cmpi .eq v1520 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v1520.toNat, 0, v3422.toNat, 0]
def k0_off76 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  let c2_i32_1871 : BitVec 32 := 2#32
  let v3419 : BitVec 1 := Scalar.cmpi .eq v1520 c2_i32_1871
  let c5_i32_1872 : BitVec 32 := 5#32
  let v3420 : BitVec 1 := Scalar.cmpi .eq v1520 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  let c2_i32_782 : BitVec 32 := 2#32
  let v1521 : BitVec 1 := Scalar.cmpi .eq v1520 c2_i32_782
  let c3_i32_783 : BitVec 32 := 3#32
  let v1522 : BitVec 1 := Scalar.cmpi .eq v1520 c3_i32_783
  let v1523 : BitVec 1 := Scalar.ori v1521 v1522
  let c5_i32_784 : BitVec 32 := 5#32
  let v1524 : BitVec 1 := Scalar.cmpi .eq v1520 c5_i32_784
  let v1525 : BitVec 1 := Scalar.ori v1523 v1524
  let c6_i32_785 : BitVec 32 := 6#32
  let v1526 : BitVec 1 := Scalar.cmpi .eq v1520 c6_i32_785
  let v1527 : BitVec 1 := Scalar.ori v1525 v1526
  let true_787 : BitVec 1 := 1#1
  let v1530 : BitVec 1 := Scalar.xori v1527 true_787
  let v1531 : BitVec 32 := Scalar.extui v1530
  let c0_i32_788 : BitVec 32 := 0#32
  let v1532 : BitVec 1 := Scalar.cmpi .ne v1531 c0_i32_788
  v1532

def k0_off77 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  ![v1520.toNat]
def k0_off78 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_775 : BitVec 32 := 4#32
  let v1510 : BitVec 32 := Scalar.subi v2 c4_i32_775
  let c8_i32_776 : BitVec 32 := 8#32
  let c0_i32_777 : BitVec 32 := 0#32
  let v1511 : BitVec 1 := Scalar.cmpi .eq c8_i32_776 c0_i32_777
  let c1_i32_778 : BitVec 32 := 1#32
  let v1512 : BitVec 32 := Scalar.select v1511 c1_i32_778 c8_i32_776
  let v1513 : BitVec 32 := Scalar.remsi v1510 v1512
  let c0_i32_780 : BitVec 32 := 0#32
  let v1515 : BitVec 1 := Scalar.cmpi .slt v1513 c0_i32_780
  let c0_i32_781 : BitVec 32 := 0#32
  let v1516 : BitVec 1 := Scalar.cmpi .slt v1512 c0_i32_781
  let v1517 : BitVec 1 := Scalar.xori v1515 v1516
  let c0_i32_779 : BitVec 32 := 0#32
  let v1514 : BitVec 1 := Scalar.cmpi .ne v1513 c0_i32_779
  let v1518 : BitVec 1 := Scalar.andi v1517 v1514
  let v1519 : BitVec 32 := Scalar.addi v1513 v1512
  let v1520 : BitVec 32 := Scalar.select v1518 v1519 v1513
  let c0_i32_1874 : BitVec 32 := 0#32
  let c0_i32_1875 : BitVec 32 := 0#32
  let c0_i32_1876 : BitVec 32 := 0#32
  ![v1520.toNat, 0, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  let c2_i32_917 : BitVec 32 := 2#32
  let v1802 : BitVec 1 := Scalar.cmpi .eq v1801 c2_i32_917
  let c3_i32_918 : BitVec 32 := 3#32
  let v1803 : BitVec 1 := Scalar.cmpi .eq v1801 c3_i32_918
  let v1804 : BitVec 1 := Scalar.ori v1802 v1803
  let c5_i32_919 : BitVec 32 := 5#32
  let v1805 : BitVec 1 := Scalar.cmpi .eq v1801 c5_i32_919
  let v1806 : BitVec 1 := Scalar.ori v1804 v1805
  let c6_i32_920 : BitVec 32 := 6#32
  let v1807 : BitVec 1 := Scalar.cmpi .eq v1801 c6_i32_920
  let v1808 : BitVec 1 := Scalar.ori v1806 v1807
  let v1809 : BitVec 32 := Scalar.extui v1808
  let c0_i32_921 : BitVec 32 := 0#32
  let v1810 : BitVec 1 := Scalar.cmpi .ne v1809 c0_i32_921
  v1810

def k0_off79 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  ![v1801.toNat]
def k0_off80 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  let c0_i32_1878 : BitVec 32 := 0#32
  let c2_i32_1871 : BitVec 32 := 2#32
  let v3419 : BitVec 1 := Scalar.cmpi .eq v1801 c2_i32_1871
  let c5_i32_1872 : BitVec 32 := 5#32
  let v3420 : BitVec 1 := Scalar.cmpi .eq v1801 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v1801.toNat, 0, v3422.toNat, 0]
def k0_off81 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  let c2_i32_1871 : BitVec 32 := 2#32
  let v3419 : BitVec 1 := Scalar.cmpi .eq v1801 c2_i32_1871
  let c5_i32_1872 : BitVec 32 := 5#32
  let v3420 : BitVec 1 := Scalar.cmpi .eq v1801 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  let c2_i32_917 : BitVec 32 := 2#32
  let v1802 : BitVec 1 := Scalar.cmpi .eq v1801 c2_i32_917
  let c3_i32_918 : BitVec 32 := 3#32
  let v1803 : BitVec 1 := Scalar.cmpi .eq v1801 c3_i32_918
  let v1804 : BitVec 1 := Scalar.ori v1802 v1803
  let c5_i32_919 : BitVec 32 := 5#32
  let v1805 : BitVec 1 := Scalar.cmpi .eq v1801 c5_i32_919
  let v1806 : BitVec 1 := Scalar.ori v1804 v1805
  let c6_i32_920 : BitVec 32 := 6#32
  let v1807 : BitVec 1 := Scalar.cmpi .eq v1801 c6_i32_920
  let v1808 : BitVec 1 := Scalar.ori v1806 v1807
  let true_922 : BitVec 1 := 1#1
  let v1811 : BitVec 1 := Scalar.xori v1808 true_922
  let v1812 : BitVec 32 := Scalar.extui v1811
  let c0_i32_923 : BitVec 32 := 0#32
  let v1813 : BitVec 1 := Scalar.cmpi .ne v1812 c0_i32_923
  v1813

def k0_off82 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  ![v1801.toNat]
def k0_off83 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_910 : BitVec 32 := 5#32
  let v1791 : BitVec 32 := Scalar.subi v2 c5_i32_910
  let c8_i32_911 : BitVec 32 := 8#32
  let c0_i32_912 : BitVec 32 := 0#32
  let v1792 : BitVec 1 := Scalar.cmpi .eq c8_i32_911 c0_i32_912
  let c1_i32_913 : BitVec 32 := 1#32
  let v1793 : BitVec 32 := Scalar.select v1792 c1_i32_913 c8_i32_911
  let v1794 : BitVec 32 := Scalar.remsi v1791 v1793
  let c0_i32_915 : BitVec 32 := 0#32
  let v1796 : BitVec 1 := Scalar.cmpi .slt v1794 c0_i32_915
  let c0_i32_916 : BitVec 32 := 0#32
  let v1797 : BitVec 1 := Scalar.cmpi .slt v1793 c0_i32_916
  let v1798 : BitVec 1 := Scalar.xori v1796 v1797
  let c0_i32_914 : BitVec 32 := 0#32
  let v1795 : BitVec 1 := Scalar.cmpi .ne v1794 c0_i32_914
  let v1799 : BitVec 1 := Scalar.andi v1798 v1795
  let v1800 : BitVec 32 := Scalar.addi v1794 v1793
  let v1801 : BitVec 32 := Scalar.select v1799 v1800 v1794
  let c0_i32_1874 : BitVec 32 := 0#32
  let c0_i32_1875 : BitVec 32 := 0#32
  let c0_i32_1876 : BitVec 32 := 0#32
  ![v1801.toNat, 0, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  let c2_i32_1052 : BitVec 32 := 2#32
  let v2083 : BitVec 1 := Scalar.cmpi .eq v2082 c2_i32_1052
  let c3_i32_1053 : BitVec 32 := 3#32
  let v2084 : BitVec 1 := Scalar.cmpi .eq v2082 c3_i32_1053
  let v2085 : BitVec 1 := Scalar.ori v2083 v2084
  let c5_i32_1054 : BitVec 32 := 5#32
  let v2086 : BitVec 1 := Scalar.cmpi .eq v2082 c5_i32_1054
  let v2087 : BitVec 1 := Scalar.ori v2085 v2086
  let c6_i32_1055 : BitVec 32 := 6#32
  let v2088 : BitVec 1 := Scalar.cmpi .eq v2082 c6_i32_1055
  let v2089 : BitVec 1 := Scalar.ori v2087 v2088
  let v2090 : BitVec 32 := Scalar.extui v2089
  let c0_i32_1056 : BitVec 32 := 0#32
  let v2091 : BitVec 1 := Scalar.cmpi .ne v2090 c0_i32_1056
  v2091

def k0_off84 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  ![v2082.toNat]
def k0_off85 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  let c0_i32_1878 : BitVec 32 := 0#32
  let c2_i32_1871 : BitVec 32 := 2#32
  let v3419 : BitVec 1 := Scalar.cmpi .eq v2082 c2_i32_1871
  let c5_i32_1872 : BitVec 32 := 5#32
  let v3420 : BitVec 1 := Scalar.cmpi .eq v2082 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v2082.toNat, 0, v3422.toNat, 0]
def k0_off86 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  let c2_i32_1871 : BitVec 32 := 2#32
  let v3419 : BitVec 1 := Scalar.cmpi .eq v2082 c2_i32_1871
  let c5_i32_1872 : BitVec 32 := 5#32
  let v3420 : BitVec 1 := Scalar.cmpi .eq v2082 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  let c2_i32_1052 : BitVec 32 := 2#32
  let v2083 : BitVec 1 := Scalar.cmpi .eq v2082 c2_i32_1052
  let c3_i32_1053 : BitVec 32 := 3#32
  let v2084 : BitVec 1 := Scalar.cmpi .eq v2082 c3_i32_1053
  let v2085 : BitVec 1 := Scalar.ori v2083 v2084
  let c5_i32_1054 : BitVec 32 := 5#32
  let v2086 : BitVec 1 := Scalar.cmpi .eq v2082 c5_i32_1054
  let v2087 : BitVec 1 := Scalar.ori v2085 v2086
  let c6_i32_1055 : BitVec 32 := 6#32
  let v2088 : BitVec 1 := Scalar.cmpi .eq v2082 c6_i32_1055
  let v2089 : BitVec 1 := Scalar.ori v2087 v2088
  let true_1057 : BitVec 1 := 1#1
  let v2092 : BitVec 1 := Scalar.xori v2089 true_1057
  let v2093 : BitVec 32 := Scalar.extui v2092
  let c0_i32_1058 : BitVec 32 := 0#32
  let v2094 : BitVec 1 := Scalar.cmpi .ne v2093 c0_i32_1058
  v2094

def k0_off87 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  ![v2082.toNat]
def k0_off88 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1045 : BitVec 32 := 6#32
  let v2072 : BitVec 32 := Scalar.subi v2 c6_i32_1045
  let c8_i32_1046 : BitVec 32 := 8#32
  let c0_i32_1047 : BitVec 32 := 0#32
  let v2073 : BitVec 1 := Scalar.cmpi .eq c8_i32_1046 c0_i32_1047
  let c1_i32_1048 : BitVec 32 := 1#32
  let v2074 : BitVec 32 := Scalar.select v2073 c1_i32_1048 c8_i32_1046
  let v2075 : BitVec 32 := Scalar.remsi v2072 v2074
  let c0_i32_1050 : BitVec 32 := 0#32
  let v2077 : BitVec 1 := Scalar.cmpi .slt v2075 c0_i32_1050
  let c0_i32_1051 : BitVec 32 := 0#32
  let v2078 : BitVec 1 := Scalar.cmpi .slt v2074 c0_i32_1051
  let v2079 : BitVec 1 := Scalar.xori v2077 v2078
  let c0_i32_1049 : BitVec 32 := 0#32
  let v2076 : BitVec 1 := Scalar.cmpi .ne v2075 c0_i32_1049
  let v2080 : BitVec 1 := Scalar.andi v2079 v2076
  let v2081 : BitVec 32 := Scalar.addi v2075 v2074
  let v2082 : BitVec 32 := Scalar.select v2080 v2081 v2075
  let c0_i32_1874 : BitVec 32 := 0#32
  let c0_i32_1875 : BitVec 32 := 0#32
  let c0_i32_1876 : BitVec 32 := 0#32
  ![v2082.toNat, 0, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  let c2_i32_1187 : BitVec 32 := 2#32
  let v2364 : BitVec 1 := Scalar.cmpi .eq v2363 c2_i32_1187
  let c3_i32_1188 : BitVec 32 := 3#32
  let v2365 : BitVec 1 := Scalar.cmpi .eq v2363 c3_i32_1188
  let v2366 : BitVec 1 := Scalar.ori v2364 v2365
  let c5_i32_1189 : BitVec 32 := 5#32
  let v2367 : BitVec 1 := Scalar.cmpi .eq v2363 c5_i32_1189
  let v2368 : BitVec 1 := Scalar.ori v2366 v2367
  let c6_i32_1190 : BitVec 32 := 6#32
  let v2369 : BitVec 1 := Scalar.cmpi .eq v2363 c6_i32_1190
  let v2370 : BitVec 1 := Scalar.ori v2368 v2369
  let v2371 : BitVec 32 := Scalar.extui v2370
  let c0_i32_1191 : BitVec 32 := 0#32
  let v2372 : BitVec 1 := Scalar.cmpi .ne v2371 c0_i32_1191
  v2372

def k0_off89 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  ![v2363.toNat]
def k0_off90 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  let c0_i32_1878 : BitVec 32 := 0#32
  let c2_i32_1871 : BitVec 32 := 2#32
  let v3419 : BitVec 1 := Scalar.cmpi .eq v2363 c2_i32_1871
  let c5_i32_1872 : BitVec 32 := 5#32
  let v3420 : BitVec 1 := Scalar.cmpi .eq v2363 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1879 : BitVec 32 := 0#32
  ![v2363.toNat, 0, v3422.toNat, 0]
def k0_off91 (d0 : Dev nD) : Fin 3 → Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  let c2_i32_1871 : BitVec 32 := 2#32
  let v3419 : BitVec 1 := Scalar.cmpi .eq v2363 c2_i32_1871
  let c5_i32_1872 : BitVec 32 := 5#32
  let v3420 : BitVec 1 := Scalar.cmpi .eq v2363 c5_i32_1872
  let v3421 : BitVec 1 := Scalar.ori v3419 v3420
  let c64_i32_1873 : BitVec 32 := 64#32
  let c0_i32_1874 : BitVec 32 := 0#32
  let v3422 : BitVec 32 := Scalar.select v3421 c64_i32_1873 c0_i32_1874
  let c0_i32_1881 : BitVec 32 := 0#32
  ![0, v3422.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  let c2_i32_1187 : BitVec 32 := 2#32
  let v2364 : BitVec 1 := Scalar.cmpi .eq v2363 c2_i32_1187
  let c3_i32_1188 : BitVec 32 := 3#32
  let v2365 : BitVec 1 := Scalar.cmpi .eq v2363 c3_i32_1188
  let v2366 : BitVec 1 := Scalar.ori v2364 v2365
  let c5_i32_1189 : BitVec 32 := 5#32
  let v2367 : BitVec 1 := Scalar.cmpi .eq v2363 c5_i32_1189
  let v2368 : BitVec 1 := Scalar.ori v2366 v2367
  let c6_i32_1190 : BitVec 32 := 6#32
  let v2369 : BitVec 1 := Scalar.cmpi .eq v2363 c6_i32_1190
  let v2370 : BitVec 1 := Scalar.ori v2368 v2369
  let true_1192 : BitVec 1 := 1#1
  let v2373 : BitVec 1 := Scalar.xori v2370 true_1192
  let v2374 : BitVec 32 := Scalar.extui v2373
  let c0_i32_1193 : BitVec 32 := 0#32
  let v2375 : BitVec 1 := Scalar.cmpi .ne v2374 c0_i32_1193
  v2375

def k0_off92 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  ![v2363.toNat]
def k0_off93 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1180 : BitVec 32 := 7#32
  let v2353 : BitVec 32 := Scalar.subi v2 c7_i32_1180
  let c8_i32_1181 : BitVec 32 := 8#32
  let c0_i32_1182 : BitVec 32 := 0#32
  let v2354 : BitVec 1 := Scalar.cmpi .eq c8_i32_1181 c0_i32_1182
  let c1_i32_1183 : BitVec 32 := 1#32
  let v2355 : BitVec 32 := Scalar.select v2354 c1_i32_1183 c8_i32_1181
  let v2356 : BitVec 32 := Scalar.remsi v2353 v2355
  let c0_i32_1185 : BitVec 32 := 0#32
  let v2358 : BitVec 1 := Scalar.cmpi .slt v2356 c0_i32_1185
  let c0_i32_1186 : BitVec 32 := 0#32
  let v2359 : BitVec 1 := Scalar.cmpi .slt v2355 c0_i32_1186
  let v2360 : BitVec 1 := Scalar.xori v2358 v2359
  let c0_i32_1184 : BitVec 32 := 0#32
  let v2357 : BitVec 1 := Scalar.cmpi .ne v2356 c0_i32_1184
  let v2361 : BitVec 1 := Scalar.andi v2360 v2357
  let v2362 : BitVec 32 := Scalar.addi v2356 v2355
  let v2363 : BitVec 32 := Scalar.select v2361 v2362 v2356
  let c0_i32_1874 : BitVec 32 := 0#32
  let c0_i32_1875 : BitVec 32 := 0#32
  let c0_i32_1876 : BitVec 32 := 0#32
  ![v2363.toNat, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2672 : BitVec 32 := Scalar.extui v142
  let c0_i32_1327 : BitVec 32 := 0#32
  let v2673 : BitVec 1 := Scalar.cmpi .ne v2672 c0_i32_1327
  v2673

def k0_off94 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c1_i32_1320 : BitVec 32 := 1#32
  let v2661 : BitVec 32 := Scalar.addi v2 c1_i32_1320
  let c8_i32_1321 : BitVec 32 := 8#32
  let c0_i32_1322 : BitVec 32 := 0#32
  let v2662 : BitVec 1 := Scalar.cmpi .eq c8_i32_1321 c0_i32_1322
  let c1_i32_1323 : BitVec 32 := 1#32
  let v2663 : BitVec 32 := Scalar.select v2662 c1_i32_1323 c8_i32_1321
  let v2664 : BitVec 32 := Scalar.remsi v2661 v2663
  let c0_i32_1325 : BitVec 32 := 0#32
  let v2666 : BitVec 1 := Scalar.cmpi .slt v2664 c0_i32_1325
  let c0_i32_1326 : BitVec 32 := 0#32
  let v2667 : BitVec 1 := Scalar.cmpi .slt v2663 c0_i32_1326
  let v2668 : BitVec 1 := Scalar.xori v2666 v2667
  let c0_i32_1324 : BitVec 32 := 0#32
  let v2665 : BitVec 1 := Scalar.cmpi .ne v2664 c0_i32_1324
  let v2669 : BitVec 1 := Scalar.andi v2668 v2665
  let v2670 : BitVec 32 := Scalar.addi v2664 v2663
  let v2671 : BitVec 32 := Scalar.select v2669 v2670 v2664
  let c256_i32_1871 : BitVec 32 := 256#32
  let v3419 : BitVec 32 := Scalar.muli v2671 c256_i32_1871
  ![0, v3423.toNat, v3419.toNat]
def k0_off95 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1328 : BitVec 1 := 1#1
  let v2674 : BitVec 1 := Scalar.xori v142 true_1328
  let v2675 : BitVec 32 := Scalar.extui v2674
  let c0_i32_1329 : BitVec 32 := 0#32
  let v2676 : BitVec 1 := Scalar.cmpi .ne v2675 c0_i32_1329
  v2676

def k0_off96 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1320 : BitVec 32 := 1#32
  let v2661 : BitVec 32 := Scalar.addi v2 c1_i32_1320
  let c8_i32_1321 : BitVec 32 := 8#32
  let c0_i32_1322 : BitVec 32 := 0#32
  let v2662 : BitVec 1 := Scalar.cmpi .eq c8_i32_1321 c0_i32_1322
  let c1_i32_1323 : BitVec 32 := 1#32
  let v2663 : BitVec 32 := Scalar.select v2662 c1_i32_1323 c8_i32_1321
  let v2664 : BitVec 32 := Scalar.remsi v2661 v2663
  let c0_i32_1325 : BitVec 32 := 0#32
  let v2666 : BitVec 1 := Scalar.cmpi .slt v2664 c0_i32_1325
  let c0_i32_1326 : BitVec 32 := 0#32
  let v2667 : BitVec 1 := Scalar.cmpi .slt v2663 c0_i32_1326
  let v2668 : BitVec 1 := Scalar.xori v2666 v2667
  let c0_i32_1324 : BitVec 32 := 0#32
  let v2665 : BitVec 1 := Scalar.cmpi .ne v2664 c0_i32_1324
  let v2669 : BitVec 1 := Scalar.andi v2668 v2665
  let v2670 : BitVec 32 := Scalar.addi v2664 v2663
  let v2671 : BitVec 32 := Scalar.select v2669 v2670 v2664
  let c256_i32_1871 : BitVec 32 := 256#32
  let v3419 : BitVec 32 := Scalar.muli v2671 c256_i32_1871
  ![0, 0, v3419.toNat]
def k0_off97 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2692 : BitVec 32 := Scalar.extui v142
  let c0_i32_1341 : BitVec 32 := 0#32
  let v2693 : BitVec 1 := Scalar.cmpi .ne v2692 c0_i32_1341
  v2693

def k0_off98 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c2_i32_1334 : BitVec 32 := 2#32
  let v2681 : BitVec 32 := Scalar.addi v2 c2_i32_1334
  let c8_i32_1335 : BitVec 32 := 8#32
  let c0_i32_1336 : BitVec 32 := 0#32
  let v2682 : BitVec 1 := Scalar.cmpi .eq c8_i32_1335 c0_i32_1336
  let c1_i32_1337 : BitVec 32 := 1#32
  let v2683 : BitVec 32 := Scalar.select v2682 c1_i32_1337 c8_i32_1335
  let v2684 : BitVec 32 := Scalar.remsi v2681 v2683
  let c0_i32_1339 : BitVec 32 := 0#32
  let v2686 : BitVec 1 := Scalar.cmpi .slt v2684 c0_i32_1339
  let c0_i32_1340 : BitVec 32 := 0#32
  let v2687 : BitVec 1 := Scalar.cmpi .slt v2683 c0_i32_1340
  let v2688 : BitVec 1 := Scalar.xori v2686 v2687
  let c0_i32_1338 : BitVec 32 := 0#32
  let v2685 : BitVec 1 := Scalar.cmpi .ne v2684 c0_i32_1338
  let v2689 : BitVec 1 := Scalar.andi v2688 v2685
  let v2690 : BitVec 32 := Scalar.addi v2684 v2683
  let v2691 : BitVec 32 := Scalar.select v2689 v2690 v2684
  let c256_i32_1871 : BitVec 32 := 256#32
  let v3419 : BitVec 32 := Scalar.muli v2691 c256_i32_1871
  ![0, v3423.toNat, v3419.toNat]
def k0_off99 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1342 : BitVec 1 := 1#1
  let v2694 : BitVec 1 := Scalar.xori v142 true_1342
  let v2695 : BitVec 32 := Scalar.extui v2694
  let c0_i32_1343 : BitVec 32 := 0#32
  let v2696 : BitVec 1 := Scalar.cmpi .ne v2695 c0_i32_1343
  v2696

def k0_off100 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1334 : BitVec 32 := 2#32
  let v2681 : BitVec 32 := Scalar.addi v2 c2_i32_1334
  let c8_i32_1335 : BitVec 32 := 8#32
  let c0_i32_1336 : BitVec 32 := 0#32
  let v2682 : BitVec 1 := Scalar.cmpi .eq c8_i32_1335 c0_i32_1336
  let c1_i32_1337 : BitVec 32 := 1#32
  let v2683 : BitVec 32 := Scalar.select v2682 c1_i32_1337 c8_i32_1335
  let v2684 : BitVec 32 := Scalar.remsi v2681 v2683
  let c0_i32_1339 : BitVec 32 := 0#32
  let v2686 : BitVec 1 := Scalar.cmpi .slt v2684 c0_i32_1339
  let c0_i32_1340 : BitVec 32 := 0#32
  let v2687 : BitVec 1 := Scalar.cmpi .slt v2683 c0_i32_1340
  let v2688 : BitVec 1 := Scalar.xori v2686 v2687
  let c0_i32_1338 : BitVec 32 := 0#32
  let v2685 : BitVec 1 := Scalar.cmpi .ne v2684 c0_i32_1338
  let v2689 : BitVec 1 := Scalar.andi v2688 v2685
  let v2690 : BitVec 32 := Scalar.addi v2684 v2683
  let v2691 : BitVec 32 := Scalar.select v2689 v2690 v2684
  let c256_i32_1871 : BitVec 32 := 256#32
  let v3419 : BitVec 32 := Scalar.muli v2691 c256_i32_1871
  ![0, 0, v3419.toNat]
def k0_off101 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2712 : BitVec 32 := Scalar.extui v142
  let c0_i32_1355 : BitVec 32 := 0#32
  let v2713 : BitVec 1 := Scalar.cmpi .ne v2712 c0_i32_1355
  v2713

def k0_off102 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c3_i32_1348 : BitVec 32 := 3#32
  let v2701 : BitVec 32 := Scalar.addi v2 c3_i32_1348
  let c8_i32_1349 : BitVec 32 := 8#32
  let c0_i32_1350 : BitVec 32 := 0#32
  let v2702 : BitVec 1 := Scalar.cmpi .eq c8_i32_1349 c0_i32_1350
  let c1_i32_1351 : BitVec 32 := 1#32
  let v2703 : BitVec 32 := Scalar.select v2702 c1_i32_1351 c8_i32_1349
  let v2704 : BitVec 32 := Scalar.remsi v2701 v2703
  let c0_i32_1353 : BitVec 32 := 0#32
  let v2706 : BitVec 1 := Scalar.cmpi .slt v2704 c0_i32_1353
  let c0_i32_1354 : BitVec 32 := 0#32
  let v2707 : BitVec 1 := Scalar.cmpi .slt v2703 c0_i32_1354
  let v2708 : BitVec 1 := Scalar.xori v2706 v2707
  let c0_i32_1352 : BitVec 32 := 0#32
  let v2705 : BitVec 1 := Scalar.cmpi .ne v2704 c0_i32_1352
  let v2709 : BitVec 1 := Scalar.andi v2708 v2705
  let v2710 : BitVec 32 := Scalar.addi v2704 v2703
  let v2711 : BitVec 32 := Scalar.select v2709 v2710 v2704
  let c256_i32_1871 : BitVec 32 := 256#32
  let v3419 : BitVec 32 := Scalar.muli v2711 c256_i32_1871
  ![0, v3423.toNat, v3419.toNat]
def k0_off103 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1356 : BitVec 1 := 1#1
  let v2714 : BitVec 1 := Scalar.xori v142 true_1356
  let v2715 : BitVec 32 := Scalar.extui v2714
  let c0_i32_1357 : BitVec 32 := 0#32
  let v2716 : BitVec 1 := Scalar.cmpi .ne v2715 c0_i32_1357
  v2716

def k0_off104 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1348 : BitVec 32 := 3#32
  let v2701 : BitVec 32 := Scalar.addi v2 c3_i32_1348
  let c8_i32_1349 : BitVec 32 := 8#32
  let c0_i32_1350 : BitVec 32 := 0#32
  let v2702 : BitVec 1 := Scalar.cmpi .eq c8_i32_1349 c0_i32_1350
  let c1_i32_1351 : BitVec 32 := 1#32
  let v2703 : BitVec 32 := Scalar.select v2702 c1_i32_1351 c8_i32_1349
  let v2704 : BitVec 32 := Scalar.remsi v2701 v2703
  let c0_i32_1353 : BitVec 32 := 0#32
  let v2706 : BitVec 1 := Scalar.cmpi .slt v2704 c0_i32_1353
  let c0_i32_1354 : BitVec 32 := 0#32
  let v2707 : BitVec 1 := Scalar.cmpi .slt v2703 c0_i32_1354
  let v2708 : BitVec 1 := Scalar.xori v2706 v2707
  let c0_i32_1352 : BitVec 32 := 0#32
  let v2705 : BitVec 1 := Scalar.cmpi .ne v2704 c0_i32_1352
  let v2709 : BitVec 1 := Scalar.andi v2708 v2705
  let v2710 : BitVec 32 := Scalar.addi v2704 v2703
  let v2711 : BitVec 32 := Scalar.select v2709 v2710 v2704
  let c256_i32_1871 : BitVec 32 := 256#32
  let v3419 : BitVec 32 := Scalar.muli v2711 c256_i32_1871
  ![0, 0, v3419.toNat]
def k0_off105 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2732 : BitVec 32 := Scalar.extui v142
  let c0_i32_1369 : BitVec 32 := 0#32
  let v2733 : BitVec 1 := Scalar.cmpi .ne v2732 c0_i32_1369
  v2733

def k0_off106 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c4_i32_1362 : BitVec 32 := 4#32
  let v2721 : BitVec 32 := Scalar.addi v2 c4_i32_1362
  let c8_i32_1363 : BitVec 32 := 8#32
  let c0_i32_1364 : BitVec 32 := 0#32
  let v2722 : BitVec 1 := Scalar.cmpi .eq c8_i32_1363 c0_i32_1364
  let c1_i32_1365 : BitVec 32 := 1#32
  let v2723 : BitVec 32 := Scalar.select v2722 c1_i32_1365 c8_i32_1363
  let v2724 : BitVec 32 := Scalar.remsi v2721 v2723
  let c0_i32_1367 : BitVec 32 := 0#32
  let v2726 : BitVec 1 := Scalar.cmpi .slt v2724 c0_i32_1367
  let c0_i32_1368 : BitVec 32 := 0#32
  let v2727 : BitVec 1 := Scalar.cmpi .slt v2723 c0_i32_1368
  let v2728 : BitVec 1 := Scalar.xori v2726 v2727
  let c0_i32_1366 : BitVec 32 := 0#32
  let v2725 : BitVec 1 := Scalar.cmpi .ne v2724 c0_i32_1366
  let v2729 : BitVec 1 := Scalar.andi v2728 v2725
  let v2730 : BitVec 32 := Scalar.addi v2724 v2723
  let v2731 : BitVec 32 := Scalar.select v2729 v2730 v2724
  let c256_i32_1871 : BitVec 32 := 256#32
  let v3419 : BitVec 32 := Scalar.muli v2731 c256_i32_1871
  ![0, v3423.toNat, v3419.toNat]
def k0_off107 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1370 : BitVec 1 := 1#1
  let v2734 : BitVec 1 := Scalar.xori v142 true_1370
  let v2735 : BitVec 32 := Scalar.extui v2734
  let c0_i32_1371 : BitVec 32 := 0#32
  let v2736 : BitVec 1 := Scalar.cmpi .ne v2735 c0_i32_1371
  v2736

def k0_off108 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1362 : BitVec 32 := 4#32
  let v2721 : BitVec 32 := Scalar.addi v2 c4_i32_1362
  let c8_i32_1363 : BitVec 32 := 8#32
  let c0_i32_1364 : BitVec 32 := 0#32
  let v2722 : BitVec 1 := Scalar.cmpi .eq c8_i32_1363 c0_i32_1364
  let c1_i32_1365 : BitVec 32 := 1#32
  let v2723 : BitVec 32 := Scalar.select v2722 c1_i32_1365 c8_i32_1363
  let v2724 : BitVec 32 := Scalar.remsi v2721 v2723
  let c0_i32_1367 : BitVec 32 := 0#32
  let v2726 : BitVec 1 := Scalar.cmpi .slt v2724 c0_i32_1367
  let c0_i32_1368 : BitVec 32 := 0#32
  let v2727 : BitVec 1 := Scalar.cmpi .slt v2723 c0_i32_1368
  let v2728 : BitVec 1 := Scalar.xori v2726 v2727
  let c0_i32_1366 : BitVec 32 := 0#32
  let v2725 : BitVec 1 := Scalar.cmpi .ne v2724 c0_i32_1366
  let v2729 : BitVec 1 := Scalar.andi v2728 v2725
  let v2730 : BitVec 32 := Scalar.addi v2724 v2723
  let v2731 : BitVec 32 := Scalar.select v2729 v2730 v2724
  let c256_i32_1871 : BitVec 32 := 256#32
  let v3419 : BitVec 32 := Scalar.muli v2731 c256_i32_1871
  ![0, 0, v3419.toNat]
def k0_off109 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2752 : BitVec 32 := Scalar.extui v142
  let c0_i32_1383 : BitVec 32 := 0#32
  let v2753 : BitVec 1 := Scalar.cmpi .ne v2752 c0_i32_1383
  v2753

def k0_off110 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c5_i32_1376 : BitVec 32 := 5#32
  let v2741 : BitVec 32 := Scalar.addi v2 c5_i32_1376
  let c8_i32_1377 : BitVec 32 := 8#32
  let c0_i32_1378 : BitVec 32 := 0#32
  let v2742 : BitVec 1 := Scalar.cmpi .eq c8_i32_1377 c0_i32_1378
  let c1_i32_1379 : BitVec 32 := 1#32
  let v2743 : BitVec 32 := Scalar.select v2742 c1_i32_1379 c8_i32_1377
  let v2744 : BitVec 32 := Scalar.remsi v2741 v2743
  let c0_i32_1381 : BitVec 32 := 0#32
  let v2746 : BitVec 1 := Scalar.cmpi .slt v2744 c0_i32_1381
  let c0_i32_1382 : BitVec 32 := 0#32
  let v2747 : BitVec 1 := Scalar.cmpi .slt v2743 c0_i32_1382
  let v2748 : BitVec 1 := Scalar.xori v2746 v2747
  let c0_i32_1380 : BitVec 32 := 0#32
  let v2745 : BitVec 1 := Scalar.cmpi .ne v2744 c0_i32_1380
  let v2749 : BitVec 1 := Scalar.andi v2748 v2745
  let v2750 : BitVec 32 := Scalar.addi v2744 v2743
  let v2751 : BitVec 32 := Scalar.select v2749 v2750 v2744
  let c256_i32_1871 : BitVec 32 := 256#32
  let v3419 : BitVec 32 := Scalar.muli v2751 c256_i32_1871
  ![0, v3423.toNat, v3419.toNat]
def k0_off111 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1384 : BitVec 1 := 1#1
  let v2754 : BitVec 1 := Scalar.xori v142 true_1384
  let v2755 : BitVec 32 := Scalar.extui v2754
  let c0_i32_1385 : BitVec 32 := 0#32
  let v2756 : BitVec 1 := Scalar.cmpi .ne v2755 c0_i32_1385
  v2756

def k0_off112 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1376 : BitVec 32 := 5#32
  let v2741 : BitVec 32 := Scalar.addi v2 c5_i32_1376
  let c8_i32_1377 : BitVec 32 := 8#32
  let c0_i32_1378 : BitVec 32 := 0#32
  let v2742 : BitVec 1 := Scalar.cmpi .eq c8_i32_1377 c0_i32_1378
  let c1_i32_1379 : BitVec 32 := 1#32
  let v2743 : BitVec 32 := Scalar.select v2742 c1_i32_1379 c8_i32_1377
  let v2744 : BitVec 32 := Scalar.remsi v2741 v2743
  let c0_i32_1381 : BitVec 32 := 0#32
  let v2746 : BitVec 1 := Scalar.cmpi .slt v2744 c0_i32_1381
  let c0_i32_1382 : BitVec 32 := 0#32
  let v2747 : BitVec 1 := Scalar.cmpi .slt v2743 c0_i32_1382
  let v2748 : BitVec 1 := Scalar.xori v2746 v2747
  let c0_i32_1380 : BitVec 32 := 0#32
  let v2745 : BitVec 1 := Scalar.cmpi .ne v2744 c0_i32_1380
  let v2749 : BitVec 1 := Scalar.andi v2748 v2745
  let v2750 : BitVec 32 := Scalar.addi v2744 v2743
  let v2751 : BitVec 32 := Scalar.select v2749 v2750 v2744
  let c256_i32_1871 : BitVec 32 := 256#32
  let v3419 : BitVec 32 := Scalar.muli v2751 c256_i32_1871
  ![0, 0, v3419.toNat]
def k0_off113 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2772 : BitVec 32 := Scalar.extui v142
  let c0_i32_1397 : BitVec 32 := 0#32
  let v2773 : BitVec 1 := Scalar.cmpi .ne v2772 c0_i32_1397
  v2773

def k0_off114 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c6_i32_1390 : BitVec 32 := 6#32
  let v2761 : BitVec 32 := Scalar.addi v2 c6_i32_1390
  let c8_i32_1391 : BitVec 32 := 8#32
  let c0_i32_1392 : BitVec 32 := 0#32
  let v2762 : BitVec 1 := Scalar.cmpi .eq c8_i32_1391 c0_i32_1392
  let c1_i32_1393 : BitVec 32 := 1#32
  let v2763 : BitVec 32 := Scalar.select v2762 c1_i32_1393 c8_i32_1391
  let v2764 : BitVec 32 := Scalar.remsi v2761 v2763
  let c0_i32_1395 : BitVec 32 := 0#32
  let v2766 : BitVec 1 := Scalar.cmpi .slt v2764 c0_i32_1395
  let c0_i32_1396 : BitVec 32 := 0#32
  let v2767 : BitVec 1 := Scalar.cmpi .slt v2763 c0_i32_1396
  let v2768 : BitVec 1 := Scalar.xori v2766 v2767
  let c0_i32_1394 : BitVec 32 := 0#32
  let v2765 : BitVec 1 := Scalar.cmpi .ne v2764 c0_i32_1394
  let v2769 : BitVec 1 := Scalar.andi v2768 v2765
  let v2770 : BitVec 32 := Scalar.addi v2764 v2763
  let v2771 : BitVec 32 := Scalar.select v2769 v2770 v2764
  let c256_i32_1871 : BitVec 32 := 256#32
  let v3419 : BitVec 32 := Scalar.muli v2771 c256_i32_1871
  ![0, v3423.toNat, v3419.toNat]
def k0_off115 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1398 : BitVec 1 := 1#1
  let v2774 : BitVec 1 := Scalar.xori v142 true_1398
  let v2775 : BitVec 32 := Scalar.extui v2774
  let c0_i32_1399 : BitVec 32 := 0#32
  let v2776 : BitVec 1 := Scalar.cmpi .ne v2775 c0_i32_1399
  v2776

def k0_off116 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1390 : BitVec 32 := 6#32
  let v2761 : BitVec 32 := Scalar.addi v2 c6_i32_1390
  let c8_i32_1391 : BitVec 32 := 8#32
  let c0_i32_1392 : BitVec 32 := 0#32
  let v2762 : BitVec 1 := Scalar.cmpi .eq c8_i32_1391 c0_i32_1392
  let c1_i32_1393 : BitVec 32 := 1#32
  let v2763 : BitVec 32 := Scalar.select v2762 c1_i32_1393 c8_i32_1391
  let v2764 : BitVec 32 := Scalar.remsi v2761 v2763
  let c0_i32_1395 : BitVec 32 := 0#32
  let v2766 : BitVec 1 := Scalar.cmpi .slt v2764 c0_i32_1395
  let c0_i32_1396 : BitVec 32 := 0#32
  let v2767 : BitVec 1 := Scalar.cmpi .slt v2763 c0_i32_1396
  let v2768 : BitVec 1 := Scalar.xori v2766 v2767
  let c0_i32_1394 : BitVec 32 := 0#32
  let v2765 : BitVec 1 := Scalar.cmpi .ne v2764 c0_i32_1394
  let v2769 : BitVec 1 := Scalar.andi v2768 v2765
  let v2770 : BitVec 32 := Scalar.addi v2764 v2763
  let v2771 : BitVec 32 := Scalar.select v2769 v2770 v2764
  let c256_i32_1871 : BitVec 32 := 256#32
  let v3419 : BitVec 32 := Scalar.muli v2771 c256_i32_1871
  ![0, 0, v3419.toNat]
def k0_off117 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let v2792 : BitVec 32 := Scalar.extui v142
  let c0_i32_1411 : BitVec 32 := 0#32
  let v2793 : BitVec 1 := Scalar.cmpi .ne v2792 c0_i32_1411
  v2793

def k0_off118 (d0 : Dev nD) : Fin 3 → Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c7_i32_1404 : BitVec 32 := 7#32
  let v2781 : BitVec 32 := Scalar.addi v2 c7_i32_1404
  let c8_i32_1405 : BitVec 32 := 8#32
  let c0_i32_1406 : BitVec 32 := 0#32
  let v2782 : BitVec 1 := Scalar.cmpi .eq c8_i32_1405 c0_i32_1406
  let c1_i32_1407 : BitVec 32 := 1#32
  let v2783 : BitVec 32 := Scalar.select v2782 c1_i32_1407 c8_i32_1405
  let v2784 : BitVec 32 := Scalar.remsi v2781 v2783
  let c0_i32_1409 : BitVec 32 := 0#32
  let v2786 : BitVec 1 := Scalar.cmpi .slt v2784 c0_i32_1409
  let c0_i32_1410 : BitVec 32 := 0#32
  let v2787 : BitVec 1 := Scalar.cmpi .slt v2783 c0_i32_1410
  let v2788 : BitVec 1 := Scalar.xori v2786 v2787
  let c0_i32_1408 : BitVec 32 := 0#32
  let v2785 : BitVec 1 := Scalar.cmpi .ne v2784 c0_i32_1408
  let v2789 : BitVec 1 := Scalar.andi v2788 v2785
  let v2790 : BitVec 32 := Scalar.addi v2784 v2783
  let v2791 : BitVec 32 := Scalar.select v2789 v2790 v2784
  let c256_i32_1871 : BitVec 32 := 256#32
  let v3419 : BitVec 32 := Scalar.muli v2791 c256_i32_1871
  ![0, v3423.toNat, v3419.toNat]
def k0_off119 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1879 : BitVec 32 := 0#32
  let c2_i32_1872 : BitVec 32 := 2#32
  let v3420 : BitVec 1 := Scalar.cmpi .eq v2 c2_i32_1872
  let c5_i32_1873 : BitVec 32 := 5#32
  let v3421 : BitVec 1 := Scalar.cmpi .eq v2 c5_i32_1873
  let v3422 : BitVec 1 := Scalar.ori v3420 v3421
  let c64_i32_1874 : BitVec 32 := 64#32
  let c0_i32_1875 : BitVec 32 := 0#32
  let v3423 : BitVec 32 := Scalar.select v3422 c64_i32_1874 c0_i32_1875
  let c0_i32_1880 : BitVec 32 := 0#32
  ![v2.toNat, 0, v3423.toNat, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v136 : BitVec 1 := Scalar.cmpi .eq v2 c2_i32_84
  let c3_i32_85 : BitVec 32 := 3#32
  let v137 : BitVec 1 := Scalar.cmpi .eq v2 c3_i32_85
  let v138 : BitVec 1 := Scalar.ori v136 v137
  let c5_i32_86 : BitVec 32 := 5#32
  let v139 : BitVec 1 := Scalar.cmpi .eq v2 c5_i32_86
  let v140 : BitVec 1 := Scalar.ori v138 v139
  let c6_i32_87 : BitVec 32 := 6#32
  let v141 : BitVec 1 := Scalar.cmpi .eq v2 c6_i32_87
  let v142 : BitVec 1 := Scalar.ori v140 v141
  let true_1412 : BitVec 1 := 1#1
  let v2794 : BitVec 1 := Scalar.xori v142 true_1412
  let v2795 : BitVec 32 := Scalar.extui v2794
  let c0_i32_1413 : BitVec 32 := 0#32
  let v2796 : BitVec 1 := Scalar.cmpi .ne v2795 c0_i32_1413
  v2796

def k0_off120 (d0 : Dev nD) : Fin 3 → Nat :=
  let c0_i32_1874 : BitVec 32 := 0#32
  let c0_i32_1875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1404 : BitVec 32 := 7#32
  let v2781 : BitVec 32 := Scalar.addi v2 c7_i32_1404
  let c8_i32_1405 : BitVec 32 := 8#32
  let c0_i32_1406 : BitVec 32 := 0#32
  let v2782 : BitVec 1 := Scalar.cmpi .eq c8_i32_1405 c0_i32_1406
  let c1_i32_1407 : BitVec 32 := 1#32
  let v2783 : BitVec 32 := Scalar.select v2782 c1_i32_1407 c8_i32_1405
  let v2784 : BitVec 32 := Scalar.remsi v2781 v2783
  let c0_i32_1409 : BitVec 32 := 0#32
  let v2786 : BitVec 1 := Scalar.cmpi .slt v2784 c0_i32_1409
  let c0_i32_1410 : BitVec 32 := 0#32
  let v2787 : BitVec 1 := Scalar.cmpi .slt v2783 c0_i32_1410
  let v2788 : BitVec 1 := Scalar.xori v2786 v2787
  let c0_i32_1408 : BitVec 32 := 0#32
  let v2785 : BitVec 1 := Scalar.cmpi .ne v2784 c0_i32_1408
  let v2789 : BitVec 1 := Scalar.andi v2788 v2785
  let v2790 : BitVec 32 := Scalar.addi v2784 v2783
  let v2791 : BitVec 32 := Scalar.select v2789 v2790 v2784
  let c256_i32_1871 : BitVec 32 := 256#32
  let v3419 : BitVec 32 := Scalar.muli v2791 c256_i32_1871
  ![0, 0, v3419.toNat]
def k0_off121 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1876 : BitVec 32 := 0#32
  let c0_i32_1877 : BitVec 32 := 0#32
  let c0_i32_1878 : BitVec 32 := 0#32
  ![v2.toNat, 0, 0, 0]
def k0_off122 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1419 : BitVec 32 := 0#32
  let c0_i32_1420 : BitVec 32 := 0#32
  ![v2.toNat, 0, 0]
def k0_off123 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v2801 : BitVec 32 := Scalar.muli v2 c32_i32
  let c0_i32_1421 : BitVec 32 := 0#32
  ![v2801.toNat, 0]
def k0_off124 (d0 : Dev nD) (c1_i32_1422 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2807 : BitVec 32 := Scalar.addi v2 c1_i32_1422
  let c8_i32_1423 : BitVec 32 := 8#32
  let c0_i32_1424 : BitVec 32 := 0#32
  let v2808 : BitVec 1 := Scalar.cmpi .eq c8_i32_1423 c0_i32_1424
  let c1_i32_1425 : BitVec 32 := 1#32
  let v2809 : BitVec 32 := Scalar.select v2808 c1_i32_1425 c8_i32_1423
  let v2810 : BitVec 32 := Scalar.remsi v2807 v2809
  let c0_i32_1427 : BitVec 32 := 0#32
  let v2812 : BitVec 1 := Scalar.cmpi .slt v2810 c0_i32_1427
  let c0_i32_1428 : BitVec 32 := 0#32
  let v2813 : BitVec 1 := Scalar.cmpi .slt v2809 c0_i32_1428
  let v2814 : BitVec 1 := Scalar.xori v2812 v2813
  let c0_i32_1426 : BitVec 32 := 0#32
  let v2811 : BitVec 1 := Scalar.cmpi .ne v2810 c0_i32_1426
  let v2815 : BitVec 1 := Scalar.andi v2814 v2811
  let v2816 : BitVec 32 := Scalar.addi v2810 v2809
  let v2817 : BitVec 32 := Scalar.select v2815 v2816 v2810
  let c32_i32_1429 : BitVec 32 := 32#32
  let v2818 : BitVec 32 := Scalar.muli v2817 c32_i32_1429
  let c0_i32_1435 : BitVec 32 := 0#32
  ![v2818.toNat, 0]
def k0_dev43 (d0 : Dev nD) : Nat :=
  let c0_i32_1432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1422 : BitVec 32 := 1#32
  let v2807 : BitVec 32 := Scalar.addi v2 c1_i32_1422
  let c8_i32_1423 : BitVec 32 := 8#32
  let c0_i32_1424 : BitVec 32 := 0#32
  let v2808 : BitVec 1 := Scalar.cmpi .eq c8_i32_1423 c0_i32_1424
  let c1_i32_1425 : BitVec 32 := 1#32
  let v2809 : BitVec 32 := Scalar.select v2808 c1_i32_1425 c8_i32_1423
  let v2810 : BitVec 32 := Scalar.remsi v2807 v2809
  let c0_i32_1427 : BitVec 32 := 0#32
  let v2812 : BitVec 1 := Scalar.cmpi .slt v2810 c0_i32_1427
  let c0_i32_1428 : BitVec 32 := 0#32
  let v2813 : BitVec 1 := Scalar.cmpi .slt v2809 c0_i32_1428
  let v2814 : BitVec 1 := Scalar.xori v2812 v2813
  let c0_i32_1426 : BitVec 32 := 0#32
  let v2811 : BitVec 1 := Scalar.cmpi .ne v2810 c0_i32_1426
  let v2815 : BitVec 1 := Scalar.andi v2814 v2811
  let v2816 : BitVec 32 := Scalar.addi v2810 v2809
  let v2817 : BitVec 32 := Scalar.select v2815 v2816 v2810
  let c1_i32_1431 : BitVec 32 := 1#32
  let v2819 : BitVec 32 := Scalar.muli v2817 c1_i32_1431
  let v2820 : BitVec 32 := Scalar.addi c0_i32_1432 v2819
  v2820.toNat
def k0_dev44 (d0 : Dev nD) : Nat :=
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1436 : BitVec 32 := 2#32
  let v2828 : BitVec 32 := Scalar.addi v2 c2_i32_1436
  let c8_i32_1437 : BitVec 32 := 8#32
  let c0_i32_1438 : BitVec 32 := 0#32
  let v2829 : BitVec 1 := Scalar.cmpi .eq c8_i32_1437 c0_i32_1438
  let c1_i32_1439 : BitVec 32 := 1#32
  let v2830 : BitVec 32 := Scalar.select v2829 c1_i32_1439 c8_i32_1437
  let v2831 : BitVec 32 := Scalar.remsi v2828 v2830
  let c0_i32_1441 : BitVec 32 := 0#32
  let v2833 : BitVec 1 := Scalar.cmpi .slt v2831 c0_i32_1441
  let c0_i32_1442 : BitVec 32 := 0#32
  let v2834 : BitVec 1 := Scalar.cmpi .slt v2830 c0_i32_1442
  let v2835 : BitVec 1 := Scalar.xori v2833 v2834
  let c0_i32_1440 : BitVec 32 := 0#32
  let v2832 : BitVec 1 := Scalar.cmpi .ne v2831 c0_i32_1440
  let v2836 : BitVec 1 := Scalar.andi v2835 v2832
  let v2837 : BitVec 32 := Scalar.addi v2831 v2830
  let v2838 : BitVec 32 := Scalar.select v2836 v2837 v2831
  let c1_i32_1445 : BitVec 32 := 1#32
  let v2840 : BitVec 32 := Scalar.muli v2838 c1_i32_1445
  let v2841 : BitVec 32 := Scalar.addi c0_i32_1446 v2840
  v2841.toNat
def k0_dev45 (d0 : Dev nD) : Nat :=
  let c0_i32_1460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1450 : BitVec 32 := 3#32
  let v2849 : BitVec 32 := Scalar.addi v2 c3_i32_1450
  let c8_i32_1451 : BitVec 32 := 8#32
  let c0_i32_1452 : BitVec 32 := 0#32
  let v2850 : BitVec 1 := Scalar.cmpi .eq c8_i32_1451 c0_i32_1452
  let c1_i32_1453 : BitVec 32 := 1#32
  let v2851 : BitVec 32 := Scalar.select v2850 c1_i32_1453 c8_i32_1451
  let v2852 : BitVec 32 := Scalar.remsi v2849 v2851
  let c0_i32_1455 : BitVec 32 := 0#32
  let v2854 : BitVec 1 := Scalar.cmpi .slt v2852 c0_i32_1455
  let c0_i32_1456 : BitVec 32 := 0#32
  let v2855 : BitVec 1 := Scalar.cmpi .slt v2851 c0_i32_1456
  let v2856 : BitVec 1 := Scalar.xori v2854 v2855
  let c0_i32_1454 : BitVec 32 := 0#32
  let v2853 : BitVec 1 := Scalar.cmpi .ne v2852 c0_i32_1454
  let v2857 : BitVec 1 := Scalar.andi v2856 v2853
  let v2858 : BitVec 32 := Scalar.addi v2852 v2851
  let v2859 : BitVec 32 := Scalar.select v2857 v2858 v2852
  let c1_i32_1459 : BitVec 32 := 1#32
  let v2861 : BitVec 32 := Scalar.muli v2859 c1_i32_1459
  let v2862 : BitVec 32 := Scalar.addi c0_i32_1460 v2861
  v2862.toNat
def k0_dev46 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1464 : BitVec 32 := 4#32
  let v2870 : BitVec 32 := Scalar.addi v2 c4_i32_1464
  let c8_i32_1465 : BitVec 32 := 8#32
  let c0_i32_1466 : BitVec 32 := 0#32
  let v2871 : BitVec 1 := Scalar.cmpi .eq c8_i32_1465 c0_i32_1466
  let c1_i32_1467 : BitVec 32 := 1#32
  let v2872 : BitVec 32 := Scalar.select v2871 c1_i32_1467 c8_i32_1465
  let v2873 : BitVec 32 := Scalar.remsi v2870 v2872
  let c0_i32_1469 : BitVec 32 := 0#32
  let v2875 : BitVec 1 := Scalar.cmpi .slt v2873 c0_i32_1469
  let c0_i32_1470 : BitVec 32 := 0#32
  let v2876 : BitVec 1 := Scalar.cmpi .slt v2872 c0_i32_1470
  let v2877 : BitVec 1 := Scalar.xori v2875 v2876
  let c0_i32_1468 : BitVec 32 := 0#32
  let v2874 : BitVec 1 := Scalar.cmpi .ne v2873 c0_i32_1468
  let v2878 : BitVec 1 := Scalar.andi v2877 v2874
  let v2879 : BitVec 32 := Scalar.addi v2873 v2872
  let v2880 : BitVec 32 := Scalar.select v2878 v2879 v2873
  let c1_i32_1473 : BitVec 32 := 1#32
  let v2882 : BitVec 32 := Scalar.muli v2880 c1_i32_1473
  let v2883 : BitVec 32 := Scalar.addi c0_i32_1474 v2882
  v2883.toNat
def k0_dev47 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1478 : BitVec 32 := 5#32
  let v2891 : BitVec 32 := Scalar.addi v2 c5_i32_1478
  let c8_i32_1479 : BitVec 32 := 8#32
  let c0_i32_1480 : BitVec 32 := 0#32
  let v2892 : BitVec 1 := Scalar.cmpi .eq c8_i32_1479 c0_i32_1480
  let c1_i32_1481 : BitVec 32 := 1#32
  let v2893 : BitVec 32 := Scalar.select v2892 c1_i32_1481 c8_i32_1479
  let v2894 : BitVec 32 := Scalar.remsi v2891 v2893
  let c0_i32_1483 : BitVec 32 := 0#32
  let v2896 : BitVec 1 := Scalar.cmpi .slt v2894 c0_i32_1483
  let c0_i32_1484 : BitVec 32 := 0#32
  let v2897 : BitVec 1 := Scalar.cmpi .slt v2893 c0_i32_1484
  let v2898 : BitVec 1 := Scalar.xori v2896 v2897
  let c0_i32_1482 : BitVec 32 := 0#32
  let v2895 : BitVec 1 := Scalar.cmpi .ne v2894 c0_i32_1482
  let v2899 : BitVec 1 := Scalar.andi v2898 v2895
  let v2900 : BitVec 32 := Scalar.addi v2894 v2893
  let v2901 : BitVec 32 := Scalar.select v2899 v2900 v2894
  let c1_i32_1487 : BitVec 32 := 1#32
  let v2903 : BitVec 32 := Scalar.muli v2901 c1_i32_1487
  let v2904 : BitVec 32 := Scalar.addi c0_i32_1488 v2903
  v2904.toNat
def k0_dev48 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1492 : BitVec 32 := 6#32
  let v2912 : BitVec 32 := Scalar.addi v2 c6_i32_1492
  let c8_i32_1493 : BitVec 32 := 8#32
  let c0_i32_1494 : BitVec 32 := 0#32
  let v2913 : BitVec 1 := Scalar.cmpi .eq c8_i32_1493 c0_i32_1494
  let c1_i32_1495 : BitVec 32 := 1#32
  let v2914 : BitVec 32 := Scalar.select v2913 c1_i32_1495 c8_i32_1493
  let v2915 : BitVec 32 := Scalar.remsi v2912 v2914
  let c0_i32_1497 : BitVec 32 := 0#32
  let v2917 : BitVec 1 := Scalar.cmpi .slt v2915 c0_i32_1497
  let c0_i32_1498 : BitVec 32 := 0#32
  let v2918 : BitVec 1 := Scalar.cmpi .slt v2914 c0_i32_1498
  let v2919 : BitVec 1 := Scalar.xori v2917 v2918
  let c0_i32_1496 : BitVec 32 := 0#32
  let v2916 : BitVec 1 := Scalar.cmpi .ne v2915 c0_i32_1496
  let v2920 : BitVec 1 := Scalar.andi v2919 v2916
  let v2921 : BitVec 32 := Scalar.addi v2915 v2914
  let v2922 : BitVec 32 := Scalar.select v2920 v2921 v2915
  let c1_i32_1501 : BitVec 32 := 1#32
  let v2924 : BitVec 32 := Scalar.muli v2922 c1_i32_1501
  let v2925 : BitVec 32 := Scalar.addi c0_i32_1502 v2924
  v2925.toNat
def k0_dev49 (d0 : Dev nD) : Nat :=
  let c0_i32_1516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1506 : BitVec 32 := 7#32
  let v2933 : BitVec 32 := Scalar.addi v2 c7_i32_1506
  let c8_i32_1507 : BitVec 32 := 8#32
  let c0_i32_1508 : BitVec 32 := 0#32
  let v2934 : BitVec 1 := Scalar.cmpi .eq c8_i32_1507 c0_i32_1508
  let c1_i32_1509 : BitVec 32 := 1#32
  let v2935 : BitVec 32 := Scalar.select v2934 c1_i32_1509 c8_i32_1507
  let v2936 : BitVec 32 := Scalar.remsi v2933 v2935
  let c0_i32_1511 : BitVec 32 := 0#32
  let v2938 : BitVec 1 := Scalar.cmpi .slt v2936 c0_i32_1511
  let c0_i32_1512 : BitVec 32 := 0#32
  let v2939 : BitVec 1 := Scalar.cmpi .slt v2935 c0_i32_1512
  let v2940 : BitVec 1 := Scalar.xori v2938 v2939
  let c0_i32_1510 : BitVec 32 := 0#32
  let v2937 : BitVec 1 := Scalar.cmpi .ne v2936 c0_i32_1510
  let v2941 : BitVec 1 := Scalar.andi v2940 v2937
  let v2942 : BitVec 32 := Scalar.addi v2936 v2935
  let v2943 : BitVec 32 := Scalar.select v2941 v2942 v2936
  let c1_i32_1515 : BitVec 32 := 1#32
  let v2945 : BitVec 32 := Scalar.muli v2943 c1_i32_1515
  let v2946 : BitVec 32 := Scalar.addi c0_i32_1516 v2945
  v2946.toNat
def k0_off125 (d0 : Dev nD) (c1_i32_1524 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2959 : BitVec 32 := Scalar.subi v2 c1_i32_1524
  let c8_i32_1525 : BitVec 32 := 8#32
  let c0_i32_1526 : BitVec 32 := 0#32
  let v2960 : BitVec 1 := Scalar.cmpi .eq c8_i32_1525 c0_i32_1526
  let c1_i32_1527 : BitVec 32 := 1#32
  let v2961 : BitVec 32 := Scalar.select v2960 c1_i32_1527 c8_i32_1525
  let v2962 : BitVec 32 := Scalar.remsi v2959 v2961
  let c0_i32_1529 : BitVec 32 := 0#32
  let v2964 : BitVec 1 := Scalar.cmpi .slt v2962 c0_i32_1529
  let c0_i32_1530 : BitVec 32 := 0#32
  let v2965 : BitVec 1 := Scalar.cmpi .slt v2961 c0_i32_1530
  let v2966 : BitVec 1 := Scalar.xori v2964 v2965
  let c0_i32_1528 : BitVec 32 := 0#32
  let v2963 : BitVec 1 := Scalar.cmpi .ne v2962 c0_i32_1528
  let v2967 : BitVec 1 := Scalar.andi v2966 v2963
  let v2968 : BitVec 32 := Scalar.addi v2962 v2961
  let v2969 : BitVec 32 := Scalar.select v2967 v2968 v2962
  let c0_i32_1534 : BitVec 32 := 0#32
  let c0_i32_1535 : BitVec 32 := 0#32
  ![v2969.toNat, 0, 0]
def k0_dev50 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1631 : BitVec 32 := 1#32
  let v3096 : BitVec 32 := Scalar.addi v2 c1_i32_1631
  let c8_i32_1632 : BitVec 32 := 8#32
  let c0_i32_1633 : BitVec 32 := 0#32
  let v3097 : BitVec 1 := Scalar.cmpi .eq c8_i32_1632 c0_i32_1633
  let c1_i32_1634 : BitVec 32 := 1#32
  let v3098 : BitVec 32 := Scalar.select v3097 c1_i32_1634 c8_i32_1632
  let v3099 : BitVec 32 := Scalar.remsi v3096 v3098
  let c0_i32_1636 : BitVec 32 := 0#32
  let v3101 : BitVec 1 := Scalar.cmpi .slt v3099 c0_i32_1636
  let c0_i32_1637 : BitVec 32 := 0#32
  let v3102 : BitVec 1 := Scalar.cmpi .slt v3098 c0_i32_1637
  let v3103 : BitVec 1 := Scalar.xori v3101 v3102
  let c0_i32_1635 : BitVec 32 := 0#32
  let v3100 : BitVec 1 := Scalar.cmpi .ne v3099 c0_i32_1635
  let v3104 : BitVec 1 := Scalar.andi v3103 v3100
  let v3105 : BitVec 32 := Scalar.addi v3099 v3098
  let v3106 : BitVec 32 := Scalar.select v3104 v3105 v3099
  let c1_i32_1639 : BitVec 32 := 1#32
  let v3107 : BitVec 32 := Scalar.muli v3106 c1_i32_1639
  let v3108 : BitVec 32 := Scalar.addi c0_i32_1640 v3107
  v3108.toNat
def k0_dev51 (d0 : Dev nD) : Nat :=
  let c0_i32_1652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1643 : BitVec 32 := 2#32
  let v3115 : BitVec 32 := Scalar.addi v2 c2_i32_1643
  let c8_i32_1644 : BitVec 32 := 8#32
  let c0_i32_1645 : BitVec 32 := 0#32
  let v3116 : BitVec 1 := Scalar.cmpi .eq c8_i32_1644 c0_i32_1645
  let c1_i32_1646 : BitVec 32 := 1#32
  let v3117 : BitVec 32 := Scalar.select v3116 c1_i32_1646 c8_i32_1644
  let v3118 : BitVec 32 := Scalar.remsi v3115 v3117
  let c0_i32_1648 : BitVec 32 := 0#32
  let v3120 : BitVec 1 := Scalar.cmpi .slt v3118 c0_i32_1648
  let c0_i32_1649 : BitVec 32 := 0#32
  let v3121 : BitVec 1 := Scalar.cmpi .slt v3117 c0_i32_1649
  let v3122 : BitVec 1 := Scalar.xori v3120 v3121
  let c0_i32_1647 : BitVec 32 := 0#32
  let v3119 : BitVec 1 := Scalar.cmpi .ne v3118 c0_i32_1647
  let v3123 : BitVec 1 := Scalar.andi v3122 v3119
  let v3124 : BitVec 32 := Scalar.addi v3118 v3117
  let v3125 : BitVec 32 := Scalar.select v3123 v3124 v3118
  let c1_i32_1651 : BitVec 32 := 1#32
  let v3126 : BitVec 32 := Scalar.muli v3125 c1_i32_1651
  let v3127 : BitVec 32 := Scalar.addi c0_i32_1652 v3126
  v3127.toNat
def k0_dev52 (d0 : Dev nD) : Nat :=
  let c0_i32_1664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1655 : BitVec 32 := 3#32
  let v3134 : BitVec 32 := Scalar.addi v2 c3_i32_1655
  let c8_i32_1656 : BitVec 32 := 8#32
  let c0_i32_1657 : BitVec 32 := 0#32
  let v3135 : BitVec 1 := Scalar.cmpi .eq c8_i32_1656 c0_i32_1657
  let c1_i32_1658 : BitVec 32 := 1#32
  let v3136 : BitVec 32 := Scalar.select v3135 c1_i32_1658 c8_i32_1656
  let v3137 : BitVec 32 := Scalar.remsi v3134 v3136
  let c0_i32_1660 : BitVec 32 := 0#32
  let v3139 : BitVec 1 := Scalar.cmpi .slt v3137 c0_i32_1660
  let c0_i32_1661 : BitVec 32 := 0#32
  let v3140 : BitVec 1 := Scalar.cmpi .slt v3136 c0_i32_1661
  let v3141 : BitVec 1 := Scalar.xori v3139 v3140
  let c0_i32_1659 : BitVec 32 := 0#32
  let v3138 : BitVec 1 := Scalar.cmpi .ne v3137 c0_i32_1659
  let v3142 : BitVec 1 := Scalar.andi v3141 v3138
  let v3143 : BitVec 32 := Scalar.addi v3137 v3136
  let v3144 : BitVec 32 := Scalar.select v3142 v3143 v3137
  let c1_i32_1663 : BitVec 32 := 1#32
  let v3145 : BitVec 32 := Scalar.muli v3144 c1_i32_1663
  let v3146 : BitVec 32 := Scalar.addi c0_i32_1664 v3145
  v3146.toNat
def k0_dev53 (d0 : Dev nD) : Nat :=
  let c0_i32_1676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1667 : BitVec 32 := 4#32
  let v3153 : BitVec 32 := Scalar.addi v2 c4_i32_1667
  let c8_i32_1668 : BitVec 32 := 8#32
  let c0_i32_1669 : BitVec 32 := 0#32
  let v3154 : BitVec 1 := Scalar.cmpi .eq c8_i32_1668 c0_i32_1669
  let c1_i32_1670 : BitVec 32 := 1#32
  let v3155 : BitVec 32 := Scalar.select v3154 c1_i32_1670 c8_i32_1668
  let v3156 : BitVec 32 := Scalar.remsi v3153 v3155
  let c0_i32_1672 : BitVec 32 := 0#32
  let v3158 : BitVec 1 := Scalar.cmpi .slt v3156 c0_i32_1672
  let c0_i32_1673 : BitVec 32 := 0#32
  let v3159 : BitVec 1 := Scalar.cmpi .slt v3155 c0_i32_1673
  let v3160 : BitVec 1 := Scalar.xori v3158 v3159
  let c0_i32_1671 : BitVec 32 := 0#32
  let v3157 : BitVec 1 := Scalar.cmpi .ne v3156 c0_i32_1671
  let v3161 : BitVec 1 := Scalar.andi v3160 v3157
  let v3162 : BitVec 32 := Scalar.addi v3156 v3155
  let v3163 : BitVec 32 := Scalar.select v3161 v3162 v3156
  let c1_i32_1675 : BitVec 32 := 1#32
  let v3164 : BitVec 32 := Scalar.muli v3163 c1_i32_1675
  let v3165 : BitVec 32 := Scalar.addi c0_i32_1676 v3164
  v3165.toNat
def k0_dev54 (d0 : Dev nD) : Nat :=
  let c0_i32_1688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1679 : BitVec 32 := 5#32
  let v3172 : BitVec 32 := Scalar.addi v2 c5_i32_1679
  let c8_i32_1680 : BitVec 32 := 8#32
  let c0_i32_1681 : BitVec 32 := 0#32
  let v3173 : BitVec 1 := Scalar.cmpi .eq c8_i32_1680 c0_i32_1681
  let c1_i32_1682 : BitVec 32 := 1#32
  let v3174 : BitVec 32 := Scalar.select v3173 c1_i32_1682 c8_i32_1680
  let v3175 : BitVec 32 := Scalar.remsi v3172 v3174
  let c0_i32_1684 : BitVec 32 := 0#32
  let v3177 : BitVec 1 := Scalar.cmpi .slt v3175 c0_i32_1684
  let c0_i32_1685 : BitVec 32 := 0#32
  let v3178 : BitVec 1 := Scalar.cmpi .slt v3174 c0_i32_1685
  let v3179 : BitVec 1 := Scalar.xori v3177 v3178
  let c0_i32_1683 : BitVec 32 := 0#32
  let v3176 : BitVec 1 := Scalar.cmpi .ne v3175 c0_i32_1683
  let v3180 : BitVec 1 := Scalar.andi v3179 v3176
  let v3181 : BitVec 32 := Scalar.addi v3175 v3174
  let v3182 : BitVec 32 := Scalar.select v3180 v3181 v3175
  let c1_i32_1687 : BitVec 32 := 1#32
  let v3183 : BitVec 32 := Scalar.muli v3182 c1_i32_1687
  let v3184 : BitVec 32 := Scalar.addi c0_i32_1688 v3183
  v3184.toNat
def k0_dev55 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1691 : BitVec 32 := 6#32
  let v3191 : BitVec 32 := Scalar.addi v2 c6_i32_1691
  let c8_i32_1692 : BitVec 32 := 8#32
  let c0_i32_1693 : BitVec 32 := 0#32
  let v3192 : BitVec 1 := Scalar.cmpi .eq c8_i32_1692 c0_i32_1693
  let c1_i32_1694 : BitVec 32 := 1#32
  let v3193 : BitVec 32 := Scalar.select v3192 c1_i32_1694 c8_i32_1692
  let v3194 : BitVec 32 := Scalar.remsi v3191 v3193
  let c0_i32_1696 : BitVec 32 := 0#32
  let v3196 : BitVec 1 := Scalar.cmpi .slt v3194 c0_i32_1696
  let c0_i32_1697 : BitVec 32 := 0#32
  let v3197 : BitVec 1 := Scalar.cmpi .slt v3193 c0_i32_1697
  let v3198 : BitVec 1 := Scalar.xori v3196 v3197
  let c0_i32_1695 : BitVec 32 := 0#32
  let v3195 : BitVec 1 := Scalar.cmpi .ne v3194 c0_i32_1695
  let v3199 : BitVec 1 := Scalar.andi v3198 v3195
  let v3200 : BitVec 32 := Scalar.addi v3194 v3193
  let v3201 : BitVec 32 := Scalar.select v3199 v3200 v3194
  let c1_i32_1699 : BitVec 32 := 1#32
  let v3202 : BitVec 32 := Scalar.muli v3201 c1_i32_1699
  let v3203 : BitVec 32 := Scalar.addi c0_i32_1700 v3202
  v3203.toNat
def k0_dev56 (d0 : Dev nD) : Nat :=
  let c0_i32_1712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1703 : BitVec 32 := 7#32
  let v3210 : BitVec 32 := Scalar.addi v2 c7_i32_1703
  let c8_i32_1704 : BitVec 32 := 8#32
  let c0_i32_1705 : BitVec 32 := 0#32
  let v3211 : BitVec 1 := Scalar.cmpi .eq c8_i32_1704 c0_i32_1705
  let c1_i32_1706 : BitVec 32 := 1#32
  let v3212 : BitVec 32 := Scalar.select v3211 c1_i32_1706 c8_i32_1704
  let v3213 : BitVec 32 := Scalar.remsi v3210 v3212
  let c0_i32_1708 : BitVec 32 := 0#32
  let v3215 : BitVec 1 := Scalar.cmpi .slt v3213 c0_i32_1708
  let c0_i32_1709 : BitVec 32 := 0#32
  let v3216 : BitVec 1 := Scalar.cmpi .slt v3212 c0_i32_1709
  let v3217 : BitVec 1 := Scalar.xori v3215 v3216
  let c0_i32_1707 : BitVec 32 := 0#32
  let v3214 : BitVec 1 := Scalar.cmpi .ne v3213 c0_i32_1707
  let v3218 : BitVec 1 := Scalar.andi v3217 v3214
  let v3219 : BitVec 32 := Scalar.addi v3213 v3212
  let v3220 : BitVec 32 := Scalar.select v3218 v3219 v3213
  let c1_i32_1711 : BitVec 32 := 1#32
  let v3221 : BitVec 32 := Scalar.muli v3220 c1_i32_1711
  let v3222 : BitVec 32 := Scalar.addi c0_i32_1712 v3221
  v3222.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x1024x2048 : Shape := ⟨3, ![2, 1024, 2048]⟩
abbrev S2048x512 : Shape := ⟨2, ![2048, 512]⟩
abbrev S_ : Shape := ⟨0, ![]⟩
abbrev S2x1024 : Shape := ⟨2, ![2, 1024]⟩
abbrev S2x1024x1 : Shape := ⟨3, ![2, 1024, 1]⟩
abbrev S2x1024x32x64 : Shape := ⟨4, ![2, 1024, 32, 64]⟩
abbrev S2x128x2048 : Shape := ⟨3, ![2, 128, 2048]⟩
abbrev S2x128x32x64 : Shape := ⟨4, ![2, 128, 32, 64]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 172
  | .vmem => 0
  | .smem => 0
  | _ => 0

abbrev hbmTy0_0 (i : Nat) : BufTy := match i % 128 with
  | 0 => ⟨S2x128x512, .bf16⟩
  | 1 => ⟨S512x2048, .bf16⟩
  | 2 => ⟨S2x1024x2048, .bf16⟩
  | 3 => ⟨S2x1024x2048, .bf16⟩
  | 4 => ⟨S2048x512, .bf16⟩
  | 5 => ⟨S_, .bf16⟩
  | 6 => ⟨S2x1024x2048, .bf16⟩
  | 7 => ⟨S2x1024x2048, .bf16⟩
  | 8 => ⟨S2x1024x2048, .bf16⟩
  | 9 => ⟨S_, .f32⟩
  | 10 => ⟨S_, .f32⟩
  | 11 => ⟨S_, .bf16⟩
  | 12 => ⟨S2x1024x2048, .bf16⟩
  | 13 => ⟨S2x1024x2048, .bf16⟩
  | 14 => ⟨S_, .bf16⟩
  | 15 => ⟨S2x1024x2048, .bf16⟩
  | 16 => ⟨S2x1024x2048, .bf16⟩
  | 17 => ⟨S2x1024x2048, .f32⟩
  | 18 => ⟨S2x1024x2048, .bf16⟩
  | 19 => ⟨S_, .bf16⟩
  | 20 => ⟨S2x1024, .bf16⟩
  | 21 => ⟨S2x1024x1, .bf16⟩
  | 22 => ⟨S_, .bf16⟩
  | 23 => ⟨S2x1024x1, .bf16⟩
  | 24 => ⟨S2x1024x1, .bf16⟩
  | 25 => ⟨S_, .bf16⟩
  | 26 => ⟨S2x1024x1, .bf16⟩
  | 27 => ⟨S2x1024x1, .bf16⟩
  | 28 => ⟨S2x1024x1, .f32⟩
  | 29 => ⟨S2x1024x2048, .f32⟩
  | 30 => ⟨S2x1024x2048, .f32⟩
  | 31 => ⟨S2x1024x2048, .f32⟩
  | 32 => ⟨S2x1024x2048, .f32⟩
  | 33 => ⟨S_, .f32⟩
  | 34 => ⟨S_, .f32⟩
  | 35 => ⟨S_, .f32⟩
  | 36 => ⟨S2x1024x2048, .f32⟩
  | 37 => ⟨S2x1024x2048, .f32⟩
  | 38 => ⟨S_, .f32⟩
  | 39 => ⟨S2x1024x2048, .f32⟩
  | 40 => ⟨S2x1024x2048, .f32⟩
  | 41 => ⟨S2x1024x2048, .f32⟩
  | 42 => ⟨S2x1024x2048, .f32⟩
  | 43 => ⟨S_, .f32⟩
  | 44 => ⟨S2x1024x2048, .f32⟩
  | 45 => ⟨S2x1024x2048, .f32⟩
  | 46 => ⟨S2x1024x32x64, .f32⟩
  | 47 => ⟨S2x1024x32x64, .f32⟩
  | 48 => ⟨S2x128x512, .f32⟩
  | 49 => ⟨S512x2048, .f32⟩
  | 50 => ⟨S2x128x2048, .f32⟩
  | 51 => ⟨S2x128x2048, .bf16⟩
  | 52 => ⟨S2x128x2048, .f32⟩
  | 53 => ⟨S2x128x32x64, .f32⟩
  | 54 => ⟨S128, .i32⟩
  | 55 => ⟨S_, .i32⟩
  | 56 => ⟨S_, .i32⟩
  | 57 => ⟨S128, .i32⟩
  | 58 => ⟨S128, .i32⟩
  | 59 => ⟨S128, .i32⟩
  | 60 => ⟨S_, .i32⟩
  | 61 => ⟨S128, .i32⟩
  | 62 => ⟨S128, .i1⟩
  | 63 => ⟨S128, .i32⟩
  | 64 => ⟨S128, .i32⟩
  | 65 => ⟨S_, .i32⟩
  | 66 => ⟨S128, .i32⟩
  | 67 => ⟨S128, .i1⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S1024, .i32⟩
  | 75 => ⟨S_, .i32⟩
  | 76 => ⟨S_, .i32⟩
  | 77 => ⟨S1024, .i32⟩
  | 78 => ⟨S1024, .i32⟩
  | 79 => ⟨S1024, .i32⟩
  | 80 => ⟨S_, .i32⟩
  | 81 => ⟨S1024, .i32⟩
  | 82 => ⟨S1024, .i1⟩
  | 83 => ⟨S1024, .i32⟩
  | 84 => ⟨S1024, .i32⟩
  | 85 => ⟨S_, .i32⟩
  | 86 => ⟨S1024, .i32⟩
  | 87 => ⟨S1024, .i1⟩
  | 88 => ⟨S1024, .i1⟩
  | 89 => ⟨S_, .i32⟩
  | 90 => ⟨S1024, .i32⟩
  | 91 => ⟨S1024, .i32⟩
  | 92 => ⟨S1024, .i32⟩
  | 93 => ⟨S1x1024, .i32⟩
  | 94 => ⟨S128x1024, .i32⟩
  | 95 => ⟨S128x1024, .i32⟩
  | 96 => ⟨S128x1024, .i1⟩
  | 97 => ⟨S_, .i32⟩
  | 98 => ⟨S1x1024, .i32⟩
  | 99 => ⟨S1x1024, .i1⟩
  | 100 => ⟨S128x1024, .i1⟩
  | 101 => ⟨S128x1024, .i1⟩
  | 102 => ⟨S128x1024, .i32⟩
  | 103 => ⟨S128x1024, .i32⟩
  | 104 => ⟨S128x1024, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S128x1024, .i32⟩
  | 112 => ⟨S128x1024, .i32⟩
  | 113 => ⟨S_, .i32⟩
  | 114 => ⟨S128x1024, .i32⟩
  | 115 => ⟨S128x1024, .i1⟩
  | 116 => ⟨S_, .i32⟩
  | 117 => ⟨S128x1024, .i32⟩
  | 118 => ⟨S128x1024, .i1⟩
  | 119 => ⟨S_, .i32⟩
  | 120 => ⟨S_, .i1⟩
  | 121 => ⟨S128x1024, .i1⟩
  | 122 => ⟨S128x1024, .i1⟩
  | 123 => ⟨S128x1024, .i1⟩
  | 124 => ⟨S128x1024, .i32⟩
  | 125 => ⟨S128x1024, .i32⟩
  | 126 => ⟨S128x1024, .i32⟩
  | 127 => ⟨S_, .i32⟩
  | _ => ⟨S2x128x512, .bf16⟩

abbrev hbmTy0_1 (i : Nat) : BufTy := match i % 128 with
  | 0 => ⟨S128x1024, .i32⟩
  | 1 => ⟨S128x1024, .i1⟩
  | 2 => ⟨S128x1024, .i1⟩
  | 3 => ⟨S2x32x128x1024, .f32⟩
  | 4 => ⟨S2x32x128x1024, .bf16⟩
  | 5 => ⟨S2x32x128x1024, .f32⟩
  | 6 => ⟨S_, .f32⟩
  | 7 => ⟨S2x32x128x1024, .f32⟩
  | 8 => ⟨S2x32x128x1024, .f32⟩
  | 9 => ⟨S1x1x128x1024, .i1⟩
  | 10 => ⟨S_, .f32⟩
  | 11 => ⟨S_, .f32⟩
  | 12 => ⟨S2x32x128x1024, .i1⟩
  | 13 => ⟨S2x32x128x1024, .f32⟩
  | 14 => ⟨S2x32x128x1024, .f32⟩
  | 15 => ⟨S_, .f32⟩
  | 16 => ⟨S2x32x128, .f32⟩
  | 17 => ⟨S2x32x128x1, .f32⟩
  | 18 => ⟨S2x32x128x1024, .f32⟩
  | 19 => ⟨S2x32x128x1024, .f32⟩
  | 20 => ⟨S2x32x128x1024, .f32⟩
  | 21 => ⟨S_, .i1⟩
  | 22 => ⟨S128, .i1⟩
  | 23 => ⟨S1x1x128x1, .i1⟩
  | 24 => ⟨S_, .f32⟩
  | 25 => ⟨S2x32x128, .f32⟩
  | 26 => ⟨S2x32x128x1, .f32⟩
  | 27 => ⟨S_, .f32⟩
  | 28 => ⟨S_, .f32⟩
  | 29 => ⟨S2x32x128x1, .i1⟩
  | 30 => ⟨S2x32x128x1, .f32⟩
  | 31 => ⟨S2x32x128x1, .f32⟩
  | 32 => ⟨S2x32x128x1024, .f32⟩
  | 33 => ⟨S2x32x128x1024, .f32⟩
  | 34 => ⟨S_, .f32⟩
  | 35 => ⟨S_, .f32⟩
  | 36 => ⟨S2x32x128x1024, .i1⟩
  | 37 => ⟨S2x32x128x1024, .f32⟩
  | 38 => ⟨S2x32x128x1024, .f32⟩
  | 39 => ⟨S2x32x64x128, .f32⟩
  | 40 => ⟨S2x128x32x64, .f32⟩
  | 41 => ⟨S2x128x2048, .f32⟩
  | 42 => ⟨S2048x512, .f32⟩
  | 43 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_cst_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_c : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_0 : Ref sig .tc := ⟨.hbm, 69, rfl⟩
abbrev main_call4_v12 : Ref sig .tc := ⟨.hbm, 70, rfl⟩
abbrev main_call4_v13 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_8 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_c : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_0 : Ref sig .tc := ⟨.hbm, 89, rfl⟩
abbrev main_call5_v12 : Ref sig .tc := ⟨.hbm, 90, rfl⟩
abbrev main_call5_v13 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_c_9 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_10 : Ref sig .tc := ⟨.hbm, 105, rfl⟩
abbrev main_call6_v0 : Ref sig .tc := ⟨.hbm, 106, rfl⟩
abbrev main_call6_c : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_c_1 : Ref sig .tc := ⟨.hbm, 113, rfl⟩
abbrev main_call6_v5 : Ref sig .tc := ⟨.hbm, 114, rfl⟩
abbrev main_call6_v6 : Ref sig .tc := ⟨.hbm, 115, rfl⟩
abbrev main_call6_c_2 : Ref sig .tc := ⟨.hbm, 116, rfl⟩
abbrev main_call6_v7 : Ref sig .tc := ⟨.hbm, 117, rfl⟩
abbrev main_call6_v8 : Ref sig .tc := ⟨.hbm, 118, rfl⟩
abbrev main_call6_c_3 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_v12 : Ref sig .tc := ⟨.hbm, 123, rfl⟩
abbrev main_call6_v13 : Ref sig .tc := ⟨.hbm, 124, rfl⟩
abbrev main_call6_v14 : Ref sig .tc := ⟨.hbm, 125, rfl⟩
abbrev main_v46 : Ref sig .tc := ⟨.hbm, 126, rfl⟩
abbrev main_c_11 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_cst_12 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_cst_13 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_v56 : Ref sig .tc := ⟨.hbm, 142, rfl⟩
abbrev main_cst_14 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_c_15 : Ref sig .tc := ⟨.hbm, 149, rfl⟩
abbrev main_v62 : Ref sig .tc := ⟨.hbm, 150, rfl⟩
abbrev main_v63 : Ref sig .tc := ⟨.hbm, 151, rfl⟩
abbrev main_cst_16 : Ref sig .tc := ⟨.hbm, 152, rfl⟩
abbrev main_v64 : Ref sig .tc := ⟨.hbm, 153, rfl⟩
abbrev main_v65 : Ref sig .tc := ⟨.hbm, 154, rfl⟩
abbrev main_cst_17 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_cst_18 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩

abbrev nD : Nat := 1
abbrev τ : Topo := Topo.v7x

variable {F : FTy → Type} [FloatOps F]
-- ==== Proof.Spec.lean ====
/-
What the kernel computes, stated over any elements: the quantised blocks a device stores, what lands in a slot, and the
attention a device folds over the eight blocks of keys and values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe

variable {F : FTy → Type} [FloatOps F]

/-! ## Devices -/

/-- The peer that the transfer of distance `o + 1` goes to. -/
def dst (c : Dev nD) (o : Fin 7) : Dev nD := ⟨(c.val + o.val + 1) % 8, Nat.mod_lt _ (by decide)⟩
/-- The device whose block the step `g` of the fold reads. -/
def sr (c : Dev nD) (g : ℕ) : Dev nD := ⟨(c.val + (8 - g % 8)) % 8, Nat.mod_lt _ (by decide)⟩
/-- The devices of which only half of the keys is ever read by a peer. -/
def half (s : Dev nD) : Bool := s.val = 2 || s.val = 3 || s.val = 5 || s.val = 6
/-- The first key row of that half. -/
def j0 (s : Dev nD) : ℕ := if (s.val = 2 ∨ s.val = 5) then 64 else 0
theorem j0_le (s : Dev nD) : j0 s ≤ 64 := by unfold j0; split <;> omega

/-! ## The memrefs -/

/-- The quantised keys (`false`) and values (`true`) that a device stores. -/
abbrev skM (b : Bool) : Memref sig .tc .vmem S2x128x2048 .i8 := match b with
  | false => Memref.whole cc0_scratch0
  | true => Memref.whole cc0_scratch1
/-- The eight slots that keys and values land in. -/
abbrev rvM (b : Bool) : Memref sig .tc .vmem S8x2x128x256 .i8 := match b with
  | false => Memref.whole cc0_scratch3
  | true => Memref.whole cc0_scratch4
abbrev svsM : Memref sig .tc .vmem S2x128 .bf16 := Memref.whole cc0_scratch2
abbrev rvsM : Memref sig .tc .vmem S8x2x128 .bf16 := Memref.whole cc0_scratch5
abbrev arM : Memref sig .tc .vmem S256x512 .bf16 := Memref.whole cc0_scratch6
abbrev rsM : Memref sig .tc .vmem S8x32x512 .bf16 := Memref.whole cc0_scratch7
abbrev redM : Memref sig .tc .vmem S32x512 .bf16 := Memref.whole cc0_scratch8
abbrev agM : Memref sig .tc .vmem S8x32x512 .bf16 := Memref.whole cc0_scratch9

theorem lt8 (c : Dev nD) : c.val < 8 := c.isLt

theorem inb_slotF (s : Dev nD) : ∀ a, (![s.val, 0, 0, 0] : Fin 4 → ℕ) a + S1x2x128x256.size a ≤ S8x2x128x256.size a := by
  revert s; decide +kernel
theorem inb_slotH (s : Dev nD) : ∀ a, (![s.val, 0, j0 s, 0] : Fin 4 → ℕ) a + S1x2x64x256.size a ≤ S8x2x128x256.size a := by
  revert s; decide +kernel
theorem inb_slabF (d : Dev nD) : ∀ a, (![0, 0, 256 * d.val] : Fin 3 → ℕ) a + S2x128x256.size a ≤ S2x128x2048.size a := by
  revert d; decide +kernel
theorem inb_slabH (s d : Dev nD) : ∀ a, (![0, j0 s, 256 * d.val] : Fin 3 → ℕ) a + S2x64x256.size a ≤ S2x128x2048.size a := by
  revert s d; decide +kernel
theorem inb_slotS (s : Dev nD) : ∀ a, (![s.val, 0, 0] : Fin 3 → ℕ) a + S1x2x128.size a ≤ S8x2x128.size a := by
  revert s; decide +kernel
theorem inb_slotR (s : Dev nD) : ∀ a, (![s.val, 0, 0] : Fin 3 → ℕ) a + S1x32x512.size a ≤ S8x32x512.size a := by
  revert s; decide +kernel
theorem inb_slabR (d : Dev nD) : ∀ a, (![32 * d.val, 0] : Fin 2 → ℕ) a + S32x512.size a ≤ S256x512.size a := by
  revert d; decide +kernel

/-- Slot `s`, whole, and the rows of it that a device sends when only half of its keys is needed. -/
abbrev slotF (b : Bool) (s : Dev nD) : Memref sig .tc .vmem S2x128x256 .i8 :=
  ((rvM b).slice (Rect.unit (s := S8x2x128x256) ![s.val, 0, 0, 0] S1x2x128x256.size (inb_slotF s)) (fun _ => rfl)).squeeze S2x128x256 squeezes_S1x2x128x256_S2x128x256
abbrev slotH (b : Bool) (s : Dev nD) : Memref sig .tc .vmem S2x64x256 .i8 :=
  ((rvM b).slice (Rect.unit (s := S8x2x128x256) ![s.val, 0, j0 s, 0] S1x2x64x256.size (inb_slotH s)) (fun _ => rfl)).squeeze S2x64x256 squeezes_S1x2x64x256_S2x64x256
/-- The columns of the quantised block that go to device `d`, whole, and the half of their rows that device `s` sends. -/
abbrev slabF (b : Bool) (d : Dev nD) : Memref sig .tc .vmem S2x128x256 .i8 :=
  (skM b).slice (Rect.unit (s := S2x128x2048) ![0, 0, 256 * d.val] S2x128x256.size (inb_slabF d)) (fun _ => rfl)
abbrev slabH (b : Bool) (s d : Dev nD) : Memref sig .tc .vmem S2x64x256 .i8 :=
  (skM b).slice (Rect.unit (s := S2x128x2048) ![0, j0 s, 256 * d.val] S2x64x256.size (inb_slabH s d)) (fun _ => rfl)
abbrev slotS (s : Dev nD) : Memref sig .tc .vmem S2x128 .bf16 :=
  (rvsM.slice (Rect.unit (s := S8x2x128) ![s.val, 0, 0] S1x2x128.size (inb_slotS s)) (fun _ => rfl)).squeeze S2x128 squeezes_S1x2x128_S2x128
abbrev slabR (d : Dev nD) : Memref sig .tc .vmem S32x512 .bf16 :=
  arM.slice (Rect.unit (s := S256x512) ![32 * d.val, 0] S32x512.size (inb_slabR d)) (fun _ => rfl)
/-- Slot `s` of the buffer of partial sums (`false`) and of the buffer of the gathered rows (`true`). -/
abbrev slM (b : Bool) : Memref sig .tc .vmem S8x32x512 .bf16 := match b with
  | false => Memref.whole cc0_scratch7
  | true => Memref.whole cc0_scratch9
abbrev slotR (b : Bool) (s : Dev nD) : Memref sig .tc .vmem S32x512 .bf16 :=
  ((slM b).slice (Rect.unit (s := S8x32x512) ![s.val, 0, 0] S1x32x512.size (inb_slotR s)) (fun _ => rfl)).squeeze S32x512 squeezes_S1x32x512_S32x512

/-! ## Contents -/

abbrev CSk (F : FTy → Type) := S2x128x2048.Idx → Elt F .i8
abbrev CRv (F : FTy → Type) := S8x2x128x256.Idx → Elt F .i8
abbrev CSs (F : FTy → Type) := S2x128.Idx → Elt F .bf16
abbrev CRs (F : FTy → Type) := S8x2x128.Idx → Elt F .bf16
abbrev CAr (F : FTy → Type) := S256x512.Idx → Elt F .bf16
abbrev CSl (F : FTy → Type) := S8x32x512.Idx → Elt F .bf16
abbrev CRd (F : FTy → Type) := S32x512.Idx → Elt F .bf16

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

def xst0 (c : Dev nD) : (cc0_stg0_0 : Ref sig .tc).ty.Contents (Elt F) :=
  (win0_0.blk (0 : Fin 1)).view.read (Elt F) ((s₀ m ρ).mem ((c : Thread nD τ).loc main_arg0))
def xst1 (c : Dev nD) : (cc0_stg1_0 : Ref sig .tc).ty.Contents (Elt F) :=
  (win0_1.blk (0 : Fin 1)).view.read (Elt F) ((s₀ m ρ).mem ((c : Thread nD τ).loc main_arg1))
def xst2 (c : Dev nD) : (cc0_stg2_0 : Ref sig .tc).ty.Contents (Elt F) :=
  (win0_2.blk (0 : Fin 1)).view.read (Elt F) ((s₀ m ρ).mem ((c : Thread nD τ).loc main_arg2))
def xst3 (c : Dev nD) : (cc0_stg3_0 : Ref sig .tc).ty.Contents (Elt F) :=
  (win0_3.blk (0 : Fin 1)).view.read (Elt F) ((s₀ m ρ).mem ((c : Thread nD τ).loc main_arg3))
def xst4 (c : Dev nD) : (cc0_stg4_0 : Ref sig .tc).ty.Contents (Elt F) :=
  (win0_4.blk (0 : Fin 1)).view.read (Elt F) ((s₀ m ρ).mem ((c : Thread nD τ).loc main_arg4))

/-- The quantised keys and values of device `s`. -/
def SK (b : Bool) (s : Dev nD) : CSk F := match b with
  | false => k0_pay1 (xst2 m ρ s)
  | true => k0_pay6 (k0_pay5 (xst3 m ρ s))
/-- The scales of the values of device `s`. -/
def SVS (s : Dev nD) : CSs F := k0_pay4 (xst3 m ρ s)

def slotFr (b : Bool) (s : Dev nD) (f : CRv F) : S2x128x256.Idx → Elt F .i8 := match b with
  | false => (slotF false s).view.read (Elt F) f
  | true => (slotF true s).view.read (Elt F) f
def slotHr (b : Bool) (s : Dev nD) (f : CRv F) : S2x64x256.Idx → Elt F .i8 := match b with
  | false => (slotH false s).view.read (Elt F) f
  | true => (slotH true s).view.read (Elt F) f
def slabFr (b : Bool) (d : Dev nD) (f : CSk F) : S2x128x256.Idx → Elt F .i8 := match b with
  | false => (slabF false d).view.read (Elt F) f
  | true => (slabF true d).view.read (Elt F) f
def slabHr (b : Bool) (s d : Dev nD) (f : CSk F) : S2x64x256.Idx → Elt F .i8 := match b with
  | false => (slabH false s d).view.read (Elt F) f
  | true => (slabH true s d).view.read (Elt F) f

/-- What slot `s` on device `c` holds of the keys or values once device `s`'s copy has landed: all rows of its slab, or — where
    only half is sent — that half, the other rows being whatever was there. -/
def landOk (b : Bool) (s c : Dev nD) (f : CRv F) : Prop :=
  if half s = true ∧ s ≠ c then slotHr b s f = slabHr b s c (SK m ρ b s) else slotFr b s f = slabFr b c (SK m ρ b s)

/-! ## The fold of the attention -/

theorem inb_ldK (s : Dev nD) (j : Fin 8) :
    ∀ a, (![s.val, j.val / 4, 0, 64 * (j.val % 4)] : Fin 4 → ℕ) a + S1x1x128x64.size a ≤ S8x2x128x256.size a := by
  revert s j; decide +kernel
theorem inb_ldS (s : Dev nD) (b : Fin 2) : ∀ a, (![s.val, b.val, 0] : Fin 3 → ℕ) a + S1x1x128.size a ≤ S8x2x128.size a := by
  revert s b; decide +kernel

/-- The 128 rows of head `j % 4` of batch `j / 4` in slot `s`. -/
def ldK (b : Bool) (s : Dev nD) (j : Fin 8) (f : CRv F) : Vec F S1x1x128x64 .i8 := match b with
  | false => (rvM false).view.readAt (Elt F) (Rect.unit (s := S8x2x128x256) ![s.val, j.val / 4, 0, 64 * (j.val % 4)] S1x1x128x64.size (inb_ldK s j)).toLoadRect f
  | true => (rvM true).view.readAt (Elt F) (Rect.unit (s := S8x2x128x256) ![s.val, j.val / 4, 0, 64 * (j.val % 4)] S1x1x128x64.size (inb_ldK s j)).toLoadRect f
/-- The scales of batch `b` in slot `s`. -/
def ldS (s : Dev nD) (b : Fin 2) (f : CRs F) : Vec F S1x1x128 .bf16 :=
  rvsM.view.readAt (Elt F) (Rect.unit (s := S8x2x128) ![s.val, b.val, 0] S1x1x128.size (inb_ldS s b)).toLoadRect f

/-- The queries of head `j % 4` of batch `j / 4`. -/
def qOf (x : Vec F S2x128x512 .bf16) (wq : Vec F S512x256 .bf16) : Fin 8 → FVec F S128x64 .bf16 :=
  ![k0_pay8 x wq, k0_pay10 (k0_pay9 x wq), k0_pay11 (k0_pay7 x wq), k0_pay12 (k0_pay7 x wq), k0_pay13 (k0_pay7 x wq), k0_pay14 (k0_pay7 x wq),
    k0_pay15 (k0_pay7 x wq), k0_pay16 (k0_pay7 x wq)]

/-- The mask of the block of keys that device number `w` holds. -/
def maskW (w : BitVec 32) : IVec S128x128 1 :=
  k0_pay38 (k0_pay35 k0_pay17 w) (Scalar.select (Scalar.cmpi .eq 3#32 0#32) 1#32 3#32) (k0_pay36 k0_pay17 w) (k0_pay37 k0_pay17 w) 0#32
def maskOf (c : Dev nD) (g : ℕ) : IVec S128x128 1 := maskW (BitVec.ofNat 32 (sr c g).val)

/-- The sums of the exponentials after `g` blocks. -/
def accL (c : Dev nD) (q : Fin 8 → FVec F S128x64 .bf16) (kf : ℕ → CRv F) (j : Fin 8) : ℕ → FVec F S128x1 .f32
  | 0 => k0_pay26
  | g + 1 => k0_pay44 (q j) (accL c q kf j g) (maskOf c g) (ldK false (sr c g) j (kf g))
/-- The weighted sums of the values after `g` blocks. -/
def accO (c : Dev nD) (q : Fin 8 → FVec F S128x64 .bf16) (kf vf : ℕ → CRv F) (vsf : ℕ → CRs F) (j : Fin 8) : ℕ → FVec F S128x64 .f32
  | 0 => k0_pay18
  | g + 1 => k0_pay45 (q j) (accO c q kf vf vsf j g) (maskOf c g) (k0_pay39 (ldS (sr c g) ⟨j.val / 4, by omega⟩ (vsf g)))
      (ldK false (sr c g) j (kf g)) (ldK true (sr c g) j (vf g))

/-- The weighted sums over the sums, the heads side by side and the batches below one another, times the device's rows of the output matrix. -/
def finOf (o : Fin 8 → FVec F S128x64 .f32) (l : Fin 8 → FVec F S128x1 .f32) (wo : Vec F S256x512 .bf16) : CAr F :=
  have n : Fin 8 → FVec F S128x64 .f32 := fun j => divf (o j) (broadcastTo S128x64 (l j) broadcasts_S128x1_S128x64)
  have t : FVec F S128x256 .f32 := concatenate S128x256 1 [⟨S128x64, n 0⟩, ⟨S128x64, n 1⟩, ⟨S128x64, n 2⟩, ⟨S128x64, n 3⟩] concatenates_S128x64_S128x64_S128x64_S128x64_S128x256_d1
  have u : FVec F S128x256 .f32 := concatenate S128x256 1 [⟨S128x64, n 4⟩, ⟨S128x64, n 5⟩, ⟨S128x64, n 6⟩, ⟨S128x64, n 7⟩] concatenates_S128x64_S128x64_S128x64_S128x64_S128x256_d1
  have ctx : FVec F S256x256 .f32 := concatenate S256x256 0 [⟨S128x256, t⟩, ⟨S128x256, u⟩] concatenates_S128x256_S128x256_S256x256_d0
  have w : FVec F S256x512 .bf16 := shapeCast S256x512 wo shapeCasts_S256x512_S256x512
  have p : FVec F S256x512 .f32 := matmul dot_S256x256_S256x512_S256x512_1_0_0_1_n_n none (truncf .bf16 ctx bitsLt_bf16_f32) w (constant S256x512 .f32 0x00000000#32)
  shapeCast S256x512 (truncf .bf16 p bitsLt_bf16_f32) shapeCasts_S256x512_S256x512

def arOf (c : Dev nD) (kf vf : ℕ → CRv F) (vsf : ℕ → CRs F) : CAr F :=
  finOf (fun j => accO c (qOf (xst0 m ρ c) (xst1 m ρ c)) kf vf vsf j 8) (fun j => accL c (qOf (xst0 m ρ c) (xst1 m ρ c)) kf j 8) (xst4 m ρ c)

/-- What the partial product of device `c` may be: the fold over blocks that have landed. -/
def AR (c : Dev nD) (w : CAr F) : Prop :=
  ∃ (kf vf : ℕ → CRv F) (vsf : ℕ → CRs F),
    (∀ g, g < 8 → landOk m ρ false (sr c g) c (kf g) ∧ landOk m ρ true (sr c g) c (vf g)
      ∧ (slotS (sr c g)).view.read (Elt F) (vsf g) = SVS m ρ (sr c g)) ∧ w = arOf m ρ c kf vf vsf

def slotRr (b : Bool) (s : Dev nD) (f : CSl F) : S32x512.Idx → Elt F .bf16 := match b with
  | false => (slotR false s).view.read (Elt F) f
  | true => (slotR true s).view.read (Elt F) f

/-- What the rows that device `c` reduces may be. -/
def RED (c : Dev nD) (r : CRd F) : Prop :=
  ∃ g : CSl F, (∀ s, ∃ w, AR m ρ s w ∧ slotRr false s g = (slabR c).view.read (Elt F) w) ∧ r = k0_pay322 g

/-- What the result of the kernel may be on a device. -/
def OUT (o : S2x128x512.Idx → Elt F .f32) : Prop :=
  ∃ g : CSl F, (∀ s, ∃ r, RED m ρ s r ∧ slotRr true s g = r) ∧ o = k0_pay323 g

end Cert.KProof
-- ==== Proof.Protocol.lean ====
/-
The protocol of the kernel's semaphores: which device pays which unit of each cell, what the unit hands over, what a device
owes at each step and in which order the cells may be waited on.
-/
module

public import proofs.«01_k».proof.Proof.Spec
public import Idealize.ShloMosaic.Lib.ShareLeaves
public import Idealize.ShloMosaic.Lib.Ring

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## The cells

Five families of transfers: keys, values, scales, partial sums, gathered rows. Each has a sender's cell for every distance, a
receiver's cell for every source, and one cell for the device's own copy. -/

abbrev barS : Sem sig := (SemArray.scalar (sig.barrier 0 rfl) : Sems sig S_).sem
def sndS (f : Fin 5) (o : Fin 7) : DmaSem sig := ⟨6 + 7 * f.val + o.val, by change _ < 86; omega⟩
def rcvS (f : Fin 5) (s : Dev nD) : DmaSem sig := ⟨41 + 8 * f.val + s.val, by change _ < 86; have := lt8 s; omega⟩
def locS (f : Fin 5) : DmaSem sig := ⟨81 + f.val, by change _ < 86; omega⟩

/-- What a semaphore is for. -/
inductive CK
  | bar
  | snd (f : Fin 5) (o : Fin 7)
  | rcv (f : Fin 5) (s : Dev nD)
  | loc (f : Fin 5)
  | other
  deriving DecidableEq

def kindD (q : ℕ) : CK :=
  if q < 6 then .other
  else if q < 41 then .snd ⟨(q - 6) / 7 % 5, Nat.mod_lt _ (by decide)⟩ ⟨(q - 6) % 7, Nat.mod_lt _ (by decide)⟩
  else if q < 81 then .rcv ⟨(q - 41) / 8 % 5, Nat.mod_lt _ (by decide)⟩ ⟨(q - 41) % 8, Nat.mod_lt _ (by decide)⟩
  else .loc ⟨(q - 81) % 5, Nat.mod_lt _ (by decide)⟩

def kind : SemLoc sig → CK
  | .reg _ => .bar
  | .dma q => kindD q.val

theorem kind_snd (f : Fin 5) (o : Fin 7) : kind (.dma (sndS f o)) = .snd f o := by revert f o; decide +kernel
theorem kind_rcv (f : Fin 5) (s : Dev nD) : kind (.dma (rcvS f s)) = .rcv f s := by revert f s; decide +kernel
theorem kind_loc (f : Fin 5) : kind (.dma (locS f)) = .loc f := by revert f; decide +kernel

abbrev barC (c : Dev nD) : GSem nD τ sig := ((c : Thread nD τ), .reg barS)
abbrev sndC (c : Dev nD) (f : Fin 5) (o : Fin 7) : GSem nD τ sig := ((c : Thread nD τ), .dma (sndS f o))
abbrev rcvC (c : Dev nD) (f : Fin 5) (s : Dev nD) : GSem nD τ sig := ((c : Thread nD τ), .dma (rcvS f s))
abbrev locC (c : Dev nD) (f : Fin 5) : GSem nD τ sig := ((c : Thread nD τ), .dma (locS f))

/-- The cells of a device, numbered: the barrier cell, then the transfers' cells in the order of their semaphores. -/
def csem (i : Fin 81) : SemLoc sig := if h : i.val = 0 then .reg barS else .dma ⟨i.val + 5, by change _ < 86; omega⟩
abbrev kcell (p : Dev nD × Fin 81) : GSem nD τ sig := ((p.1 : Thread nD τ), csem p.2)
def ixS (f : Fin 5) (o : Fin 7) : Fin 81 := ⟨1 + 7 * f.val + o.val, by omega⟩
def ixR (f : Fin 5) (s : Dev nD) : Fin 81 := ⟨36 + 8 * f.val + s.val, by have := lt8 s; omega⟩
def ixL (f : Fin 5) : Fin 81 := ⟨76 + f.val, by omega⟩
theorem csem_S (f : Fin 5) (o : Fin 7) : csem (ixS f o) = .dma (sndS f o) := by revert f o; decide +kernel
theorem csem_R (f : Fin 5) (s : Dev nD) : csem (ixR f s) = .dma (rcvS f s) := by revert f s; decide +kernel
theorem csem_L (f : Fin 5) : csem (ixL f) = .dma (locS f) := by revert f; decide +kernel
theorem csem_0 : csem 0 = .reg barS := rfl

/-! ## Amounts -/

abbrev NF : ℕ := (slotF false 0).view.dmaCredit
abbrev NH : ℕ := (slotH false 0).view.dmaCredit
abbrev NS : ℕ := (slotS 0).view.dmaCredit
abbrev NR : ℕ := (slotR false 0).view.dmaCredit
theorem NF_pos : 0 < NF := View.dmaCredit_pos _ (by decide)
theorem NH_pos : 0 < NH := View.dmaCredit_pos _ (by decide)
theorem NS_pos : 0 < NS := View.dmaCredit_pos _ (by decide)
theorem NR_pos : 0 < NR := View.dmaCredit_pos _ (by decide)

/-- The credit of a transfer of family `f`, the sender sending half (`h`) or all rows of its keys and values. -/
def amt (f : Fin 5) (h : Bool) : ℕ := match f with
  | 0 => if h then NH else NF
  | 1 => if h then NH else NF
  | 2 => NS
  | 3 => NR
  | 4 => NR
theorem amt_pos (f : Fin 5) (h : Bool) : 0 < amt f h := by
  have a := NF_pos; have b := NH_pos; have d := NS_pos; have e := NR_pos
  fin_cases f <;> cases h <;> simp only [amt] <;> assumption

/-! ## What the transfers hand over -/

/-- The elements of the quantised block that device `c` sends to device `d` (its own copy takes all rows). -/
def sndSet (b : Bool) (c d : Dev nD) : Finset (S2x128x2048.Idx) := match b with
  | false => if half c = true ∧ d ≠ c then (slabH false c d).view.set else (slabF false d).view.set
  | true => if half c = true ∧ d ≠ c then (slabH true c d).view.set else (slabF true d).view.set

/-- The share of a source that eight transfers read at once. -/
abbrev lf (d : Dev nD) : PosShare TreeShare := ShareLeaves.leaf 3 fullShare d

/-- The source of device `c`'s transfer of family `f` to device `d`. -/
def srcP (c : Dev nD) (f : Fin 5) (d : Dev nD) : sProp 𝕄 := match f with
  | 0 => iprop((skM false).view.loc (c : Thread nD τ) ↦[sndSet false c d]{fullShare} SK m ρ false c)
  | 1 => iprop((skM true).view.loc (c : Thread nD τ) ↦[sndSet true c d]{fullShare} SK m ρ true c)
  | 2 => iprop(svsM.view.loc (c : Thread nD τ) ↦[svsM.view.set]{lf d} SVS m ρ c)
  | 3 => iprop(∃ w : CAr F, (arM.view.loc (c : Thread nD τ) ↦[(slabR d).view.set]{fullShare} w) ∗ ⌜AR m ρ c w⌝)
  | 4 => iprop(∃ r : CRd F, (redM.view.loc (c : Thread nD τ) ↦[redM.view.set]{lf d} r) ∗ ⌜RED m ρ c r⌝)

/-- Slot `s` of family `f` on device `c`, whatever it holds. -/
def slotP (c : Dev nD) (f : Fin 5) (s : Dev nD) : sProp 𝕄 := match f with
  | 0 => iprop(∃ g : CRv F, (rvM false).view.loc (c : Thread nD τ) ↦[(slotF false s).view.set]{fullShare} g)
  | 1 => iprop(∃ g : CRv F, (rvM true).view.loc (c : Thread nD τ) ↦[(slotF true s).view.set]{fullShare} g)
  | 2 => iprop(∃ g : CRs F, rvsM.view.loc (c : Thread nD τ) ↦[(slotS s).view.set]{fullShare} g)
  | 3 => iprop(∃ g : CSl F, rsM.view.loc (c : Thread nD τ) ↦[(slotR false s).view.set]{fullShare} g)
  | 4 => iprop(∃ g : CSl F, agM.view.loc (c : Thread nD τ) ↦[(slotR true s).view.set]{fullShare} g)

/-- Slot `s` of family `f` on device `c` once device `s`'s transfer has landed. -/
def lndP (c : Dev nD) (f : Fin 5) (s : Dev nD) : sProp 𝕄 := match f with
  | 0 => iprop(∃ g : CRv F, ((rvM false).view.loc (c : Thread nD τ) ↦[(slotF false s).view.set]{fullShare} g) ∗ ⌜landOk m ρ false s c g⌝)
  | 1 => iprop(∃ g : CRv F, ((rvM true).view.loc (c : Thread nD τ) ↦[(slotF true s).view.set]{fullShare} g) ∗ ⌜landOk m ρ true s c g⌝)
  | 2 => iprop(∃ g : CRs F, (rvsM.view.loc (c : Thread nD τ) ↦[(slotS s).view.set]{fullShare} g) ∗ ⌜(slotS s).view.read (Elt F) g = SVS m ρ s⌝)
  | 3 => iprop(∃ g : CSl F, (rsM.view.loc (c : Thread nD τ) ↦[(slotR false s).view.set]{fullShare} g)
      ∗ ⌜∃ w, AR m ρ s w ∧ slotRr false s g = (slabR c).view.read (Elt F) w⌝)
  | 4 => iprop(∃ g : CSl F, (agM.view.loc (c : Thread nD τ) ↦[(slotR true s).view.set]{fullShare} g) ∗ ⌜∃ r, RED m ρ s r ∧ slotRr true s g = r⌝)

omit [FloatOps F] in
instance slotP_storable (c : Dev nD) (f : Fin 5) (s : Dev nD) : BI.Storable (upEmb : UEmb _ 𝕄) (slotP (F := F) c f s) := by
  unfold slotP; split <;> infer_instance
instance srcP_storable (c : Dev nD) (f : Fin 5) (s : Dev nD) : BI.Storable (upEmb : UEmb _ 𝕄) (srcP (F := F) m ρ c f s) := by
  unfold srcP; split <;> infer_instance
instance lndP_storable (c : Dev nD) (f : Fin 5) (s : Dev nD) : BI.Storable (upEmb : UEmb _ 𝕄) (lndP (F := F) m ρ c f s) := by
  unfold lndP; split <;> infer_instance

/-- What device `d`'s signal hands device `c`: its slots for what `c` sends. -/
def barP (c d : Dev nD) : sProp 𝕄 := bigSep Finset.univ fun f : Fin 5 => slotP d f c
omit [FloatOps F] in
instance barP_storable (c d : Dev nD) : BI.Storable (upEmb : UEmb _ 𝕄) (barP (F := F) c d) := by
  unfold barP; infer_instance

/-! ## The schedule -/

def payK (c d : Dev nD) : CK → sProp 𝕄
  | .bar => barP c d
  | .snd f o => srcP m ρ c f (dst c o)
  | .rcv f s => lndP m ρ c f s
  | .loc f => iprop(lndP m ρ c f c ∗ srcP m ρ c f c)
  | .other => iprop(emp)
instance payK_storable (c d : Dev nD) (k : CK) : BI.Storable (upEmb : UEmb _ 𝕄) (payK (F := F) m ρ c d k) := by
  cases k <;> unfold payK <;> infer_instance

def dutK (c : Dev nD) : CK → Finset (Dev nD)
  | .bar => Finset.univ.erase c
  | .snd _ _ => {0}
  | .rcv _ s => if s = c then ∅ else {0}
  | .loc _ => {0}
  | .other => ∅

def amtK (c : Dev nD) : CK → ℕ
  | .bar => 1
  | .snd f _ => amt f (half c)
  | .rcv f s => amt f (half s)
  | .loc f => amt f false
  | .other => 1

/-- One round. -/
def Rd : Rounds.Schedule (GSem nD τ sig) (Dev nD) 𝕄 where
  duties g r := if r = 0 ∧ g.1.2 = .tc then dutK g.1.1 (kind g.2) else ∅
  unitless _ := False
  amount g _ _ := amtK g.1.1 (kind g.2)
  payload g _ d := payK m ρ g.1.1 d (kind g.2)
  amount_pos g _ _ _ := by
    cases h : kind g.2 <;> simp only [amtK] <;> first | exact amt_pos _ _ | exact Nat.one_pos

instance Rd_storable (g : GSem nD τ sig) (r : ℕ) (d : Dev nD) : BI.Storable (upEmb : UEmb _ 𝕄) ((Rd (F := F) m ρ).payload g r d) := by
  unfold Rd; infer_instance

section Sched
variable (c : Dev nD) (f : Fin 5) (o : Fin 7) (s : Dev nD)

theorem duties_bar : (Rd (F := F) m ρ).duties (barC c) 0 = Finset.univ.erase c := by
  dsimp only [Rd]; rw [if_pos ⟨rfl, rfl⟩]; rfl
theorem duties_snd : (Rd (F := F) m ρ).duties (sndC c f o) 0 = {0} := by
  dsimp only [Rd]; rw [if_pos ⟨rfl, rfl⟩, kind_snd]; rfl
theorem duties_rcv (h : s ≠ c) : (Rd (F := F) m ρ).duties (rcvC c f s) 0 = {0} := by
  dsimp only [Rd]; rw [if_pos ⟨rfl, rfl⟩, kind_rcv]; exact if_neg h
theorem duties_own : (Rd (F := F) m ρ).duties (rcvC c f c) 0 = ∅ := by
  dsimp only [Rd]; rw [if_pos ⟨rfl, rfl⟩, kind_rcv]; exact if_pos rfl
theorem duties_loc : (Rd (F := F) m ρ).duties (locC c f) 0 = {0} := by
  dsimp only [Rd]; rw [if_pos ⟨rfl, rfl⟩, kind_loc]; rfl
theorem duties_later (g : GSem nD τ sig) : ∀ r, 1 ≤ r → (Rd (F := F) m ρ).duties g r = ∅ :=
  fun r hr => by dsimp only [Rd]; rw [if_neg fun h => by omega]

theorem amount_bar (d : Dev nD) : (Rd (F := F) m ρ).amount (barC c) 0 d = 1 := rfl
theorem amount_snd (d : Dev nD) : (Rd (F := F) m ρ).amount (sndC c f o) 0 d = amt f (half c) := by dsimp only [Rd]; rw [kind_snd]; rfl
theorem amount_rcv (d : Dev nD) : (Rd (F := F) m ρ).amount (rcvC c f s) 0 d = amt f (half s) := by dsimp only [Rd]; rw [kind_rcv]; rfl
theorem amount_loc (d : Dev nD) : (Rd (F := F) m ρ).amount (locC c f) 0 d = amt f false := by dsimp only [Rd]; rw [kind_loc]; rfl

theorem expect_bar : (Rd (F := F) m ρ).expect (barC c) 0 = 7 := by
  unfold Schedule.expect Schedule.amountOf
  rw [duties_bar, Finset.sum_congr rfl fun d _ => amount_bar m ρ c d, Finset.sum_const, Finset.card_erase_of_mem (Finset.mem_univ _), Finset.card_univ]
  rfl
theorem expect_snd : (Rd (F := F) m ρ).expect (sndC c f o) 0 = amt f (half c) := by
  unfold Schedule.expect Schedule.amountOf; rw [duties_snd, Finset.sum_singleton, amount_snd]
theorem expect_rcv (h : s ≠ c) : (Rd (F := F) m ρ).expect (rcvC c f s) 0 = amt f (half s) := by
  unfold Schedule.expect Schedule.amountOf; rw [duties_rcv m ρ c f s h, Finset.sum_singleton, amount_rcv]
theorem expect_loc : (Rd (F := F) m ρ).expect (locC c f) 0 = amt f false := by
  unfold Schedule.expect Schedule.amountOf; rw [duties_loc, Finset.sum_singleton, amount_loc]

theorem payload_bar (d : Dev nD) : (Rd (F := F) m ρ).payload (barC c) 0 d = barP c d := rfl
theorem payload_snd (d : Dev nD) : (Rd (F := F) m ρ).payload (sndC c f o) 0 d = srcP m ρ c f (dst c o) := by dsimp only [Rd]; rw [kind_snd]; rfl
theorem payload_rcv (d : Dev nD) : (Rd (F := F) m ρ).payload (rcvC c f s) 0 d = lndP m ρ c f s := by dsimp only [Rd]; rw [kind_rcv]; rfl
theorem payload_loc (d : Dev nD) : (Rd (F := F) m ρ).payload (locC c f) 0 d = iprop(lndP m ρ c f c ∗ srcP m ρ c f c) := by
  dsimp only [Rd]; rw [kind_loc]; rfl

theorem rest_bar : bigSep ((Rd (F := F) m ρ).duties (barC c) 0 \ ∅) (fun d => (Rd (F := F) m ρ).payload (barC c) 0 d)
    = bigSep (Finset.univ.erase c) fun d => barP c d := by rw [Finset.sdiff_empty, duties_bar]; rfl
theorem rest_snd : bigSep ((Rd (F := F) m ρ).duties (sndC c f o) 0 \ ∅) (fun d => (Rd (F := F) m ρ).payload (sndC c f o) 0 d)
    = srcP m ρ c f (dst c o) := by rw [Finset.sdiff_empty, duties_snd, bigSep_singleton, payload_snd]
theorem rest_rcv (h : s ≠ c) : bigSep ((Rd (F := F) m ρ).duties (rcvC c f s) 0 \ ∅) (fun d => (Rd (F := F) m ρ).payload (rcvC c f s) 0 d)
    = lndP m ρ c f s := by rw [Finset.sdiff_empty, duties_rcv m ρ c f s h, bigSep_singleton, payload_rcv]
theorem rest_loc : bigSep ((Rd (F := F) m ρ).duties (locC c f) 0 \ ∅) (fun d => (Rd (F := F) m ρ).payload (locC c f) 0 d)
    = iprop(lndP m ρ c f c ∗ srcP m ρ c f c) := by rw [Finset.sdiff_empty, duties_loc, bigSep_singleton, payload_loc]

end Sched

/-! ## What a device owes, in the order it pays, and the levels -/

/-- The `i`-th thing that device `c` pays: seven signals; the keys, values and scales of each distance; the partial sums; the gathered rows. -/
def tal (c : Dev nD) (i : ℕ) : CellTallies nD τ sig Unit :=
  if h : i < 7 then tallyAt (barC (dst c ⟨i, h⟩)) () 1
  else if h : i < 28 then tallyAt (rcvC (dst c ⟨(i - 7) / 3, by omega⟩) ⟨(i - 7) % 3, by omega⟩ c) () (amt ⟨(i - 7) % 3, by omega⟩ (half c))
  else if h : i < 35 then tallyAt (rcvC (dst c ⟨i - 28, by omega⟩) 3 c) () (amt 3 (half c))
  else if h : i < 42 then tallyAt (rcvC (dst c ⟨i - 35, by omega⟩) 4 c) () (amt 4 (half c))
  else 0

/-- What is owed once `n` things are paid. -/
def Ow (c : Dev nD) (n : ℕ) : CellTallies nD τ sig Unit := ∑ i ∈ Finset.Ico n 42, tal c i
theorem Ow_step (c : Dev nD) (n : ℕ) (h : n < 42) : Ow c n = Ow c (n + 1) + tal c n := by
  unfold Ow; rw [Ring.sum_Ico_succ h, add_comm]
theorem Ow_end (c : Dev nD) : Ow c 42 = 0 := by unfold Ow; rw [Finset.Ico_self, Finset.sum_empty]

theorem tal_bar (c : Dev nD) (o : Fin 7) : tal c o.val = tallyAt (barC (dst c o)) () 1 := by unfold tal; rw [dif_pos o.isLt]
theorem tal_kvs (c : Dev nD) (f : Fin 3) (o : Fin 7) (n : ℕ) (hn : n = 7 + 3 * o.val + f.val) :
    tal c n = tallyAt (rcvC (dst c o) ⟨f.val, by omega⟩ c) () (amt ⟨f.val, by omega⟩ (half c)) := by
  subst hn
  revert f o; intro f o
  have h1 : ¬ 7 + 3 * o.val + f.val < 7 := by omega
  have h2 : 7 + 3 * o.val + f.val < 28 := by omega
  unfold tal; rw [dif_neg h1, dif_pos h2]
  have e1 : (⟨(7 + 3 * o.val + f.val - 7) / 3, by omega⟩ : Fin 7) = o := Fin.ext (by show (7 + 3 * o.val + f.val - 7) / 3 = o.val; omega)
  have e2 : (⟨(7 + 3 * o.val + f.val - 7) % 3, by omega⟩ : Fin 5) = ⟨f.val, by omega⟩ := Fin.ext (by show (7 + 3 * o.val + f.val - 7) % 3 = f.val; omega)
  rw [e1, e2]
theorem tal_rs (c : Dev nD) (o : Fin 7) : tal c (28 + o.val) = tallyAt (rcvC (dst c o) 3 c) () (amt 3 (half c)) := by
  unfold tal; rw [dif_neg (by omega), dif_neg (by omega), dif_pos (by omega)]
  have e1 : (⟨28 + o.val - 28, by omega⟩ : Fin 7) = o := Fin.ext (by show _ - 28 = _; omega)
  rw [e1]
theorem tal_ag (c : Dev nD) (o : Fin 7) : tal c (35 + o.val) = tallyAt (rcvC (dst c o) 4 c) () (amt 4 (half c)) := by
  unfold tal; rw [dif_neg (by omega), dif_neg (by omega), dif_neg (by omega), dif_pos (by omega)]
  have e1 : (⟨35 + o.val - 35, by omega⟩ : Fin 7) = o := Fin.ext (by show _ - 35 = _; omega)
  rw [e1]

def L (g : GSem nD τ sig) : Finset Unit := if g.1.2 = .tc then {()} else ∅
def lvK : CK → ℕ
  | .bar => 1
  | .rcv f _ => if f.val < 3 then 2 else f.val
  | _ => 0
def lv (g : GSem nD τ sig) (_ : Unit) : ℕ := lvK (kind g.2)
theorem L_of_ne (g : GSem nD τ sig) (h : g.1.2 ≠ .tc) : L g = ∅ := if_neg h
theorem L_tc (c : Dev nD) (sm : SemLoc sig) : L ((c : Thread nD τ), sm) = {()} := if_pos rfl

/-- The level of the `i`-th payment. -/
def lvI (i : ℕ) : ℕ := if i < 7 then 1 else if i < 28 then 2 else if i < 35 then 3 else 4

theorem tal_pos {c : Dev nD} {i : ℕ} {g : GSem nD τ sig} {u : Unit} (h : 0 < tal c i g u) : g.1.2 = .tc ∧ lv g u = lvI i := by
  unfold tal at h
  split at h
  · rename_i hi
    rw [tallyAt_apply] at h
    split at h
    · rename_i hg; rw [hg.1]; exact ⟨rfl, by unfold lv lvI; rw [if_pos hi]; rfl⟩
    · exact absurd h (Nat.lt_irrefl 0)
  · split at h
    · rename_i h1 hi
      rw [tallyAt_apply] at h
      split at h
      · rename_i hg; rw [hg.1]; refine ⟨rfl, ?_⟩
        unfold lv lvI; rw [kind_rcv, if_neg h1, if_pos hi]; exact if_pos (by show _ % 3 < 3; omega)
      · exact absurd h (Nat.lt_irrefl 0)
    · split at h
      · rename_i h1 h2 hi
        rw [tallyAt_apply] at h
        split at h
        · rename_i hg; rw [hg.1]; refine ⟨rfl, ?_⟩
          unfold lv lvI; rw [kind_rcv, if_neg h1, if_neg h2, if_pos hi]; rfl
        · exact absurd h (Nat.lt_irrefl 0)
      · split at h
        · rename_i h1 h2 h3 hi
          rw [tallyAt_apply] at h
          split at h
          · rename_i hg; rw [hg.1]; refine ⟨rfl, ?_⟩
            unfold lv lvI; rw [kind_rcv, if_neg h1, if_neg h2, if_neg h3]; rfl
          · exact absurd h (Nat.lt_irrefl 0)
        · exact absurd h (Nat.lt_irrefl 0)

theorem Ow_pos {c : Dev nD} {n : ℕ} {g : GSem nD τ sig} {u : Unit} (h : 0 < Ow c n g u) : ∃ i, n ≤ i ∧ i < 42 ∧ 0 < tal c i g u := by
  by_contra hn
  have : Ow c n g u = 0 := by
    unfold Ow
    rw [Finset.sum_apply, Finsupp.finset_sum_apply]
    refine Finset.sum_eq_zero fun i hi => ?_
    rw [Finset.mem_Ico] at hi
    by_contra h0
    exact hn ⟨i, hi.1, hi.2, Nat.pos_of_ne_zero h0⟩
  omega

/-- A wait at a level below every payment still owed. -/
theorem mayWait (c : Dev nD) (sm : SemLoc sig) (n : ℕ) (h : ∀ i, n ≤ i → i < 42 → lvK (kind sm) < lvI i) :
    (levAts L lv : sProp 𝕄) ⊢ MayWait (c : Thread nD τ) sm () (Ow c n) :=
  MayOwe.of_cut (L := L) (lev := lv) (lvK (kind sm)) (fun p hp => by rw [Finset.mem_singleton.mp hp, L_tc]; exact Finset.mem_singleton_self _)
    (fun g u hg => by obtain ⟨i, _, _, hi⟩ := Ow_pos hg; unfold L; rw [if_pos (tal_pos hi).1]; exact Finset.mem_singleton_self _)
    (fun p hp => by rw [Finset.mem_singleton.mp hp]; exact le_refl _)
    (fun g u hg => by obtain ⟨i, h1, h2, hi⟩ := Ow_pos hg; rw [(tal_pos hi).2]; exact h i h1 h2)

theorem lvI_pos (i : ℕ) : 0 < lvI i := by unfold lvI; repeat' split
                                          all_goals decide

end Cert.KProof
-- ==== Proof.Steps.lean ====
/-
The rules of the kernel's effects under its protocol: a signal, a transfer, a wait, each against one device's share of the
protocol's state.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## The records every device holds -/

def recs : sProp 𝕄 := bigSep Finset.univ fun p : Dev nD × Fin 81 =>
  iprop(cellInv ER (Rd m ρ) (K p) (kcell p) ∗ reached ER (kcell p) 0)
instance recs_persistent : BI.Persistent (recs m ρ K) := by
  unfold recs; infer_instance

/-- What a device may use at every step: the cells' invariants and the levels. -/
def ctx : sProp 𝕄 := iprop(recs m ρ K ∗ levAts L lv)
instance ctx_persistent : BI.Persistent (ctx m ρ K) := by unfold ctx; infer_instance

theorem recs_at (p : Dev nD × Fin 81) : recs m ρ K ⊢ iprop(cellInv ER (Rd m ρ) (K p) (kcell p) ∗ reached ER (kcell p) 0) :=
  bigSep_elim (Finset.mem_univ p)
theorem ctx_at (p : Dev nD × Fin 81) (g : GSem nD τ sig) (h : kcell p = g) :
    ctx m ρ K ⊢ iprop(cellInv ER (Rd m ρ) (K p) g ∗ reached ER g 0) := by
  subst h; unfold ctx; iintro ⟨H, -⟩; iapply (recs_at m ρ K p); iexact H
theorem ctx_lev : ctx m ρ K ⊢ levAts L lv := by unfold ctx; iintro ⟨-, H⟩; iexact H
theorem kc_bar (c : Dev nD) : kcell (c, 0) = barC c := rfl
theorem kc_snd (c : Dev nD) (f : Fin 5) (o : Fin 7) : kcell (c, ixS f o) = sndC c f o := by unfold kcell; rw [csem_S]
theorem kc_rcv (c : Dev nD) (f : Fin 5) (s : Dev nD) : kcell (c, ixR f s) = rcvC c f s := by unfold kcell; rw [csem_R]
theorem kc_loc (c : Dev nD) (f : Fin 5) : kcell (c, ixL f) = locC c f := by unfold kcell; rw [csem_L]

/-! ## One device's share -/

/-- What is owed once `n` things are paid, whatever has been waited on. -/
def ow (c : Dev nD) (n : ℕ) : sProp 𝕄 := iprop(∃ W, owes (c : Thread nD τ) (Ow c n) W)

/-- The tokens of the transfer of family `f` and distance `o + 1`. -/
def sndT (c : Dev nD) (f : Fin 5) (o : Fin 7) : sProp 𝕄 :=
  iprop(dutyTok ER (sndC c f o) 0 0 ∗ dutyTok ER (rcvC (dst c o) f c) 0 0 ∗ atPos ER (sndC c f o) 0 ∅ 0)
/-- Everything it needs; -/
def sndR (c : Dev nD) (f : Fin 5) (o : Fin 7) : sProp 𝕄 :=
  iprop(sndT c f o ∗ slotP (dst c o) f c ∗ srcP m ρ c f (dst c o))
/-- what is left once it is issued; -/
def sndD (c : Dev nD) (f : Fin 5) (o : Fin 7) : sProp 𝕄 :=
  iprop(cred (tallyAt (sndC c f o) () (amt f (half c))) ∗ atPos ER (sndC c f o) 0 ∅ 0)
/-- and once it is awaited. -/
def sndE (c : Dev nD) (f : Fin 5) (o : Fin 7) : sProp 𝕄 := iprop(semVal (sndC c f o) 0 ∗ srcP m ρ c f (dst c o))
/-- What a device needs to wait for the transfer of family `f` from the device `o + 1` before it; -/
def rcvT (c : Dev nD) (f : Fin 5) (o : Fin 7) : sProp 𝕄 :=
  iprop(cred (tallyAt (rcvC c f (sr c (o.val + 1))) () (amt f (half (sr c (o.val + 1))))) ∗ atPos ER (rcvC c f (sr c (o.val + 1))) 0 ∅ 0)
/-- and what is left of the cell. -/
def rcvE (c : Dev nD) (f : Fin 5) (o : Fin 7) : sProp 𝕄 := semVal (rcvC c f (sr c (o.val + 1))) 0
/-- The same of the device's own copy. -/
def locT (c : Dev nD) (f : Fin 5) : sProp 𝕄 := iprop(dutyTok ER (locC c f) 0 0 ∗ atPos ER (locC c f) 0 ∅ 0)
def locD (c : Dev nD) (f : Fin 5) : sProp 𝕄 := iprop(cred (tallyAt (locC c f) () (amt f false)) ∗ atPos ER (locC c f) 0 ∅ 0)

/-- Seven of a kind, the first `i` done. -/
def seq {n : ℕ} (T D : Fin n → sProp 𝕄) (i : ℕ) : sProp 𝕄 := bigSep Finset.univ fun j : Fin n => if j.val < i then D j else T j
def seqRest {n : ℕ} (T D : Fin n → sProp 𝕄) (i : Fin n) : sProp 𝕄 :=
  bigSep (Finset.univ.erase i) fun j : Fin n => if j.val < i.val then D j else T j
omit [FloatOps F] in
theorem seq_at {n : ℕ} (T D : Fin n → sProp 𝕄) (i : Fin n) : seq T D i.val = iprop(T i ∗ seqRest T D i) := by
  unfold seq seqRest
  rw [bigSep_univ_at _ i, if_neg (Nat.lt_irrefl _)]
omit [FloatOps F] in
theorem seq_succ {n : ℕ} (T D : Fin n → sProp 𝕄) (i : Fin n) : seq T D (i.val + 1) = iprop(D i ∗ seqRest T D i) := by
  unfold seq seqRest
  rw [bigSep_univ_at _ i, if_pos (Nat.lt_succ_self _)]
  congr 1
  refine bigSep_congr fun j hj => ?_
  have : j ≠ i := (Finset.mem_erase.mp hj).1
  have h2 : j.val ≠ i.val := fun h => this (Fin.ext h)
  by_cases h : j.val < i.val
  · rw [if_pos h, if_pos (by omega)]
  · rw [if_neg h, if_neg (by omega)]
omit [FloatOps F] in
theorem seq_zero {n : ℕ} (T D : Fin n → sProp 𝕄) : seq T D 0 = bigSep Finset.univ T := by
  unfold seq; exact bigSep_congr fun j _ => if_neg (Nat.not_lt_zero _)
omit [FloatOps F] in
theorem seq_full {n : ℕ} (T D : Fin n → sProp 𝕄) : seq T D n = bigSep Finset.univ D := by
  unfold seq; exact bigSep_congr fun j _ => if_pos j.isLt

/-- The transfers of a family while they are issued, while they are awaited, and the receipts. -/
abbrev SQ (c : Dev nD) (f : Fin 5) (i : ℕ) : sProp 𝕄 := seq (sndR m ρ c f) (sndD c f) i
abbrev WQ (c : Dev nD) (f : Fin 5) (i : ℕ) : sProp 𝕄 := seq (sndD c f) (sndE m ρ c f) i
abbrev RQ (c : Dev nD) (f : Fin 5) (i : ℕ) : sProp 𝕄 := seq (rcvT c f) (rcvE c f) i

theorem dst_ne (c : Dev nD) (o : Fin 7) : dst c o ≠ c := by revert c o; decide +kernel
theorem sr_ne (c : Dev nD) (o : Fin 7) : sr c (o.val + 1) ≠ c := by revert c o; decide +kernel

section Steps

/-- A transfer of family `f` to the device `o + 1` further on. -/
theorem send_step {α : Type} {Q : α → sProp 𝕄} (c c' : Dev nD) (f : Fin 5) (o : Fin 7) (n : ℕ) (hn : n < 42) (hc : c' = dst c o)
    (ht : tal c n = tallyAt (rcvC (dst c o) f c) () (amt f (half c)))
    {s : Shape} {e : EltTy} {src tgt : Memref sig .tc .vmem s e} {sS sR : DmaSem sig} (hS : sS = sndS f o) (hR : sR = rcvS f c)
    {q : PosShare TreeShare} {fs : Buf (Elt F) (src.view.loc (c : Thread nD τ))} {fd : Buf (Elt F) (tgt.view.loc ((dst c o : Dev nD) : Thread nD τ))} {X : sProp 𝕄}
    (hN : tgt.view.amount (.dma sR) = amt f (half c))
    (hp₁ : (src.view.loc (c : Thread nD τ) ↦[src.view.set]{q} fs) ⊢ srcP m ρ c f (dst c o))
    (hp₂ : iprop((tgt.view.loc ((dst c o : Dev nD) : Thread nD τ) ↦[tgt.view.set]{fullShare} (tgt.view.write (Elt F) fd (src.view.read (Elt F) fs) Finset.univ)) ∗ X)
      ⊢ lndP m ρ (dst c o) f c)
    {hsc : (tgt : Memref sig (Dev.tc c' : Thread nD τ).2.kind .vmem s e).view.ref.isScScratch = false}
    {hsrc : src.view.WordExact} {hdst : tgt.view.WordExact}
    {hsem : DmaTarget.Typed .vmem (.dma sR) (.remote (Dev.tc c' : Thread nD τ) tgt (.dma sS) hsc)}
    {k : PUnit → Prog (TpuEff nD τ sig (Elt F) Λ₀ .tc) α} :
    iprop(ctx m ρ K ∗ (src.view.loc (c : Thread nD τ) ↦[src.view.set]{q} fs)
        ∗ ((tgt.view.loc ((dst c o : Dev nD) : Thread nD τ) ↦[tgt.view.set]{fullShare} fd) ∗ X) ∗ sndT c f o ∗ ow c n)
      ⊢ iprop(((sndD c f o ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) tgt (.dma sS) hsc) (.dma sR) hsrc hdst hsem) k) Q) := by
  subst hc hS hR
  unfold sndT sndD ow
  iintro ⟨#Hc, Hsrc, Hdst, ⟨Ht1, Ht2, Hat⟩, ⟨%W, HO⟩⟩ Hk
  ihave ⟨#HI1, #Hr1⟩ := (ctx_at m ρ K (c, ixS f o) _ (kc_snd c f o)) $$ Hc
  ihave ⟨#HI2, #Hr2⟩ := (ctx_at m ρ K (dst c o, ixR f c) _ (kc_rcv (dst c o) f c)) $$ Hc
  iapply (Rounds.wp_send_pointsTo_with 𝒱₀ ER (Rd m ρ) (c : Thread nD τ) none (κ₁ := K (c, ixS f o)) (κ₂ := K (dst c o, ixR f c))
    (r₁ := 0) (r₂ := 0) (d₁ := 0) (d₂ := 0) (fs := fs) (fd := fd) (F := X) (q := q)
    (by rw [duties_snd]; exact Finset.mem_singleton_self _) (by rw [duties_rcv m ρ _ _ _ (dst_ne c o).symm]; exact Finset.mem_singleton_self _)
    () () (amt f (half c)) hN (amount_snd m ρ c f o 0) (amount_rcv m ρ (dst c o) f c 0) (Ow c (n + 1)) ((Ow_step c n hn).trans (by rw [ht])) (W := W)
    (by rw [payload_snd]; exact hp₁) (by rw [payload_rcv]; exact hp₂)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply Hk
  isplitl [Hcr Hat]
  · isplitl [Hcr]; · iexact Hcr
    iexact Hat
  iexists W; iexact HO

/-- A wait on a cell whose single round pays `p`, closing the cell. -/
theorem wait_step {α : Type} {Q : α → sProp 𝕄} (c : Dev nD) (p : Fin 81) (q q' : DmaSem sig) (hq : q' = q) (hp : kcell (c, p) = ((c : Thread nD τ), .dma q)) (n N : ℕ) (P : sProp 𝕄)
    (hlev : ∀ i, n ≤ i → i < 42 → lvK (kind (.dma q)) < lvI i)
    (hex : (Rd (F := F) m ρ).expect ((c : Thread nD τ), .dma q) 0 = N)
    (hrest : bigSep ((Rd (F := F) m ρ).duties ((c : Thread nD τ), .dma q) 0 \ ∅) (fun d => (Rd (F := F) m ρ).payload ((c : Thread nD τ), .dma q) 0 d) = P)
    {s s' : Shape} {e e' : EltTy} {src : Memref sig .tc .vmem s e} {tgt : Memref sig .tc .vmem s' e'} (hN : tgt.view.dmaCredit = N)
    {hsrc : src.view.WordExact} {hdst : tgt.view.WordExact}
    {k : PUnit → Prog (TpuEff nD τ sig (Elt F) Λ₀ .tc) α} :
    iprop(ctx m ρ K ∗ (cred (tallyAt ((c : Thread nD τ), .dma q) () N) ∗ atPos ER ((c : Thread nD τ), .dma q) 0 ∅ 0) ∗ ow c n)
      ⊢ iprop(((semVal ((c : Thread nD τ), .dma q) 0 ∗ P ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src tgt hsrc hdst) k) Q) := by
  subst hq hN
  unfold ow
  iintro ⟨#Hc, ⟨Hcr, Hat⟩, ⟨%W, HO⟩⟩ Hk
  ihave ⟨#HI, #Hr⟩ := (ctx_at m ρ K (c, p) _ hp) $$ Hc
  ihave #Hl := (ctx_lev m ρ K) $$ Hc
  iapply (Rounds.wp_wait_rest_token 𝒱₀ ER (Rd m ρ) (c : Thread nD τ) none (κ := K (c, p))
      (wpE_waitDma2_eq 𝒱₀ (c : Thread nD τ) none Set.univ) (Set.mem_univ _) () (O := Ow c n) (W := W) (R := 0) (m := 0) (T := ∅)
      (by rw [Nat.zero_add, hex])) $$ [Hcr HO Hat]
  · isplitr; · iexact HI
    isplitl [Hcr]; · iexact Hcr
    isplitl [HO]; · iexact HO
    isplitr; · iapply (mayWait (F := F) c (.dma q') n hlev); iexact Hl
    iexact Hat
  iintro ⟨HO, Hat, -, Hpay⟩
  imod (Rounds.cell_close ER (Rd m ρ) (Set.mem_univ (K (c, p))) (fun h => h) (R := 0 + 1) (duties_later m ρ ((c : Thread nD τ), .dma q'))) $$ [Hat] with Hz
  · isplitr; · iexact HI
    iexact Hat
  iapply Hk
  isplitl [Hz]; · iexact Hz
  isplitl [Hpay]; · iapply (Entails.of_eq hrest); iexact Hpay
  iexists _; iexact HO

/-- The wait on the cell of a transfer that the device issued. -/
theorem sendWait_step {α : Type} {Q : α → sProp 𝕄} (c : Dev nD) (f : Fin 5) (o : Fin 7) (n : ℕ) {q : DmaSem sig} (hq : q = sndS f o)
    {s s' : Shape} {e e' : EltTy} {src : Memref sig .tc .vmem s e} {tgt : Memref sig .tc .vmem s' e'} (hN : tgt.view.dmaCredit = amt f (half c))
    {hsrc : src.view.WordExact} {hdst : tgt.view.WordExact}
    {k : PUnit → Prog (TpuEff nD τ sig (Elt F) Λ₀ .tc) α} :
    iprop(ctx m ρ K ∗ WQ m ρ c f o.val ∗ ow c n)
      ⊢ iprop(((WQ m ρ c f (o.val + 1) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src tgt hsrc hdst) k) Q) := by
  unfold WQ
  rw [seq_at, seq_succ]
  iintro ⟨#Hc, ⟨HD, HR⟩, HO⟩ Hk
  unfold sndD
  iapply (wait_step m ρ K c (ixS f o) (sndS f o) q hq (kc_snd c f o) n (amt f (half c)) (srcP m ρ c f (dst c o))
    (fun i _ _ => by rw [kind_snd]; exact lvI_pos i) (expect_snd m ρ c f o) (rest_snd m ρ c f o) hN) $$ [HD HO]
  · isplitr; · iexact Hc
    isplitl [HD]; · iexact HD
    iexact HO
  iintro ⟨Hz, Hp, HO⟩
  iapply Hk
  isplitr [HO]
  · isplitr [HR]
    · unfold sndE; isplitl [Hz]; · iexact Hz
      iexact Hp
    · iexact HR
  iexact HO

/-- The wait for a transfer from another device. -/
theorem recvWait_step {α : Type} {Q : α → sProp 𝕄} (c : Dev nD) (f : Fin 5) (o : Fin 7) (n : ℕ) (hlev : ∀ i, n ≤ i → i < 42 → lvK (.rcv f (sr c (o.val + 1))) < lvI i)
    {q : DmaSem sig} (hq : q = rcvS f (sr c (o.val + 1)))
    {s s' : Shape} {e e' : EltTy} {src : Memref sig .tc .vmem s e} {tgt : Memref sig .tc .vmem s' e'} (hN : tgt.view.dmaCredit = amt f (half (sr c (o.val + 1))))
    {hsrc : src.view.WordExact} {hdst : tgt.view.WordExact}
    {k : PUnit → Prog (TpuEff nD τ sig (Elt F) Λ₀ .tc) α} :
    iprop(ctx m ρ K ∗ RQ (F := F) c f o.val ∗ ow c n)
      ⊢ iprop(((RQ (F := F) c f (o.val + 1) ∗ lndP m ρ c f (sr c (o.val + 1)) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src tgt hsrc hdst) k) Q) := by
  unfold RQ
  rw [seq_at, seq_succ]
  iintro ⟨#Hc, ⟨HD, HR⟩, HO⟩ Hk
  unfold rcvT
  iapply (wait_step m ρ K c (ixR f (sr c (o.val + 1))) (rcvS f (sr c (o.val + 1))) q hq (kc_rcv c f _) n _ (lndP m ρ c f (sr c (o.val + 1)))
    (fun i h1 h2 => by rw [kind_rcv]; exact hlev i h1 h2) (expect_rcv m ρ c f _ (sr_ne c o)) (rest_rcv m ρ c f _ (sr_ne c o)) hN) $$ [HD HO]
  · isplitr; · iexact Hc
    isplitl [HD]; · iexact HD
    iexact HO
  iintro ⟨Hz, Hp, HO⟩
  iapply Hk
  isplitr [Hp HO]
  · isplitr [HR]
    · unfold rcvE; iexact Hz
    · iexact HR
  isplitl [Hp]; · iexact Hp
  iexact HO

/-- The wait for the device's own copy. -/
theorem locWait_step {α : Type} {Q : α → sProp 𝕄} (c : Dev nD) (f : Fin 5) (n : ℕ) {q : DmaSem sig} (hq : q = locS f)
    {s s' : Shape} {e e' : EltTy} {src : Memref sig .tc .vmem s e} {tgt : Memref sig .tc .vmem s' e'} (hN : tgt.view.dmaCredit = amt f false)
    {hsrc : src.view.WordExact} {hdst : tgt.view.WordExact}
    {k : PUnit → Prog (TpuEff nD τ sig (Elt F) Λ₀ .tc) α} :
    iprop(ctx m ρ K ∗ locD (F := F) c f ∗ ow c n)
      ⊢ iprop(((semVal (locC c f) 0 ∗ (lndP m ρ c f c ∗ srcP m ρ c f c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src tgt hsrc hdst) k) Q) := by
  unfold locD
  exact wait_step m ρ K c (ixL f) (locS f) q hq (kc_loc c f) n _ _ (fun i _ _ => by rw [kind_loc]; exact lvI_pos i) (expect_loc m ρ c f) (rest_loc m ρ c f) hN

/-- The device's own copy. -/
theorem locCopy_step {α : Type} {Q : α → sProp 𝕄} (c : Dev nD) (f : Fin 5)
    {s : Shape} {e : EltTy} {src tgt : Memref sig .tc .vmem s e} {sR : DmaSem sig} (hR : sR = locS f)
    {q : PosShare TreeShare} {fs : Buf (Elt F) (src.view.loc (c : Thread nD τ))} {fd : Buf (Elt F) (tgt.view.loc (c : Thread nD τ))}
    (hN : tgt.view.amount (.dma sR) = amt f false)
    (hp : iprop((tgt.view.loc (c : Thread nD τ) ↦[tgt.view.set]{fullShare} (tgt.view.write (Elt F) fd (src.view.read (Elt F) fs) Finset.univ))
        ∗ (src.view.loc (c : Thread nD τ) ↦[src.view.set]{q} fs)) ⊢ iprop(lndP m ρ c f c ∗ srcP m ρ c f c))
    {hsrc : src.view.WordExact} {hdst : tgt.view.WordExact}
    {hsem : DmaTarget.Typed (nD := nD) .vmem (.dma sR) (.here (p := (c : Thread nD τ).2) tgt)}
    {k : PUnit → Prog (TpuEff nD τ sig (Elt F) Λ₀ .tc) α} :
    iprop(ctx m ρ K ∗ (src.view.loc (c : Thread nD τ) ↦[src.view.set]{q} fs) ∗ (tgt.view.loc (c : Thread nD τ) ↦[tgt.view.set]{fullShare} fd) ∗ locT c f)
      ⊢ iprop((locD c f -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here tgt) (.dma sR) hsrc hdst hsem) k) Q) := by
  subst hR
  unfold locT locD
  iintro ⟨#Hc, Hsrc, Hdst, ⟨Ht, Hat⟩⟩ Hk
  ihave ⟨#HI1, #Hr1⟩ := (ctx_at m ρ K (c, ixL f) _ (kc_loc c f)) $$ Hc
  iapply (Rounds.wp_copy_pointsTo 𝒱₀ ER (Rd m ρ) (c : Thread nD τ) none (κ := K (c, ixL f)) (r := 0) (d := 0) (fs := fs) (fd := fd) (q := q)
    (by rw [duties_loc]; exact Finset.mem_singleton_self _) () (amt f false) hN (amount_loc m ρ c f 0) (by rw [payload_loc]; exact hp)) $$ [Hsrc Hdst Ht]
  · isplitr; · iexact HI1
    isplitl [Hsrc]; · iexact Hsrc
    isplitl [Hdst]; · iexact Hdst
    isplitl [Ht]; · iexact Ht
    iexact Hr1
  iintro Hcr
  iapply Hk
  isplitl [Hcr]; · iexact Hcr
  iexact Hat

end Steps

end Cert.KProof
-- ==== Proof.Sends.lean ====
/-
The transfers of the kernel's five families: what each moves and what it leaves behind.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## Keys and values -/

/-- The family of the keys (`false`) and of the values (`true`). -/
abbrev fam (b : Bool) : Fin 5 := match b with
  | false => 0
  | true => 1

omit [FloatOps F] in
theorem slotH_sub (b : Bool) (s : Dev nD) : (slotH b s).view.set ⊆ (slotF b s).view.set := by
  have key : (Rect.unit (s := S8x2x128x256) ![s.val, 0, j0 s, 0] S1x2x64x256.size (inb_slotH s)).set
      ⊆ (Rect.unit (s := S8x2x128x256) ![s.val, 0, 0, 0] S1x2x128x256.size (inb_slotF s)).set := by
    intro i hi
    rw [Rect.mem_set_unit] at hi ⊢
    intro a
    have h := hi a
    have hj := j0_le s
    revert h
    fin_cases a
    · exact fun h => h
    · exact fun h => h
    · intro h
      have h1 : j0 s ≤ (i 2 : ℕ) ∧ (i 2 : ℕ) < j0 s + 64 := h
      show 0 ≤ (i 2 : ℕ) ∧ (i 2 : ℕ) < 0 + 128
      omega
    · exact fun h => h
  cases b
  · rw [View.set_reshape, View.set_reshape]
    rw [View.set_slice_whole, View.set_slice_whole]; exact key
  · rw [View.set_reshape, View.set_reshape]
    rw [View.set_slice_whole, View.set_slice_whole]; exact key

/-- The quantised block of device `c`, as contents of the buffer that `b` names. -/
def SKb (b : Bool) (c : Dev nD) : (skM b).view.ty.Contents (Elt F) := match b with
  | false => SK m ρ false c
  | true => SK m ρ true c
/-- What has landed, of contents of the buffer that `b` names. -/
def landB (b : Bool) (s c : Dev nD) (g : (rvM b).view.ty.Contents (Elt F)) : Prop := match b, g with
  | false, g => landOk m ρ false s c g
  | true, g => landOk m ρ true s c g

theorem srcP_full (b : Bool) (c d : Dev nD) (h : ¬(half c = true ∧ d ≠ c)) :
    srcP m ρ c (fam b) d = ((slabF b d).view.loc (c : Thread nD τ) ↦[(slabF b d).view.set]{fullShare} SKb m ρ b c) := by
  cases b <;> (unfold fam srcP sndSet SKb; dsimp only; rw [if_neg h])
theorem srcP_half (b : Bool) (c d : Dev nD) (h : half c = true ∧ d ≠ c) :
    srcP m ρ c (fam b) d = ((slabH b c d).view.loc (c : Thread nD τ) ↦[(slabH b c d).view.set]{fullShare} SKb m ρ b c) := by
  cases b <;> (unfold fam srcP sndSet SKb; dsimp only; rw [if_pos h])
omit [FloatOps F] in
theorem slotP_kv (b : Bool) (c s : Dev nD) :
    slotP (F := F) c (fam b) s = iprop(∃ g : (rvM b).view.ty.Contents (Elt F), (slotF b s).view.loc (c : Thread nD τ) ↦[(slotF b s).view.set]{fullShare} g) := by
  cases b <;> rfl
theorem lndP_kv (b : Bool) (c s : Dev nD) :
    lndP m ρ c (fam b) s = iprop(∃ g : (rvM b).view.ty.Contents (Elt F), ((slotF b s).view.loc (c : Thread nD τ) ↦[(slotF b s).view.set]{fullShare} g) ∗ ⌜landB m ρ b s c g⌝) := by
  cases b <;> rfl

theorem land_full (b : Bool) (s c : Dev nD) (h : ¬(half s = true ∧ s ≠ c)) (fd : (rvM b).view.ty.Contents (Elt F)) :
    landB m ρ b s c ((slotF b s).view.write (Elt F) fd ((slabF b c).view.read (Elt F) (SKb m ρ b s)) Finset.univ) := by
  cases b
  · unfold landB SKb landOk; dsimp only; rw [if_neg h]; exact View.read_write_univ _ _
  · unfold landB SKb landOk; dsimp only; rw [if_neg h]; exact View.read_write_univ _ _
theorem land_half (b : Bool) (s c : Dev nD) (h : half s = true ∧ s ≠ c) (fd : (rvM b).view.ty.Contents (Elt F)) :
    landB m ρ b s c ((slotH b s).view.write (Elt F) fd ((slabH b s c).view.read (Elt F) (SKb m ρ b s)) Finset.univ) := by
  cases b
  · unfold landB SKb landOk; dsimp only; rw [if_pos h]; exact View.read_write_univ _ _
  · unfold landB SKb landOk; dsimp only; rw [if_pos h]; exact View.read_write_univ _ _

theorem NF_eq (b : Bool) (s : Dev nD) : (slotF b s).view.dmaCredit = NF := by cases b <;> rfl
theorem NH_eq (b : Bool) (s : Dev nD) : (slotH b s).view.dmaCredit = NH := by cases b <;> rfl
theorem amt_fam (b h : Bool) : amt (fam b) h = if h then NH else NF := by cases b <;> rfl
theorem tal_kv (b : Bool) (c : Dev nD) (o : Fin 7) (n : ℕ) (hn : n = 7 + 3 * o.val + (fam b).val) :
    tal c n = tallyAt (rcvC (dst c o) (fam b) c) () (amt (fam b) (half c)) := by
  cases b
  · exact tal_kvs c 0 o n hn
  · exact tal_kvs c 1 o n hn

/-- The transfer of all rows of the keys or values. -/
theorem sendF_step {α : Type} {Q : α → sProp 𝕄} (b : Bool) (c c' : Dev nD) (o : Fin 7) (n : ℕ) (hn : n = 7 + 3 * o.val + (fam b).val) (hh : half c = false)
    (hc : c' = dst c o) {sS sR : DmaSem sig} (hS : sS = sndS (fam b) o) (hR : sR = rcvS (fam b) c)
    {off : Fin 4 → ℕ} (hoff : off = ![c.val, 0, 0, 0]) {inb : ∀ a, off a + S1x2x128x256.size a ≤ S8x2x128x256.size a}
    {off' : Fin 3 → ℕ} (hoff' : off' = ![0, 0, 256 * (dst c o).val]) {inb' : ∀ a, off' a + S2x128x256.size a ≤ S2x128x2048.size a}
    {hsc : ((((rvM b).slice (Rect.unit (s := S8x2x128x256) off S1x2x128x256.size inb) (fun _ => rfl)).squeeze S2x128x256 squeezes_S1x2x128x256_S2x128x256
      : Memref sig (Dev.tc c' : Thread nD τ).2.kind .vmem S2x128x256 .i8)).view.ref.isScScratch = false}
    {hsrc hdst hsem} {k : PUnit → Prog (TpuEff nD τ sig (Elt F) Λ₀ .tc) α} :
    iprop(ctx m ρ K ∗ SQ m ρ c (fam b) o.val ∗ ow c n)
      ⊢ iprop(((SQ m ρ c (fam b) (o.val + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((skM b).slice (Rect.unit (s := S2x128x2048) off' S2x128x256.size inb') (fun _ => rfl))
                (.remote (Dev.tc c' : Thread nD τ) (((rvM b).slice (Rect.unit (s := S8x2x128x256) off S1x2x128x256.size inb) (fun _ => rfl)).squeeze S2x128x256
                  squeezes_S1x2x128x256_S2x128x256) (.dma sS) hsc) (.dma sR) hsrc hdst hsem) k) Q) := by
  subst hoff hoff'
  unfold SQ
  rw [seq_at, seq_succ]
  have hne : ¬(half c = true ∧ dst c o ≠ c) := fun h => by rw [hh] at h; exact absurd h.1 (by decide)
  have hne' : ¬(half c = true ∧ c ≠ dst c o) := fun h => by rw [hh] at h; exact absurd h.1 (by decide)
  iintro ⟨#Hc, ⟨HD, HR⟩, HO⟩ Hk
  unfold sndR
  rw [srcP_full m ρ b c _ hne, slotP_kv]
  icases HD with ⟨Ht, ⟨%fd, Hd⟩, Hs⟩
  iapply (send_step m ρ K c c' (fam b) o n (by have h1 := o.isLt; have h2 : (fam b).val < 2 := (by cases b <;> decide); omega) hc (tal_kv b c o n hn)
    (src := slabF b (dst c o)) (tgt := slotF b c) hS hR (fs := SKb m ρ b c) (fd := fd) (X := iprop(emp))
    (by rw [amt_fam, hh]; exact NF_eq b c) (by rw [srcP_full m ρ b c _ hne])
    (by
      rw [lndP_kv]
      iintro ⟨H, -⟩
      iexists _
      isplitl [H]; · iexact H
      ipureintro
      exact land_full m ρ b c (dst c o) hne' fd)) $$ [Ht Hd Hs HO]
  · isplitr; · iexact Hc
    isplitl [Hs]; · iexact Hs
    isplitl [Hd]; · isplitl [Hd]; · iexact Hd
                    iempintro
    isplitl [Ht]; · iexact Ht
    iexact HO
  iintro ⟨H, HO⟩
  iapply Hk
  isplitr [HO]
  · isplitl [H]; · iexact H
    iexact HR
  iexact HO

/-- The transfer of half the rows. -/
theorem sendH_step {α : Type} {Q : α → sProp 𝕄} (b : Bool) (c c' : Dev nD) (o : Fin 7) (n : ℕ) (hn : n = 7 + 3 * o.val + (fam b).val) (hh : half c = true)
    (hc : c' = dst c o) {sS sR : DmaSem sig} (hS : sS = sndS (fam b) o) (hR : sR = rcvS (fam b) c)
    {off : Fin 4 → ℕ} (hoff : off = ![c.val, 0, j0 c, 0]) {inb : ∀ a, off a + S1x2x64x256.size a ≤ S8x2x128x256.size a}
    {off' : Fin 3 → ℕ} (hoff' : off' = ![0, j0 c, 256 * (dst c o).val]) {inb' : ∀ a, off' a + S2x64x256.size a ≤ S2x128x2048.size a}
    {hsc : ((((rvM b).slice (Rect.unit (s := S8x2x128x256) off S1x2x64x256.size inb) (fun _ => rfl)).squeeze S2x64x256 squeezes_S1x2x64x256_S2x64x256
      : Memref sig (Dev.tc c' : Thread nD τ).2.kind .vmem S2x64x256 .i8)).view.ref.isScScratch = false}
    {hsrc hdst hsem} {k : PUnit → Prog (TpuEff nD τ sig (Elt F) Λ₀ .tc) α} :
    iprop(ctx m ρ K ∗ SQ m ρ c (fam b) o.val ∗ ow c n)
      ⊢ iprop(((SQ m ρ c (fam b) (o.val + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((skM b).slice (Rect.unit (s := S2x128x2048) off' S2x64x256.size inb') (fun _ => rfl))
                (.remote (Dev.tc c' : Thread nD τ) (((rvM b).slice (Rect.unit (s := S8x2x128x256) off S1x2x64x256.size inb) (fun _ => rfl)).squeeze S2x64x256
                  squeezes_S1x2x64x256_S2x64x256) (.dma sS) hsc) (.dma sR) hsrc hdst hsem) k) Q) := by
  subst hoff hoff'
  unfold SQ
  rw [seq_at, seq_succ]
  have hne : half c = true ∧ dst c o ≠ c := ⟨hh, dst_ne c o⟩
  have hne' : half c = true ∧ c ≠ dst c o := ⟨hh, (dst_ne c o).symm⟩
  iintro ⟨#Hc, ⟨HD, HR⟩, HO⟩ Hk
  unfold sndR
  rw [srcP_half m ρ b c _ hne, slotP_kv]
  icases HD with ⟨Ht, ⟨%fd, Hd⟩, Hs⟩
  ihave ⟨Hd, Hx⟩ := (pointsTo_split_subset (slotH_sub b c)).1 $$ Hd
  iapply (send_step m ρ K c c' (fam b) o n (by have h1 := o.isLt; have h2 : (fam b).val < 2 := (by cases b <;> decide); omega) hc (tal_kv b c o n hn)
    (src := slabH b c (dst c o)) (tgt := slotH b c) hS hR (fs := SKb m ρ b c) (fd := fd)
    (X := iprop((slotF b c).view.loc ((dst c o : Dev nD) : Thread nD τ) ↦[(slotF b c).view.set \ (slotH b c).view.set]{fullShare} fd))
    (by rw [amt_fam, hh]; exact NH_eq b c) (by rw [srcP_half m ρ b c _ hne])
    (by
      rw [lndP_kv, pointsTo_congr (g := (slotH b c).view.write (Elt F) fd ((slabH b c (dst c o)).view.read (Elt F) (SKb m ρ b c)) Finset.univ)
        fun i hi => (View.write_of_not_mem _ _ _ (Finset.mem_sdiff.mp hi).2).symm]
      iintro H
      ihave H := (pointsTo_split_subset (slotH_sub b c)).2 $$ H
      iexists _
      isplitl [H]; · iexact H
      ipureintro
      exact land_half m ρ b c (dst c o) hne' fd)) $$ [Ht Hd Hx Hs HO]
  · isplitr; · iexact Hc
    isplitl [Hs]; · iexact Hs
    isplitl [Hd Hx]; · isplitl [Hd]; · iexact Hd
                       iexact Hx
    isplitl [Ht]; · iexact Ht
    iexact HO
  iintro ⟨H, HO⟩
  iapply Hk
  isplitr [HO]
  · isplitl [H]; · iexact H
    iexact HR
  iexact HO

/-- The transfer of the scales. -/
theorem sendS_step {α : Type} {Q : α → sProp 𝕄} (c c' : Dev nD) (o : Fin 7) (n : ℕ) (hn : n = 7 + 3 * o.val + 2)
    (hc : c' = dst c o) {sS sR : DmaSem sig} (hS : sS = sndS 2 o) (hR : sR = rcvS 2 c)
    {off : Fin 3 → ℕ} (hoff : off = ![c.val, 0, 0]) {inb : ∀ a, off a + S1x2x128.size a ≤ S8x2x128.size a}
    {hsc : (((rvsM.slice (Rect.unit (s := S8x2x128) off S1x2x128.size inb) (fun _ => rfl)).squeeze S2x128 squeezes_S1x2x128_S2x128 : Memref sig (Dev.tc c' : Thread nD τ).2.kind .vmem S2x128 .bf16)).view.ref.isScScratch = false}
    {hsrc hdst hsem} {k : PUnit → Prog (TpuEff nD τ sig (Elt F) Λ₀ .tc) α} :
    iprop(ctx m ρ K ∗ SQ m ρ c 2 o.val ∗ ow c n)
      ⊢ iprop(((SQ m ρ c 2 (o.val + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma svsM
                (.remote (Dev.tc c' : Thread nD τ) ((rvsM.slice (Rect.unit (s := S8x2x128) off S1x2x128.size inb) (fun _ => rfl)).squeeze S2x128 squeezes_S1x2x128_S2x128) (.dma sS) hsc) (.dma sR) hsrc hdst hsem) k) Q) := by
  subst hoff hn
  unfold SQ
  rw [seq_at, seq_succ]
  iintro ⟨#Hc, ⟨HD, HR⟩, HO⟩ Hk
  unfold sndR slotP srcP
  dsimp only
  icases HD with ⟨Ht, ⟨%fd, Hd⟩, Hs⟩
  iapply (send_step m ρ K c c' 2 o _ (by have h1 := o.isLt; omega) hc (tal_kvs c 2 o _ rfl)
    (src := svsM) (tgt := slotS c) hS hR (fs := SVS m ρ c) (q := lf (dst c o)) (fd := fd) (X := iprop(emp))
    rfl (by unfold srcP; exact Entails.rfl)
    (by
      unfold lndP
      iintro ⟨H, -⟩
      iexists _
      isplitl [H]; · iexact H
      ipureintro
      exact View.read_write_univ _ _)) $$ [Ht Hd Hs HO]
  · isplitr; · iexact Hc
    isplitl [Hs]; · iexact Hs
    isplitl [Hd]; · isplitl [Hd]; · iexact Hd
                    iempintro
    isplitl [Ht]; · iexact Ht
    iexact HO
  iintro ⟨H, HO⟩
  iapply Hk
  isplitr [HO]
  · isplitl [H]; · iexact H
    iexact HR
  iexact HO

/-- The transfer of a partial sum. -/
theorem sendR_step {α : Type} {Q : α → sProp 𝕄} (c c' : Dev nD) (o : Fin 7) (n : ℕ) (hn : n = 28 + o.val)
    (hc : c' = dst c o) {sS sR : DmaSem sig} (hS : sS = sndS 3 o) (hR : sR = rcvS 3 c)
    {off : Fin 3 → ℕ} (hoff : off = ![c.val, 0, 0]) {inb : ∀ a, off a + S1x32x512.size a ≤ S8x32x512.size a}
    {off' : Fin 2 → ℕ} (hoff' : off' = ![32 * (dst c o).val, 0]) {inb' : ∀ a, off' a + S32x512.size a ≤ S256x512.size a}
    {hsc : (((rsM.slice (Rect.unit (s := S8x32x512) off S1x32x512.size inb) (fun _ => rfl)).squeeze S32x512 squeezes_S1x32x512_S32x512 : Memref sig (Dev.tc c' : Thread nD τ).2.kind .vmem S32x512 .bf16)).view.ref.isScScratch = false}
    {hsrc hdst hsem} {k : PUnit → Prog (TpuEff nD τ sig (Elt F) Λ₀ .tc) α} :
    iprop(ctx m ρ K ∗ SQ m ρ c 3 o.val ∗ ow c n)
      ⊢ iprop(((SQ m ρ c 3 (o.val + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (arM.slice (Rect.unit (s := S256x512) off' S32x512.size inb') (fun _ => rfl))
                (.remote (Dev.tc c' : Thread nD τ) ((rsM.slice (Rect.unit (s := S8x32x512) off S1x32x512.size inb) (fun _ => rfl)).squeeze S32x512 squeezes_S1x32x512_S32x512) (.dma sS) hsc) (.dma sR) hsrc hdst hsem) k) Q) := by
  subst hoff hn hoff'
  unfold SQ
  rw [seq_at, seq_succ]
  iintro ⟨#Hc, ⟨HD, HR⟩, HO⟩ Hk
  unfold sndR slotP srcP
  dsimp only
  icases HD with ⟨Ht, ⟨%fd, Hd⟩, ⟨%w, Hs, %hw⟩⟩
  iapply (send_step m ρ K c c' 3 o _ (by have h1 := o.isLt; omega) hc (tal_rs c o)
    (src := slabR (dst c o)) (tgt := slotR false c) hS hR (fs := w) (q := fullShare) (fd := fd) (X := iprop(emp))
    rfl (by
      unfold srcP
      iintro H
      iexists _
      isplitl [H]; · iexact H
      ipureintro; exact hw)
    (by
      unfold lndP
      iintro ⟨H, -⟩
      iexists _
      isplitl [H]; · iexact H
      ipureintro
      exact ⟨w, hw, View.read_write_univ _ _⟩)) $$ [Ht Hd Hs HO]
  · isplitr; · iexact Hc
    isplitl [Hs]; · iexact Hs
    isplitl [Hd]; · isplitl [Hd]; · iexact Hd
                    iempintro
    isplitl [Ht]; · iexact Ht
    iexact HO
  iintro ⟨H, HO⟩
  iapply Hk
  isplitr [HO]
  · isplitl [H]; · iexact H
    iexact HR
  iexact HO

/-- The transfer of the reduced rows. -/
theorem sendG_step {α : Type} {Q : α → sProp 𝕄} (c c' : Dev nD) (o : Fin 7) (n : ℕ) (hn : n = 35 + o.val)
    (hc : c' = dst c o) {sS sR : DmaSem sig} (hS : sS = sndS 4 o) (hR : sR = rcvS 4 c)
    {off : Fin 3 → ℕ} (hoff : off = ![c.val, 0, 0]) {inb : ∀ a, off a + S1x32x512.size a ≤ S8x32x512.size a}
    {hsc : (((agM.slice (Rect.unit (s := S8x32x512) off S1x32x512.size inb) (fun _ => rfl)).squeeze S32x512 squeezes_S1x32x512_S32x512 : Memref sig (Dev.tc c' : Thread nD τ).2.kind .vmem S32x512 .bf16)).view.ref.isScScratch = false}
    {hsrc hdst hsem} {k : PUnit → Prog (TpuEff nD τ sig (Elt F) Λ₀ .tc) α} :
    iprop(ctx m ρ K ∗ SQ m ρ c 4 o.val ∗ ow c n)
      ⊢ iprop(((SQ m ρ c 4 (o.val + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma redM
                (.remote (Dev.tc c' : Thread nD τ) ((agM.slice (Rect.unit (s := S8x32x512) off S1x32x512.size inb) (fun _ => rfl)).squeeze S32x512 squeezes_S1x32x512_S32x512) (.dma sS) hsc) (.dma sR) hsrc hdst hsem) k) Q) := by
  subst hoff hn
  unfold SQ
  rw [seq_at, seq_succ]
  iintro ⟨#Hc, ⟨HD, HR⟩, HO⟩ Hk
  unfold sndR slotP srcP
  dsimp only
  icases HD with ⟨Ht, ⟨%fd, Hd⟩, ⟨%w, Hs, %hw⟩⟩
  iapply (send_step m ρ K c c' 4 o _ (by have h1 := o.isLt; omega) hc (tal_ag c o)
    (src := redM) (tgt := slotR true c) hS hR (fs := w) (q := lf (dst c o)) (fd := fd) (X := iprop(emp))
    rfl (by
      unfold srcP
      iintro H
      iexists _
      isplitl [H]; · iexact H
      ipureintro; exact hw)
    (by
      unfold lndP
      iintro ⟨H, -⟩
      iexists _
      isplitl [H]; · iexact H
      ipureintro
      exact ⟨w, hw, (View.read_write_univ _ _).trans (View.read_whole _ _)⟩)) $$ [Ht Hd Hs HO]
  · isplitr; · iexact Hc
    isplitl [Hs]; · iexact Hs
    isplitl [Hd]; · isplitl [Hd]; · iexact Hd
                    iempintro
    isplitl [Ht]; · iexact Ht
    iexact HO
  iintro ⟨H, HO⟩
  iapply Hk
  isplitr [HO]
  · isplitl [H]; · iexact H
    iexact HR
  iexact HO

end Cert.KProof
-- ==== Proof.Pairs.lean ====
/-
The keys and values are sent, awaited and collected under tests of how many rows a device sends: one rule for each such pair.
-/
module

public import proofs.«01_k».proof.Proof.Sends

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## The semaphores of the arrays -/

abbrev aS (f : Fin 5) : DmaSems sig S7 := match f with
  | 0 => cc0_scratch10
  | 1 => cc0_scratch11
  | 2 => cc0_scratch12
  | 3 => cc0_scratch13
  | 4 => cc0_scratch14
abbrev aR (f : Fin 5) : DmaSems sig S8 := match f with
  | 0 => cc0_scratch15
  | 1 => cc0_scratch16
  | 2 => cc0_scratch17
  | 3 => cc0_scratch18
  | 4 => cc0_scratch19
theorem inb_aS (o : Fin 7) : ∀ a, (![o.val] : Fin 1 → ℕ) a + S1.size a ≤ S7.size a := by revert o; decide +kernel
theorem inb_aR (s : Dev nD) : ∀ a, (![s.val] : Fin 1 → ℕ) a + S1.size a ≤ S8.size a := by revert s; decide +kernel
theorem inb_aL (f : Fin 5) : ∀ a, (![f.val] : Fin 1 → ℕ) a + S1.size a ≤ S5.size a := by revert f; decide +kernel
theorem semS_at : ∀ (f : Fin 5) (o : Fin 7),
    ((SemArray.slice (aS f) (Rect.unit (s := S7) ![o.val] S1.size (inb_aS o))).squeeze S_ squeezes_S1_S_).sem = sndS f o := by decide +kernel
theorem semR_at : ∀ (f : Fin 5) (s : Dev nD),
    ((SemArray.slice (aR f) (Rect.unit (s := S8) ![s.val] S1.size (inb_aR s))).squeeze S_ squeezes_S1_S_).sem = rcvS f s := by decide +kernel
theorem semL_at : ∀ (f : Fin 5),
    ((SemArray.slice cc0_scratch20 (Rect.unit (s := S5) ![f.val] S1.size (inb_aL f))).squeeze S_ squeezes_S1_S_).sem = locS f := by decide +kernel
theorem semS_eq (f : Fin 5) (o : Fin 7) {off : Fin 1 → ℕ} (h : off = ![o.val]) {inb : ∀ a, off a + S1.size a ≤ S7.size a} :
    ((SemArray.slice (aS f) (Rect.unit (s := S7) off S1.size inb)).squeeze S_ squeezes_S1_S_).sem = sndS f o := by
  subst h; exact semS_at f o
theorem semR_eq (f : Fin 5) (s : Dev nD) {off : Fin 1 → ℕ} (h : off = ![s.val]) {inb : ∀ a, off a + S1.size a ≤ S8.size a} :
    ((SemArray.slice (aR f) (Rect.unit (s := S8) off S1.size inb)).squeeze S_ squeezes_S1_S_).sem = rcvS f s := by
  subst h; exact semR_at f s
theorem semL_eq (f : Fin 5) {off : Fin 1 → ℕ} (h : off = ![f.val]) {inb : ∀ a, off a + S1.size a ≤ S5.size a} :
    ((SemArray.slice cc0_scratch20 (Rect.unit (s := S5) off S1.size inb)).squeeze S_ squeezes_S1_S_).sem = locS f := by
  subst h; exact semL_at f

/-! ## Sending -/

/-- The keys and values before the transfers of distance `o + 1`, between the two tests, and the conditions on the terms the kernel
computes: which test fires, the peer, the receiver's semaphore, the slot and the slab. -/
def KV (c : Dev nD) (o : ℕ) : sProp 𝕄 := iprop(SQ m ρ c 0 o ∗ SQ m ρ c 1 o ∗ ow c (7 + 3 * o))
def KVh (c : Dev nD) (o : ℕ) : sProp 𝕄 :=
  if half c then iprop(SQ m ρ c 0 (o + 1) ∗ SQ m ρ c 1 (o + 1) ∗ ow c (7 + 3 * o + 1 + 1)) else KV m ρ c o
abbrev KvHok (o : Fin 7) (cond : Dev nD → BitVec 1) (d₁ d₂ : Dev nD → ℕ) (or : Dev nD → Fin 1 → ℕ) (od : Dev nD → Fin 4 → ℕ) (os : Dev nD → Fin 3 → ℕ) : Prop :=
  ∀ c, (cond c = 1#1 ↔ half c = true) ∧ (half c = true → d₁ c = (dst c o).val ∧ d₂ c = (dst c o).val ∧ or c = ![c.val]
    ∧ od c = ![c.val, 0, j0 c, 0] ∧ os c = ![0, j0 c, 256 * (dst c o).val])
abbrev KvFok (o : Fin 7) (cond : Dev nD → BitVec 1) (d₁ d₂ : Dev nD → ℕ) (or : Dev nD → Fin 1 → ℕ) (od : Dev nD → Fin 4 → ℕ) (os : Dev nD → Fin 3 → ℕ) : Prop :=
  ∀ c, (cond c = 1#1 ↔ half c = false) ∧ (half c = false → d₁ c = (dst c o).val ∧ d₂ c = (dst c o).val ∧ or c = ![c.val]
    ∧ od c = ![c.val, 0, 0, 0] ∧ os c = ![0, 0, 256 * (dst c o).val])

/-- The transfers of half the rows, where that is what the device sends. -/
theorem kvH_send {α : Type} {Q : α → sProp 𝕄} (c : Dev nD) (o : Fin 7) (cond : Dev nD → BitVec 1) (d₁ d₂ : Dev nD → ℕ) (or : Dev nD → Fin 1 → ℕ)
    (od : Dev nD → Fin 4 → ℕ) (os : Dev nD → Fin 3 → ℕ) (so : Fin 1 → ℕ) (hso : so = ![o.val]) (hok : KvHok o cond d₁ d₂ or od os)
    {iS : ∀ a, so a + S1.size a ≤ S7.size a} {ir : cond c = 1#1 → ∀ a, or c a + S1.size a ≤ S8.size a}
    {id' : cond c = 1#1 → ∀ a, od c a + S1x2x64x256.size a ≤ S8x2x128x256.size a} {is : cond c = 1#1 → ∀ a, os c a + S2x64x256.size a ≤ S2x128x2048.size a}
    {ld₁ : cond c = 1#1 → d₁ c < nD} {ld₂ : cond c = 1#1 → d₂ c < nD}
    {eK1 : ∀ h : cond c = 1#1, ((Memref.whole cc0_scratch0).slice (Rect.unit (s := S2x128x2048) (os c) S2x64x256.size (is h)) (fun _ => rfl)).view.WordExact}
    {eK2 : ∀ h : cond c = 1#1, (((Memref.whole cc0_scratch3).slice (Rect.unit (s := S8x2x128x256) (od c) S1x2x64x256.size (id' h)) (fun _ => rfl)).squeeze S2x64x256 squeezes_S1x2x64x256_S2x64x256).view.WordExact}
    {eV1 : ∀ h : cond c = 1#1, ((Memref.whole cc0_scratch1).slice (Rect.unit (s := S2x128x2048) (os c) S2x64x256.size (is h)) (fun _ => rfl)).view.WordExact}
    {eV2 : ∀ h : cond c = 1#1, (((Memref.whole cc0_scratch4).slice (Rect.unit (s := S8x2x128x256) (od c) S1x2x64x256.size (id' h)) (fun _ => rfl)).squeeze S2x64x256 squeezes_S1x2x64x256_S2x64x256).view.WordExact}
    {R : Prog (TpuEff nD τ sig (Elt F) Λ₀ .tc) α} :
    iprop(ctx m ρ K ∗ KV m ρ c o.val)
      ⊢ iprop((KVh m ρ c o.val -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.enqueueDma ((Memref.whole cc0_scratch0).slice (Rect.unit (s := S2x128x2048) (os c) S2x64x256.size (is h)) (fun _ => rfl))
                (.remote (Dev.tc (⟨d₁ c, ld₁ h⟩ : Dev nD) : Thread nD τ) (((Memref.whole cc0_scratch3).slice (Rect.unit (s := S8x2x128x256) (od c) S1x2x64x256.size (id' h)) (fun _ => rfl)).squeeze S2x64x256
                  squeezes_S1x2x64x256_S2x64x256) (.dma ((SemArray.slice cc0_scratch10 (Rect.unit (s := S7) so S1.size iS)).squeeze S_ squeezes_S1_S_).sem) rfl)
                (.dma ((SemArray.slice cc0_scratch15 (Rect.unit (s := S8) (or c) S1.size (ir h))).squeeze S_ squeezes_S1_S_).sem) (eK1 h) (eK2 h) ⟨⟨rfl, Or.inl rfl⟩, trivial⟩) fun _ => .op (.enqueueDma ((Memref.whole cc0_scratch1).slice (Rect.unit (s := S2x128x2048) (os c) S2x64x256.size (is h)) (fun _ => rfl))
                (.remote (Dev.tc (⟨d₂ c, ld₂ h⟩ : Dev nD) : Thread nD τ) (((Memref.whole cc0_scratch4).slice (Rect.unit (s := S8x2x128x256) (od c) S1x2x64x256.size (id' h)) (fun _ => rfl)).squeeze S2x64x256
                  squeezes_S1x2x64x256_S2x64x256) (.dma ((SemArray.slice cc0_scratch11 (Rect.unit (s := S7) so S1.size iS)).squeeze S_ squeezes_S1_S_).sem) rfl)
                (.dma ((SemArray.slice cc0_scratch16 (Rect.unit (s := S8) (or c) S1.size (ir h))).squeeze S_ squeezes_S1_S_).sem) (eV1 h) (eV2 h) ⟨⟨rfl, Or.inl rfl⟩, trivial⟩) fun _ => R)
                (fun _ => R)) Q) := by
  obtain ⟨hc, hs⟩ := hok c
  by_cases hh : half c = true
  · have hcond := hc.mpr hh
    obtain ⟨e₁, e₂, e₃, e₄, e₅⟩ := hs hh
    rw [dif_pos hcond]
    unfold KVh KV
    simp only [hh, if_true, if_false, Bool.false_eq_true]
    iintro ⟨#Hc, HK, HV, HO⟩ Hk
    iapply (sendH_step m ρ K false c _ o (7 + 3 * o.val) rfl hh (Fin.ext e₁) (semS_eq 0 o hso) (semR_eq 0 c e₃) e₄ e₅) $$ [HK HO]
    · isplitr; · iexact Hc
      isplitl [HK]; · iexact HK
      iexact HO
    iintro ⟨HK, HO⟩
    iapply (sendH_step m ρ K true c _ o (7 + 3 * o.val + 1) rfl hh (Fin.ext e₂) (semS_eq 1 o hso) (semR_eq 1 c e₃) e₄ e₅) $$ [HV HO]
    · isplitr; · iexact Hc
      isplitl [HV]; · iexact HV
      iexact HO
    iintro ⟨HV, HO⟩
    iapply Hk
    isplitl [HK]; · iexact HK
    isplitl [HV]; · iexact HV
    iexact HO
  · rw [dif_neg fun h => hh (hc.mp h)]
    unfold KVh KV
    have hh' : half c = !true := by cases h : half c <;> simp_all
    simp only [hh', Bool.not_true, Bool.not_false, if_true, if_false, Bool.false_eq_true]
    iintro ⟨-, H⟩ Hk
    iapply Hk
    iexact H

/-- The transfers of all rows, where that is what the device sends. -/
theorem kvF_send {α : Type} {Q : α → sProp 𝕄} (c : Dev nD) (o : Fin 7) (cond : Dev nD → BitVec 1) (d₁ d₂ : Dev nD → ℕ) (or : Dev nD → Fin 1 → ℕ)
    (od : Dev nD → Fin 4 → ℕ) (os : Dev nD → Fin 3 → ℕ) (so : Fin 1 → ℕ) (hso : so = ![o.val]) (hok : KvFok o cond d₁ d₂ or od os)
    {iS : ∀ a, so a + S1.size a ≤ S7.size a} {ir : cond c = 1#1 → ∀ a, or c a + S1.size a ≤ S8.size a}
    {id' : cond c = 1#1 → ∀ a, od c a + S1x2x128x256.size a ≤ S8x2x128x256.size a} {is : cond c = 1#1 → ∀ a, os c a + S2x128x256.size a ≤ S2x128x2048.size a}
    {ld₁ : cond c = 1#1 → d₁ c < nD} {ld₂ : cond c = 1#1 → d₂ c < nD}
    {eK1 : ∀ h : cond c = 1#1, ((Memref.whole cc0_scratch0).slice (Rect.unit (s := S2x128x2048) (os c) S2x128x256.size (is h)) (fun _ => rfl)).view.WordExact}
    {eK2 : ∀ h : cond c = 1#1, (((Memref.whole cc0_scratch3).slice (Rect.unit (s := S8x2x128x256) (od c) S1x2x128x256.size (id' h)) (fun _ => rfl)).squeeze S2x128x256 squeezes_S1x2x128x256_S2x128x256).view.WordExact}
    {eV1 : ∀ h : cond c = 1#1, ((Memref.whole cc0_scratch1).slice (Rect.unit (s := S2x128x2048) (os c) S2x128x256.size (is h)) (fun _ => rfl)).view.WordExact}
    {eV2 : ∀ h : cond c = 1#1, (((Memref.whole cc0_scratch4).slice (Rect.unit (s := S8x2x128x256) (od c) S1x2x128x256.size (id' h)) (fun _ => rfl)).squeeze S2x128x256 squeezes_S1x2x128x256_S2x128x256).view.WordExact}
    {R : Prog (TpuEff nD τ sig (Elt F) Λ₀ .tc) α} :
    iprop(ctx m ρ K ∗ KVh m ρ c o.val)
      ⊢ iprop(((SQ m ρ c 0 (o.val + 1) ∗ SQ m ρ c 1 (o.val + 1) ∗ ow c (7 + 3 * o.val + 1 + 1)) -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.enqueueDma ((Memref.whole cc0_scratch0).slice (Rect.unit (s := S2x128x2048) (os c) S2x128x256.size (is h)) (fun _ => rfl))
                (.remote (Dev.tc (⟨d₁ c, ld₁ h⟩ : Dev nD) : Thread nD τ) (((Memref.whole cc0_scratch3).slice (Rect.unit (s := S8x2x128x256) (od c) S1x2x128x256.size (id' h)) (fun _ => rfl)).squeeze S2x128x256
                  squeezes_S1x2x128x256_S2x128x256) (.dma ((SemArray.slice cc0_scratch10 (Rect.unit (s := S7) so S1.size iS)).squeeze S_ squeezes_S1_S_).sem) rfl)
                (.dma ((SemArray.slice cc0_scratch15 (Rect.unit (s := S8) (or c) S1.size (ir h))).squeeze S_ squeezes_S1_S_).sem) (eK1 h) (eK2 h) ⟨⟨rfl, Or.inl rfl⟩, trivial⟩) fun _ => .op (.enqueueDma ((Memref.whole cc0_scratch1).slice (Rect.unit (s := S2x128x2048) (os c) S2x128x256.size (is h)) (fun _ => rfl))
                (.remote (Dev.tc (⟨d₂ c, ld₂ h⟩ : Dev nD) : Thread nD τ) (((Memref.whole cc0_scratch4).slice (Rect.unit (s := S8x2x128x256) (od c) S1x2x128x256.size (id' h)) (fun _ => rfl)).squeeze S2x128x256
                  squeezes_S1x2x128x256_S2x128x256) (.dma ((SemArray.slice cc0_scratch11 (Rect.unit (s := S7) so S1.size iS)).squeeze S_ squeezes_S1_S_).sem) rfl)
                (.dma ((SemArray.slice cc0_scratch16 (Rect.unit (s := S8) (or c) S1.size (ir h))).squeeze S_ squeezes_S1_S_).sem) (eV1 h) (eV2 h) ⟨⟨rfl, Or.inl rfl⟩, trivial⟩) fun _ => R)
                (fun _ => R)) Q) := by
  obtain ⟨hc, hs⟩ := hok c
  by_cases hh : half c = false
  · have hcond := hc.mpr hh
    obtain ⟨e₁, e₂, e₃, e₄, e₅⟩ := hs hh
    rw [dif_pos hcond]
    unfold KVh KV
    simp only [hh, if_true, if_false, Bool.false_eq_true]
    iintro ⟨#Hc, HK, HV, HO⟩ Hk
    iapply (sendF_step m ρ K false c _ o (7 + 3 * o.val) rfl hh (Fin.ext e₁) (semS_eq 0 o hso) (semR_eq 0 c e₃) e₄ e₅) $$ [HK HO]
    · isplitr; · iexact Hc
      isplitl [HK]; · iexact HK
      iexact HO
    iintro ⟨HK, HO⟩
    iapply (sendF_step m ρ K true c _ o (7 + 3 * o.val + 1) rfl hh (Fin.ext e₂) (semS_eq 1 o hso) (semR_eq 1 c e₃) e₄ e₅) $$ [HV HO]
    · isplitr; · iexact Hc
      isplitl [HV]; · iexact HV
      iexact HO
    iintro ⟨HV, HO⟩
    iapply Hk
    isplitl [HK]; · iexact HK
    isplitl [HV]; · iexact HV
    iexact HO
  · rw [dif_neg fun h => hh (hc.mp h)]
    unfold KVh KV
    have hh' : half c = !false := by cases h : half c <;> simp_all
    simp only [hh', Bool.not_true, Bool.not_false, if_true, if_false, Bool.false_eq_true]
    iintro ⟨-, H⟩ Hk
    iapply Hk
    iexact H

/-! ## Receiving -/

theorem lev28 (f : Fin 5) (hf : f.val < 3) (s : Dev nD) : ∀ i, 28 ≤ i → i < 42 → lvK (.rcv f s) < lvI i := by
  intro i h1 h2
  unfold lvK lvI
  dsimp only
  rw [if_pos hf, if_neg (by omega), if_neg (by omega)]
  split <;> omega

def KR (c : Dev nD) (o : ℕ) : sProp 𝕄 := iprop(RQ (F := F) c 0 o ∗ RQ (F := F) c 1 o ∗ ow c 28)
def KRd (c : Dev nD) (o : ℕ) : sProp 𝕄 :=
  iprop(RQ (F := F) c 0 (o + 1) ∗ RQ (F := F) c 1 (o + 1) ∗ lndP m ρ c 0 (sr c (o + 1)) ∗ lndP m ρ c 1 (sr c (o + 1)) ∗ ow c 28)
def KRh (c : Dev nD) (o : ℕ) : sProp 𝕄 := if half (sr c (o + 1)) then KRd m ρ c o else KR c o

/-- The waits for half the rows, where that is what the other device sends. -/
theorem kvH_recv {α : Type} {Q : α → sProp 𝕄} (c : Dev nD) (o : Fin 7) (cond : Dev nD → BitVec 1) (or : Dev nD → Fin 1 → ℕ) (hok : ∀ c, (cond c = 1#1 ↔ half (sr c (o.val + 1)) = true) ∧ (half (sr c (o.val + 1)) = true → or c = ![(sr c (o.val + 1)).val]))
    {ir : cond c = 1#1 → ∀ a, or c a + S1.size a ≤ S8.size a}
    {s₁ s₂ : Shape} {e₁ e₂ : EltTy} {src₁ : cond c = 1#1 → Memref sig .tc .vmem s₁ e₁} {src₂ : cond c = 1#1 → Memref sig .tc .vmem s₂ e₂}
    {tgt₁ tgt₂ : cond c = 1#1 → Memref sig .tc .vmem S2x64x256 .i8}
    {w₁ : ∀ h, (src₁ h).view.WordExact} {w₂ : ∀ h, (tgt₁ h).view.WordExact} {w₃ : ∀ h, (src₂ h).view.WordExact} {w₄ : ∀ h, (tgt₂ h).view.WordExact}
    {R : Prog (TpuEff nD τ sig (Elt F) Λ₀ .tc) α} :
    iprop(ctx m ρ K ∗ KR c o.val)
      ⊢ iprop((KRh m ρ c o.val -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.waitDma2 ((SemArray.slice cc0_scratch15 (Rect.unit (s := S8) (or c) S1.size (ir h))).squeeze S_ squeezes_S1_S_).sem (src₁ h) (tgt₁ h) (w₁ h) (w₂ h)) fun _ =>
                  .op (.waitDma2 ((SemArray.slice cc0_scratch16 (Rect.unit (s := S8) (or c) S1.size (ir h))).squeeze S_ squeezes_S1_S_).sem (src₂ h) (tgt₂ h) (w₃ h) (w₄ h)) fun _ => R)
                (fun _ => R)) Q) := by
  have hc := (hok c).1
  have hs := (hok c).2
  by_cases hh : half (sr c (o.val + 1)) = true
  · have hcond := hc.mpr hh
    rw [dif_pos hcond]
    unfold KRh KR KRd
    simp only [hh, if_true, if_false, Bool.false_eq_true]
    iintro ⟨#Hc, HK, HV, HO⟩ Hk
    iapply (recvWait_step m ρ K c 0 o 28 (lev28 0 (by decide) _) (semR_eq 0 _ (hs hh)) (by rw [hh]; rfl)) $$ [HK HO]
    · isplitr; · iexact Hc
      isplitl [HK]; · iexact HK
      iexact HO
    iintro ⟨HK, LK, HO⟩
    iapply (recvWait_step m ρ K c 1 o 28 (lev28 1 (by decide) _) (semR_eq 1 _ (hs hh)) (by rw [hh]; rfl)) $$ [HV HO]
    · isplitr; · iexact Hc
      isplitl [HV]; · iexact HV
      iexact HO
    iintro ⟨HV, LV, HO⟩
    iapply Hk
    isplitl [HK]; · iexact HK
    isplitl [HV]; · iexact HV
    isplitl [LK]; · iexact LK
    isplitl [LV]; · iexact LV
    iexact HO
  · rw [dif_neg fun h => hh (hc.mp h)]
    unfold KRh KR KRd
    have hh' : half (sr c (o.val + 1)) = !true := by cases h : half (sr c (o.val + 1)) <;> simp_all
    simp only [hh', Bool.not_true, Bool.not_false, if_true, if_false, Bool.false_eq_true]
    iintro ⟨-, H⟩ Hk
    iapply Hk
    iexact H

/-- The waits for all rows, where that is what the other device sends. -/
theorem kvF_recv {α : Type} {Q : α → sProp 𝕄} (c : Dev nD) (o : Fin 7) (cond : Dev nD → BitVec 1) (or : Dev nD → Fin 1 → ℕ) (hok : ∀ c, (cond c = 1#1 ↔ half (sr c (o.val + 1)) = false) ∧ (half (sr c (o.val + 1)) = false → or c = ![(sr c (o.val + 1)).val]))
    {ir : cond c = 1#1 → ∀ a, or c a + S1.size a ≤ S8.size a}
    {s₁ s₂ : Shape} {e₁ e₂ : EltTy} {src₁ : cond c = 1#1 → Memref sig .tc .vmem s₁ e₁} {src₂ : cond c = 1#1 → Memref sig .tc .vmem s₂ e₂}
    {tgt₁ tgt₂ : cond c = 1#1 → Memref sig .tc .vmem S2x128x256 .i8}
    {w₁ : ∀ h, (src₁ h).view.WordExact} {w₂ : ∀ h, (tgt₁ h).view.WordExact} {w₃ : ∀ h, (src₂ h).view.WordExact} {w₄ : ∀ h, (tgt₂ h).view.WordExact}
    {R : Prog (TpuEff nD τ sig (Elt F) Λ₀ .tc) α} :
    iprop(ctx m ρ K ∗ KRh m ρ c o.val)
      ⊢ iprop((KRd m ρ c o.val -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.waitDma2 ((SemArray.slice cc0_scratch15 (Rect.unit (s := S8) (or c) S1.size (ir h))).squeeze S_ squeezes_S1_S_).sem (src₁ h) (tgt₁ h) (w₁ h) (w₂ h)) fun _ =>
                  .op (.waitDma2 ((SemArray.slice cc0_scratch16 (Rect.unit (s := S8) (or c) S1.size (ir h))).squeeze S_ squeezes_S1_S_).sem (src₂ h) (tgt₂ h) (w₃ h) (w₄ h)) fun _ => R)
                (fun _ => R)) Q) := by
  have hc := (hok c).1
  have hs := (hok c).2
  by_cases hh : half (sr c (o.val + 1)) = false
  · have hcond := hc.mpr hh
    rw [dif_pos hcond]
    unfold KRh KR KRd
    simp only [hh, if_true, if_false, Bool.false_eq_true]
    iintro ⟨#Hc, HK, HV, HO⟩ Hk
    iapply (recvWait_step m ρ K c 0 o 28 (lev28 0 (by decide) _) (semR_eq 0 _ (hs hh)) (by rw [hh]; rfl)) $$ [HK HO]
    · isplitr; · iexact Hc
      isplitl [HK]; · iexact HK
      iexact HO
    iintro ⟨HK, LK, HO⟩
    iapply (recvWait_step m ρ K c 1 o 28 (lev28 1 (by decide) _) (semR_eq 1 _ (hs hh)) (by rw [hh]; rfl)) $$ [HV HO]
    · isplitr; · iexact Hc
      isplitl [HV]; · iexact HV
      iexact HO
    iintro ⟨HV, LV, HO⟩
    iapply Hk
    isplitl [HK]; · iexact HK
    isplitl [HV]; · iexact HV
    isplitl [LK]; · iexact LK
    isplitl [LV]; · iexact LV
    iexact HO
  · rw [dif_neg fun h => hh (hc.mp h)]
    unfold KRh KR KRd
    have hh' : half (sr c (o.val + 1)) = !false := by cases h : half (sr c (o.val + 1)) <;> simp_all
    simp only [hh', Bool.not_true, Bool.not_false, if_true, if_false, Bool.false_eq_true]
    iintro ⟨-, H⟩ Hk
    iapply Hk
    iexact H

/-! ## Collecting the transfers issued -/

def KW (c : Dev nD) (o : ℕ) : sProp 𝕄 := iprop(WQ m ρ c 0 o ∗ WQ m ρ c 1 o ∗ ow c 28)
def KWh (c : Dev nD) (o : ℕ) : sProp 𝕄 := if half c then KW m ρ c (o + 1) else KW m ρ c o

/-- The waits for the device's own transfers of half the rows. -/
theorem kvH_done {α : Type} {Q : α → sProp 𝕄} (c : Dev nD) (o : Fin 7) (cond : Dev nD → BitVec 1) (so : Fin 1 → ℕ) (hso : so = ![o.val]) (hok : ∀ c, cond c = 1#1 ↔ half c = true)
    {iS : cond c = 1#1 → ∀ a, so a + S1.size a ≤ S7.size a}
    {s₁ s₂ : Shape} {e₁ e₂ : EltTy} {src₁ : cond c = 1#1 → Memref sig .tc .vmem s₁ e₁} {src₂ : cond c = 1#1 → Memref sig .tc .vmem s₂ e₂}
    {tgt₁ tgt₂ : cond c = 1#1 → Memref sig .tc .vmem S2x64x256 .i8}
    {w₁ : ∀ h, (src₁ h).view.WordExact} {w₂ : ∀ h, (tgt₁ h).view.WordExact} {w₃ : ∀ h, (src₂ h).view.WordExact} {w₄ : ∀ h, (tgt₂ h).view.WordExact}
    {R : Prog (TpuEff nD τ sig (Elt F) Λ₀ .tc) α} :
    iprop(ctx m ρ K ∗ KW m ρ c o.val)
      ⊢ iprop((KWh m ρ c o.val -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.waitDma2 ((SemArray.slice cc0_scratch10 (Rect.unit (s := S7) so S1.size (iS h))).squeeze S_ squeezes_S1_S_).sem (src₁ h) (tgt₁ h) (w₁ h) (w₂ h)) fun _ =>
                  .op (.waitDma2 ((SemArray.slice cc0_scratch11 (Rect.unit (s := S7) so S1.size (iS h))).squeeze S_ squeezes_S1_S_).sem (src₂ h) (tgt₂ h) (w₃ h) (w₄ h)) fun _ => R)
                (fun _ => R)) Q) := by
  have hc := hok c
  by_cases hh : half c = true
  · have hcond := hc.mpr hh
    rw [dif_pos hcond]
    unfold KWh KW
    simp only [hh, if_true, if_false, Bool.false_eq_true]
    iintro ⟨#Hc, HK, HV, HO⟩ Hk
    iapply (sendWait_step m ρ K c 0 o 28 (semS_eq 0 o hso) (by rw [hh]; rfl)) $$ [HK HO]
    · isplitr; · iexact Hc
      isplitl [HK]; · iexact HK
      iexact HO
    iintro ⟨HK, HO⟩
    iapply (sendWait_step m ρ K c 1 o 28 (semS_eq 1 o hso) (by rw [hh]; rfl)) $$ [HV HO]
    · isplitr; · iexact Hc
      isplitl [HV]; · iexact HV
      iexact HO
    iintro ⟨HV, HO⟩
    iapply Hk
    isplitl [HK]; · iexact HK
    isplitl [HV]; · iexact HV
    iexact HO
  · rw [dif_neg fun h => hh (hc.mp h)]
    unfold KWh KW
    have hh' : half c = !true := by cases h : half c <;> simp_all
    simp only [hh', Bool.not_true, Bool.not_false, if_true, if_false, Bool.false_eq_true]
    iintro ⟨-, H⟩ Hk
    iapply Hk
    iexact H

/-- The waits for the device's own transfers of all rows. -/
theorem kvF_done {α : Type} {Q : α → sProp 𝕄} (c : Dev nD) (o : Fin 7) (cond : Dev nD → BitVec 1) (so : Fin 1 → ℕ) (hso : so = ![o.val]) (hok : ∀ c, cond c = 1#1 ↔ half c = false)
    {iS : cond c = 1#1 → ∀ a, so a + S1.size a ≤ S7.size a}
    {s₁ s₂ : Shape} {e₁ e₂ : EltTy} {src₁ : cond c = 1#1 → Memref sig .tc .vmem s₁ e₁} {src₂ : cond c = 1#1 → Memref sig .tc .vmem s₂ e₂}
    {tgt₁ tgt₂ : cond c = 1#1 → Memref sig .tc .vmem S2x128x256 .i8}
    {w₁ : ∀ h, (src₁ h).view.WordExact} {w₂ : ∀ h, (tgt₁ h).view.WordExact} {w₃ : ∀ h, (src₂ h).view.WordExact} {w₄ : ∀ h, (tgt₂ h).view.WordExact}
    {R : Prog (TpuEff nD τ sig (Elt F) Λ₀ .tc) α} :
    iprop(ctx m ρ K ∗ KWh m ρ c o.val)
      ⊢ iprop((KW m ρ c (o.val + 1) -∗ wp frame (wpE (defs₀ (F := F)) 𝒱₀ (c : Thread nD τ) none) Set.univ R Q)
          -∗ wp frame (wpE (defs₀ (F := F)) 𝒱₀ (c : Thread nD τ) none) Set.univ
              (dite (cond c = 1#1) (fun h => .op (.waitDma2 ((SemArray.slice cc0_scratch10 (Rect.unit (s := S7) so S1.size (iS h))).squeeze S_ squeezes_S1_S_).sem (src₁ h) (tgt₁ h) (w₁ h) (w₂ h)) fun _ =>
                  .op (.waitDma2 ((SemArray.slice cc0_scratch11 (Rect.unit (s := S7) so S1.size (iS h))).squeeze S_ squeezes_S1_S_).sem (src₂ h) (tgt₂ h) (w₃ h) (w₄ h)) fun _ => R)
                (fun _ => R)) Q) := by
  have hc := hok c
  by_cases hh : half c = false
  · have hcond := hc.mpr hh
    rw [dif_pos hcond]
    unfold KWh KW
    simp only [hh, if_true, if_false, Bool.false_eq_true]
    iintro ⟨#Hc, HK, HV, HO⟩ Hk
    iapply (sendWait_step m ρ K c 0 o 28 (semS_eq 0 o hso) (by rw [hh]; rfl)) $$ [HK HO]
    · isplitr; · iexact Hc
      isplitl [HK]; · iexact HK
      iexact HO
    iintro ⟨HK, HO⟩
    iapply (sendWait_step m ρ K c 1 o 28 (semS_eq 1 o hso) (by rw [hh]; rfl)) $$ [HV HO]
    · isplitr; · iexact Hc
      isplitl [HV]; · iexact HV
      iexact HO
    iintro ⟨HV, HO⟩
    iapply Hk
    isplitl [HK]; · iexact HK
    isplitl [HV]; · iexact HV
    iexact HO
  · rw [dif_neg fun h => hh (hc.mp h)]
    unfold KWh KW
    have hh' : half c = !false := by cases h : half c <;> simp_all
    simp only [hh', Bool.not_true, Bool.not_false, if_true, if_false, Bool.false_eq_true]
    iintro ⟨-, H⟩ Hk
    iapply Hk
    iexact H

end Cert.KProof
-- ==== Proof.Reads.lean ====
/-
The reads of the fold: the scales, keys and values of one slot, head by head.
-/
module

public import proofs.«01_k».proof.Proof.Pairs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## Where the reads of step `g` are -/

theorem off47_at : ∀ (c : Dev nD) (g : Fin 8), k0_off47 c (BitVec.ofNat 32 g.val) = ![(sr c g.val).val, 0, 0] := by decide +kernel
theorem off48_at : ∀ (c : Dev nD) (g : Fin 8), k0_off48 c (BitVec.ofNat 32 g.val) = ![(sr c g.val).val, 0, 0, 0] := by decide +kernel
theorem off49_at : ∀ (c : Dev nD) (g : Fin 8), k0_off49 c (BitVec.ofNat 32 g.val) = ![(sr c g.val).val, 0, 0, 64] := by decide +kernel
theorem off50_at : ∀ (c : Dev nD) (g : Fin 8), k0_off50 c (BitVec.ofNat 32 g.val) = ![(sr c g.val).val, 0, 0, 128] := by decide +kernel
theorem off51_at : ∀ (c : Dev nD) (g : Fin 8), k0_off51 c (BitVec.ofNat 32 g.val) = ![(sr c g.val).val, 0, 0, 192] := by decide +kernel
theorem off52_at : ∀ (c : Dev nD) (g : Fin 8), k0_off52 c (BitVec.ofNat 32 g.val) = ![(sr c g.val).val, 1, 0] := by decide +kernel
theorem off53_at : ∀ (c : Dev nD) (g : Fin 8), k0_off53 c (BitVec.ofNat 32 g.val) = ![(sr c g.val).val, 1, 0, 0] := by decide +kernel
theorem off54_at : ∀ (c : Dev nD) (g : Fin 8), k0_off54 c (BitVec.ofNat 32 g.val) = ![(sr c g.val).val, 1, 0, 64] := by decide +kernel
theorem off55_at : ∀ (c : Dev nD) (g : Fin 8), k0_off55 c (BitVec.ofNat 32 g.val) = ![(sr c g.val).val, 1, 0, 128] := by decide +kernel
theorem off56_at : ∀ (c : Dev nD) (g : Fin 8), k0_off56 c (BitVec.ofNat 32 g.val) = ![(sr c g.val).val, 1, 0, 192] := by decide +kernel

/-- A slot of keys (`false`) or values (`true`), and of scales, with its contents. -/
def kvPts (c : Dev nD) (b : Bool) (s : Dev nD) (f : CRv F) : sProp 𝕄 := match b with
  | false => iprop((rvM false).view.loc (c : Thread nD τ) ↦[(slotF false s).view.set]{fullShare} f)
  | true => iprop((rvM true).view.loc (c : Thread nD τ) ↦[(slotF true s).view.set]{fullShare} f)
def vsPts (c : Dev nD) (s : Dev nD) (f : CRs F) : sProp 𝕄 := iprop(rvsM.view.loc (c : Thread nD τ) ↦[(slotS s).view.set]{fullShare} f)

/-- The keys or values of one head. -/
theorem ldK_step {α : Type} {Q : α → sProp 𝕄} (b : Bool) (c s : Dev nD) (j : Fin 8) {off : Fin 4 → ℕ} (hoff : off = ![s.val, j.val / 4, 0, 64 * (j.val % 4)])
    {inb : ∀ a, off a + S1x1x128x64.size a ≤ S8x2x128x256.size a} {hl} (f : CRv F)
    {k : Vec F S1x1x128x64 .i8 → Prog (TpuEff nD τ sig (Elt F) Λ₀ .tc) α} :
    kvPts c b s f
      ⊢ iprop((kvPts c b s f -∗ wp frame (wpE (defs₀ (F := F)) 𝒱₀ (c : Thread nD τ) none) Set.univ (k (ldK b s j f)) Q)
          -∗ wp frame (wpE (defs₀ (F := F)) 𝒱₀ (c : Thread nD τ) none) Set.univ (.op (.load (rvM b) (Rect.unit (s := S8x2x128x256) off S1x1x128x64.size inb).toLoadRect hl) k) Q) := by
  subst hoff
  have hsub : (Rect.unit (s := S8x2x128x256) ![s.val, j.val / 4, 0, 64 * (j.val % 4)] S1x1x128x64.size inb).set
      ⊆ (Rect.unit (s := S8x2x128x256) ![s.val, 0, 0, 0] S1x2x128x256.size (inb_slotF s)).set := by
    intro i hi
    rw [Rect.mem_set_unit] at hi ⊢
    intro a
    have h := hi a
    have hj := j.isLt
    revert h
    fin_cases a
    · exact fun h => h
    · intro h
      have h1 : j.val / 4 ≤ (i 1 : ℕ) ∧ (i 1 : ℕ) < j.val / 4 + 1 := h
      show 0 ≤ (i 1 : ℕ) ∧ (i 1 : ℕ) < 0 + 2
      omega
    · exact fun h => h
    · intro h
      have h1 : 64 * (j.val % 4) ≤ (i 3 : ℕ) ∧ (i 3 : ℕ) < 64 * (j.val % 4) + 64 := h
      show 0 ≤ (i 3 : ℕ) ∧ (i 3 : ℕ) < 0 + 256
      omega
  cases b
  · exact wp_load 𝒱₀ (c : Thread nD τ) none Set.univ (m := rvM false) (by
      rw [View.set_reshape, View.set_slice_whole]
      refine Finset.Subset.trans ?_ hsub
      intro i hi
      obtain ⟨x, hx, rfl⟩ := Finset.mem_map.mp hi
      exact hx)
  · exact wp_load 𝒱₀ (c : Thread nD τ) none Set.univ (m := rvM true) (by
      rw [View.set_reshape, View.set_slice_whole]
      refine Finset.Subset.trans ?_ hsub
      intro i hi
      obtain ⟨x, hx, rfl⟩ := Finset.mem_map.mp hi
      exact hx)

/-- The scales of one batch. -/
theorem ldS_step {α : Type} {Q : α → sProp 𝕄} (c s : Dev nD) (b : Fin 2) {off : Fin 3 → ℕ} (hoff : off = ![s.val, b.val, 0])
    {inb : ∀ a, off a + S1x1x128.size a ≤ S8x2x128.size a} {hl} (f : CRs F)
    {k : Vec F S1x1x128 .bf16 → Prog (TpuEff nD τ sig (Elt F) Λ₀ .tc) α} :
    vsPts c s f
      ⊢ iprop((vsPts c s f -∗ wp frame (wpE (defs₀ (F := F)) 𝒱₀ (c : Thread nD τ) none) Set.univ (k (ldS s b f)) Q)
          -∗ wp frame (wpE (defs₀ (F := F)) 𝒱₀ (c : Thread nD τ) none) Set.univ (.op (.load rvsM (Rect.unit (s := S8x2x128) off S1x1x128.size inb).toLoadRect hl) k) Q) := by
  subst hoff
  exact wp_load 𝒱₀ (c : Thread nD τ) none Set.univ (m := rvsM) (by
      rw [View.set_reshape, View.set_slice_whole]
      intro i hi
      obtain ⟨x, hx, rfl⟩ := Finset.mem_map.mp hi
      rw [Rect.mem_set_unit] at hx ⊢
      intro a
      have h := hx a
      have hj := b.isLt
      revert h
      fin_cases a
      · exact fun h => h
      · intro h
        have h1 : b.val ≤ (x 1 : ℕ) ∧ (x 1 : ℕ) < b.val + 1 := h
        show 0 ≤ (x 1 : ℕ) ∧ (x 1 : ℕ) < 0 + 2
        omega
      · exact fun h => h)

/-- All reads of the step `g`. -/
theorem block_step {α : Type} {Q : α → sProp 𝕄} (c : Dev nD) (g : Fin 8) (w : BitVec 32) (hw : w = BitVec.ofNat 32 g.val) (fk fv : CRv F) (fs : CRs F)
    {i47 : ∀ a, k0_off47 c w a + S1x1x128.size a ≤ S8x2x128.size a} {i48 : ∀ a, k0_off48 c w a + S1x1x128x64.size a ≤ S8x2x128x256.size a} {i49 : ∀ a, k0_off49 c w a + S1x1x128x64.size a ≤ S8x2x128x256.size a} {i50 : ∀ a, k0_off50 c w a + S1x1x128x64.size a ≤ S8x2x128x256.size a} {i51 : ∀ a, k0_off51 c w a + S1x1x128x64.size a ≤ S8x2x128x256.size a} {i52 : ∀ a, k0_off52 c w a + S1x1x128.size a ≤ S8x2x128.size a} {i53 : ∀ a, k0_off53 c w a + S1x1x128x64.size a ≤ S8x2x128x256.size a} {i54 : ∀ a, k0_off54 c w a + S1x1x128x64.size a ≤ S8x2x128x256.size a} {i55 : ∀ a, k0_off55 c w a + S1x1x128x64.size a ≤ S8x2x128x256.size a} {i56 : ∀ a, k0_off56 c w a + S1x1x128x64.size a ≤ S8x2x128x256.size a}
    {k : Vec F S1x1x128 .bf16 → Vec F S1x1x128x64 .i8 → Vec F S1x1x128x64 .i8 → Vec F S1x1x128x64 .i8 → Vec F S1x1x128x64 .i8 → Vec F S1x1x128x64 .i8 → Vec F S1x1x128x64 .i8 → Vec F S1x1x128x64 .i8 → Vec F S1x1x128x64 .i8 → Vec F S1x1x128 .bf16 → Vec F S1x1x128x64 .i8 → Vec F S1x1x128x64 .i8 → Vec F S1x1x128x64 .i8 → Vec F S1x1x128x64 .i8 → Vec F S1x1x128x64 .i8 → Vec F S1x1x128x64 .i8 → Vec F S1x1x128x64 .i8 → Vec F S1x1x128x64 .i8 → Prog (TpuEff nD τ sig (Elt F) Λ₀ .tc) α} :
    iprop(kvPts c false (sr c g.val) fk ∗ kvPts c true (sr c g.val) fv ∗ vsPts c (sr c g.val) fs)
      ⊢ iprop(((kvPts c false (sr c g.val) fk ∗ kvPts c true (sr c g.val) fv ∗ vsPts c (sr c g.val) fs)
            -∗ wp frame (wpE (defs₀ (F := F)) 𝒱₀ (c : Thread nD τ) none) Set.univ (k (ldS (sr c g.val) 0 fs) (ldK false (sr c g.val) 0 fk) (ldK true (sr c g.val) 0 fv) (ldK false (sr c g.val) 1 fk) (ldK true (sr c g.val) 1 fv) (ldK false (sr c g.val) 2 fk) (ldK true (sr c g.val) 2 fv) (ldK false (sr c g.val) 3 fk) (ldK true (sr c g.val) 3 fv) (ldS (sr c g.val) 1 fs) (ldK false (sr c g.val) 4 fk) (ldK true (sr c g.val) 4 fv) (ldK false (sr c g.val) 5 fk) (ldK true (sr c g.val) 5 fv) (ldK false (sr c g.val) 6 fk) (ldK true (sr c g.val) 6 fv) (ldK false (sr c g.val) 7 fk) (ldK true (sr c g.val) 7 fv)) Q)
          -∗ wp frame (wpE (defs₀ (F := F)) 𝒱₀ (c : Thread nD τ) none) Set.univ
              (.op (.load rvsM (Rect.unit (s := S8x2x128) (k0_off47 c w) S1x1x128.size i47).toLoadRect (View.loadsAt_vmem h_S1x1x128)) fun v0 =>
              .op (.load (Memref.whole cc0_scratch3) (Rect.unit (s := S8x2x128x256) (k0_off48 c w) S1x1x128x64.size i48).toLoadRect (View.loadsAt_vmem h_S1x1x128x64)) fun v1 =>
              .op (.load (Memref.whole cc0_scratch4) (Rect.unit (s := S8x2x128x256) (k0_off48 c w) S1x1x128x64.size i48).toLoadRect (View.loadsAt_vmem h_S1x1x128x64)) fun v2 =>
              .op (.load (Memref.whole cc0_scratch3) (Rect.unit (s := S8x2x128x256) (k0_off49 c w) S1x1x128x64.size i49).toLoadRect (View.loadsAt_vmem h_S1x1x128x64)) fun v3 =>
              .op (.load (Memref.whole cc0_scratch4) (Rect.unit (s := S8x2x128x256) (k0_off49 c w) S1x1x128x64.size i49).toLoadRect (View.loadsAt_vmem h_S1x1x128x64)) fun v4 =>
              .op (.load (Memref.whole cc0_scratch3) (Rect.unit (s := S8x2x128x256) (k0_off50 c w) S1x1x128x64.size i50).toLoadRect (View.loadsAt_vmem h_S1x1x128x64)) fun v5 =>
              .op (.load (Memref.whole cc0_scratch4) (Rect.unit (s := S8x2x128x256) (k0_off50 c w) S1x1x128x64.size i50).toLoadRect (View.loadsAt_vmem h_S1x1x128x64)) fun v6 =>
              .op (.load (Memref.whole cc0_scratch3) (Rect.unit (s := S8x2x128x256) (k0_off51 c w) S1x1x128x64.size i51).toLoadRect (View.loadsAt_vmem h_S1x1x128x64)) fun v7 =>
              .op (.load (Memref.whole cc0_scratch4) (Rect.unit (s := S8x2x128x256) (k0_off51 c w) S1x1x128x64.size i51).toLoadRect (View.loadsAt_vmem h_S1x1x128x64)) fun v8 =>
              .op (.load rvsM (Rect.unit (s := S8x2x128) (k0_off52 c w) S1x1x128.size i52).toLoadRect (View.loadsAt_vmem h_S1x1x128)) fun v9 =>
              .op (.load (Memref.whole cc0_scratch3) (Rect.unit (s := S8x2x128x256) (k0_off53 c w) S1x1x128x64.size i53).toLoadRect (View.loadsAt_vmem h_S1x1x128x64)) fun v10 =>
              .op (.load (Memref.whole cc0_scratch4) (Rect.unit (s := S8x2x128x256) (k0_off53 c w) S1x1x128x64.size i53).toLoadRect (View.loadsAt_vmem h_S1x1x128x64)) fun v11 =>
              .op (.load (Memref.whole cc0_scratch3) (Rect.unit (s := S8x2x128x256) (k0_off54 c w) S1x1x128x64.size i54).toLoadRect (View.loadsAt_vmem h_S1x1x128x64)) fun v12 =>
              .op (.load (Memref.whole cc0_scratch4) (Rect.unit (s := S8x2x128x256) (k0_off54 c w) S1x1x128x64.size i54).toLoadRect (View.loadsAt_vmem h_S1x1x128x64)) fun v13 =>
              .op (.load (Memref.whole cc0_scratch3) (Rect.unit (s := S8x2x128x256) (k0_off55 c w) S1x1x128x64.size i55).toLoadRect (View.loadsAt_vmem h_S1x1x128x64)) fun v14 =>
              .op (.load (Memref.whole cc0_scratch4) (Rect.unit (s := S8x2x128x256) (k0_off55 c w) S1x1x128x64.size i55).toLoadRect (View.loadsAt_vmem h_S1x1x128x64)) fun v15 =>
              .op (.load (Memref.whole cc0_scratch3) (Rect.unit (s := S8x2x128x256) (k0_off56 c w) S1x1x128x64.size i56).toLoadRect (View.loadsAt_vmem h_S1x1x128x64)) fun v16 =>
              .op (.load (Memref.whole cc0_scratch4) (Rect.unit (s := S8x2x128x256) (k0_off56 c w) S1x1x128x64.size i56).toLoadRect (View.loadsAt_vmem h_S1x1x128x64)) fun v17 => k v0 v1 v2 v3 v4 v5 v6 v7 v8 v9 v10 v11 v12 v13 v14 v15 v16 v17) Q) := by
  subst hw
  iintro ⟨HK, HV, HS⟩ Hk
  iapply (ldS_step c (sr c g.val) 0 (off47_at c g) fs) $$ HS; iintro HS
  iapply (ldK_step false c (sr c g.val) 0 (off48_at c g) fk) $$ HK; iintro HK
  iapply (ldK_step true c (sr c g.val) 0 (off48_at c g) fv) $$ HV; iintro HV
  iapply (ldK_step false c (sr c g.val) 1 (off49_at c g) fk) $$ HK; iintro HK
  iapply (ldK_step true c (sr c g.val) 1 (off49_at c g) fv) $$ HV; iintro HV
  iapply (ldK_step false c (sr c g.val) 2 (off50_at c g) fk) $$ HK; iintro HK
  iapply (ldK_step true c (sr c g.val) 2 (off50_at c g) fv) $$ HV; iintro HV
  iapply (ldK_step false c (sr c g.val) 3 (off51_at c g) fk) $$ HK; iintro HK
  iapply (ldK_step true c (sr c g.val) 3 (off51_at c g) fv) $$ HV; iintro HV
  iapply (ldS_step c (sr c g.val) 1 (off52_at c g) fs) $$ HS; iintro HS
  iapply (ldK_step false c (sr c g.val) 4 (off53_at c g) fk) $$ HK; iintro HK
  iapply (ldK_step true c (sr c g.val) 4 (off53_at c g) fv) $$ HV; iintro HV
  iapply (ldK_step false c (sr c g.val) 5 (off54_at c g) fk) $$ HK; iintro HK
  iapply (ldK_step true c (sr c g.val) 5 (off54_at c g) fv) $$ HV; iintro HV
  iapply (ldK_step false c (sr c g.val) 6 (off55_at c g) fk) $$ HK; iintro HK
  iapply (ldK_step true c (sr c g.val) 6 (off55_at c g) fv) $$ HV; iintro HV
  iapply (ldK_step false c (sr c g.val) 7 (off56_at c g) fk) $$ HK; iintro HK
  iapply (ldK_step true c (sr c g.val) 7 (off56_at c g) fv) $$ HV; iintro HV
  iapply Hk
  isplitl [HK]; · iexact HK
  isplitl [HV]; · iexact HV
  iexact HS

end Cert.KProof
-- ==== Proof.Own.lean ====
/-
The copies that a device makes of its own blocks.
-/
module

public import proofs.«01_k».proof.Proof.Reads

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-- The device's own keys or values. -/
theorem copyKV_step {α : Type} {Q : α → sProp 𝕄} (b : Bool) (c : Dev nD)
    {off : Fin 4 → ℕ} (hoff : off = ![c.val, 0, 0, 0]) {inb : ∀ a, off a + S1x2x128x256.size a ≤ S8x2x128x256.size a}
    {off' : Fin 3 → ℕ} (hoff' : off' = ![0, 0, 256 * c.val]) {inb' : ∀ a, off' a + S2x128x256.size a ≤ S2x128x2048.size a} {sR : DmaSem sig} (hR : sR = locS (fam b))
    {hsrc hdst} {hsem : DmaTarget.Typed (nD := nD) .vmem (.dma sR) (.here (p := (c : Thread nD τ).2) (((rvM b).slice (Rect.unit (s := S8x2x128x256) off S1x2x128x256.size inb) (fun _ => rfl)).squeeze S2x128x256 squeezes_S1x2x128x256_S2x128x256))}
    {k : PUnit → Prog (TpuEff nD τ sig (Elt F) Λ₀ .tc) α} :
    iprop(ctx m ρ K ∗ locT (F := F) c (fam b) ∗ slotP c (fam b) c ∗ srcP m ρ c (fam b) c)
      ⊢ iprop((locD (F := F) c (fam b) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma ((skM b).slice (Rect.unit (s := S2x128x2048) off' S2x128x256.size inb') (fun _ => rfl)) (.here (((rvM b).slice (Rect.unit (s := S8x2x128x256) off S1x2x128x256.size inb) (fun _ => rfl)).squeeze S2x128x256 squeezes_S1x2x128x256_S2x128x256)) (.dma sR) hsrc hdst hsem) k) Q) := by
  subst hoff hoff'
  have hne : ¬(half c = true ∧ c ≠ c) := fun h => h.2 rfl
  rw [srcP_full m ρ b c c hne, slotP_kv]
  iintro ⟨#Hc, Ht, ⟨%fd, Hd⟩, Hs⟩ Hk
  iapply (locCopy_step m ρ K c (fam b) (src := slabF b c) (tgt := slotF b c) hR (fs := SKb m ρ b c) (q := fullShare) (fd := fd) (by rw [amt_fam]; exact NF_eq b c)
    (by
      rw [lndP_kv, srcP_full m ρ b c c hne]
      iintro ⟨H, Hs⟩
      isplitl [H]
      · iexists _
        isplitl [H]; · iexact H
        ipureintro
        exact land_full m ρ b c c hne fd
      · iexact Hs)) $$ [Ht Hd Hs]
  · isplitr; · iexact Hc
    isplitl [Hs]; · iexact Hs
    isplitl [Hd]; · iexact Hd
    iexact Ht
  iintro H
  iapply Hk
  iexact H

/-- The device's own scales. -/
theorem copyS_step {α : Type} {Q : α → sProp 𝕄} (c : Dev nD)
    {off : Fin 3 → ℕ} (hoff : off = ![c.val, 0, 0]) {inb : ∀ a, off a + S1x2x128.size a ≤ S8x2x128.size a} {sR : DmaSem sig} (hR : sR = locS 2)
    {hsrc hdst} {hsem : DmaTarget.Typed (nD := nD) .vmem (.dma sR) (.here (p := (c : Thread nD τ).2) ((rvsM.slice (Rect.unit (s := S8x2x128) off S1x2x128.size inb) (fun _ => rfl)).squeeze S2x128 squeezes_S1x2x128_S2x128))}
    {k : PUnit → Prog (TpuEff nD τ sig (Elt F) Λ₀ .tc) α} :
    iprop(ctx m ρ K ∗ locT (F := F) c 2 ∗ slotP c 2 c ∗ srcP m ρ c 2 c)
      ⊢ iprop((locD (F := F) c 2 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma svsM (.here ((rvsM.slice (Rect.unit (s := S8x2x128) off S1x2x128.size inb) (fun _ => rfl)).squeeze S2x128 squeezes_S1x2x128_S2x128)) (.dma sR) hsrc hdst hsem) k) Q) := by
  subst hoff
  unfold slotP srcP
  dsimp only
  iintro ⟨#Hc, Ht, ⟨%fd, Hd⟩, Hs⟩ Hk
  iapply (locCopy_step m ρ K c 2 (src := svsM) (tgt := slotS c) hR (fs := SVS m ρ c) (q := lf c) (fd := fd) rfl
    (by
      unfold lndP srcP
      iintro ⟨H, Hs⟩
      isplitl [H]
      · iexists _
        isplitl [H]; · iexact H
        ipureintro
        exact View.read_write_univ _ _
      · iexact Hs)) $$ [Ht Hd Hs]
  · isplitr; · iexact Hc
    isplitl [Hs]; · iexact Hs
    isplitl [Hd]; · iexact Hd
    iexact Ht
  iintro H
  iapply Hk
  iexact H

/-- The device's own rows of its partial product. -/
theorem copyR_step {α : Type} {Q : α → sProp 𝕄} (c : Dev nD)
    {off : Fin 3 → ℕ} (hoff : off = ![c.val, 0, 0]) {inb : ∀ a, off a + S1x32x512.size a ≤ S8x32x512.size a}
    {off' : Fin 2 → ℕ} (hoff' : off' = ![32 * c.val, 0]) {inb' : ∀ a, off' a + S32x512.size a ≤ S256x512.size a} {sR : DmaSem sig} (hR : sR = locS 3)
    {hsrc hdst} {hsem : DmaTarget.Typed (nD := nD) .vmem (.dma sR) (.here (p := (c : Thread nD τ).2) ((rsM.slice (Rect.unit (s := S8x32x512) off S1x32x512.size inb) (fun _ => rfl)).squeeze S32x512 squeezes_S1x32x512_S32x512))}
    {k : PUnit → Prog (TpuEff nD τ sig (Elt F) Λ₀ .tc) α} :
    iprop(ctx m ρ K ∗ locT (F := F) c 3 ∗ slotP c 3 c ∗ srcP m ρ c 3 c)
      ⊢ iprop((locD (F := F) c 3 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (arM.slice (Rect.unit (s := S256x512) off' S32x512.size inb') (fun _ => rfl)) (.here ((rsM.slice (Rect.unit (s := S8x32x512) off S1x32x512.size inb) (fun _ => rfl)).squeeze S32x512 squeezes_S1x32x512_S32x512)) (.dma sR) hsrc hdst hsem) k) Q) := by
  subst hoff hoff'
  unfold slotP srcP
  dsimp only
  iintro ⟨#Hc, Ht, ⟨%fd, Hd⟩, ⟨%w, Hs, %hw⟩⟩ Hk
  iapply (locCopy_step m ρ K c 3 (src := slabR c) (tgt := slotR false c) hR (fs := w) (q := fullShare) (fd := fd) rfl
    (by
      unfold lndP srcP
      iintro ⟨H, Hs⟩
      isplitl [H]
      · iexists _
        isplitl [H]; · iexact H
        ipureintro
        exact ⟨w, hw, View.read_write_univ _ _⟩
      · iexists _
        isplitl [Hs]; · iexact Hs
        ipureintro; exact hw)) $$ [Ht Hd Hs]
  · isplitr; · iexact Hc
    isplitl [Hs]; · iexact Hs
    isplitl [Hd]; · iexact Hd
    iexact Ht
  iintro H
  iapply Hk
  iexact H

/-- The device's own reduced rows. -/
theorem copyG_step {α : Type} {Q : α → sProp 𝕄} (c : Dev nD)
    {off : Fin 3 → ℕ} (hoff : off = ![c.val, 0, 0]) {inb : ∀ a, off a + S1x32x512.size a ≤ S8x32x512.size a} {sR : DmaSem sig} (hR : sR = locS 4)
    {hsrc hdst} {hsem : DmaTarget.Typed (nD := nD) .vmem (.dma sR) (.here (p := (c : Thread nD τ).2) ((agM.slice (Rect.unit (s := S8x32x512) off S1x32x512.size inb) (fun _ => rfl)).squeeze S32x512 squeezes_S1x32x512_S32x512))}
    {k : PUnit → Prog (TpuEff nD τ sig (Elt F) Λ₀ .tc) α} :
    iprop(ctx m ρ K ∗ locT (F := F) c 4 ∗ slotP c 4 c ∗ srcP m ρ c 4 c)
      ⊢ iprop((locD (F := F) c 4 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma redM (.here ((agM.slice (Rect.unit (s := S8x32x512) off S1x32x512.size inb) (fun _ => rfl)).squeeze S32x512 squeezes_S1x32x512_S32x512)) (.dma sR) hsrc hdst hsem) k) Q) := by
  subst hoff
  unfold slotP srcP
  dsimp only
  iintro ⟨#Hc, Ht, ⟨%fd, Hd⟩, ⟨%w, Hs, %hw⟩⟩ Hk
  iapply (locCopy_step m ρ K c 4 (src := redM) (tgt := slotR true c) hR (fs := w) (q := lf c) (fd := fd) rfl
    (by
      unfold lndP srcP
      iintro ⟨H, Hs⟩
      isplitl [H]
      · iexists _
        isplitl [H]; · iexact H
        ipureintro
        exact ⟨w, hw, (View.read_write_univ _ _).trans (View.read_whole _ _)⟩
      · iexists _
        isplitl [Hs]; · iexact Hs
        ipureintro; exact hw)) $$ [Ht Hd Hs]
  · isplitr; · iexact Hc
    isplitl [Hs]; · iexact Hs
    isplitl [Hd]; · iexact Hd
    iexact Ht
  iintro H
  iapply Hk
  iexact H

end Cert.KProof
-- ==== Proof.Bufs.lean ====
/-
The buffers in pieces: slots, slabs and shares, and how they come together again; the cells by family.
-/
module

public import proofs.«01_k».proof.Proof.Own

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## Enumerations -/

omit [FloatOps F] in
theorem fin5_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem univ_dst (c : Dev nD) : Finset.univ.erase c = Finset.univ.image (dst c) := by revert c; decide +kernel
theorem dst_inj (c : Dev nD) : Function.Injective (dst c) := by revert c; decide +kernel
theorem univ_sr (c : Dev nD) : Finset.univ.erase c = Finset.univ.image (fun o : Fin 7 => sr c (o.val + 1)) := by revert c; decide +kernel
theorem sr_inj (c : Dev nD) : Function.Injective (fun o : Fin 7 => sr c (o.val + 1)) := by revert c; decide +kernel
theorem univ_sr8 (c : Dev nD) : Finset.univ = Finset.univ.image (fun g : Fin 8 => sr c g.val) := by revert c; decide +kernel
theorem sr8_inj (c : Dev nD) : Function.Injective (fun g : Fin 8 => sr c g.val) := by revert c; decide +kernel
theorem sr_zero (c : Dev nD) : sr c 0 = c := by revert c; decide +kernel

omit [FloatOps F] in
/-- A device's own and the seven others, by the distance of what it sends, -/
theorem others_dst (c : Dev nD) (Φ : Dev nD → sProp 𝕄) : bigSep (Finset.univ.erase c) Φ = bigSep Finset.univ fun o : Fin 7 => Φ (dst c o) := by
  rw [univ_dst, bigSep_image_of_injOn (dst_inj c).injOn]
omit [FloatOps F] in
theorem all_dst (c : Dev nD) (Φ : Dev nD → sProp 𝕄) : bigSep Finset.univ Φ = iprop(Φ c ∗ bigSep Finset.univ fun o : Fin 7 => Φ (dst c o)) := by
  rw [bigSep_univ_at Φ c, others_dst]
omit [FloatOps F] in
/-- by the distance of what it receives, -/
theorem all_sr (c : Dev nD) (Φ : Dev nD → sProp 𝕄) : bigSep Finset.univ Φ = iprop(Φ c ∗ bigSep Finset.univ fun o : Fin 7 => Φ (sr c (o.val + 1))) := by
  rw [bigSep_univ_at Φ c, univ_sr, bigSep_image_of_injOn (sr_inj c).injOn]
omit [FloatOps F] in
/-- and in the order in which it reads them. -/
theorem all_sr8 (c : Dev nD) (Φ : Dev nD → sProp 𝕄) : bigSep Finset.univ Φ = bigSep Finset.univ fun g : Fin 8 => Φ (sr c g.val) := by
  exact (congrArg (fun S => bigSep S Φ) (univ_sr8 c)).trans (bigSep_image_of_injOn (sr8_inj c).injOn Φ)

omit [FloatOps F] in
/-- A family of assertions is weakened member by member. -/
theorem sep_mono {I : Type} [DecidableEq I] {s : Finset I} {Φ Ψ : I → sProp 𝕄} (h : ∀ i ∈ s, Φ i ⊢ Ψ i) : bigSep s Φ ⊢ bigSep s Ψ := bigSep_mono h

omit [FloatOps F] in
/-- One member of a family. -/
theorem sep_elim {I : Type} [DecidableEq I] {s : Finset I} (Φ : I → sProp 𝕄) {i : I} (h : i ∈ s) : bigSep s Φ ⊢ Φ i := bigSep_elim h

/-- The cells by family. -/
def cellIx : Unit ⊕ (Fin 5 × Fin 7) ⊕ (Fin 5 × Dev nD) ⊕ Fin 5 → Fin 81
  | .inl _ => 0
  | .inr (.inl p) => ixS p.1 p.2
  | .inr (.inr (.inl p)) => ixR p.1 p.2
  | .inr (.inr (.inr f)) => ixL f
theorem cellIx_bij : Function.Bijective cellIx := by
  constructor
  · decide +kernel
  · decide +kernel
def cellEq : Unit ⊕ (Fin 5 × Fin 7) ⊕ (Fin 5 × Dev nD) ⊕ Fin 5 ≃ Fin 81 := Equiv.ofBijective cellIx cellIx_bij
omit [FloatOps F] in
theorem cells_eq (Φ : Fin 81 → sProp 𝕄) :
    bigSep Finset.univ Φ = iprop(Φ 0 ∗ (bigSep Finset.univ fun f : Fin 5 => bigSep Finset.univ fun o : Fin 7 => Φ (ixS f o))
      ∗ (bigSep Finset.univ fun f : Fin 5 => bigSep Finset.univ fun s : Dev nD => Φ (ixR f s)) ∗ bigSep Finset.univ fun f : Fin 5 => Φ (ixL f)) := by
  rw [bigSep_univ_equiv cellEq Φ, bigSep_univ_sum, bigSep_univ_sum, bigSep_univ_sum, bigSep_univ_prod, bigSep_univ_prod,
    bigSep_univ_of_subsingleton ()]
  rfl

/-! ## Joining -/

omit [FloatOps F] in
/-- Pieces at contents of their own come together at contents that agree with each. -/
theorem join_all {ℓ : Loc nD τ sig} (I : Dev nD → Finset (Idx ℓ)) (hd : ∀ b b', b ≠ b' → Disjoint (I b) (I b'))
    (hc : Finset.univ.biUnion I = Finset.univ) (P : Dev nD → Buf (Elt F) ℓ → Prop) :
    bigSep Finset.univ (fun s => iprop(∃ g, (ℓ ↦[I s]{fullShare} g) ∗ ⌜P s g⌝))
      ⊢ (iprop(∃ G, (ℓ ↦{fullShare} G) ∗ ⌜∀ s, ∃ g, P s g ∧ ∀ i ∈ I s, G i = g i⌝) : sProp 𝕄) := by
  by_cases hne : Nonempty (Buf (Elt F) ℓ)
  · refine (bigSep_exists_pi Finset.univ (fun s (g : Buf (Elt F) ℓ) => iprop((ℓ ↦[I s]{fullShare} g) ∗ ⌜P s g⌝))).trans ?_
    iintro ⟨%fs, H⟩
    ihave ⟨H, HP⟩ := (Entails.of_eq (bigSep_sep' Finset.univ (fun s => (ℓ ↦[I s]{fullShare} fs s : sProp 𝕄)) (fun s => iprop(⌜P s (fs s)⌝)))) $$ H
    ihave %hP := (show bigSep Finset.univ (fun s => (iprop(⌜P s (fs s)⌝) : sProp 𝕄)) ⊢ ⌜∀ s, P s (fs s)⌝ from by
      iintro H %s
      ihave H := (sep_elim (fun s => (iprop(⌜P s (fs s)⌝) : sProp 𝕄)) (Finset.mem_univ s)) $$ H
      iexact H) $$ HP
    ihave ⟨%G, %hG, H⟩ := (pointsTo_biUnion_join Finset.univ I fs (Classical.choice hne) (fun b _ b' _ h => hd b b' h)) $$ H
    iexists G
    isplitl [H]
    · iapply (Entails.of_eq (congrArg (fun S => (ℓ ↦[S]{fullShare} G : sProp 𝕄)) hc)); iexact H
    ipureintro
    exact fun s => ⟨fs s, hP s, fun i hi => hG s (Finset.mem_univ s) i hi⟩
  · iintro H
    ihave ⟨%g, -⟩ := (sep_elim (fun s => (iprop(∃ g, (ℓ ↦[I s]{fullShare} g) ∗ ⌜P s g⌝) : sProp 𝕄)) (Finset.mem_univ (0 : Dev nD))) $$ H
    exact absurd ⟨g⟩ hne

theorem disF (s s' : Dev nD) (h : s ≠ s') : Disjoint (Rect.unit (s := S8x2x128x256) ![s.val, 0, 0, 0] S1x2x128x256.size (inb_slotF s)).set (Rect.unit (s := S8x2x128x256) ![s'.val, 0, 0, 0] S1x2x128x256.size (inb_slotF s')).set :=
  Ring.lead_disjoint (s := S8x2x128x256) (0 : Fin 4) 1 (fun s : Fin 8 => (![s.val, 0, 0, 0] : Fin 4 → ℕ)) S1x2x128x256.size inb_slotF (fun j => by simp) rfl s s' h
theorem covF : Finset.univ.biUnion (fun s : Dev nD => (Rect.unit (s := S8x2x128x256) ![s.val, 0, 0, 0] S1x2x128x256.size (inb_slotF s)).set) = Finset.univ :=
  Ring.lead_cover (s := S8x2x128x256) (0 : Fin 4) 1 (fun s : Fin 8 => (![s.val, 0, 0, 0] : Fin 4 → ℕ)) S1x2x128x256.size inb_slotF (fun j => by simp)
    (fun b a h => by fin_cases a <;> first | rfl | exact absurd rfl h) rfl (fun a h => by fin_cases a <;> first | rfl | exact absurd rfl h) rfl

theorem disS (s s' : Dev nD) (h : s ≠ s') : Disjoint (Rect.unit (s := S8x2x128) ![s.val, 0, 0] S1x2x128.size (inb_slotS s)).set (Rect.unit (s := S8x2x128) ![s'.val, 0, 0] S1x2x128.size (inb_slotS s')).set :=
  Ring.lead_disjoint (s := S8x2x128) (0 : Fin 3) 1 (fun s : Fin 8 => (![s.val, 0, 0] : Fin 3 → ℕ)) S1x2x128.size inb_slotS (fun j => by simp) rfl s s' h
theorem covS : Finset.univ.biUnion (fun s : Dev nD => (Rect.unit (s := S8x2x128) ![s.val, 0, 0] S1x2x128.size (inb_slotS s)).set) = Finset.univ :=
  Ring.lead_cover (s := S8x2x128) (0 : Fin 3) 1 (fun s : Fin 8 => (![s.val, 0, 0] : Fin 3 → ℕ)) S1x2x128.size inb_slotS (fun j => by simp)
    (fun b a h => by fin_cases a <;> first | rfl | exact absurd rfl h) rfl (fun a h => by fin_cases a <;> first | rfl | exact absurd rfl h) rfl

theorem disR (s s' : Dev nD) (h : s ≠ s') : Disjoint (Rect.unit (s := S8x32x512) ![s.val, 0, 0] S1x32x512.size (inb_slotR s)).set (Rect.unit (s := S8x32x512) ![s'.val, 0, 0] S1x32x512.size (inb_slotR s')).set :=
  Ring.lead_disjoint (s := S8x32x512) (0 : Fin 3) 1 (fun s : Fin 8 => (![s.val, 0, 0] : Fin 3 → ℕ)) S1x32x512.size inb_slotR (fun j => by simp) rfl s s' h
theorem covR : Finset.univ.biUnion (fun s : Dev nD => (Rect.unit (s := S8x32x512) ![s.val, 0, 0] S1x32x512.size (inb_slotR s)).set) = Finset.univ :=
  Ring.lead_cover (s := S8x32x512) (0 : Fin 3) 1 (fun s : Fin 8 => (![s.val, 0, 0] : Fin 3 → ℕ)) S1x32x512.size inb_slotR (fun j => by simp)
    (fun b a h => by fin_cases a <;> first | rfl | exact absurd rfl h) rfl (fun a h => by fin_cases a <;> first | rfl | exact absurd rfl h) rfl

/-! ## The receiving buffers -/

/-- The buffer of family `f`, whatever it holds. -/
def bufP (c : Dev nD) (f : Fin 5) : sProp 𝕄 := match f with
  | 0 => iprop(∃ g : CRv F, (rvM false).view.loc (c : Thread nD τ) ↦{fullShare} g)
  | 1 => iprop(∃ g : CRv F, (rvM true).view.loc (c : Thread nD τ) ↦{fullShare} g)
  | 2 => iprop(∃ g : CRs F, rvsM.view.loc (c : Thread nD τ) ↦{fullShare} g)
  | 3 => iprop(∃ g : CSl F, rsM.view.loc (c : Thread nD τ) ↦{fullShare} g)
  | 4 => iprop(∃ g : CSl F, agM.view.loc (c : Thread nD τ) ↦{fullShare} g)

abbrev I_0 (s : Dev nD) : Finset S8x2x128x256.Idx := (slotF false s).view.set
theorem set_0 (s : Dev nD) : I_0 s = (Rect.unit (s := S8x2x128x256) ![s.val, 0, 0, 0] S1x2x128x256.size (inb_slotF s)).set := by
  unfold I_0; rw [View.set_reshape, View.set_slice_whole]
theorem dis_0 (s s' : Dev nD) (h : s ≠ s') : Disjoint (I_0 s) (I_0 s') := by
  rw [set_0, set_0]; exact disF s s' h
theorem cov_0 : Finset.univ.biUnion I_0 = Finset.univ :=
  (congrArg (fun I => Finset.univ.biUnion I) (funext set_0)).trans covF
omit [FloatOps F] in
theorem slot_0 (c s : Dev nD) : slotP (F := F) c 0 s = iprop(∃ g : CRv F, (rvM false).view.loc (c : Thread nD τ) ↦[I_0 s]{fullShare} g) := rfl
omit [FloatOps F] in
theorem bufP_0 (c : Dev nD) : bufP (F := F) c 0 = iprop(∃ g : CRv F, (rvM false).view.loc (c : Thread nD τ) ↦{fullShare} g) := rfl
omit [FloatOps F] in
theorem buf_split_0 (c : Dev nD) : bufP (F := F) c 0 ⊢ bigSep Finset.univ fun s => slotP (F := F) c 0 s := by
  rw [bufP_0]; simp only [slot_0]
  iintro ⟨%g, H⟩
  ihave H := (Entails.of_eq (Ring.pointsTo_blocks (ℓ := (rvM false).view.loc (c : Thread nD τ)) I_0 dis_0 cov_0 g)) $$ H
  have hm : ∀ s ∈ (Finset.univ : Finset (Dev nD)), ((rvM false).view.loc (c : Thread nD τ) ↦[I_0 s]{fullShare} g : sProp 𝕄)
      ⊢ iprop(∃ g : CRv F, (rvM false).view.loc (c : Thread nD τ) ↦[I_0 s]{fullShare} g) := fun s _ => by iintro H; iexists g; iexact H
  iapply (sep_mono hm); iexact H
omit [FloatOps F] in
theorem buf_join_0 (c : Dev nD) : (bigSep Finset.univ fun s => slotP (F := F) c 0 s) ⊢ bufP (F := F) c 0 := by
  rw [bufP_0]; simp only [slot_0]
  have hm : ∀ s ∈ (Finset.univ : Finset (Dev nD)), (iprop(∃ g : CRv F, (rvM false).view.loc (c : Thread nD τ) ↦[I_0 s]{fullShare} g) : sProp 𝕄)
      ⊢ iprop(∃ g : CRv F, ((rvM false).view.loc (c : Thread nD τ) ↦[I_0 s]{fullShare} g) ∗ ⌜True⌝) := fun s _ => by
    iintro ⟨%g, H⟩
    iexists g
    isplitl [H]; · iexact H
    ipureintro; trivial
  iintro H
  ihave H := (sep_mono hm) $$ H
  ihave ⟨%G, H, -⟩ := (join_all (F := F) (ℓ := (rvM false).view.loc (c : Thread nD τ)) I_0 dis_0 cov_0 (fun _ _ => True)) $$ H
  iexists G; iexact H

abbrev I_1 (s : Dev nD) : Finset S8x2x128x256.Idx := (slotF true s).view.set
theorem set_1 (s : Dev nD) : I_1 s = (Rect.unit (s := S8x2x128x256) ![s.val, 0, 0, 0] S1x2x128x256.size (inb_slotF s)).set := by
  unfold I_1; rw [View.set_reshape, View.set_slice_whole]
theorem dis_1 (s s' : Dev nD) (h : s ≠ s') : Disjoint (I_1 s) (I_1 s') := by
  rw [set_1, set_1]; exact disF s s' h
theorem cov_1 : Finset.univ.biUnion I_1 = Finset.univ :=
  (congrArg (fun I => Finset.univ.biUnion I) (funext set_1)).trans covF
omit [FloatOps F] in
theorem slot_1 (c s : Dev nD) : slotP (F := F) c 1 s = iprop(∃ g : CRv F, (rvM true).view.loc (c : Thread nD τ) ↦[I_1 s]{fullShare} g) := rfl
omit [FloatOps F] in
theorem bufP_1 (c : Dev nD) : bufP (F := F) c 1 = iprop(∃ g : CRv F, (rvM true).view.loc (c : Thread nD τ) ↦{fullShare} g) := rfl
omit [FloatOps F] in
theorem buf_split_1 (c : Dev nD) : bufP (F := F) c 1 ⊢ bigSep Finset.univ fun s => slotP (F := F) c 1 s := by
  rw [bufP_1]; simp only [slot_1]
  iintro ⟨%g, H⟩
  ihave H := (Entails.of_eq (Ring.pointsTo_blocks (ℓ := (rvM true).view.loc (c : Thread nD τ)) I_1 dis_1 cov_1 g)) $$ H
  have hm : ∀ s ∈ (Finset.univ : Finset (Dev nD)), ((rvM true).view.loc (c : Thread nD τ) ↦[I_1 s]{fullShare} g : sProp 𝕄)
      ⊢ iprop(∃ g : CRv F, (rvM true).view.loc (c : Thread nD τ) ↦[I_1 s]{fullShare} g) := fun s _ => by iintro H; iexists g; iexact H
  iapply (sep_mono hm); iexact H
omit [FloatOps F] in
theorem buf_join_1 (c : Dev nD) : (bigSep Finset.univ fun s => slotP (F := F) c 1 s) ⊢ bufP (F := F) c 1 := by
  rw [bufP_1]; simp only [slot_1]
  have hm : ∀ s ∈ (Finset.univ : Finset (Dev nD)), (iprop(∃ g : CRv F, (rvM true).view.loc (c : Thread nD τ) ↦[I_1 s]{fullShare} g) : sProp 𝕄)
      ⊢ iprop(∃ g : CRv F, ((rvM true).view.loc (c : Thread nD τ) ↦[I_1 s]{fullShare} g) ∗ ⌜True⌝) := fun s _ => by
    iintro ⟨%g, H⟩
    iexists g
    isplitl [H]; · iexact H
    ipureintro; trivial
  iintro H
  ihave H := (sep_mono hm) $$ H
  ihave ⟨%G, H, -⟩ := (join_all (F := F) (ℓ := (rvM true).view.loc (c : Thread nD τ)) I_1 dis_1 cov_1 (fun _ _ => True)) $$ H
  iexists G; iexact H

abbrev I_2 (s : Dev nD) : Finset S8x2x128.Idx := (slotS s).view.set
theorem set_2 (s : Dev nD) : I_2 s = (Rect.unit (s := S8x2x128) ![s.val, 0, 0] S1x2x128.size (inb_slotS s)).set := by
  unfold I_2; rw [View.set_reshape, View.set_slice_whole]
theorem dis_2 (s s' : Dev nD) (h : s ≠ s') : Disjoint (I_2 s) (I_2 s') := by
  rw [set_2, set_2]; exact disS s s' h
theorem cov_2 : Finset.univ.biUnion I_2 = Finset.univ :=
  (congrArg (fun I => Finset.univ.biUnion I) (funext set_2)).trans covS
omit [FloatOps F] in
theorem slot_2 (c s : Dev nD) : slotP (F := F) c 2 s = iprop(∃ g : CRs F, rvsM.view.loc (c : Thread nD τ) ↦[I_2 s]{fullShare} g) := rfl
omit [FloatOps F] in
theorem bufP_2 (c : Dev nD) : bufP (F := F) c 2 = iprop(∃ g : CRs F, rvsM.view.loc (c : Thread nD τ) ↦{fullShare} g) := rfl
omit [FloatOps F] in
theorem buf_split_2 (c : Dev nD) : bufP (F := F) c 2 ⊢ bigSep Finset.univ fun s => slotP (F := F) c 2 s := by
  rw [bufP_2]; simp only [slot_2]
  iintro ⟨%g, H⟩
  ihave H := (Entails.of_eq (Ring.pointsTo_blocks (ℓ := rvsM.view.loc (c : Thread nD τ)) I_2 dis_2 cov_2 g)) $$ H
  have hm : ∀ s ∈ (Finset.univ : Finset (Dev nD)), (rvsM.view.loc (c : Thread nD τ) ↦[I_2 s]{fullShare} g : sProp 𝕄)
      ⊢ iprop(∃ g : CRs F, rvsM.view.loc (c : Thread nD τ) ↦[I_2 s]{fullShare} g) := fun s _ => by iintro H; iexists g; iexact H
  iapply (sep_mono hm); iexact H
omit [FloatOps F] in
theorem buf_join_2 (c : Dev nD) : (bigSep Finset.univ fun s => slotP (F := F) c 2 s) ⊢ bufP (F := F) c 2 := by
  rw [bufP_2]; simp only [slot_2]
  have hm : ∀ s ∈ (Finset.univ : Finset (Dev nD)), (iprop(∃ g : CRs F, rvsM.view.loc (c : Thread nD τ) ↦[I_2 s]{fullShare} g) : sProp 𝕄)
      ⊢ iprop(∃ g : CRs F, (rvsM.view.loc (c : Thread nD τ) ↦[I_2 s]{fullShare} g) ∗ ⌜True⌝) := fun s _ => by
    iintro ⟨%g, H⟩
    iexists g
    isplitl [H]; · iexact H
    ipureintro; trivial
  iintro H
  ihave H := (sep_mono hm) $$ H
  ihave ⟨%G, H, -⟩ := (join_all (F := F) (ℓ := rvsM.view.loc (c : Thread nD τ)) I_2 dis_2 cov_2 (fun _ _ => True)) $$ H
  iexists G; iexact H

abbrev I_3 (s : Dev nD) : Finset S8x32x512.Idx := (slotR false s).view.set
theorem set_3 (s : Dev nD) : I_3 s = (Rect.unit (s := S8x32x512) ![s.val, 0, 0] S1x32x512.size (inb_slotR s)).set := by
  unfold I_3; rw [View.set_reshape, View.set_slice_whole]
theorem dis_3 (s s' : Dev nD) (h : s ≠ s') : Disjoint (I_3 s) (I_3 s') := by
  rw [set_3, set_3]; exact disR s s' h
theorem cov_3 : Finset.univ.biUnion I_3 = Finset.univ :=
  (congrArg (fun I => Finset.univ.biUnion I) (funext set_3)).trans covR
omit [FloatOps F] in
theorem slot_3 (c s : Dev nD) : slotP (F := F) c 3 s = iprop(∃ g : CSl F, rsM.view.loc (c : Thread nD τ) ↦[I_3 s]{fullShare} g) := rfl
omit [FloatOps F] in
theorem bufP_3 (c : Dev nD) : bufP (F := F) c 3 = iprop(∃ g : CSl F, rsM.view.loc (c : Thread nD τ) ↦{fullShare} g) := rfl
omit [FloatOps F] in
theorem buf_split_3 (c : Dev nD) : bufP (F := F) c 3 ⊢ bigSep Finset.univ fun s => slotP (F := F) c 3 s := by
  rw [bufP_3]; simp only [slot_3]
  iintro ⟨%g, H⟩
  ihave H := (Entails.of_eq (Ring.pointsTo_blocks (ℓ := rsM.view.loc (c : Thread nD τ)) I_3 dis_3 cov_3 g)) $$ H
  have hm : ∀ s ∈ (Finset.univ : Finset (Dev nD)), (rsM.view.loc (c : Thread nD τ) ↦[I_3 s]{fullShare} g : sProp 𝕄)
      ⊢ iprop(∃ g : CSl F, rsM.view.loc (c : Thread nD τ) ↦[I_3 s]{fullShare} g) := fun s _ => by iintro H; iexists g; iexact H
  iapply (sep_mono hm); iexact H
omit [FloatOps F] in
theorem buf_join_3 (c : Dev nD) : (bigSep Finset.univ fun s => slotP (F := F) c 3 s) ⊢ bufP (F := F) c 3 := by
  rw [bufP_3]; simp only [slot_3]
  have hm : ∀ s ∈ (Finset.univ : Finset (Dev nD)), (iprop(∃ g : CSl F, rsM.view.loc (c : Thread nD τ) ↦[I_3 s]{fullShare} g) : sProp 𝕄)
      ⊢ iprop(∃ g : CSl F, (rsM.view.loc (c : Thread nD τ) ↦[I_3 s]{fullShare} g) ∗ ⌜True⌝) := fun s _ => by
    iintro ⟨%g, H⟩
    iexists g
    isplitl [H]; · iexact H
    ipureintro; trivial
  iintro H
  ihave H := (sep_mono hm) $$ H
  ihave ⟨%G, H, -⟩ := (join_all (F := F) (ℓ := rsM.view.loc (c : Thread nD τ)) I_3 dis_3 cov_3 (fun _ _ => True)) $$ H
  iexists G; iexact H

abbrev I_4 (s : Dev nD) : Finset S8x32x512.Idx := (slotR true s).view.set
theorem set_4 (s : Dev nD) : I_4 s = (Rect.unit (s := S8x32x512) ![s.val, 0, 0] S1x32x512.size (inb_slotR s)).set := by
  unfold I_4; rw [View.set_reshape, View.set_slice_whole]
theorem dis_4 (s s' : Dev nD) (h : s ≠ s') : Disjoint (I_4 s) (I_4 s') := by
  rw [set_4, set_4]; exact disR s s' h
theorem cov_4 : Finset.univ.biUnion I_4 = Finset.univ :=
  (congrArg (fun I => Finset.univ.biUnion I) (funext set_4)).trans covR
omit [FloatOps F] in
theorem slot_4 (c s : Dev nD) : slotP (F := F) c 4 s = iprop(∃ g : CSl F, agM.view.loc (c : Thread nD τ) ↦[I_4 s]{fullShare} g) := rfl
omit [FloatOps F] in
theorem bufP_4 (c : Dev nD) : bufP (F := F) c 4 = iprop(∃ g : CSl F, agM.view.loc (c : Thread nD τ) ↦{fullShare} g) := rfl
omit [FloatOps F] in
theorem buf_split_4 (c : Dev nD) : bufP (F := F) c 4 ⊢ bigSep Finset.univ fun s => slotP (F := F) c 4 s := by
  rw [bufP_4]; simp only [slot_4]
  iintro ⟨%g, H⟩
  ihave H := (Entails.of_eq (Ring.pointsTo_blocks (ℓ := agM.view.loc (c : Thread nD τ)) I_4 dis_4 cov_4 g)) $$ H
  have hm : ∀ s ∈ (Finset.univ : Finset (Dev nD)), (agM.view.loc (c : Thread nD τ) ↦[I_4 s]{fullShare} g : sProp 𝕄)
      ⊢ iprop(∃ g : CSl F, agM.view.loc (c : Thread nD τ) ↦[I_4 s]{fullShare} g) := fun s _ => by iintro H; iexists g; iexact H
  iapply (sep_mono hm); iexact H
omit [FloatOps F] in
theorem buf_join_4 (c : Dev nD) : (bigSep Finset.univ fun s => slotP (F := F) c 4 s) ⊢ bufP (F := F) c 4 := by
  rw [bufP_4]; simp only [slot_4]
  have hm : ∀ s ∈ (Finset.univ : Finset (Dev nD)), (iprop(∃ g : CSl F, agM.view.loc (c : Thread nD τ) ↦[I_4 s]{fullShare} g) : sProp 𝕄)
      ⊢ iprop(∃ g : CSl F, (agM.view.loc (c : Thread nD τ) ↦[I_4 s]{fullShare} g) ∗ ⌜True⌝) := fun s _ => by
    iintro ⟨%g, H⟩
    iexists g
    isplitl [H]; · iexact H
    ipureintro; trivial
  iintro H
  ihave H := (sep_mono hm) $$ H
  ihave ⟨%G, H, -⟩ := (join_all (F := F) (ℓ := agM.view.loc (c : Thread nD τ)) I_4 dis_4 cov_4 (fun _ _ => True)) $$ H
  iexists G; iexact H

end Cert.KProof
-- ==== Proof.Whole.lean ====
/-
Loads and stores of whole buffers.
-/
module

public import proofs.«01_k».proof.Proof.Own

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem hz2 : (![0, 0] : Fin 2 → ℕ) = fun _ => 0 := funext fun a => by fin_cases a <;> rfl
theorem hz3 : (![0, 0, 0] : Fin 3 → ℕ) = fun _ => 0 := funext fun a => by fin_cases a <;> rfl

theorem ldW_step {α : Type} {Q : α → sProp 𝕄} (c : Dev nD) {i : Fin (sig.nNear .tc .vmem)} {hκ : sig.names .tc .vmem i = true}
    {off : Fin (⟨.vmem, i, hκ⟩ : Ref sig .tc).ty.shape.rank → ℕ} (hz : off = fun _ => 0)
    {inb : ∀ a, off a + (⟨.vmem, i, hκ⟩ : Ref sig .tc).ty.shape.size a ≤ (⟨.vmem, i, hκ⟩ : Ref sig .tc).ty.shape.size a} {q : PosShare TreeShare} (f : (⟨.vmem, i, hκ⟩ : Ref sig .tc).ty.Contents (Elt F)) {hl}
    {k : (⟨.vmem, i, hκ⟩ : Ref sig .tc).ty.Contents (Elt F) → Prog (TpuEff nD τ sig (Elt F) Λ₀ .tc) α} :
    ((Memref.whole (⟨.vmem, i, hκ⟩ : Ref sig .tc) : Memref sig .tc .vmem _ _).view.loc (c : Thread nD τ) ↦{q} f)
      ⊢ iprop((((Memref.whole (⟨.vmem, i, hκ⟩ : Ref sig .tc) : Memref sig .tc .vmem _ _).view.loc (c : Thread nD τ) ↦{q} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole (⟨.vmem, i, hκ⟩ : Ref sig .tc) : Memref sig .tc .vmem _ _) (Rect.unit off (⟨.vmem, i, hκ⟩ : Ref sig .tc).ty.shape.size inb).toLoadRect hl) k) Q) := by
  have e := Memref.readAt_unit_zero (Elt F) (⟨.vmem, i, hκ⟩ : Ref sig .tc) hz inb f
  rw [show k f = k ((Memref.whole (⟨.vmem, i, hκ⟩ : Ref sig .tc) : Memref sig .tc .vmem _ _).view.readAt (Elt F) (Rect.unit off (⟨.vmem, i, hκ⟩ : Ref sig .tc).ty.shape.size inb).toLoadRect f) from by rw [e]]
  exact wp_load 𝒱₀ (c : Thread nD τ) none Set.univ (m := (Memref.whole (⟨.vmem, i, hκ⟩ : Ref sig .tc) : Memref sig .tc .vmem _ _)) (Finset.subset_univ _)

theorem stW_step {α : Type} {Q : α → sProp 𝕄} (c : Dev nD) {i : Fin (sig.nNear .tc .vmem)} {hκ : sig.names .tc .vmem i = true}
    {off : Fin (⟨.vmem, i, hκ⟩ : Ref sig .tc).ty.shape.rank → ℕ} (hz : off = fun _ => 0)
    {inb : ∀ a, off a + (⟨.vmem, i, hκ⟩ : Ref sig .tc).ty.shape.size a ≤ (⟨.vmem, i, hκ⟩ : Ref sig .tc).ty.shape.size a} (f w : (⟨.vmem, i, hκ⟩ : Ref sig .tc).ty.Contents (Elt F)) {hx hm}
    {k : PUnit → Prog (TpuEff nD τ sig (Elt F) Λ₀ .tc) α} :
    ((Memref.whole (⟨.vmem, i, hκ⟩ : Ref sig .tc) : Memref sig .tc .vmem _ _).view.loc (c : Thread nD τ) ↦{fullShare} f)
      ⊢ iprop((((Memref.whole (⟨.vmem, i, hκ⟩ : Ref sig .tc) : Memref sig .tc .vmem _ _).view.loc (c : Thread nD τ) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole (⟨.vmem, i, hκ⟩ : Ref sig .tc) : Memref sig .tc .vmem _ _) (Rect.unit off (⟨.vmem, i, hκ⟩ : Ref sig .tc).ty.shape.size inb) w Finset.univ hx hm) k) Q) := by
  subst hz
  exact wp_store_whole 𝒱₀ (c : Thread nD τ) none Set.univ

end Cert.KProof
-- ==== Proof.Tails.lean ====
/-
The kernel's body cut into its pieces, each with what follows it, on the buffers and semaphores that the call gives it.
-/
module

public import proofs.«01_k».proof.Proof.Whole

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What follows a branch follows each of its sides. -/
theorem bind_dite {α β : Type} {p : Prop} [Decidable p] (t : p → Prog (TpuEff nD τ sig (Elt F) Λ₀ .tc) α) (e : ¬p → Prog (TpuEff nD τ sig (Elt F) Λ₀ .tc) α)
    (k : α → Prog (TpuEff nD τ sig (Elt F) Λ₀ .tc) β) : (dite p t e >>= k) = dite p (fun h => t h >>= k) (fun h => e h >>= k) := by
  split <;> rfl

/-- A piece of the kernel, on the buffers and semaphores that the call gives it. -/
@[reducible] def app {α : Sort _} (f : (a0 : Memref sig .tc .vmem S2x128x512 .bf16) → a0.IsWhole → (a1 : Memref sig .tc .vmem S512x256 .bf16) → a1.IsWhole → (a2 : Memref sig .tc .vmem S2x128x2048 .bf16) → a2.IsWhole → (a3 : Memref sig .tc .vmem S2x128x2048 .bf16) → a3.IsWhole → (a4 : Memref sig .tc .vmem S256x512 .bf16) → a4.IsWhole → (a5 : Memref sig .tc .vmem S2x128x512 .f32) → a5.IsWhole → (a6 : Memref sig .tc .vmem S2x128x2048 .i8) → a6.IsWhole → (a7 : Memref sig .tc .vmem S2x128x2048 .i8) → a7.IsWhole → (a8 : Memref sig .tc .vmem S2x128 .bf16) → a8.IsWhole → (a9 : Memref sig .tc .vmem S8x2x128x256 .i8) → a9.IsWhole → (a10 : Memref sig .tc .vmem S8x2x128x256 .i8) → a10.IsWhole → (a11 : Memref sig .tc .vmem S8x2x128 .bf16) → a11.IsWhole → (a12 : Memref sig .tc .vmem S256x512 .bf16) → a12.IsWhole → (a13 : Memref sig .tc .vmem S8x32x512 .bf16) → a13.IsWhole → (a14 : Memref sig .tc .vmem S32x512 .bf16) → a14.IsWhole → (a15 : Memref sig .tc .vmem S8x32x512 .bf16) → a15.IsWhole → DmaSems sig S7 → DmaSems sig S7 → DmaSems sig S7 → DmaSems sig S7 → DmaSems sig S7 → DmaSems sig S8 → DmaSems sig S8 → DmaSems sig S8 → DmaSems sig S8 → DmaSems sig S8 → DmaSems sig S5 → α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 cc0_scratch18 cc0_scratch19 cc0_scratch20

/-- What the first sixty pieces return. -/
abbrev RT (F : FTy → Type) [FloatOps F] : Type := Σ' (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v2071 : FVec F S128x64 .f32) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2256 : FVec F S128x1 .bf16) (v2271 : FVec F S128x1 .f32) (v2280 : FVec F S128x64 .f32) (v2295 : FVec F S128x1 .f32) (v2304 : FVec F S128x64 .f32) (v2319 : FVec F S128x1 .f32) (v2328 : FVec F S128x64 .f32) (v2340 : FVec F S128x128 .f32), FVec F S128x1 .f32

/-- The pieces from number 60 on. -/
def hd60 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v2038 : FVec F S128x1 .f32) (v2047 : FVec F S128x64 .f32) (v2062 : FVec F S128x1 .f32) (v2071 : FVec F S128x64 .f32) (v2082 : BitVec 32) (v2152 : IVec S128x128 1) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2256 : FVec F S128x1 .bf16) (v2271 : FVec F S128x1 .f32) (v2280 : FVec F S128x64 .f32) (v2295 : FVec F S128x1 .f32) (v2304 : FVec F S128x64 .f32) : Prog (TpuEff nD τ sig (Elt F) Λ₀ .tc) (RT F) := do
  let ⟨v2319, v2328, v2340, v2343⟩ ← app (k0_part60 (F := F)) d0 v346 v348 v2038 v2047 v2062 v2082 v2152 v2256
  pure ⟨d0, v2, v142, v334, v336, v338, v340, v342, v344, v346, v348, v373, v2071, v2171, v2180, v2195, v2204, v2219, v2228, v2243, v2252, v2256, v2271, v2280, v2295, v2304, v2319, v2328, v2340, v2343⟩

/-- The pieces from number 59 on. -/
def hd59 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1990 : FVec F S128x1 .f32) (v1999 : FVec F S128x64 .f32) (v2014 : FVec F S128x1 .f32) (v2023 : FVec F S128x64 .f32) (v2038 : FVec F S128x1 .f32) (v2047 : FVec F S128x64 .f32) (v2062 : FVec F S128x1 .f32) (v2071 : FVec F S128x64 .f32) (v2082 : BitVec 32) (v2152 : IVec S128x128 1) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2256 : FVec F S128x1 .bf16) (v2265 : FVec F S128x128 .f32) : Prog (TpuEff nD τ sig (Elt F) Λ₀ .tc) (RT F) := do
  let ⟨v2271, v2280, v2295, v2304⟩ ← app (k0_part59 (F := F)) d0 v344 v1990 v1999 v2014 v2023 v2082 v2152 v2256 v2265
  hd60 d0 v2 v142 v334 v336 v338 v340 v342 v344 v346 v348 v373 v2038 v2047 v2062 v2071 v2082 v2152 v2171 v2180 v2195 v2204 v2219 v2228 v2243 v2252 v2256 v2271 v2280 v2295 v2304

/-- The pieces from number 58 on. -/
def hd58 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1947 : FVec F S128x64 .f32) (v1962 : FVec F S128x1 .f32) (v1971 : FVec F S128x64 .f32) (v1990 : FVec F S128x1 .f32) (v1999 : FVec F S128x64 .f32) (v2014 : FVec F S128x1 .f32) (v2023 : FVec F S128x64 .f32) (v2038 : FVec F S128x1 .f32) (v2047 : FVec F S128x64 .f32) (v2062 : FVec F S128x1 .f32) (v2071 : FVec F S128x64 .f32) (v2082 : BitVec 32) (v2152 : IVec S128x128 1) (v2156 : FVec F S128x1 .bf16) (v2171 : FVec F S128x1 .f32) (v2180 : FVec F S128x64 .f32) (v2195 : FVec F S128x1 .f32) (v2204 : FVec F S128x64 .f32) (v2219 : FVec F S128x1 .f32) (v2225 : FVec F S128x64 .bf16) (v2226 : FVec F S128x128 .bf16) : Prog (TpuEff nD τ sig (Elt F) Λ₀ .tc) (RT F) := do
  let ⟨v2228, v2243, v2252, v2256, v2265⟩ ← app (k0_part58 (F := F)) d0 v340 v342 v1947 v1962 v1971 v2082 v2152 v2156 v2225 v2226
  hd59 d0 v2 v142 v334 v336 v338 v340 v342 v344 v346 v348 v373 v1990 v1999 v2014 v2023 v2038 v2047 v2062 v2071 v2082 v2152 v2171 v2180 v2195 v2204 v2219 v2228 v2243 v2252 v2256 v2265

/-- The pieces from number 57 on. -/
def hd57 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1914 : FVec F S128x1 .f32) (v1923 : FVec F S128x64 .f32) (v1938 : FVec F S128x1 .f32) (v1947 : FVec F S128x64 .f32) (v1962 : FVec F S128x1 .f32) (v1971 : FVec F S128x64 .f32) (v1990 : FVec F S128x1 .f32) (v1999 : FVec F S128x64 .f32) (v2014 : FVec F S128x1 .f32) (v2023 : FVec F S128x64 .f32) (v2038 : FVec F S128x1 .f32) (v2047 : FVec F S128x64 .f32) (v2062 : FVec F S128x1 .f32) (v2071 : FVec F S128x64 .f32) (v2082 : BitVec 32) (v2152 : IVec S128x128 1) (v2156 : FVec F S128x1 .bf16) (v2171 : FVec F S128x1 .f32) (v2180 : FVec F S128x64 .f32) (v2185 : FVec F S128x128 .f32) : Prog (TpuEff nD τ sig (Elt F) Λ₀ .tc) (RT F) := do
  let ⟨v2195, v2204, v2219, v2225, v2226⟩ ← app (k0_part57 (F := F)) d0 v338 v1914 v1923 v1938 v2082 v2152 v2156 v2185
  hd58 d0 v2 v142 v334 v336 v338 v340 v342 v344 v346 v348 v373 v1947 v1962 v1971 v1990 v1999 v2014 v2023 v2038 v2047 v2062 v2071 v2082 v2152 v2156 v2171 v2180 v2195 v2204 v2219 v2225 v2226

/-- The pieces from number 56 on. -/
def hd56 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1890 : FVec F S128x1 .f32) (v1899 : FVec F S128x64 .f32) (v1914 : FVec F S128x1 .f32) (v1923 : FVec F S128x64 .f32) (v1938 : FVec F S128x1 .f32) (v1947 : FVec F S128x64 .f32) (v1962 : FVec F S128x1 .f32) (v1971 : FVec F S128x64 .f32) (v1990 : FVec F S128x1 .f32) (v1999 : FVec F S128x64 .f32) (v2014 : FVec F S128x1 .f32) (v2023 : FVec F S128x64 .f32) (v2038 : FVec F S128x1 .f32) (v2047 : FVec F S128x64 .f32) (v2062 : FVec F S128x1 .f32) (v2071 : FVec F S128x64 .f32) (v2082 : BitVec 32) (v2132 : IVec S128x128 1) (v2135 : BitVec 32) (v2137 : IVec S128x128 32) (v2139 : IVec S128x128 1) (v2141 : IVec S128x128 1) (v2144 : IVec S128x128 1) : Prog (TpuEff nD τ sig (Elt F) Λ₀ .tc) (RT F) := do
  let ⟨v2152, v2156, v2171, v2180, v2185⟩ ← app (k0_part56 (F := F)) d0 v334 v336 v1890 v1899 v2082 v2132 v2135 v2137 v2139 v2141 v2144
  hd57 d0 v2 v142 v334 v336 v338 v340 v342 v344 v346 v348 v373 v1914 v1923 v1938 v1947 v1962 v1971 v1990 v1999 v2014 v2023 v2038 v2047 v2062 v2071 v2082 v2152 v2156 v2171 v2180 v2185

/-- The pieces from number 55 on. -/
def hd55 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1890 : FVec F S128x1 .f32) (v1899 : FVec F S128x64 .f32) (v1914 : FVec F S128x1 .f32) (v1923 : FVec F S128x64 .f32) (v1938 : FVec F S128x1 .f32) (v1947 : FVec F S128x64 .f32) (v1962 : FVec F S128x1 .f32) (v1971 : FVec F S128x64 .f32) (v1990 : FVec F S128x1 .f32) (v1999 : FVec F S128x64 .f32) (v2014 : FVec F S128x1 .f32) (v2023 : FVec F S128x64 .f32) (v2038 : FVec F S128x1 .f32) (v2047 : FVec F S128x64 .f32) (v2062 : FVec F S128x1 .f32) (v2071 : FVec F S128x64 .f32) (v2082 : BitVec 32) : Prog (TpuEff nD τ sig (Elt F) Λ₀ .tc) (RT F) := do
  let ⟨v2132, v2135, v2137, v2139, v2141, v2144⟩ ← app (k0_part55 (F := F)) d0 v373 v2082
  hd56 d0 v2 v142 v334 v336 v338 v340 v342 v344 v346 v348 v373 v1890 v1899 v1914 v1923 v1938 v1947 v1962 v1971 v1990 v1999 v2014 v2023 v2038 v2047 v2062 v2071 v2082 v2132 v2135 v2137 v2139 v2141 v2144

/-- The pieces from number 54 on. -/
def hd54 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1790 : FVec F S128x64 .f32) (v1890 : FVec F S128x1 .f32) (v1899 : FVec F S128x64 .f32) (v1914 : FVec F S128x1 .f32) (v1923 : FVec F S128x64 .f32) (v1938 : FVec F S128x1 .f32) (v1947 : FVec F S128x64 .f32) (v1962 : FVec F S128x1 .f32) (v1971 : FVec F S128x64 .f32) (v1975 : FVec F S128x1 .bf16) (v1990 : FVec F S128x1 .f32) (v1999 : FVec F S128x64 .f32) (v2014 : FVec F S128x1 .f32) (v2023 : FVec F S128x64 .f32) (v2038 : FVec F S128x1 .f32) (v2047 : FVec F S128x64 .f32) (v2059 : FVec F S128x128 .f32) (v2062 : FVec F S128x1 .f32) : Prog (TpuEff nD τ sig (Elt F) Λ₀ .tc) (RT F) := do
  let ⟨v2071, v2082⟩ ← app (k0_part54 (F := F)) d0 v2 v1790 v1975 v2059
  hd55 d0 v2 v142 v334 v336 v338 v340 v342 v344 v346 v348 v373 v1890 v1899 v1914 v1923 v1938 v1947 v1962 v1971 v1990 v1999 v2014 v2023 v2038 v2047 v2062 v2071 v2082

/-- The pieces from number 53 on. -/
def hd53 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1757 : FVec F S128x1 .f32) (v1766 : FVec F S128x64 .f32) (v1781 : FVec F S128x1 .f32) (v1790 : FVec F S128x64 .f32) (v1801 : BitVec 32) (v1871 : IVec S128x128 1) (v1890 : FVec F S128x1 .f32) (v1899 : FVec F S128x64 .f32) (v1914 : FVec F S128x1 .f32) (v1923 : FVec F S128x64 .f32) (v1938 : FVec F S128x1 .f32) (v1947 : FVec F S128x64 .f32) (v1962 : FVec F S128x1 .f32) (v1971 : FVec F S128x64 .f32) (v1975 : FVec F S128x1 .bf16) (v1990 : FVec F S128x1 .f32) (v1999 : FVec F S128x64 .f32) (v2014 : FVec F S128x1 .f32) (v2023 : FVec F S128x64 .f32) : Prog (TpuEff nD τ sig (Elt F) Λ₀ .tc) (RT F) := do
  let ⟨v2038, v2047, v2059, v2062⟩ ← app (k0_part53 (F := F)) d0 v346 v348 v1757 v1766 v1781 v1801 v1871 v1975
  hd54 d0 v2 v142 v334 v336 v338 v340 v342 v344 v346 v348 v373 v1790 v1890 v1899 v1914 v1923 v1938 v1947 v1962 v1971 v1975 v1990 v1999 v2014 v2023 v2038 v2047 v2059 v2062

/-- The pieces from number 52 on. -/
def hd52 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1709 : FVec F S128x1 .f32) (v1718 : FVec F S128x64 .f32) (v1733 : FVec F S128x1 .f32) (v1742 : FVec F S128x64 .f32) (v1757 : FVec F S128x1 .f32) (v1766 : FVec F S128x64 .f32) (v1781 : FVec F S128x1 .f32) (v1790 : FVec F S128x64 .f32) (v1801 : BitVec 32) (v1871 : IVec S128x128 1) (v1890 : FVec F S128x1 .f32) (v1899 : FVec F S128x64 .f32) (v1914 : FVec F S128x1 .f32) (v1923 : FVec F S128x64 .f32) (v1938 : FVec F S128x1 .f32) (v1947 : FVec F S128x64 .f32) (v1962 : FVec F S128x1 .f32) (v1971 : FVec F S128x64 .f32) (v1975 : FVec F S128x1 .bf16) (v1982 : FVec F S128x128 .f32) (v1983 : FVec F S128x128 .f32) : Prog (TpuEff nD τ sig (Elt F) Λ₀ .tc) (RT F) := do
  let ⟨v1990, v1999, v2014, v2023⟩ ← app (k0_part52 (F := F)) d0 v344 v1709 v1718 v1733 v1742 v1801 v1871 v1975 v1982 v1983
  hd53 d0 v2 v142 v334 v336 v338 v340 v342 v344 v346 v348 v373 v1757 v1766 v1781 v1790 v1801 v1871 v1890 v1899 v1914 v1923 v1938 v1947 v1962 v1971 v1975 v1990 v1999 v2014 v2023

/-- The pieces from number 51 on. -/
def hd51 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1666 : FVec F S128x64 .f32) (v1681 : FVec F S128x1 .f32) (v1690 : FVec F S128x64 .f32) (v1709 : FVec F S128x1 .f32) (v1718 : FVec F S128x64 .f32) (v1733 : FVec F S128x1 .f32) (v1742 : FVec F S128x64 .f32) (v1757 : FVec F S128x1 .f32) (v1766 : FVec F S128x64 .f32) (v1781 : FVec F S128x1 .f32) (v1790 : FVec F S128x64 .f32) (v1801 : BitVec 32) (v1871 : IVec S128x128 1) (v1875 : FVec F S128x1 .bf16) (v1890 : FVec F S128x1 .f32) (v1899 : FVec F S128x64 .f32) (v1914 : FVec F S128x1 .f32) (v1923 : FVec F S128x64 .f32) (v1935 : FVec F S128x128 .f32) (v1938 : FVec F S128x1 .f32) (v1944 : FVec F S128x64 .bf16) : Prog (TpuEff nD τ sig (Elt F) Λ₀ .tc) (RT F) := do
  let ⟨v1947, v1962, v1971, v1975, v1982, v1983⟩ ← app (k0_part51 (F := F)) d0 v340 v342 v1666 v1681 v1690 v1801 v1871 v1875 v1935 v1944
  hd52 d0 v2 v142 v334 v336 v338 v340 v342 v344 v346 v348 v373 v1709 v1718 v1733 v1742 v1757 v1766 v1781 v1790 v1801 v1871 v1890 v1899 v1914 v1923 v1938 v1947 v1962 v1971 v1975 v1982 v1983

/-- The pieces from number 50 on. -/
def hd50 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1633 : FVec F S128x1 .f32) (v1642 : FVec F S128x64 .f32) (v1657 : FVec F S128x1 .f32) (v1666 : FVec F S128x64 .f32) (v1681 : FVec F S128x1 .f32) (v1690 : FVec F S128x64 .f32) (v1709 : FVec F S128x1 .f32) (v1718 : FVec F S128x64 .f32) (v1733 : FVec F S128x1 .f32) (v1742 : FVec F S128x64 .f32) (v1757 : FVec F S128x1 .f32) (v1766 : FVec F S128x64 .f32) (v1781 : FVec F S128x1 .f32) (v1790 : FVec F S128x64 .f32) (v1801 : BitVec 32) (v1871 : IVec S128x128 1) (v1875 : FVec F S128x1 .bf16) (v1890 : FVec F S128x1 .f32) (v1899 : FVec F S128x64 .f32) (v1903 : FVec F S128x64 .bf16) (cst_962 : FVec F S128x128 .f32) : Prog (TpuEff nD τ sig (Elt F) Λ₀ .tc) (RT F) := do
  let ⟨v1914, v1923, v1935, v1938, v1944⟩ ← app (k0_part50 (F := F)) d0 v336 v338 v1633 v1642 v1657 v1801 v1871 v1875 v1903 cst_962
  hd51 d0 v2 v142 v334 v336 v338 v340 v342 v344 v346 v348 v373 v1666 v1681 v1690 v1709 v1718 v1733 v1742 v1757 v1766 v1781 v1790 v1801 v1871 v1875 v1890 v1899 v1914 v1923 v1935 v1938 v1944

/-- The pieces from number 49 on. -/
def hd49 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1609 : FVec F S128x1 .f32) (v1618 : FVec F S128x64 .f32) (v1633 : FVec F S128x1 .f32) (v1642 : FVec F S128x64 .f32) (v1657 : FVec F S128x1 .f32) (v1666 : FVec F S128x64 .f32) (v1681 : FVec F S128x1 .f32) (v1690 : FVec F S128x64 .f32) (v1709 : FVec F S128x1 .f32) (v1718 : FVec F S128x64 .f32) (v1733 : FVec F S128x1 .f32) (v1742 : FVec F S128x64 .f32) (v1757 : FVec F S128x1 .f32) (v1766 : FVec F S128x64 .f32) (v1781 : FVec F S128x1 .f32) (v1790 : FVec F S128x64 .f32) (v1801 : BitVec 32) (v1851 : IVec S128x128 1) (v1854 : BitVec 32) (v1856 : IVec S128x128 32) (v1858 : IVec S128x128 1) (v1860 : IVec S128x128 1) (v1862 : IVec S128x128 1) : Prog (TpuEff nD τ sig (Elt F) Λ₀ .tc) (RT F) := do
  let ⟨v1871, v1875, v1890, v1899, v1903, cst_962⟩ ← app (k0_part49 (F := F)) d0 v334 v1609 v1618 v1801 v1851 v1854 v1856 v1858 v1860 v1862
  hd50 d0 v2 v142 v334 v336 v338 v340 v342 v344 v346 v348 v373 v1633 v1642 v1657 v1666 v1681 v1690 v1709 v1718 v1733 v1742 v1757 v1766 v1781 v1790 v1801 v1871 v1875 v1890 v1899 v1903 cst_962

/-- The pieces from number 48 on. -/
def hd48 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1609 : FVec F S128x1 .f32) (v1618 : FVec F S128x64 .f32) (v1633 : FVec F S128x1 .f32) (v1642 : FVec F S128x64 .f32) (v1657 : FVec F S128x1 .f32) (v1666 : FVec F S128x64 .f32) (v1681 : FVec F S128x1 .f32) (v1690 : FVec F S128x64 .f32) (v1709 : FVec F S128x1 .f32) (v1718 : FVec F S128x64 .f32) (v1733 : FVec F S128x1 .f32) (v1742 : FVec F S128x64 .f32) (v1757 : FVec F S128x1 .f32) (v1766 : FVec F S128x64 .f32) (v1781 : FVec F S128x1 .f32) (v1790 : FVec F S128x64 .f32) (v1801 : BitVec 32) : Prog (TpuEff nD τ sig (Elt F) Λ₀ .tc) (RT F) := do
  let ⟨v1851, v1854, v1856, v1858, v1860, v1862⟩ ← app (k0_part48 (F := F)) d0 v373 v1801
  hd49 d0 v2 v142 v334 v336 v338 v340 v342 v344 v346 v348 v373 v1609 v1618 v1633 v1642 v1657 v1666 v1681 v1690 v1709 v1718 v1733 v1742 v1757 v1766 v1781 v1790 v1801 v1851 v1854 v1856 v1858 v1860 v1862

/-- The pieces from number 47 on. -/
def hd47 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1509 : FVec F S128x64 .f32) (v1609 : FVec F S128x1 .f32) (v1618 : FVec F S128x64 .f32) (v1633 : FVec F S128x1 .f32) (v1642 : FVec F S128x64 .f32) (v1657 : FVec F S128x1 .f32) (v1666 : FVec F S128x64 .f32) (v1681 : FVec F S128x1 .f32) (v1690 : FVec F S128x64 .f32) (v1694 : FVec F S128x1 .bf16) (v1709 : FVec F S128x1 .f32) (v1718 : FVec F S128x64 .f32) (v1733 : FVec F S128x1 .f32) (v1742 : FVec F S128x64 .f32) (v1757 : FVec F S128x1 .f32) (v1766 : FVec F S128x64 .f32) (v1778 : FVec F S128x128 .f32) (v1781 : FVec F S128x1 .f32) : Prog (TpuEff nD τ sig (Elt F) Λ₀ .tc) (RT F) := do
  let ⟨v1790, v1801⟩ ← app (k0_part47 (F := F)) d0 v2 v1509 v1694 v1778
  hd48 d0 v2 v142 v334 v336 v338 v340 v342 v344 v346 v348 v373 v1609 v1618 v1633 v1642 v1657 v1666 v1681 v1690 v1709 v1718 v1733 v1742 v1757 v1766 v1781 v1790 v1801

/-- The pieces from number 46 on. -/
def hd46 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1476 : FVec F S128x1 .f32) (v1485 : FVec F S128x64 .f32) (v1500 : FVec F S128x1 .f32) (v1509 : FVec F S128x64 .f32) (v1520 : BitVec 32) (v1590 : IVec S128x128 1) (v1609 : FVec F S128x1 .f32) (v1618 : FVec F S128x64 .f32) (v1633 : FVec F S128x1 .f32) (v1642 : FVec F S128x64 .f32) (v1657 : FVec F S128x1 .f32) (v1666 : FVec F S128x64 .f32) (v1681 : FVec F S128x1 .f32) (v1690 : FVec F S128x64 .f32) (v1694 : FVec F S128x1 .bf16) (v1709 : FVec F S128x1 .f32) (v1718 : FVec F S128x64 .f32) (v1733 : FVec F S128x1 .f32) (v1742 : FVec F S128x64 .f32) : Prog (TpuEff nD τ sig (Elt F) Λ₀ .tc) (RT F) := do
  let ⟨v1757, v1766, v1778, v1781⟩ ← app (k0_part46 (F := F)) d0 v346 v348 v1476 v1485 v1500 v1520 v1590 v1694
  hd47 d0 v2 v142 v334 v336 v338 v340 v342 v344 v346 v348 v373 v1509 v1609 v1618 v1633 v1642 v1657 v1666 v1681 v1690 v1694 v1709 v1718 v1733 v1742 v1757 v1766 v1778 v1781

/-- The pieces from number 45 on. -/
def hd45 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1428 : FVec F S128x1 .f32) (v1437 : FVec F S128x64 .f32) (v1452 : FVec F S128x1 .f32) (v1461 : FVec F S128x64 .f32) (v1476 : FVec F S128x1 .f32) (v1485 : FVec F S128x64 .f32) (v1500 : FVec F S128x1 .f32) (v1509 : FVec F S128x64 .f32) (v1520 : BitVec 32) (v1590 : IVec S128x128 1) (v1609 : FVec F S128x1 .f32) (v1618 : FVec F S128x64 .f32) (v1633 : FVec F S128x1 .f32) (v1642 : FVec F S128x64 .f32) (v1657 : FVec F S128x1 .f32) (v1666 : FVec F S128x64 .f32) (v1681 : FVec F S128x1 .f32) (v1690 : FVec F S128x64 .f32) (v1694 : FVec F S128x1 .bf16) (v1701 : FVec F S128x128 .f32) (cst_867 : F .f32) : Prog (TpuEff nD τ sig (Elt F) Λ₀ .tc) (RT F) := do
  let ⟨v1709, v1718, v1733, v1742⟩ ← app (k0_part45 (F := F)) d0 v344 v1428 v1437 v1452 v1461 v1520 v1590 v1694 v1701 cst_867
  hd46 d0 v2 v142 v334 v336 v338 v340 v342 v344 v346 v348 v373 v1476 v1485 v1500 v1509 v1520 v1590 v1609 v1618 v1633 v1642 v1657 v1666 v1681 v1690 v1694 v1709 v1718 v1733 v1742

/-- The pieces from number 44 on. -/
def hd44 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1385 : FVec F S128x64 .f32) (v1400 : FVec F S128x1 .f32) (v1409 : FVec F S128x64 .f32) (v1428 : FVec F S128x1 .f32) (v1437 : FVec F S128x64 .f32) (v1452 : FVec F S128x1 .f32) (v1461 : FVec F S128x64 .f32) (v1476 : FVec F S128x1 .f32) (v1485 : FVec F S128x64 .f32) (v1500 : FVec F S128x1 .f32) (v1509 : FVec F S128x64 .f32) (v1520 : BitVec 32) (v1590 : IVec S128x128 1) (v1594 : FVec F S128x1 .bf16) (v1609 : FVec F S128x1 .f32) (v1618 : FVec F S128x64 .f32) (v1633 : FVec F S128x1 .f32) (v1642 : FVec F S128x64 .f32) (v1654 : FVec F S128x128 .f32) (v1657 : FVec F S128x1 .f32) (v1661 : FVec F S128x64 .bf16) (v1662 : FVec F S128x64 .bf16) : Prog (TpuEff nD τ sig (Elt F) Λ₀ .tc) (RT F) := do
  let ⟨v1666, v1681, v1690, v1694, v1701, cst_867⟩ ← app (k0_part44 (F := F)) d0 v340 v342 v1385 v1400 v1409 v1520 v1590 v1594 v1654 v1661 v1662
  hd45 d0 v2 v142 v334 v336 v338 v340 v342 v344 v346 v348 v373 v1428 v1437 v1452 v1461 v1476 v1485 v1500 v1509 v1520 v1590 v1609 v1618 v1633 v1642 v1657 v1666 v1681 v1690 v1694 v1701 cst_867

/-- The pieces from number 43 on. -/
def hd43 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1352 : FVec F S128x1 .f32) (v1361 : FVec F S128x64 .f32) (v1376 : FVec F S128x1 .f32) (v1385 : FVec F S128x64 .f32) (v1400 : FVec F S128x1 .f32) (v1409 : FVec F S128x64 .f32) (v1428 : FVec F S128x1 .f32) (v1437 : FVec F S128x64 .f32) (v1452 : FVec F S128x1 .f32) (v1461 : FVec F S128x64 .f32) (v1476 : FVec F S128x1 .f32) (v1485 : FVec F S128x64 .f32) (v1500 : FVec F S128x1 .f32) (v1509 : FVec F S128x64 .f32) (v1520 : BitVec 32) (v1590 : IVec S128x128 1) (v1594 : FVec F S128x1 .bf16) (v1609 : FVec F S128x1 .f32) (v1618 : FVec F S128x64 .f32) (v1622 : FVec F S128x64 .bf16) : Prog (TpuEff nD τ sig (Elt F) Λ₀ .tc) (RT F) := do
  let ⟨v1633, v1642, v1654, v1657, v1661, v1662⟩ ← app (k0_part43 (F := F)) d0 v336 v338 v1352 v1361 v1376 v1520 v1590 v1594 v1622
  hd44 d0 v2 v142 v334 v336 v338 v340 v342 v344 v346 v348 v373 v1385 v1400 v1409 v1428 v1437 v1452 v1461 v1476 v1485 v1500 v1509 v1520 v1590 v1594 v1609 v1618 v1633 v1642 v1654 v1657 v1661 v1662

/-- The pieces from number 42 on. -/
def hd42 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1328 : FVec F S128x1 .f32) (v1337 : FVec F S128x64 .f32) (v1352 : FVec F S128x1 .f32) (v1361 : FVec F S128x64 .f32) (v1376 : FVec F S128x1 .f32) (v1385 : FVec F S128x64 .f32) (v1400 : FVec F S128x1 .f32) (v1409 : FVec F S128x64 .f32) (v1428 : FVec F S128x1 .f32) (v1437 : FVec F S128x64 .f32) (v1452 : FVec F S128x1 .f32) (v1461 : FVec F S128x64 .f32) (v1476 : FVec F S128x1 .f32) (v1485 : FVec F S128x64 .f32) (v1500 : FVec F S128x1 .f32) (v1509 : FVec F S128x64 .f32) (v1520 : BitVec 32) (v1570 : IVec S128x128 1) (v1573 : BitVec 32) (v1575 : IVec S128x128 32) (v1577 : IVec S128x128 1) (v1579 : IVec S128x128 1) (v1580 : BitVec 1) : Prog (TpuEff nD τ sig (Elt F) Λ₀ .tc) (RT F) := do
  let ⟨v1590, v1594, v1609, v1618, v1622⟩ ← app (k0_part42 (F := F)) d0 v334 v1328 v1337 v1520 v1570 v1573 v1575 v1577 v1579 v1580
  hd43 d0 v2 v142 v334 v336 v338 v340 v342 v344 v346 v348 v373 v1352 v1361 v1376 v1385 v1400 v1409 v1428 v1437 v1452 v1461 v1476 v1485 v1500 v1509 v1520 v1590 v1594 v1609 v1618 v1622

/-- The pieces from number 41 on. -/
def hd41 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1328 : FVec F S128x1 .f32) (v1337 : FVec F S128x64 .f32) (v1352 : FVec F S128x1 .f32) (v1361 : FVec F S128x64 .f32) (v1376 : FVec F S128x1 .f32) (v1385 : FVec F S128x64 .f32) (v1400 : FVec F S128x1 .f32) (v1409 : FVec F S128x64 .f32) (v1428 : FVec F S128x1 .f32) (v1437 : FVec F S128x64 .f32) (v1452 : FVec F S128x1 .f32) (v1461 : FVec F S128x64 .f32) (v1476 : FVec F S128x1 .f32) (v1485 : FVec F S128x64 .f32) (v1500 : FVec F S128x1 .f32) (v1509 : FVec F S128x64 .f32) (v1520 : BitVec 32) : Prog (TpuEff nD τ sig (Elt F) Λ₀ .tc) (RT F) := do
  let ⟨v1570, v1573, v1575, v1577, v1579, v1580⟩ ← app (k0_part41 (F := F)) d0 v373 v1520
  hd42 d0 v2 v142 v334 v336 v338 v340 v342 v344 v346 v348 v373 v1328 v1337 v1352 v1361 v1376 v1385 v1400 v1409 v1428 v1437 v1452 v1461 v1476 v1485 v1500 v1509 v1520 v1570 v1573 v1575 v1577 v1579 v1580

/-- The pieces from number 40 on. -/
def hd40 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1228 : FVec F S128x64 .f32) (v1328 : FVec F S128x1 .f32) (v1337 : FVec F S128x64 .f32) (v1352 : FVec F S128x1 .f32) (v1361 : FVec F S128x64 .f32) (v1376 : FVec F S128x1 .f32) (v1385 : FVec F S128x64 .f32) (v1400 : FVec F S128x1 .f32) (v1409 : FVec F S128x64 .f32) (v1413 : FVec F S128x1 .bf16) (v1428 : FVec F S128x1 .f32) (v1437 : FVec F S128x64 .f32) (v1452 : FVec F S128x1 .f32) (v1461 : FVec F S128x64 .f32) (v1476 : FVec F S128x1 .f32) (v1485 : FVec F S128x64 .f32) (v1497 : FVec F S128x128 .f32) (v1500 : FVec F S128x1 .f32) : Prog (TpuEff nD τ sig (Elt F) Λ₀ .tc) (RT F) := do
  let ⟨v1509, v1520⟩ ← app (k0_part40 (F := F)) d0 v2 v1228 v1413 v1497
  hd41 d0 v2 v142 v334 v336 v338 v340 v342 v344 v346 v348 v373 v1328 v1337 v1352 v1361 v1376 v1385 v1400 v1409 v1428 v1437 v1452 v1461 v1476 v1485 v1500 v1509 v1520

/-- The pieces from number 39 on. -/
def hd39 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1195 : FVec F S128x1 .f32) (v1204 : FVec F S128x64 .f32) (v1219 : FVec F S128x1 .f32) (v1228 : FVec F S128x64 .f32) (v1239 : BitVec 32) (v1309 : IVec S128x128 1) (v1328 : FVec F S128x1 .f32) (v1337 : FVec F S128x64 .f32) (v1352 : FVec F S128x1 .f32) (v1361 : FVec F S128x64 .f32) (v1376 : FVec F S128x1 .f32) (v1385 : FVec F S128x64 .f32) (v1400 : FVec F S128x1 .f32) (v1409 : FVec F S128x64 .f32) (v1413 : FVec F S128x1 .bf16) (v1428 : FVec F S128x1 .f32) (v1437 : FVec F S128x64 .f32) (v1452 : FVec F S128x1 .f32) (v1461 : FVec F S128x64 .f32) : Prog (TpuEff nD τ sig (Elt F) Λ₀ .tc) (RT F) := do
  let ⟨v1476, v1485, v1497, v1500⟩ ← app (k0_part39 (F := F)) d0 v346 v348 v1195 v1204 v1219 v1239 v1309 v1413
  hd40 d0 v2 v142 v334 v336 v338 v340 v342 v344 v346 v348 v373 v1228 v1328 v1337 v1352 v1361 v1376 v1385 v1400 v1409 v1413 v1428 v1437 v1452 v1461 v1476 v1485 v1497 v1500

/-- The pieces from number 38 on. -/
def hd38 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1147 : FVec F S128x1 .f32) (v1156 : FVec F S128x64 .f32) (v1171 : FVec F S128x1 .f32) (v1180 : FVec F S128x64 .f32) (v1195 : FVec F S128x1 .f32) (v1204 : FVec F S128x64 .f32) (v1219 : FVec F S128x1 .f32) (v1228 : FVec F S128x64 .f32) (v1239 : BitVec 32) (v1309 : IVec S128x128 1) (v1328 : FVec F S128x1 .f32) (v1337 : FVec F S128x64 .f32) (v1352 : FVec F S128x1 .f32) (v1361 : FVec F S128x64 .f32) (v1376 : FVec F S128x1 .f32) (v1385 : FVec F S128x64 .f32) (v1400 : FVec F S128x1 .f32) (v1409 : FVec F S128x64 .f32) (v1413 : FVec F S128x1 .bf16) (v1420 : FVec F S128x128 .f32) : Prog (TpuEff nD τ sig (Elt F) Λ₀ .tc) (RT F) := do
  let ⟨v1428, v1437, v1452, v1461⟩ ← app (k0_part38 (F := F)) d0 v344 v1147 v1156 v1171 v1180 v1239 v1309 v1413 v1420
  hd39 d0 v2 v142 v334 v336 v338 v340 v342 v344 v346 v348 v373 v1195 v1204 v1219 v1228 v1239 v1309 v1328 v1337 v1352 v1361 v1376 v1385 v1400 v1409 v1413 v1428 v1437 v1452 v1461

/-- The pieces from number 37 on. -/
def hd37 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1104 : FVec F S128x64 .f32) (v1119 : FVec F S128x1 .f32) (v1128 : FVec F S128x64 .f32) (v1147 : FVec F S128x1 .f32) (v1156 : FVec F S128x64 .f32) (v1171 : FVec F S128x1 .f32) (v1180 : FVec F S128x64 .f32) (v1195 : FVec F S128x1 .f32) (v1204 : FVec F S128x64 .f32) (v1219 : FVec F S128x1 .f32) (v1228 : FVec F S128x64 .f32) (v1239 : BitVec 32) (v1309 : IVec S128x128 1) (v1313 : FVec F S128x1 .bf16) (v1328 : FVec F S128x1 .f32) (v1337 : FVec F S128x64 .f32) (v1352 : FVec F S128x1 .f32) (v1361 : FVec F S128x64 .f32) (v1373 : FVec F S128x128 .f32) (v1376 : FVec F S128x1 .f32) (v1380 : FVec F S128x64 .bf16) : Prog (TpuEff nD τ sig (Elt F) Λ₀ .tc) (RT F) := do
  let ⟨v1385, v1400, v1409, v1413, v1420⟩ ← app (k0_part37 (F := F)) d0 v340 v342 v1104 v1119 v1128 v1239 v1309 v1313 v1373 v1380
  hd38 d0 v2 v142 v334 v336 v338 v340 v342 v344 v346 v348 v373 v1147 v1156 v1171 v1180 v1195 v1204 v1219 v1228 v1239 v1309 v1328 v1337 v1352 v1361 v1376 v1385 v1400 v1409 v1413 v1420

/-- The pieces from number 36 on. -/
def hd36 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1071 : FVec F S128x1 .f32) (v1080 : FVec F S128x64 .f32) (v1095 : FVec F S128x1 .f32) (v1104 : FVec F S128x64 .f32) (v1119 : FVec F S128x1 .f32) (v1128 : FVec F S128x64 .f32) (v1147 : FVec F S128x1 .f32) (v1156 : FVec F S128x64 .f32) (v1171 : FVec F S128x1 .f32) (v1180 : FVec F S128x64 .f32) (v1195 : FVec F S128x1 .f32) (v1204 : FVec F S128x64 .f32) (v1219 : FVec F S128x1 .f32) (v1228 : FVec F S128x64 .f32) (v1239 : BitVec 32) (v1309 : IVec S128x128 1) (v1313 : FVec F S128x1 .bf16) (v1328 : FVec F S128x1 .f32) (v1337 : FVec F S128x64 .f32) (v1340 : IVec S128x64 8) : Prog (TpuEff nD τ sig (Elt F) Λ₀ .tc) (RT F) := do
  let ⟨v1352, v1361, v1373, v1376, v1380⟩ ← app (k0_part36 (F := F)) d0 v336 v338 v1071 v1080 v1095 v1239 v1309 v1313 v1340
  hd37 d0 v2 v142 v334 v336 v338 v340 v342 v344 v346 v348 v373 v1104 v1119 v1128 v1147 v1156 v1171 v1180 v1195 v1204 v1219 v1228 v1239 v1309 v1313 v1328 v1337 v1352 v1361 v1373 v1376 v1380

/-- The pieces from number 35 on. -/
def hd35 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1047 : FVec F S128x1 .f32) (v1056 : FVec F S128x64 .f32) (v1071 : FVec F S128x1 .f32) (v1080 : FVec F S128x64 .f32) (v1095 : FVec F S128x1 .f32) (v1104 : FVec F S128x64 .f32) (v1119 : FVec F S128x1 .f32) (v1128 : FVec F S128x64 .f32) (v1147 : FVec F S128x1 .f32) (v1156 : FVec F S128x64 .f32) (v1171 : FVec F S128x1 .f32) (v1180 : FVec F S128x64 .f32) (v1195 : FVec F S128x1 .f32) (v1204 : FVec F S128x64 .f32) (v1219 : FVec F S128x1 .f32) (v1228 : FVec F S128x64 .f32) (v1239 : BitVec 32) (v1289 : IVec S128x128 1) (v1292 : BitVec 32) (v1294 : IVec S128x128 32) (v1296 : IVec S128x128 1) (v1298 : IVec S128x128 1) (c0_i32_673 : BitVec 32) : Prog (TpuEff nD τ sig (Elt F) Λ₀ .tc) (RT F) := do
  let ⟨v1309, v1313, v1328, v1337, v1340⟩ ← app (k0_part35 (F := F)) d0 v334 v1047 v1056 v1239 v1289 v1292 v1294 v1296 v1298 c0_i32_673
  hd36 d0 v2 v142 v334 v336 v338 v340 v342 v344 v346 v348 v373 v1071 v1080 v1095 v1104 v1119 v1128 v1147 v1156 v1171 v1180 v1195 v1204 v1219 v1228 v1239 v1309 v1313 v1328 v1337 v1340

/-- The pieces from number 34 on. -/
def hd34 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v1047 : FVec F S128x1 .f32) (v1056 : FVec F S128x64 .f32) (v1071 : FVec F S128x1 .f32) (v1080 : FVec F S128x64 .f32) (v1095 : FVec F S128x1 .f32) (v1104 : FVec F S128x64 .f32) (v1119 : FVec F S128x1 .f32) (v1128 : FVec F S128x64 .f32) (v1147 : FVec F S128x1 .f32) (v1156 : FVec F S128x64 .f32) (v1171 : FVec F S128x1 .f32) (v1180 : FVec F S128x64 .f32) (v1195 : FVec F S128x1 .f32) (v1204 : FVec F S128x64 .f32) (v1219 : FVec F S128x1 .f32) (v1228 : FVec F S128x64 .f32) (v1239 : BitVec 32) : Prog (TpuEff nD τ sig (Elt F) Λ₀ .tc) (RT F) := do
  let ⟨v1289, v1292, v1294, v1296, v1298, c0_i32_673⟩ ← app (k0_part34 (F := F)) d0 v373 v1239
  hd35 d0 v2 v142 v334 v336 v338 v340 v342 v344 v346 v348 v373 v1047 v1056 v1071 v1080 v1095 v1104 v1119 v1128 v1147 v1156 v1171 v1180 v1195 v1204 v1219 v1228 v1239 v1289 v1292 v1294 v1296 v1298 c0_i32_673

/-- The pieces from number 33 on. -/
def hd33 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v947 : FVec F S128x64 .f32) (v958 : BitVec 32) (v1047 : FVec F S128x1 .f32) (v1056 : FVec F S128x64 .f32) (v1071 : FVec F S128x1 .f32) (v1080 : FVec F S128x64 .f32) (v1095 : FVec F S128x1 .f32) (v1104 : FVec F S128x64 .f32) (v1119 : FVec F S128x1 .f32) (v1128 : FVec F S128x64 .f32) (v1132 : FVec F S128x1 .bf16) (v1147 : FVec F S128x1 .f32) (v1156 : FVec F S128x64 .f32) (v1171 : FVec F S128x1 .f32) (v1180 : FVec F S128x64 .f32) (v1195 : FVec F S128x1 .f32) (v1204 : FVec F S128x64 .f32) (v1216 : FVec F S128x128 .f32) (v1219 : FVec F S128x1 .f32) : Prog (TpuEff nD τ sig (Elt F) Λ₀ .tc) (RT F) := do
  let ⟨v1228, v1239⟩ ← app (k0_part33 (F := F)) d0 v2 v947 v958 v1132 v1216
  hd34 d0 v2 v142 v334 v336 v338 v340 v342 v344 v346 v348 v373 v1047 v1056 v1071 v1080 v1095 v1104 v1119 v1128 v1147 v1156 v1171 v1180 v1195 v1204 v1219 v1228 v1239

/-- The pieces from number 32 on. -/
def hd32 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v899 : FVec F S128x64 .f32) (v914 : FVec F S128x1 .f32) (v923 : FVec F S128x64 .f32) (v938 : FVec F S128x1 .f32) (v947 : FVec F S128x64 .f32) (v958 : BitVec 32) (v1028 : IVec S128x128 1) (v1047 : FVec F S128x1 .f32) (v1056 : FVec F S128x64 .f32) (v1071 : FVec F S128x1 .f32) (v1080 : FVec F S128x64 .f32) (v1095 : FVec F S128x1 .f32) (v1104 : FVec F S128x64 .f32) (v1119 : FVec F S128x1 .f32) (v1128 : FVec F S128x64 .f32) (v1132 : FVec F S128x1 .bf16) (v1147 : FVec F S128x1 .f32) (v1156 : FVec F S128x64 .f32) (v1171 : FVec F S128x1 .f32) (v1179 : FVec F S128x64 .f32) : Prog (TpuEff nD τ sig (Elt F) Λ₀ .tc) (RT F) := do
  let ⟨v1180, v1195, v1204, v1216, v1219⟩ ← app (k0_part32 (F := F)) d0 v346 v348 v899 v914 v923 v938 v958 v1028 v1132 v1179
  hd33 d0 v2 v142 v334 v336 v338 v340 v342 v344 v346 v348 v373 v947 v958 v1047 v1056 v1071 v1080 v1095 v1104 v1119 v1128 v1132 v1147 v1156 v1171 v1180 v1195 v1204 v1216 v1219

/-- The pieces from number 31 on. -/
def hd31 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v866 : FVec F S128x1 .f32) (v875 : FVec F S128x64 .f32) (v890 : FVec F S128x1 .f32) (v899 : FVec F S128x64 .f32) (v914 : FVec F S128x1 .f32) (v923 : FVec F S128x64 .f32) (v938 : FVec F S128x1 .f32) (v947 : FVec F S128x64 .f32) (v958 : BitVec 32) (v1028 : IVec S128x128 1) (v1047 : FVec F S128x1 .f32) (v1056 : FVec F S128x64 .f32) (v1071 : FVec F S128x1 .f32) (v1080 : FVec F S128x64 .f32) (v1095 : FVec F S128x1 .f32) (v1104 : FVec F S128x64 .f32) (v1119 : FVec F S128x1 .f32) (v1128 : FVec F S128x64 .f32) (v1132 : FVec F S128x1 .bf16) (v1137 : FVec F S128x128 .f32) (v1138 : FVec F S128x128 .f32) : Prog (TpuEff nD τ sig (Elt F) Λ₀ .tc) (RT F) := do
  let ⟨v1147, v1156, v1171, v1179⟩ ← app (k0_part31 (F := F)) d0 v344 v866 v875 v890 v958 v1028 v1132 v1137 v1138
  hd32 d0 v2 v142 v334 v336 v338 v340 v342 v344 v346 v348 v373 v899 v914 v923 v938 v947 v958 v1028 v1047 v1056 v1071 v1080 v1095 v1104 v1119 v1128 v1132 v1147 v1156 v1171 v1179

/-- The pieces from number 30 on. -/
def hd30 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v823 : FVec F S128x64 .f32) (v838 : FVec F S128x1 .f32) (v847 : FVec F S128x64 .f32) (v866 : FVec F S128x1 .f32) (v875 : FVec F S128x64 .f32) (v890 : FVec F S128x1 .f32) (v899 : FVec F S128x64 .f32) (v914 : FVec F S128x1 .f32) (v923 : FVec F S128x64 .f32) (v938 : FVec F S128x1 .f32) (v947 : FVec F S128x64 .f32) (v958 : BitVec 32) (v1028 : IVec S128x128 1) (v1032 : FVec F S128x1 .bf16) (v1047 : FVec F S128x1 .f32) (v1056 : FVec F S128x64 .f32) (v1071 : FVec F S128x1 .f32) (v1080 : FVec F S128x64 .f32) (v1092 : FVec F S128x128 .f32) (v1095 : FVec F S128x1 .f32) (v1098 : IVec S128x64 8) : Prog (TpuEff nD τ sig (Elt F) Λ₀ .tc) (RT F) := do
  let ⟨v1104, v1119, v1128, v1132, v1137, v1138⟩ ← app (k0_part30 (F := F)) d0 v340 v342 v823 v838 v847 v958 v1028 v1032 v1092 v1098
  hd31 d0 v2 v142 v334 v336 v338 v340 v342 v344 v346 v348 v373 v866 v875 v890 v899 v914 v923 v938 v947 v958 v1028 v1047 v1056 v1071 v1080 v1095 v1104 v1119 v1128 v1132 v1137 v1138

/-- The pieces from number 29 on. -/
def hd29 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v790 : FVec F S128x1 .f32) (v799 : FVec F S128x64 .f32) (v814 : FVec F S128x1 .f32) (v823 : FVec F S128x64 .f32) (v838 : FVec F S128x1 .f32) (v847 : FVec F S128x64 .f32) (v866 : FVec F S128x1 .f32) (v875 : FVec F S128x64 .f32) (v890 : FVec F S128x1 .f32) (v899 : FVec F S128x64 .f32) (v914 : FVec F S128x1 .f32) (v923 : FVec F S128x64 .f32) (v938 : FVec F S128x1 .f32) (v947 : FVec F S128x64 .f32) (v958 : BitVec 32) (v1028 : IVec S128x128 1) (v1032 : FVec F S128x1 .bf16) (v1047 : FVec F S128x1 .f32) (v1056 : FVec F S128x64 .f32) (v1058 : Vec F S1x1x128x64 .i8) : Prog (TpuEff nD τ sig (Elt F) Λ₀ .tc) (RT F) := do
  let ⟨v1071, v1080, v1092, v1095, v1098⟩ ← app (k0_part29 (F := F)) d0 v336 v338 v790 v799 v814 v958 v1028 v1032 v1058
  hd30 d0 v2 v142 v334 v336 v338 v340 v342 v344 v346 v348 v373 v823 v838 v847 v866 v875 v890 v899 v914 v923 v938 v947 v958 v1028 v1032 v1047 v1056 v1071 v1080 v1092 v1095 v1098

/-- The pieces from number 28 on. -/
def hd28 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v766 : FVec F S128x1 .f32) (v775 : FVec F S128x64 .f32) (v790 : FVec F S128x1 .f32) (v799 : FVec F S128x64 .f32) (v814 : FVec F S128x1 .f32) (v823 : FVec F S128x64 .f32) (v838 : FVec F S128x1 .f32) (v847 : FVec F S128x64 .f32) (v866 : FVec F S128x1 .f32) (v875 : FVec F S128x64 .f32) (v890 : FVec F S128x1 .f32) (v899 : FVec F S128x64 .f32) (v914 : FVec F S128x1 .f32) (v923 : FVec F S128x64 .f32) (v938 : FVec F S128x1 .f32) (v947 : FVec F S128x64 .f32) (v958 : BitVec 32) (v1008 : IVec S128x128 1) (v1011 : BitVec 32) (v1013 : IVec S128x128 32) (v1015 : IVec S128x128 1) (v1017 : IVec S128x128 1) : Prog (TpuEff nD τ sig (Elt F) Λ₀ .tc) (RT F) := do
  let ⟨v1028, v1032, v1047, v1056, v1058⟩ ← app (k0_part28 (F := F)) d0 v334 v766 v775 v958 v1008 v1011 v1013 v1015 v1017
  hd29 d0 v2 v142 v334 v336 v338 v340 v342 v344 v346 v348 v373 v790 v799 v814 v823 v838 v847 v866 v875 v890 v899 v914 v923 v938 v947 v958 v1028 v1032 v1047 v1056 v1058

/-- The pieces from number 27 on. -/
def hd27 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v766 : FVec F S128x1 .f32) (v775 : FVec F S128x64 .f32) (v790 : FVec F S128x1 .f32) (v799 : FVec F S128x64 .f32) (v814 : FVec F S128x1 .f32) (v823 : FVec F S128x64 .f32) (v838 : FVec F S128x1 .f32) (v847 : FVec F S128x64 .f32) (v866 : FVec F S128x1 .f32) (v875 : FVec F S128x64 .f32) (v890 : FVec F S128x1 .f32) (v899 : FVec F S128x64 .f32) (v914 : FVec F S128x1 .f32) (v923 : FVec F S128x64 .f32) (v938 : FVec F S128x1 .f32) (v947 : FVec F S128x64 .f32) (v958 : BitVec 32) : Prog (TpuEff nD τ sig (Elt F) Λ₀ .tc) (RT F) := do
  let ⟨v1008, v1011, v1013, v1015, v1017⟩ ← app (k0_part27 (F := F)) d0 v373 v958
  hd28 d0 v2 v142 v334 v336 v338 v340 v342 v344 v346 v348 v373 v766 v775 v790 v799 v814 v823 v838 v847 v866 v875 v890 v899 v914 v923 v938 v947 v958 v1008 v1011 v1013 v1015 v1017

/-- The pieces from number 26 on. -/
def hd26 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v657 : FVec F S128x1 .f32) (v666 : FVec F S128x64 .f32) (v677 : BitVec 32) (v766 : FVec F S128x1 .f32) (v775 : FVec F S128x64 .f32) (v790 : FVec F S128x1 .f32) (v799 : FVec F S128x64 .f32) (v814 : FVec F S128x1 .f32) (v823 : FVec F S128x64 .f32) (v838 : FVec F S128x1 .f32) (v847 : FVec F S128x64 .f32) (v851 : FVec F S128x1 .bf16) (v866 : FVec F S128x1 .f32) (v875 : FVec F S128x64 .f32) (v890 : FVec F S128x1 .f32) (v899 : FVec F S128x64 .f32) (v914 : FVec F S128x1 .f32) (v923 : FVec F S128x64 .f32) (v935 : FVec F S128x128 .f32) (v937 : FVec F S128x1 .f32) : Prog (TpuEff nD τ sig (Elt F) Λ₀ .tc) (RT F) := do
  let ⟨v938, v947, v958⟩ ← app (k0_part26 (F := F)) d0 v2 v657 v666 v677 v851 v935 v937
  hd27 d0 v2 v142 v334 v336 v338 v340 v342 v344 v346 v348 v373 v766 v775 v790 v799 v814 v823 v838 v847 v866 v875 v890 v899 v914 v923 v938 v947 v958

/-- The pieces from number 25 on. -/
def hd25 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v618 : FVec F S128x64 .f32) (v633 : FVec F S128x1 .f32) (v642 : FVec F S128x64 .f32) (v657 : FVec F S128x1 .f32) (v666 : FVec F S128x64 .f32) (v677 : BitVec 32) (v747 : IVec S128x128 1) (v766 : FVec F S128x1 .f32) (v775 : FVec F S128x64 .f32) (v790 : FVec F S128x1 .f32) (v799 : FVec F S128x64 .f32) (v814 : FVec F S128x1 .f32) (v823 : FVec F S128x64 .f32) (v838 : FVec F S128x1 .f32) (v847 : FVec F S128x64 .f32) (v851 : FVec F S128x1 .bf16) (v866 : FVec F S128x1 .f32) (v875 : FVec F S128x64 .f32) (v890 : FVec F S128x1 .f32) (v896 : FVec F S128x64 .bf16) (v897 : FVec F S128x128 .bf16) (cst_480 : FVec F S128x64 .f32) : Prog (TpuEff nD τ sig (Elt F) Λ₀ .tc) (RT F) := do
  let ⟨v899, v914, v923, v935, v937⟩ ← app (k0_part25 (F := F)) d0 v346 v348 v618 v633 v642 v677 v747 v851 v896 v897 cst_480
  hd26 d0 v2 v142 v334 v336 v338 v340 v342 v344 v346 v348 v373 v657 v666 v677 v766 v775 v790 v799 v814 v823 v838 v847 v851 v866 v875 v890 v899 v914 v923 v935 v937

/-- The pieces from number 24 on. -/
def hd24 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v585 : FVec F S128x1 .f32) (v594 : FVec F S128x64 .f32) (v609 : FVec F S128x1 .f32) (v618 : FVec F S128x64 .f32) (v633 : FVec F S128x1 .f32) (v642 : FVec F S128x64 .f32) (v657 : FVec F S128x1 .f32) (v666 : FVec F S128x64 .f32) (v677 : BitVec 32) (v747 : IVec S128x128 1) (v766 : FVec F S128x1 .f32) (v775 : FVec F S128x64 .f32) (v790 : FVec F S128x1 .f32) (v799 : FVec F S128x64 .f32) (v814 : FVec F S128x1 .f32) (v823 : FVec F S128x64 .f32) (v838 : FVec F S128x1 .f32) (v847 : FVec F S128x64 .f32) (v851 : FVec F S128x1 .bf16) (v856 : FVec F S128x128 .f32) (cst_461 : F .f32) : Prog (TpuEff nD τ sig (Elt F) Λ₀ .tc) (RT F) := do
  let ⟨v866, v875, v890, v896, v897, cst_480⟩ ← app (k0_part24 (F := F)) d0 v344 v585 v594 v609 v677 v747 v851 v856 cst_461
  hd25 d0 v2 v142 v334 v336 v338 v340 v342 v344 v346 v348 v373 v618 v633 v642 v657 v666 v677 v747 v766 v775 v790 v799 v814 v823 v838 v847 v851 v866 v875 v890 v896 v897 cst_480

/-- The pieces from number 23 on. -/
def hd23 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v542 : FVec F S128x64 .f32) (v557 : FVec F S128x1 .f32) (v566 : FVec F S128x64 .f32) (v585 : FVec F S128x1 .f32) (v594 : FVec F S128x64 .f32) (v609 : FVec F S128x1 .f32) (v618 : FVec F S128x64 .f32) (v633 : FVec F S128x1 .f32) (v642 : FVec F S128x64 .f32) (v657 : FVec F S128x1 .f32) (v666 : FVec F S128x64 .f32) (v677 : BitVec 32) (v747 : IVec S128x128 1) (v751 : FVec F S128x1 .bf16) (v766 : FVec F S128x1 .f32) (v775 : FVec F S128x64 .f32) (v790 : FVec F S128x1 .f32) (v799 : FVec F S128x64 .f32) (v811 : FVec F S128x128 .f32) (v814 : FVec F S128x1 .f32) (v816 : Vec F S1x1x128x64 .i8) : Prog (TpuEff nD τ sig (Elt F) Λ₀ .tc) (RT F) := do
  let ⟨v823, v838, v847, v851, v856, cst_461⟩ ← app (k0_part23 (F := F)) d0 v340 v342 v542 v557 v566 v677 v747 v751 v811 v816
  hd24 d0 v2 v142 v334 v336 v338 v340 v342 v344 v346 v348 v373 v585 v594 v609 v618 v633 v642 v657 v666 v677 v747 v766 v775 v790 v799 v814 v823 v838 v847 v851 v856 cst_461

/-- The pieces from number 22 on. -/
def hd22 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v509 : FVec F S128x1 .f32) (v518 : FVec F S128x64 .f32) (v533 : FVec F S128x1 .f32) (v542 : FVec F S128x64 .f32) (v557 : FVec F S128x1 .f32) (v566 : FVec F S128x64 .f32) (v585 : FVec F S128x1 .f32) (v594 : FVec F S128x64 .f32) (v609 : FVec F S128x1 .f32) (v618 : FVec F S128x64 .f32) (v633 : FVec F S128x1 .f32) (v642 : FVec F S128x64 .f32) (v657 : FVec F S128x1 .f32) (v666 : FVec F S128x64 .f32) (v677 : BitVec 32) (v747 : IVec S128x128 1) (v751 : FVec F S128x1 .bf16) (v766 : FVec F S128x1 .f32) (v775 : FVec F S128x64 .f32) : Prog (TpuEff nD τ sig (Elt F) Λ₀ .tc) (RT F) := do
  let ⟨v790, v799, v811, v814, v816⟩ ← app (k0_part22 (F := F)) d0 v336 v338 v509 v518 v533 v677 v747 v751
  hd23 d0 v2 v142 v334 v336 v338 v340 v342 v344 v346 v348 v373 v542 v557 v566 v585 v594 v609 v618 v633 v642 v657 v666 v677 v747 v751 v766 v775 v790 v799 v811 v814 v816

/-- The pieces from number 21 on. -/
def hd21 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v485 : FVec F S128x1 .f32) (v494 : FVec F S128x64 .f32) (v509 : FVec F S128x1 .f32) (v518 : FVec F S128x64 .f32) (v533 : FVec F S128x1 .f32) (v542 : FVec F S128x64 .f32) (v557 : FVec F S128x1 .f32) (v566 : FVec F S128x64 .f32) (v585 : FVec F S128x1 .f32) (v594 : FVec F S128x64 .f32) (v609 : FVec F S128x1 .f32) (v618 : FVec F S128x64 .f32) (v633 : FVec F S128x1 .f32) (v642 : FVec F S128x64 .f32) (v657 : FVec F S128x1 .f32) (v666 : FVec F S128x64 .f32) (v677 : BitVec 32) (v727 : IVec S128x128 1) (v730 : BitVec 32) (v732 : IVec S128x128 32) (v734 : IVec S128x128 1) (v735 : IVec S128x128 32) : Prog (TpuEff nD τ sig (Elt F) Λ₀ .tc) (RT F) := do
  let ⟨v747, v751, v766, v775⟩ ← app (k0_part21 (F := F)) d0 v334 v485 v494 v677 v727 v730 v732 v734 v735
  hd22 d0 v2 v142 v334 v336 v338 v340 v342 v344 v346 v348 v373 v509 v518 v533 v542 v557 v566 v585 v594 v609 v618 v633 v642 v657 v666 v677 v747 v751 v766 v775

/-- The pieces from number 20 on. -/
def hd20 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v485 : FVec F S128x1 .f32) (v494 : FVec F S128x64 .f32) (v509 : FVec F S128x1 .f32) (v518 : FVec F S128x64 .f32) (v533 : FVec F S128x1 .f32) (v542 : FVec F S128x64 .f32) (v557 : FVec F S128x1 .f32) (v566 : FVec F S128x64 .f32) (v585 : FVec F S128x1 .f32) (v594 : FVec F S128x64 .f32) (v609 : FVec F S128x1 .f32) (v618 : FVec F S128x64 .f32) (v633 : FVec F S128x1 .f32) (v642 : FVec F S128x64 .f32) (v657 : FVec F S128x1 .f32) (v666 : FVec F S128x64 .f32) (v677 : BitVec 32) : Prog (TpuEff nD τ sig (Elt F) Λ₀ .tc) (RT F) := do
  let ⟨v727, v730, v732, v734, v735⟩ ← app (k0_part20 (F := F)) d0 v373 v677
  hd21 d0 v2 v142 v334 v336 v338 v340 v342 v344 v346 v348 v373 v485 v494 v509 v518 v533 v542 v557 v566 v585 v594 v609 v618 v633 v642 v657 v666 v677 v727 v730 v732 v734 v735

/-- The pieces from number 19 on. -/
def hd19 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v381 : FVec F S128x64 .f32) (v389 : FVec F S128x1 .f32) (v400 : BitVec 32) (v485 : FVec F S128x1 .f32) (v494 : FVec F S128x64 .f32) (v509 : FVec F S128x1 .f32) (v518 : FVec F S128x64 .f32) (v533 : FVec F S128x1 .f32) (v542 : FVec F S128x64 .f32) (v557 : FVec F S128x1 .f32) (v566 : FVec F S128x64 .f32) (v570 : FVec F S128x1 .bf16) (v585 : FVec F S128x1 .f32) (v594 : FVec F S128x64 .f32) (v609 : FVec F S128x1 .f32) (v618 : FVec F S128x64 .f32) (v633 : FVec F S128x1 .f32) (v642 : FVec F S128x64 .f32) (v654 : FVec F S128x128 .f32) (v655 : FVec F S128 .f32) : Prog (TpuEff nD τ sig (Elt F) Λ₀ .tc) (RT F) := do
  let ⟨v657, v666, v677⟩ ← app (k0_part19 (F := F)) d0 v2 v381 v389 v400 v570 v654 v655
  hd20 d0 v2 v142 v334 v336 v338 v340 v342 v344 v346 v348 v373 v485 v494 v509 v518 v533 v542 v557 v566 v585 v594 v609 v618 v633 v642 v657 v666 v677

/-- The pieces from number 18 on. -/
def hd18 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v379 : FVec F S128x64 .f32) (v380 : FVec F S128x64 .f32) (v381 : FVec F S128x64 .f32) (v388 : FVec F S128x1 .f32) (v389 : FVec F S128x1 .f32) (v400 : BitVec 32) (v466 : IVec S128x128 1) (v485 : FVec F S128x1 .f32) (v494 : FVec F S128x64 .f32) (v509 : FVec F S128x1 .f32) (v518 : FVec F S128x64 .f32) (v533 : FVec F S128x1 .f32) (v542 : FVec F S128x64 .f32) (v557 : FVec F S128x1 .f32) (v566 : FVec F S128x64 .f32) (v570 : FVec F S128x1 .bf16) (v585 : FVec F S128x1 .f32) (v594 : FVec F S128x64 .f32) (v609 : FVec F S128x1 .f32) (v615 : FVec F S128x64 .bf16) (v616 : FVec F S128x128 .bf16) : Prog (TpuEff nD τ sig (Elt F) Λ₀ .tc) (RT F) := do
  let ⟨v618, v633, v642, v654, v655⟩ ← app (k0_part18 (F := F)) d0 v346 v348 v379 v380 v388 v400 v466 v570 v615 v616
  hd19 d0 v2 v142 v334 v336 v338 v340 v342 v344 v346 v348 v373 v381 v389 v400 v485 v494 v509 v518 v533 v542 v557 v566 v570 v585 v594 v609 v618 v633 v642 v654 v655

/-- The pieces from number 17 on. -/
def hd17 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v378 : FVec F S128x64 .f32) (v379 : FVec F S128x64 .f32) (v380 : FVec F S128x64 .f32) (v381 : FVec F S128x64 .f32) (v386 : FVec F S128x1 .f32) (v387 : FVec F S128x1 .f32) (v388 : FVec F S128x1 .f32) (v389 : FVec F S128x1 .f32) (v400 : BitVec 32) (v466 : IVec S128x128 1) (v485 : FVec F S128x1 .f32) (v494 : FVec F S128x64 .f32) (v509 : FVec F S128x1 .f32) (v518 : FVec F S128x64 .f32) (v533 : FVec F S128x1 .f32) (v542 : FVec F S128x64 .f32) (v557 : FVec F S128x1 .f32) (v566 : FVec F S128x64 .f32) (v570 : FVec F S128x1 .bf16) (v575 : FVec F S128x128 .f32) : Prog (TpuEff nD τ sig (Elt F) Λ₀ .tc) (RT F) := do
  let ⟨v585, v594, v609, v615, v616⟩ ← app (k0_part17 (F := F)) d0 v344 v378 v386 v387 v400 v466 v570 v575
  hd18 d0 v2 v142 v334 v336 v338 v340 v342 v344 v346 v348 v373 v379 v380 v381 v388 v389 v400 v466 v485 v494 v509 v518 v533 v542 v557 v566 v570 v585 v594 v609 v615 v616

/-- The pieces from number 16 on. -/
def hd16 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v376 : FVec F S128x64 .f32) (v377 : FVec F S128x64 .f32) (v378 : FVec F S128x64 .f32) (v379 : FVec F S128x64 .f32) (v380 : FVec F S128x64 .f32) (v381 : FVec F S128x64 .f32) (v385 : FVec F S128x1 .f32) (v386 : FVec F S128x1 .f32) (v387 : FVec F S128x1 .f32) (v388 : FVec F S128x1 .f32) (v389 : FVec F S128x1 .f32) (v400 : BitVec 32) (v466 : IVec S128x128 1) (v470 : FVec F S128x1 .bf16) (v485 : FVec F S128x1 .f32) (v494 : FVec F S128x64 .f32) (v509 : FVec F S128x1 .f32) (v518 : FVec F S128x64 .f32) (v530 : FVec F S128x128 .f32) (v533 : FVec F S128x1 .f32) : Prog (TpuEff nD τ sig (Elt F) Λ₀ .tc) (RT F) := do
  let ⟨v542, v557, v566, v570, v575⟩ ← app (k0_part16 (F := F)) d0 v340 v342 v376 v377 v385 v400 v466 v470 v530
  hd17 d0 v2 v142 v334 v336 v338 v340 v342 v344 v346 v348 v373 v378 v379 v380 v381 v386 v387 v388 v389 v400 v466 v485 v494 v509 v518 v533 v542 v557 v566 v570 v575

/-- The pieces from number 15 on. -/
def hd15 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v375 : FVec F S128x64 .f32) (v376 : FVec F S128x64 .f32) (v377 : FVec F S128x64 .f32) (v378 : FVec F S128x64 .f32) (v379 : FVec F S128x64 .f32) (v380 : FVec F S128x64 .f32) (v381 : FVec F S128x64 .f32) (v383 : FVec F S128x1 .f32) (v384 : FVec F S128x1 .f32) (v385 : FVec F S128x1 .f32) (v386 : FVec F S128x1 .f32) (v387 : FVec F S128x1 .f32) (v388 : FVec F S128x1 .f32) (v389 : FVec F S128x1 .f32) (v400 : BitVec 32) (v466 : IVec S128x128 1) (v470 : FVec F S128x1 .bf16) (v485 : FVec F S128x1 .f32) (v494 : FVec F S128x64 .f32) : Prog (TpuEff nD τ sig (Elt F) Λ₀ .tc) (RT F) := do
  let ⟨v509, v518, v530, v533⟩ ← app (k0_part15 (F := F)) d0 v336 v338 v375 v383 v384 v400 v466 v470
  hd16 d0 v2 v142 v334 v336 v338 v340 v342 v344 v346 v348 v373 v376 v377 v378 v379 v380 v381 v385 v386 v387 v388 v389 v400 v466 v470 v485 v494 v509 v518 v530 v533

/-- The pieces from number 14 on. -/
def hd14 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v374 : FVec F S128x64 .f32) (v375 : FVec F S128x64 .f32) (v376 : FVec F S128x64 .f32) (v377 : FVec F S128x64 .f32) (v378 : FVec F S128x64 .f32) (v379 : FVec F S128x64 .f32) (v380 : FVec F S128x64 .f32) (v381 : FVec F S128x64 .f32) (v382 : FVec F S128x1 .f32) (v383 : FVec F S128x1 .f32) (v384 : FVec F S128x1 .f32) (v385 : FVec F S128x1 .f32) (v386 : FVec F S128x1 .f32) (v387 : FVec F S128x1 .f32) (v388 : FVec F S128x1 .f32) (v389 : FVec F S128x1 .f32) (v400 : BitVec 32) (v446 : IVec S128x128 1) (v449 : BitVec 32) (v451 : IVec S128x128 32) (v453 : IVec S128x128 1) (c0_i32_271 : BitVec 32) : Prog (TpuEff nD τ sig (Elt F) Λ₀ .tc) (RT F) := do
  let ⟨v466, v470, v485, v494⟩ ← app (k0_part14 (F := F)) d0 v334 v374 v382 v400 v446 v449 v451 v453 c0_i32_271
  hd15 d0 v2 v142 v334 v336 v338 v340 v342 v344 v346 v348 v373 v375 v376 v377 v378 v379 v380 v381 v383 v384 v385 v386 v387 v388 v389 v400 v466 v470 v485 v494

/-- The pieces from number 13 on. -/
def hd13 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v374 : FVec F S128x64 .f32) (v375 : FVec F S128x64 .f32) (v376 : FVec F S128x64 .f32) (v377 : FVec F S128x64 .f32) (v378 : FVec F S128x64 .f32) (v379 : FVec F S128x64 .f32) (v380 : FVec F S128x64 .f32) (v381 : FVec F S128x64 .f32) (v382 : FVec F S128x1 .f32) (v383 : FVec F S128x1 .f32) (v384 : FVec F S128x1 .f32) (v385 : FVec F S128x1 .f32) (v386 : FVec F S128x1 .f32) (v387 : FVec F S128x1 .f32) (v388 : FVec F S128x1 .f32) (v389 : FVec F S128x1 .f32) (v400 : BitVec 32) : Prog (TpuEff nD τ sig (Elt F) Λ₀ .tc) (RT F) := do
  let ⟨v446, v449, v451, v453, c0_i32_271⟩ ← app (k0_part13 (F := F)) d0 v373 v400
  hd14 d0 v2 v142 v334 v336 v338 v340 v342 v344 v346 v348 v373 v374 v375 v376 v377 v378 v379 v380 v381 v382 v383 v384 v385 v386 v387 v388 v389 v400 v446 v449 v451 v453 c0_i32_271

/-- The pieces from number 12 on. -/
def hd12 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v374 : FVec F S128x64 .f32) (v375 : FVec F S128x64 .f32) (v376 : FVec F S128x64 .f32) (v377 : FVec F S128x64 .f32) (v378 : FVec F S128x64 .f32) (v379 : FVec F S128x64 .f32) (v380 : FVec F S128x64 .f32) (cst_228 : F .f32) : Prog (TpuEff nD τ sig (Elt F) Λ₀ .tc) (RT F) := do
  let ⟨v381, v382, v383, v384, v385, v386, v387, v388, v389, v400⟩ ← app (k0_part12 (F := F)) d0 v2 cst_228
  hd13 d0 v2 v142 v334 v336 v338 v340 v342 v344 v346 v348 v373 v374 v375 v376 v377 v378 v379 v380 v381 v382 v383 v384 v385 v386 v387 v388 v389 v400

/-- The pieces from number 11 on. -/
def hd11 (d0 : Dev nD) (v2 : BitVec 32) (v142 : BitVec 1) (v332 : FVec F S256x256 .f32) (v334 : FVec F S128x64 .bf16) (v335 : FVec F S128x64 .f32) : Prog (TpuEff nD τ sig (Elt F) Λ₀ .tc) (RT F) := do
  let ⟨v336, v338, v340, v342, v344, v346, v348, v373, v374, v375, v376, v377, v378, v379, v380, cst_228⟩ ← app (k0_part11 (F := F)) v332 v335
  hd12 d0 v2 v142 v334 v336 v338 v340 v342 v344 v346 v348 v373 v374 v375 v376 v377 v378 v379 v380 cst_228

/-- The pieces from number 10 on. -/
def hd10 (d0 : Dev nD) (v2 : BitVec 32) (v142 : BitVec 1) : Prog (TpuEff nD τ sig (Elt F) Λ₀ .tc) (RT F) := do
  let ⟨v332, v334, v335⟩ ← app (k0_part10 (F := F)) d0 v2
  hd11 d0 v2 v142 v332 v334 v335

/-- The pieces from number 9 on. -/
def hd9 (d0 : Dev nD) (v2 : BitVec 32) (v142 : BitVec 1) (v265 : BitVec 32) (v266 : BitVec 32) (v267 : BitVec 1) (v270 : BitVec 1) : Prog (TpuEff nD τ sig (Elt F) Λ₀ .tc) (RT F) := do
  app (k0_part9 (F := F)) d0 v2 v142 v265 v266 v267 v270
  hd10 d0 v2 v142

/-- The pieces from number 8 on. -/
def hd8 (d0 : Dev nD) (v2 : BitVec 32) (v142 : BitVec 1) : Prog (TpuEff nD τ sig (Elt F) Λ₀ .tc) (RT F) := do
  let ⟨v265, v266, v267, v270⟩ ← app (k0_part8 (F := F)) d0 v2 v142
  hd9 d0 v2 v142 v265 v266 v267 v270

/-- The pieces from number 7 on. -/
def hd7 (d0 : Dev nD) (v2 : BitVec 32) (v142 : BitVec 1) (v201 : BitVec 32) : Prog (TpuEff nD τ sig (Elt F) Λ₀ .tc) (RT F) := do
  app (k0_part7 (F := F)) d0 v2 v142 v201
  hd8 d0 v2 v142

/-- The pieces from number 6 on. -/
def hd6 (d0 : Dev nD) (v2 : BitVec 32) (v142 : BitVec 1) (v167 : BitVec 32) (c8_i32_104 : BitVec 32) : Prog (TpuEff nD τ sig (Elt F) Λ₀ .tc) (RT F) := do
  let v201 ← app (k0_part6 (F := F)) d0 v2 v142 v167 c8_i32_104
  hd7 d0 v2 v142 v201

/-- The pieces from number 5 on. -/
def hd5 (d0 : Dev nD) (v2 : BitVec 32) (v132 : IVec S2x128x2048 8) : Prog (TpuEff nD τ sig (Elt F) Λ₀ .tc) (RT F) := do
  let ⟨v142, v167, c8_i32_104⟩ ← app (k0_part5 (F := F)) d0 v2 v132
  hd6 d0 v2 v142 v167 c8_i32_104

/-- The pieces from number 4 on. -/
def hd4 (d0 : Dev nD) (v2 : BitVec 32) : Prog (TpuEff nD τ sig (Elt F) Λ₀ .tc) (RT F) := do
  let v132 ← app (k0_part4 (F := F))
  hd5 d0 v2 v132

/-- The pieces from number 3 on. -/
def hd3 (d0 : Dev nD) (v2 : BitVec 32) (v3 : Sems sig S_) (v59 : BitVec 32) (v64 : BitVec 1) (v65 : BitVec 32) : Prog (TpuEff nD τ sig (Elt F) Λ₀ .tc) (RT F) := do
  app (k0_part3 (F := F)) d0 v2 v3 v59 v64 v65
  hd4 d0 v2

/-- The pieces from number 2 on. -/
def hd2 (d0 : Dev nD) (v2 : BitVec 32) (v3 : Sems sig S_) (v30 : BitVec 32) (c8_i32_18 : BitVec 32) (v31 : BitVec 1) : Prog (TpuEff nD τ sig (Elt F) Λ₀ .tc) (RT F) := do
  let ⟨v59, v64, v65⟩ ← app (k0_part2 (F := F)) d0 v2 v3 v30 c8_i32_18 v31
  hd3 d0 v2 v3 v59 v64 v65

/-- The pieces from number 1 on. -/
def hd1 : Prog (TpuEff nD τ sig (Elt F) Λ₀ .tc) (RT F) := do
  let ⟨d0, v2, v3, v30, c8_i32_18, v31⟩ ← app (k0_part1 (F := F))
  hd2 d0 v2 v3 v30 c8_i32_18 v31

/-- The last waits of the pieces from number 61 on. -/
def tl91 (d0 : Dev nD) : Prog (TpuEff nD τ sig (Elt F) Λ₀ .tc) PUnit := do
  let v3401 : Memref sig .tc .vmem S1x32x512 .bf16 := (Memref.whole cc0_scratch9 : Memref sig .tc .vmem S8x32x512 .bf16).slice (Rect.unit (s := S8x32x512) (k0_off122 d0) S1x32x512.size (k0_off122_inb d0)) (fun _ => rfl)
  let v3402 : Memref sig .tc .vmem S32x512 .bf16 := v3401.squeeze S32x512 squeezes_S1x32x512_S32x512
  let v3399 : DmaSems sig S1 := (cc0_scratch14 : DmaSems sig S7).slice (Rect.unit (s := S7) ![2] S1.size inb_S7_S1_2)
  let v3400 : DmaSems sig S_ := v3399.squeeze S_ squeezes_S1_S_
  Prog.lift (.waitDma2 v3400.sem v3402 (Memref.whole cc0_scratch8 : Memref sig .tc .vmem S32x512 .bf16) (((Memref.isWhole_whole cc0_scratch9).wordExact_slice rfl _ (k0_off122_wordsbf16 d0)).reshape _ _) (Memref.isWhole_whole cc0_scratch8).wordExact)
  let v3403 : DmaSems sig S1 := (cc0_scratch14 : DmaSems sig S7).slice (Rect.unit (s := S7) ![3] S1.size inb_S7_S1_3)
  let v3404 : DmaSems sig S_ := v3403.squeeze S_ squeezes_S1_S_
  let v3405 : Memref sig .tc .vmem S1x32x512 .bf16 := (Memref.whole cc0_scratch9 : Memref sig .tc .vmem S8x32x512 .bf16).slice (Rect.unit (s := S8x32x512) (k0_off122 d0) S1x32x512.size (k0_off122_inb d0)) (fun _ => rfl)
  let v3406 : Memref sig .tc .vmem S32x512 .bf16 := v3405.squeeze S32x512 squeezes_S1x32x512_S32x512
  Prog.lift (.waitDma2 v3404.sem v3406 (Memref.whole cc0_scratch8 : Memref sig .tc .vmem S32x512 .bf16) (((Memref.isWhole_whole cc0_scratch9).wordExact_slice rfl _ (k0_off122_wordsbf16 d0)).reshape _ _) (Memref.isWhole_whole cc0_scratch8).wordExact)
  let v3407 : DmaSems sig S1 := (cc0_scratch14 : DmaSems sig S7).slice (Rect.unit (s := S7) ![4] S1.size inb_S7_S1_4)
  let v3408 : DmaSems sig S_ := v3407.squeeze S_ squeezes_S1_S_
  let v3409 : Memref sig .tc .vmem S1x32x512 .bf16 := (Memref.whole cc0_scratch9 : Memref sig .tc .vmem S8x32x512 .bf16).slice (Rect.unit (s := S8x32x512) (k0_off122 d0) S1x32x512.size (k0_off122_inb d0)) (fun _ => rfl)
  let v3410 : Memref sig .tc .vmem S32x512 .bf16 := v3409.squeeze S32x512 squeezes_S1x32x512_S32x512
  Prog.lift (.waitDma2 v3408.sem v3410 (Memref.whole cc0_scratch8 : Memref sig .tc .vmem S32x512 .bf16) (((Memref.isWhole_whole cc0_scratch9).wordExact_slice rfl _ (k0_off122_wordsbf16 d0)).reshape _ _) (Memref.isWhole_whole cc0_scratch8).wordExact)
  pure ⟨⟩

/-- The pieces from number 90 on. -/
def tl90 (d0 : Dev nD) : Prog (TpuEff nD τ sig (Elt F) Λ₀ .tc) PUnit := do
  app (k0_part90 (F := F)) d0
  tl91 d0

/-- The pieces from number 89 on. -/
def tl89 (d0 : Dev nD) (v3346 : BitVec 32) : Prog (TpuEff nD τ sig (Elt F) Λ₀ .tc) PUnit := do
  app (k0_part89 (F := F)) d0 v3346
  tl90 d0

/-- The pieces from number 88 on. -/
def tl88 (d0 : Dev nD) (v2 : BitVec 32) (v3312 : BitVec 32) : Prog (TpuEff nD τ sig (Elt F) Λ₀ .tc) PUnit := do
  let v3346 ← app (k0_part88 (F := F)) d0 v2 v3312
  tl89 d0 v3346

/-- The pieces from number 87 on. -/
def tl87 (d0 : Dev nD) (v2 : BitVec 32) (v3278 : BitVec 32) : Prog (TpuEff nD τ sig (Elt F) Λ₀ .tc) PUnit := do
  let v3312 ← app (k0_part87 (F := F)) d0 v2 v3278
  tl88 d0 v2 v3312

/-- The pieces from number 86 on. -/
def tl86 (d0 : Dev nD) (v2 : BitVec 32) (v3244 : BitVec 32) : Prog (TpuEff nD τ sig (Elt F) Λ₀ .tc) PUnit := do
  let v3278 ← app (k0_part86 (F := F)) d0 v2 v3244
  tl87 d0 v2 v3278

/-- The pieces from number 85 on. -/
def tl85 (d0 : Dev nD) (v2 : BitVec 32) (c7_i32_1703 : BitVec 32) : Prog (TpuEff nD τ sig (Elt F) Λ₀ .tc) PUnit := do
  let v3244 ← app (k0_part85 (F := F)) d0 v2 c7_i32_1703
  tl86 d0 v2 v3244

/-- The pieces from number 84 on. -/
def tl84 (d0 : Dev nD) (v2 : BitVec 32) (v3172 : BitVec 32) (c8_i32_1680 : BitVec 32) (v3173 : BitVec 1) : Prog (TpuEff nD τ sig (Elt F) Λ₀ .tc) PUnit := do
  let c7_i32_1703 ← app (k0_part84 (F := F)) d0 v2 v3172 c8_i32_1680 v3173
  tl85 d0 v2 c7_i32_1703

/-- The pieces from number 83 on. -/
def tl83 (d0 : Dev nD) (v2 : BitVec 32) (v3136 : BitVec 32) (v3137 : BitVec 32) (c0_i32_1659 : BitVec 32) : Prog (TpuEff nD τ sig (Elt F) Λ₀ .tc) PUnit := do
  let ⟨v3172, c8_i32_1680, v3173⟩ ← app (k0_part83 (F := F)) d0 v2 v3136 v3137 c0_i32_1659
  tl84 d0 v2 v3172 c8_i32_1680 v3173

/-- The pieces from number 82 on. -/
def tl82 (d0 : Dev nD) (v2 : BitVec 32) (v3098 : BitVec 32) (v3099 : BitVec 32) (v3100 : BitVec 1) (v3101 : BitVec 1) (c0_i32_1637 : BitVec 32) : Prog (TpuEff nD τ sig (Elt F) Λ₀ .tc) PUnit := do
  let ⟨v3136, v3137, c0_i32_1659⟩ ← app (k0_part82 (F := F)) d0 v2 v3098 v3099 v3100 v3101 c0_i32_1637
  tl83 d0 v2 v3136 v3137 c0_i32_1659

/-- The pieces from number 81 on. -/
def tl81 (d0 : Dev nD) (v2 : BitVec 32) (v3069 : BitVec 32) (v3070 : BitVec 32) : Prog (TpuEff nD τ sig (Elt F) Λ₀ .tc) PUnit := do
  let ⟨v3098, v3099, v3100, v3101, c0_i32_1637⟩ ← app (k0_part81 (F := F)) d0 v2 v3069 v3070
  tl82 d0 v2 v3098 v3099 v3100 v3101 c0_i32_1637

/-- The pieces from number 80 on. -/
def tl80 (d0 : Dev nD) (v2 : BitVec 32) (v3033 : BitVec 32) (v3034 : BitVec 32) (v3035 : BitVec 1) (v3036 : BitVec 1) (v3037 : BitVec 1) : Prog (TpuEff nD τ sig (Elt F) Λ₀ .tc) PUnit := do
  let ⟨v3069, v3070⟩ ← app (k0_part80 (F := F)) d0 v2 v3033 v3034 v3035 v3036 v3037
  tl81 d0 v2 v3069 v3070

/-- The pieces from number 79 on. -/
def tl79 (d0 : Dev nD) (v2 : BitVec 32) (c1_i32_1560 : BitVec 32) : Prog (TpuEff nD τ sig (Elt F) Λ₀ .tc) PUnit := do
  let ⟨v3033, v3034, v3035, v3036, v3037⟩ ← app (k0_part79 (F := F)) d0 v2 c1_i32_1560
  tl80 d0 v2 v3033 v3034 v3035 v3036 v3037

/-- The pieces from number 78 on. -/
def tl78 (d0 : Dev nD) (v2 : BitVec 32) : Prog (TpuEff nD τ sig (Elt F) Λ₀ .tc) PUnit := do
  let c1_i32_1560 ← app (k0_part78 (F := F)) d0 v2
  tl79 d0 v2 c1_i32_1560

/-- The pieces from number 77 on. -/
def tl77 (d0 : Dev nD) (v2 : BitVec 32) (v2935 : BitVec 32) (v2936 : BitVec 32) (v2937 : BitVec 1) (v2938 : BitVec 1) : Prog (TpuEff nD τ sig (Elt F) Λ₀ .tc) PUnit := do
  app (k0_part77 (F := F)) d0 v2 v2935 v2936 v2937 v2938
  tl78 d0 v2

/-- The pieces from number 76 on. -/
def tl76 (d0 : Dev nD) (v2 : BitVec 32) (v2903 : BitVec 32) (c0_i32_1488 : BitVec 32) : Prog (TpuEff nD τ sig (Elt F) Λ₀ .tc) PUnit := do
  let ⟨v2935, v2936, v2937, v2938⟩ ← app (k0_part76 (F := F)) d0 v2 v2903 c0_i32_1488
  tl77 d0 v2 v2935 v2936 v2937 v2938

/-- The pieces from number 75 on. -/
def tl75 (d0 : Dev nD) (v2 : BitVec 32) : Prog (TpuEff nD τ sig (Elt F) Λ₀ .tc) PUnit := do
  let ⟨v2903, c0_i32_1488⟩ ← app (k0_part75 (F := F)) d0 v2
  tl76 d0 v2 v2903 c0_i32_1488

/-- The pieces from number 74 on. -/
def tl74 (d0 : Dev nD) (v2 : BitVec 32) (v2830 : BitVec 32) (v2831 : BitVec 32) (v2832 : BitVec 1) (v2833 : BitVec 1) : Prog (TpuEff nD τ sig (Elt F) Λ₀ .tc) PUnit := do
  app (k0_part74 (F := F)) d0 v2 v2830 v2831 v2832 v2833
  tl75 d0 v2

/-- The pieces from number 73 on. -/
def tl73 (d0 : Dev nD) (v2 : BitVec 32) : Prog (TpuEff nD τ sig (Elt F) Λ₀ .tc) PUnit := do
  let ⟨v2830, v2831, v2832, v2833⟩ ← app (k0_part73 (F := F)) d0 v2
  tl74 d0 v2 v2830 v2831 v2832 v2833

/-- The pieces from number 72 on. -/
def tl72 (d0 : Dev nD) (v2 : BitVec 32) (v142 : BitVec 1) (v2763 : BitVec 32) (v2764 : BitVec 32) (v2765 : BitVec 1) (v2766 : BitVec 1) (v2767 : BitVec 1) : Prog (TpuEff nD τ sig (Elt F) Λ₀ .tc) PUnit := do
  app (k0_part72 (F := F)) d0 v2 v142 v2763 v2764 v2765 v2766 v2767
  tl73 d0 v2

/-- The pieces from number 71 on. -/
def tl71 (d0 : Dev nD) (v2 : BitVec 32) (v142 : BitVec 1) : Prog (TpuEff nD τ sig (Elt F) Λ₀ .tc) PUnit := do
  let ⟨v2763, v2764, v2765, v2766, v2767⟩ ← app (k0_part71 (F := F)) d0 v2 v142
  tl72 d0 v2 v142 v2763 v2764 v2765 v2766 v2767

/-- The pieces from number 70 on. -/
def tl70 (d0 : Dev nD) (v2 : BitVec 32) (v142 : BitVec 1) (v2701 : BitVec 32) (c8_i32_1349 : BitVec 32) (v2702 : BitVec 1) : Prog (TpuEff nD τ sig (Elt F) Λ₀ .tc) PUnit := do
  app (k0_part70 (F := F)) d0 v2 v142 v2701 c8_i32_1349 v2702
  tl71 d0 v2 v142

/-- The pieces from number 69 on. -/
def tl69 (d0 : Dev nD) (v2 : BitVec 32) (v142 : BitVec 1) (v2671 : BitVec 32) (v2672 : BitVec 32) : Prog (TpuEff nD τ sig (Elt F) Λ₀ .tc) PUnit := do
  let ⟨v2701, c8_i32_1349, v2702⟩ ← app (k0_part69 (F := F)) d0 v2 v142 v2671 v2672
  tl70 d0 v2 v142 v2701 c8_i32_1349 v2702

/-- The pieces from number 68 on. -/
def tl68 (d0 : Dev nD) (v2 : BitVec 32) (v142 : BitVec 1) (v2352 : FVec F S128x64 .f32) (v2452 : FVec F S128x1 .f32) (v2461 : FVec F S128x64 .f32) (v2476 : FVec F S128x1 .f32) (v2485 : FVec F S128x64 .f32) (v2500 : FVec F S128x1 .f32) (v2509 : FVec F S128x64 .f32) (v2524 : FVec F S128x1 .f32) (v2533 : FVec F S128x64 .f32) (v2537 : FVec F S128x1 .bf16) (v2552 : FVec F S128x1 .f32) (v2561 : FVec F S128x64 .f32) (v2576 : FVec F S128x1 .f32) (v2585 : FVec F S128x64 .f32) (v2600 : FVec F S128x1 .f32) (v2609 : FVec F S128x64 .f32) (v2621 : FVec F S128x128 .f32) (v2624 : FVec F S128x1 .f32) (v2626 : Vec F S1x1x128x64 .i8) : Prog (TpuEff nD τ sig (Elt F) Λ₀ .tc) PUnit := do
  let ⟨v2671, v2672⟩ ← app (k0_part68 (F := F)) v2 v142 v2352 v2452 v2461 v2476 v2485 v2500 v2509 v2524 v2533 v2537 v2552 v2561 v2576 v2585 v2600 v2609 v2621 v2624 v2626
  tl69 d0 v2 v142 v2671 v2672

/-- The pieces from number 67 on. -/
def tl67 (d0 : Dev nD) (v2 : BitVec 32) (v142 : BitVec 1) (v346 : FVec F S128x64 .bf16) (v348 : FVec F S128x64 .bf16) (v2319 : FVec F S128x1 .f32) (v2328 : FVec F S128x64 .f32) (v2343 : FVec F S128x1 .f32) (v2352 : FVec F S128x64 .f32) (v2363 : BitVec 32) (v2433 : IVec S128x128 1) (v2452 : FVec F S128x1 .f32) (v2461 : FVec F S128x64 .f32) (v2476 : FVec F S128x1 .f32) (v2485 : FVec F S128x64 .f32) (v2500 : FVec F S128x1 .f32) (v2509 : FVec F S128x64 .f32) (v2524 : FVec F S128x1 .f32) (v2533 : FVec F S128x64 .f32) (v2537 : FVec F S128x1 .bf16) (v2552 : FVec F S128x1 .f32) (v2561 : FVec F S128x64 .f32) (v2576 : FVec F S128x1 .f32) (v2585 : FVec F S128x64 .f32) : Prog (TpuEff nD τ sig (Elt F) Λ₀ .tc) PUnit := do
  let ⟨v2600, v2609, v2621, v2624, v2626⟩ ← app (k0_part67 (F := F)) d0 v346 v348 v2319 v2328 v2343 v2363 v2433 v2537
  tl68 d0 v2 v142 v2352 v2452 v2461 v2476 v2485 v2500 v2509 v2524 v2533 v2537 v2552 v2561 v2576 v2585 v2600 v2609 v2621 v2624 v2626

/-- The pieces from number 66 on. -/
def tl66 (d0 : Dev nD) (v2 : BitVec 32) (v142 : BitVec 1) (v344 : FVec F S128x64 .bf16) (v346 : FVec F S128x64 .bf16) (v348 : FVec F S128x64 .bf16) (v2271 : FVec F S128x1 .f32) (v2280 : FVec F S128x64 .f32) (v2295 : FVec F S128x1 .f32) (v2304 : FVec F S128x64 .f32) (v2319 : FVec F S128x1 .f32) (v2328 : FVec F S128x64 .f32) (v2343 : FVec F S128x1 .f32) (v2352 : FVec F S128x64 .f32) (v2363 : BitVec 32) (v2433 : IVec S128x128 1) (v2452 : FVec F S128x1 .f32) (v2461 : FVec F S128x64 .f32) (v2476 : FVec F S128x1 .f32) (v2485 : FVec F S128x64 .f32) (v2500 : FVec F S128x1 .f32) (v2509 : FVec F S128x64 .f32) (v2524 : FVec F S128x1 .f32) (v2533 : FVec F S128x64 .f32) (v2537 : FVec F S128x1 .bf16) (v2547 : FVec F S128x128 .f32) : Prog (TpuEff nD τ sig (Elt F) Λ₀ .tc) PUnit := do
  let ⟨v2552, v2561, v2576, v2585⟩ ← app (k0_part66 (F := F)) d0 v344 v2271 v2280 v2295 v2304 v2363 v2433 v2537 v2547
  tl67 d0 v2 v142 v346 v348 v2319 v2328 v2343 v2352 v2363 v2433 v2452 v2461 v2476 v2485 v2500 v2509 v2524 v2533 v2537 v2552 v2561 v2576 v2585

/-- The pieces from number 65 on. -/
def tl65 (d0 : Dev nD) (v2 : BitVec 32) (v142 : BitVec 1) (v340 : FVec F S128x64 .bf16) (v342 : FVec F S128x64 .bf16) (v344 : FVec F S128x64 .bf16) (v346 : FVec F S128x64 .bf16) (v348 : FVec F S128x64 .bf16) (v2228 : FVec F S128x64 .f32) (v2243 : FVec F S128x1 .f32) (v2252 : FVec F S128x64 .f32) (v2271 : FVec F S128x1 .f32) (v2280 : FVec F S128x64 .f32) (v2295 : FVec F S128x1 .f32) (v2304 : FVec F S128x64 .f32) (v2319 : FVec F S128x1 .f32) (v2328 : FVec F S128x64 .f32) (v2343 : FVec F S128x1 .f32) (v2352 : FVec F S128x64 .f32) (v2363 : BitVec 32) (v2433 : IVec S128x128 1) (v2437 : FVec F S128x1 .bf16) (v2452 : FVec F S128x1 .f32) (v2461 : FVec F S128x64 .f32) (v2476 : FVec F S128x1 .f32) (v2485 : FVec F S128x64 .f32) (v2500 : FVec F S128x1 .f32) (v2506 : FVec F S128x64 .bf16) (v2507 : FVec F S128x128 .bf16) (cst_1252 : FVec F S128x64 .f32) : Prog (TpuEff nD τ sig (Elt F) Λ₀ .tc) PUnit := do
  let ⟨v2509, v2524, v2533, v2537, v2547⟩ ← app (k0_part65 (F := F)) d0 v340 v342 v2228 v2243 v2252 v2363 v2433 v2437 v2506 v2507 cst_1252
  tl66 d0 v2 v142 v344 v346 v348 v2271 v2280 v2295 v2304 v2319 v2328 v2343 v2352 v2363 v2433 v2452 v2461 v2476 v2485 v2500 v2509 v2524 v2533 v2537 v2547

/-- The pieces from number 64 on. -/
def tl64 (d0 : Dev nD) (v2 : BitVec 32) (v142 : BitVec 1) (v338 : FVec F S128x64 .bf16) (v340 : FVec F S128x64 .bf16) (v342 : FVec F S128x64 .bf16) (v344 : FVec F S128x64 .bf16) (v346 : FVec F S128x64 .bf16) (v348 : FVec F S128x64 .bf16) (v2195 : FVec F S128x1 .f32) (v2204 : FVec F S128x64 .f32) (v2219 : FVec F S128x1 .f32) (v2228 : FVec F S128x64 .f32) (v2243 : FVec F S128x1 .f32) (v2252 : FVec F S128x64 .f32) (v2271 : FVec F S128x1 .f32) (v2280 : FVec F S128x64 .f32) (v2295 : FVec F S128x1 .f32) (v2304 : FVec F S128x64 .f32) (v2319 : FVec F S128x1 .f32) (v2328 : FVec F S128x64 .f32) (v2343 : FVec F S128x1 .f32) (v2352 : FVec F S128x64 .f32) (v2363 : BitVec 32) (v2433 : IVec S128x128 1) (v2437 : FVec F S128x1 .bf16) (v2452 : FVec F S128x1 .f32) (v2461 : FVec F S128x64 .f32) (v2466 : FVec F S128x128 .f32) (cst_1233 : F .f32) : Prog (TpuEff nD τ sig (Elt F) Λ₀ .tc) PUnit := do
  let ⟨v2476, v2485, v2500, v2506, v2507, cst_1252⟩ ← app (k0_part64 (F := F)) d0 v338 v2195 v2204 v2219 v2363 v2433 v2437 v2466 cst_1233
  tl65 d0 v2 v142 v340 v342 v344 v346 v348 v2228 v2243 v2252 v2271 v2280 v2295 v2304 v2319 v2328 v2343 v2352 v2363 v2433 v2437 v2452 v2461 v2476 v2485 v2500 v2506 v2507 cst_1252

/-- The pieces from number 63 on. -/
def tl63 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2271 : FVec F S128x1 .f32) (v2280 : FVec F S128x64 .f32) (v2295 : FVec F S128x1 .f32) (v2304 : FVec F S128x64 .f32) (v2319 : FVec F S128x1 .f32) (v2328 : FVec F S128x64 .f32) (v2343 : FVec F S128x1 .f32) (v2352 : FVec F S128x64 .f32) (v2363 : BitVec 32) (v2413 : IVec S128x128 1) (v2416 : BitVec 32) (v2418 : IVec S128x128 32) (v2420 : IVec S128x128 1) (v2426 : IVec S128x128 1) : Prog (TpuEff nD τ sig (Elt F) Λ₀ .tc) PUnit := do
  let ⟨v2433, v2437, v2452, v2461, v2466, cst_1233⟩ ← app (k0_part63 (F := F)) d0 v334 v336 v2171 v2180 v2363 v2413 v2416 v2418 v2420 v2426
  tl64 d0 v2 v142 v338 v340 v342 v344 v346 v348 v2195 v2204 v2219 v2228 v2243 v2252 v2271 v2280 v2295 v2304 v2319 v2328 v2343 v2352 v2363 v2433 v2437 v2452 v2461 v2466 cst_1233

/-- The pieces from number 62 on. -/
def tl62 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2271 : FVec F S128x1 .f32) (v2280 : FVec F S128x64 .f32) (v2295 : FVec F S128x1 .f32) (v2304 : FVec F S128x64 .f32) (v2319 : FVec F S128x1 .f32) (v2328 : FVec F S128x64 .f32) (v2343 : FVec F S128x1 .f32) (v2352 : FVec F S128x64 .f32) (v2363 : BitVec 32) : Prog (TpuEff nD τ sig (Elt F) Λ₀ .tc) PUnit := do
  let ⟨v2413, v2416, v2418, v2420, v2426⟩ ← app (k0_part62 (F := F)) v373 v2363
  tl63 d0 v2 v142 v334 v336 v338 v340 v342 v344 v346 v348 v2171 v2180 v2195 v2204 v2219 v2228 v2243 v2252 v2271 v2280 v2295 v2304 v2319 v2328 v2343 v2352 v2363 v2413 v2416 v2418 v2420 v2426

/-- The pieces from number 61 on. -/
def tl61 (d0 : Dev nD) (v2 : BitVec 32) (v142 : BitVec 1) (v334 : FVec F S128x64 .bf16) (v336 : FVec F S128x64 .bf16) (v338 : FVec F S128x64 .bf16) (v340 : FVec F S128x64 .bf16) (v342 : FVec F S128x64 .bf16) (v344 : FVec F S128x64 .bf16) (v346 : FVec F S128x64 .bf16) (v348 : FVec F S128x64 .bf16) (v373 : IVec S128x128 32) (v2071 : FVec F S128x64 .f32) (v2171 : FVec F S128x1 .f32) (v2180 : FVec F S128x64 .f32) (v2195 : FVec F S128x1 .f32) (v2204 : FVec F S128x64 .f32) (v2219 : FVec F S128x1 .f32) (v2228 : FVec F S128x64 .f32) (v2243 : FVec F S128x1 .f32) (v2252 : FVec F S128x64 .f32) (v2256 : FVec F S128x1 .bf16) (v2271 : FVec F S128x1 .f32) (v2280 : FVec F S128x64 .f32) (v2295 : FVec F S128x1 .f32) (v2304 : FVec F S128x64 .f32) (v2319 : FVec F S128x1 .f32) (v2328 : FVec F S128x64 .f32) (v2340 : FVec F S128x128 .f32) (v2343 : FVec F S128x1 .f32) : Prog (TpuEff nD τ sig (Elt F) Λ₀ .tc) PUnit := do
  let ⟨v2352, v2363⟩ ← app (k0_part61 (F := F)) d0 v2 v2071 v2256 v2340
  tl62 d0 v2 v142 v334 v336 v338 v340 v342 v344 v346 v348 v373 v2171 v2180 v2195 v2204 v2219 v2228 v2243 v2252 v2271 v2280 v2295 v2304 v2319 v2328 v2343 v2352 v2363

/-- The pieces from number 61 on, from what the first sixty return. -/
def tlR (r : RT F) : Prog (TpuEff nD τ sig (Elt F) Λ₀ .tc) PUnit :=
  match r with
  | ⟨d0, v2, v142, v334, v336, v338, v340, v342, v344, v346, v348, v373, v2071, v2171, v2180, v2195, v2204, v2219, v2228, v2243, v2252, v2256, v2271, v2280, v2295, v2304, v2319, v2328, v2340, v2343⟩ => tl61 d0 v2 v142 v334 v336 v338 v340 v342 v344 v346 v348 v373 v2071 v2171 v2180 v2195 v2204 v2219 v2228 v2243 v2252 v2256 v2271 v2280 v2295 v2304 v2319 v2328 v2340 v2343

/-- The last two waits. -/
def fin92 (d0 : Dev nD) : Prog (TpuEff nD τ sig (Elt F) Λ₀ .tc) PUnit := do
  let v3411 : DmaSems sig S1 := (cc0_scratch14 : DmaSems sig S7).slice (Rect.unit (s := S7) ![5] S1.size inb_S7_S1_5)
  let v3412 : DmaSems sig S_ := v3411.squeeze S_ squeezes_S1_S_
  let v3413 : Memref sig .tc .vmem S1x32x512 .bf16 := (Memref.whole cc0_scratch9 : Memref sig .tc .vmem S8x32x512 .bf16).slice (Rect.unit (s := S8x32x512) (k0_off122 d0) S1x32x512.size (k0_off122_inb d0)) (fun _ => rfl)
  let v3414 : Memref sig .tc .vmem S32x512 .bf16 := v3413.squeeze S32x512 squeezes_S1x32x512_S32x512
  Prog.lift (.waitDma2 v3412.sem v3414 (Memref.whole cc0_scratch8 : Memref sig .tc .vmem S32x512 .bf16) (((Memref.isWhole_whole cc0_scratch9).wordExact_slice rfl _ (k0_off122_wordsbf16 d0)).reshape _ _) (Memref.isWhole_whole cc0_scratch8).wordExact)
  let v3415 : DmaSems sig S1 := (cc0_scratch14 : DmaSems sig S7).slice (Rect.unit (s := S7) ![6] S1.size inb_S7_S1_6)
  let v3416 : DmaSems sig S_ := v3415.squeeze S_ squeezes_S1_S_
  let v3417 : Memref sig .tc .vmem S1x32x512 .bf16 := (Memref.whole cc0_scratch9 : Memref sig .tc .vmem S8x32x512 .bf16).slice (Rect.unit (s := S8x32x512) (k0_off122 d0) S1x32x512.size (k0_off122_inb d0)) (fun _ => rfl)
  let v3418 : Memref sig .tc .vmem S32x512 .bf16 := v3417.squeeze S32x512 squeezes_S1x32x512_S32x512
  Prog.lift (.waitDma2 v3416.sem v3418 (Memref.whole cc0_scratch8 : Memref sig .tc .vmem S32x512 .bf16) (((Memref.isWhole_whole cc0_scratch9).wordExact_slice rfl _ (k0_off122_wordsbf16 d0)).reshape _ _) (Memref.isWhole_whole cc0_scratch8).wordExact)
  pure ⟨⟩

set_option maxRecDepth 65536 in
theorem hd_eq : app (k0_part91 (F := F)) = hd1 := rfl
set_option maxRecDepth 65536 in
theorem tl_eq : (fun r : RT F => match r with
  | ⟨d0, v2, v142, v334, v336, v338, v340, v342, v344, v346, v348, v373, v2071, v2171, v2180, v2195, v2204, v2219, v2228, v2243, v2252, v2256, v2271, v2280, v2295, v2304, v2319, v2328, v2340, v2343⟩ => app (k0_part92 (F := F)) d0 v2 v142 v334 v336 v338 v340 v342 v344 v346 v348 v373 v2071 v2171 v2180 v2195 v2204 v2219 v2228 v2243 v2252 v2256 v2271 v2280 v2295 v2304 v2319 v2328 v2340 v2343) = tlR := rfl
set_option maxRecDepth 65536 in
theorem body_eq : app (cc0_body (F := F)) = (hd1 >>= fun r => tlR r >>= fun _ => fin92 r.1) := rfl

end Cert.KProof
-- ==== Proof.Att.lean ====
/-
The attention: the eight blocks of keys and values are folded as they land, and the product is stored.
-/
module

public import proofs.«01_k».proof.Proof.Tails

@[expose] public section

set_option pp.maxSteps 900

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-- The program with an equal one in its place. -/
theorem wp_of_eq {α : Type} {Q : α → sProp 𝕄} (c : Dev nD) {p p' : Prog (TpuEff nD τ sig (Elt F) Λ₀ .tc) α} (h : p = p') :
    wp frame (wpE (defs₀ (F := F)) 𝒱₀ (c : Thread nD τ) none) Set.univ p' Q ⊢ wp frame (wpE (defs₀ (F := F)) 𝒱₀ (c : Thread nD τ) none) Set.univ p Q := by
  subst h; exact Entails.rfl

/-- The number of the device, as the kernel reads it, and of the device `r` before it. -/
abbrev devW (c : Dev nD) : BitVec 32 := Scalar.remsi (Scalar.divsi (Dev.word c) 1#32) 8#32
abbrev srW (v r : BitVec 32) : BitVec 32 :=
  have n : BitVec 32 := Scalar.select (Scalar.cmpi .eq 8#32 0#32) 1#32 8#32
  have d : BitVec 32 := Scalar.remsi (Scalar.subi v r) n
  Scalar.select (Scalar.andi (Scalar.xori (Scalar.cmpi .slt d 0#32) (Scalar.cmpi .slt n 0#32)) (Scalar.cmpi .ne d 0#32)) (Scalar.addi d n) d
theorem srW_eq (c : Dev nD) (g : Fin 8) : srW (devW c) (BitVec.ofNat 32 g.val) = BitVec.ofNat 32 (sr c g.val).val := by
  revert c g; decide +kernel

/-- The pieces from number 61 on and the last two waits. -/
def tlF (r : RT F) : Prog (TpuEff nD τ sig (Elt F) Λ₀ .tc) PUnit := tlR r >>= fun _ => fin92 r.1

/-- One block of the fold. -/
def stL (c : Dev nD) (q : Fin 8 → FVec F S128x64 .bf16) (g : ℕ) (f : CRv F) (l : Fin 8 → FVec F S128x1 .f32) (j : Fin 8) : FVec F S128x1 .f32 :=
  k0_pay44 (q j) (l j) (maskOf c g) (ldK false (sr c g) j f)
def stO (c : Dev nD) (q : Fin 8 → FVec F S128x64 .bf16) (g : ℕ) (f f' : CRv F) (f'' : CRs F) (o : Fin 8 → FVec F S128x64 .f32) (j : Fin 8) : FVec F S128x64 .f32 :=
  k0_pay45 (q j) (o j) (maskOf c g) (k0_pay39 (ldS (sr c g) ⟨j.val / 4, by omega⟩ f'')) (ldK false (sr c g) j f) (ldK true (sr c g) j f')

/-- A piece of the program on the queries and the sums so far. -/
@[reducible] def apA {β : Type 1} (f : Dev nD → BitVec 32 → BitVec 1 → FVec F S128x64 .bf16 → FVec F S128x64 .bf16 → FVec F S128x64 .bf16 → FVec F S128x64 .bf16 → FVec F S128x64 .bf16 → FVec F S128x64 .bf16 → FVec F S128x64 .bf16 → FVec F S128x64 .bf16 → IVec S128x128 32 → FVec F S128x1 .f32 → FVec F S128x64 .f32 → FVec F S128x1 .f32 → FVec F S128x64 .f32 → FVec F S128x1 .f32 → FVec F S128x64 .f32 → FVec F S128x1 .f32 → FVec F S128x64 .f32 → FVec F S128x1 .f32 → FVec F S128x64 .f32 → FVec F S128x1 .f32 → FVec F S128x64 .f32 → FVec F S128x1 .f32 → FVec F S128x64 .f32 → FVec F S128x1 .f32 → FVec F S128x64 .f32 → BitVec 32 → β)
    (c : Dev nD) (b : BitVec 1) (q : Fin 8 → FVec F S128x64 .bf16) (l : Fin 8 → FVec F S128x1 .f32) (o : Fin 8 → FVec F S128x64 .f32) (w : BitVec 32) : β :=
  f c (devW c) b (q 0) (q 1) (q 2) (q 3) (q 4) (q 5) (q 6) (q 7) k0_pay17 (l 0) (o 0) (l 1) (o 1) (l 2) (o 2) (l 3) (o 3) (l 4) (o 4) (l 5) (o 5) (l 6) (o 6) (l 7) (o 7) w

/-- The pieces from number 14 on, from the queries and the sums. -/
def hd14h (c : Dev nD) (v2 : BitVec 32) (v142 : BitVec 1) (q0 q1 q2 q3 q4 q5 q6 q7 : FVec F S128x64 .bf16) (v373 : IVec S128x128 32) (l0 : FVec F S128x1 .f32) (o0 : FVec F S128x64 .f32) (l1 : FVec F S128x1 .f32) (o1 : FVec F S128x64 .f32) (l2 : FVec F S128x1 .f32) (o2 : FVec F S128x64 .f32) (l3 : FVec F S128x1 .f32) (o3 : FVec F S128x64 .f32) (l4 : FVec F S128x1 .f32) (o4 : FVec F S128x64 .f32) (l5 : FVec F S128x1 .f32) (o5 : FVec F S128x64 .f32) (l6 : FVec F S128x1 .f32) (o6 : FVec F S128x64 .f32) (l7 : FVec F S128x1 .f32) (o7 : FVec F S128x64 .f32) (w : BitVec 32) : Prog (TpuEff nD τ sig (Elt F) Λ₀ .tc) (RT F) :=
  hd14 c v2 v142 q0 q1 q2 q3 q4 q5 q6 q7 v373 o0 o1 o2 o3 o4 o5 o6 o7 l0 l1 l2 l3 l4 l5 l6 l7 w (k0_pay35 v373 w) (Scalar.select (Scalar.cmpi .eq 3#32 0#32) 1#32 3#32) (k0_pay36 v373 w) (k0_pay37 v373 w) 0#32

theorem lnd0 (c s : Dev nD) : lndP m ρ c 0 s = iprop(∃ g : CRv F, kvPts c false s g ∗ ⌜landOk m ρ false s c g⌝) := rfl
theorem lnd1 (c s : Dev nD) : lndP m ρ c 1 s = iprop(∃ g : CRv F, kvPts c true s g ∗ ⌜landOk m ρ true s c g⌝) := rfl
theorem lnd2 (c s s' : Dev nD) (h : s' = s) : lndP m ρ c 2 s' = iprop(∃ g : CRs F, vsPts c s g ∗ ⌜(slotS s).view.read (Elt F) g = SVS m ρ s⌝) := by
  subst h; rfl

/-- The wait for the scales of another device. -/
theorem scaleWait_step {α : Type} {Q : α → sProp 𝕄} (c : Dev nD) (o : Fin 7) {off : Fin 1 → ℕ} (ho : off = ![(sr c (o.val + 1)).val])
    {inb : ∀ a, off a + S1.size a ≤ S8.size a} {s : Shape} {e : EltTy} {src : Memref sig .tc .vmem s e}
    {off' : Fin 3 → ℕ} {inb' : ∀ a, off' a + S1x2x128.size a ≤ S8x2x128.size a} {hsrc : src.view.WordExact}
    {hdst : (((Memref.whole cc0_scratch5 : Memref sig .tc .vmem S8x2x128 .bf16).slice (Rect.unit (s := S8x2x128) off' S1x2x128.size inb') (fun _ => rfl)).squeeze S2x128 squeezes_S1x2x128_S2x128).view.WordExact}
    {k : PUnit → Prog (TpuEff nD τ sig (Elt F) Λ₀ .tc) α} :
    iprop(ctx m ρ K ∗ RQ (F := F) c 2 o.val ∗ ow c 28)
      ⊢ iprop(((RQ (F := F) c 2 (o.val + 1) ∗ lndP m ρ c 2 (sr c (o.val + 1)) ∗ ow c 28) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch17 (Rect.unit (s := S8) off S1.size inb)).squeeze S_ squeezes_S1_S_).sem src
            (((Memref.whole cc0_scratch5 : Memref sig .tc .vmem S8x2x128 .bf16).slice (Rect.unit (s := S8x2x128) off' S1x2x128.size inb') (fun _ => rfl)).squeeze S2x128 squeezes_S1x2x128_S2x128) hsrc hdst) k) Q) :=
  recvWait_step m ρ K c 2 o 28 (lev28 2 (by decide) _) (semR_eq 2 (sr c (o.val + 1)) ho) (src := src)
    (tgt := (((Memref.whole cc0_scratch5 : Memref sig .tc .vmem S8x2x128 .bf16).slice (Rect.unit (s := S8x2x128) off' S1x2x128.size inb') (fun _ => rfl)).squeeze S2x128 squeezes_S1x2x128_S2x128)) rfl

theorem KR_intro (c : Dev nD) (o : ℕ) : iprop(RQ (F := F) c 0 o ∗ RQ (F := F) c 1 o ∗ ow (F := F) c 28) ⊢ KR (F := F) c o := Entails.rfl
theorem KRd_eq (c : Dev nD) (o p : ℕ) (h : p = o + 1) : KRd m ρ c o = iprop(RQ (F := F) c 0 p ∗ RQ (F := F) c 1 p ∗ lndP m ρ c 0 (sr c p) ∗ lndP m ρ c 1 (sr c p) ∗ ow c 28) := by
  subst h; rfl
theorem VO (c : Dev nD) (o : Fin 7) : k0_off62 c (BitVec.ofNat 32 (o.val + 1)) = ![(sr c (o.val + 1)).val] := by revert c o; decide +kernel

/-- The three slots of a source, whatever they hold. -/
def slot3 (c s : Dev nD) : sProp 𝕄 := iprop(slotP (F := F) c 0 s ∗ slotP (F := F) c 1 s ∗ slotP (F := F) c 2 s)
theorem slot3_intro (c s : Dev nD) (f f' : CRv F) (f'' : CRs F) : iprop(kvPts c false s f ∗ kvPts c true s f' ∗ vsPts c s f'') ⊢ slot3 (F := F) c s := by
  unfold slot3 slotP kvPts vsPts
  dsimp only
  iintro ⟨H1, H2, H3⟩
  isplitl [H1]; · iexists f; iexact H1
  isplitl [H2]; · iexists f'; iexact H2
  iexists f''; iexact H3

theorem ex8 {A : Type} (a0 a1 a2 a3 a4 a5 a6 a7 : A) : ∃ f : ℕ → A, f 0 = a0 ∧ f 1 = a1 ∧ f 2 = a2 ∧ f 3 = a3 ∧ f 4 = a4 ∧ f 5 = a5 ∧ f 6 = a6 ∧ f 7 = a7 :=
  ⟨fun n => match n with | 0 => a0 | 1 => a1 | 2 => a2 | 3 => a3 | 4 => a4 | 5 => a5 | 6 => a6 | _ => a7, rfl, rfl, rfl, rfl, rfl, rfl, rfl, rfl⟩
theorem accO_eight (c : Dev nD) (q : Fin 8 → FVec F S128x64 .bf16) (kf vf : ℕ → CRv F) (vsf : ℕ → CRs F) :
    (stO c q 7 (kf 7) (vf 7) (vsf 7) (stO c q 6 (kf 6) (vf 6) (vsf 6) (stO c q 5 (kf 5) (vf 5) (vsf 5) (stO c q 4 (kf 4) (vf 4) (vsf 4) (stO c q 3 (kf 3) (vf 3) (vsf 3) (stO c q 2 (kf 2) (vf 2) (vsf 2) (stO c q 1 (kf 1) (vf 1) (vsf 1) (stO c q 0 (kf 0) (vf 0) (vsf 0) (fun _ => k0_pay18))))))))) = fun j => accO c q kf vf vsf j 8 := rfl
theorem accL_eight (c : Dev nD) (q : Fin 8 → FVec F S128x64 .bf16) (kf : ℕ → CRv F) :
    (stL c q 7 (kf 7) (stL c q 6 (kf 6) (stL c q 5 (kf 5) (stL c q 4 (kf 4) (stL c q 3 (kf 3) (stL c q 2 (kf 2) (stL c q 1 (kf 1) (stL c q 0 (kf 0) (fun _ => k0_pay26))))))))) = fun j => accL c q kf j 8 := rfl
theorem fin8_intro (P : Fin 8 → sProp 𝕄) : iprop(P 0 ∗ P 1 ∗ P 2 ∗ P 3 ∗ P 4 ∗ P 5 ∗ P 6 ∗ P 7) ⊢ bigSep Finset.univ P := by
  rw [bigSep_univ_eq_bigSepL [0, 1, 2, 3, 4, 5, 6, 7] (by decide) (by decide)]
  exact Entails.rfl
theorem fin8_elim (P : Fin 8 → sProp 𝕄) : bigSep Finset.univ P ⊢ iprop(P 0 ∗ P 1 ∗ P 2 ∗ P 3 ∗ P 4 ∗ P 5 ∗ P 6 ∗ P 7) := by
  rw [bigSep_univ_eq_bigSepL [0, 1, 2, 3, 4, 5, 6, 7] (by decide) (by decide)]
  exact Entails.rfl

set_option maxRecDepth 65536 in
set_option maxHeartbeats 8000000 in
theorem att_step {Q : PUnit → sProp 𝕄} (c : Dev nD) (v142 : BitVec 1) (q : Fin 8 → FVec F S128x64 .bf16) (x4 : S256x512.Idx → Elt F .bf16) :
    iprop(ctx m ρ K ∗ (lndP m ρ c 0 (sr c 0) ∗ lndP m ρ c 1 (sr c 0) ∗ lndP m ρ c 2 (sr c 0)) ∗ KR (F := F) c 0 ∗ RQ (F := F) c 2 0
      ∗ ((Memref.whole cc0_stg4_0 : Memref sig .tc .vmem S256x512 .bf16).view.loc (c : Thread nD τ) ↦{fullShare} x4)
      ∗ (∃ w : CAr F, arM.view.loc (c : Thread nD τ) ↦{fullShare} w))
     ⊢ iprop((∀ a, ∀ b,
        (KR (F := F) c 7 ∗ RQ (F := F) c 2 7 ∗ (bigSep Finset.univ fun g : Fin 8 => slot3 (F := F) c (sr c g.val))
          ∗ ((Memref.whole cc0_stg4_0 : Memref sig .tc .vmem S256x512 .bf16).view.loc (c : Thread nD τ) ↦{fullShare} x4)
          ∗ (∃ (kf vf : ℕ → CRv F) (vsf : ℕ → CRs F),
            (arM.view.loc (c : Thread nD τ) ↦{fullShare} finOf (fun j => accO c q kf vf vsf j 8) (fun j => accL c q kf j 8) x4)
            ∗ ⌜∀ g, g < 8 → landOk m ρ false (sr c g) c (kf g) ∧ landOk m ρ true (sr c g) c (vf g)
                ∧ (slotS (sr c g)).view.read (Elt F) (vsf g) = SVS m ρ (sr c g)⌝))
          -∗ wp frame (wpE (defs₀ (F := F)) 𝒱₀ (c : Thread nD τ) none) Set.univ (tl69 c (devW c) v142 a b >>= fun _ => fin92 c) Q)
        -∗ wp frame (wpE (defs₀ (F := F)) 𝒱₀ (c : Thread nD τ) none) Set.univ (apA hd14h c v142 q (fun _ => k0_pay26) (fun _ => k0_pay18) (BitVec.ofNat 32 (sr c 0).val) >>= tlF) Q) := by
  iintro ⟨#Hc, ⟨HK, HV, HS⟩, HKR, HR2, Hx4, ⟨%w0, Har⟩⟩ Hk
  -- block 0
  ihave ⟨%k0, HK0, %hk0⟩ := (Entails.of_eq (lnd0 m ρ c (sr c 0))) $$ HK
  ihave ⟨%v0, HV0, %hv0⟩ := (Entails.of_eq (lnd1 m ρ c (sr c 0))) $$ HV
  unfold hd14h hd14 hd15 hd16 hd17 hd18 hd19
  simp only [k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel,
    app, bind_dite, Prog.lift, Prog.bind_op, Prog.bind_ret, Prog.pure_eq_ret]
  ihave ⟨%s0, HS0, %hs0⟩ := (Entails.of_eq (lnd2 m ρ c (sr c 0) _ rfl)) $$ HS
  iapply (block_step c 0 _ rfl k0 v0 s0) $$ [HK0 HV0 HS0]
  · isplitl [HK0]; · iexact HK0
    isplitl [HV0]; · iexact HV0
    iexact HS0
  iintro Hb0
  iapply (kvH_recv m ρ K c 0 k0_cond15 k0_off57 (by decide +kernel)) $$ [HKR]
  · isplitr; · iexact Hc
    iexact HKR
  iintro HKR
  iapply (kvF_recv m ρ K c 0 k0_cond16 k0_off60 (by decide +kernel)) $$ [HKR]
  · isplitr; · iexact Hc
    iexact HKR
  iintro HKR
  ihave ⟨HR0, HR1, HK, HV, HO⟩ := (Entails.of_eq (KRd_eq m ρ c ((0 : Fin 7).val) 1 rfl)) $$ HKR
  iapply (wp_of_eq c (p' := apA hd20 c v142 q (stL c q 0 k0 (fun _ => k0_pay26)) (stO c q 0 k0 v0 s0 (fun _ => k0_pay18)) (srW (devW c) 1#32) >>= tlF) rfl)
  rw [show srW (devW c) 1#32 = BitVec.ofNat 32 (sr c 1).val from srW_eq c 1]
  simp only [apA]
  -- block 1
  ihave ⟨%k1, HK1, %hk1⟩ := (Entails.of_eq (lnd0 m ρ c (sr c 1))) $$ HK
  ihave ⟨%v1, HV1, %hv1⟩ := (Entails.of_eq (lnd1 m ρ c (sr c 1))) $$ HV
  unfold hd20 hd21 hd22 hd23 hd24 hd25 hd26
  simp only [k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel,
    app, bind_dite, Prog.lift, Prog.bind_op, Prog.bind_ret, Prog.pure_eq_ret]
  iapply (scaleWait_step m ρ K c 0 (VO c 0)) $$ [HR2 HO]
  · isplitr; · iexact Hc
    isplitl [HR2]; · iexact HR2
    iexact HO
  iintro ⟨HR2, HS, HO⟩
  ihave ⟨%s1, HS1, %hs1⟩ := (Entails.of_eq (lnd2 m ρ c (sr c 1) (sr c (((0 : Fin 7).val) + 1)) rfl)) $$ HS
  iapply (block_step c 1 _ rfl k1 v1 s1) $$ [HK1 HV1 HS1]
  · isplitl [HK1]; · iexact HK1
    isplitl [HV1]; · iexact HV1
    iexact HS1
  iintro Hb1
  ihave HKR := (KR_intro c _) $$ [HR0 HR1 HO]
  · isplitl [HR0]; · iexact HR0
    isplitl [HR1]; · iexact HR1
    iexact HO
  iapply (kvH_recv m ρ K c 1 k0_cond17 k0_off64 (by decide +kernel)) $$ [HKR]
  · isplitr; · iexact Hc
    iexact HKR
  iintro HKR
  iapply (kvF_recv m ρ K c 1 k0_cond18 k0_off67 (by decide +kernel)) $$ [HKR]
  · isplitr; · iexact Hc
    iexact HKR
  iintro HKR
  ihave ⟨HR0, HR1, HK, HV, HO⟩ := (Entails.of_eq (KRd_eq m ρ c ((1 : Fin 7).val) 2 rfl)) $$ HKR
  iapply (wp_of_eq c (p' := apA hd27 c v142 q (stL c q 1 k1 (stL c q 0 k0 (fun _ => k0_pay26))) (stO c q 1 k1 v1 s1 (stO c q 0 k0 v0 s0 (fun _ => k0_pay18))) (srW (devW c) 2#32) >>= tlF) rfl)
  rw [show srW (devW c) 2#32 = BitVec.ofNat 32 (sr c 2).val from srW_eq c 2]
  simp only [apA]
  -- block 2
  ihave ⟨%k2, HK2, %hk2⟩ := (Entails.of_eq (lnd0 m ρ c (sr c 2))) $$ HK
  ihave ⟨%v2, HV2, %hv2⟩ := (Entails.of_eq (lnd1 m ρ c (sr c 2))) $$ HV
  unfold hd27 hd28 hd29 hd30 hd31 hd32 hd33
  simp only [k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel,
    app, bind_dite, Prog.lift, Prog.bind_op, Prog.bind_ret, Prog.pure_eq_ret]
  iapply (scaleWait_step m ρ K c 1 (VO c 1)) $$ [HR2 HO]
  · isplitr; · iexact Hc
    isplitl [HR2]; · iexact HR2
    iexact HO
  iintro ⟨HR2, HS, HO⟩
  ihave ⟨%s2, HS2, %hs2⟩ := (Entails.of_eq (lnd2 m ρ c (sr c 2) (sr c (((1 : Fin 7).val) + 1)) rfl)) $$ HS
  iapply (block_step c 2 _ rfl k2 v2 s2) $$ [HK2 HV2 HS2]
  · isplitl [HK2]; · iexact HK2
    isplitl [HV2]; · iexact HV2
    iexact HS2
  iintro Hb2
  ihave HKR := (KR_intro c _) $$ [HR0 HR1 HO]
  · isplitl [HR0]; · iexact HR0
    isplitl [HR1]; · iexact HR1
    iexact HO
  iapply (kvH_recv m ρ K c 2 k0_cond19 k0_off69 (by decide +kernel)) $$ [HKR]
  · isplitr; · iexact Hc
    iexact HKR
  iintro HKR
  iapply (kvF_recv m ρ K c 2 k0_cond20 k0_off72 (by decide +kernel)) $$ [HKR]
  · isplitr; · iexact Hc
    iexact HKR
  iintro HKR
  ihave ⟨HR0, HR1, HK, HV, HO⟩ := (Entails.of_eq (KRd_eq m ρ c ((2 : Fin 7).val) 3 rfl)) $$ HKR
  iapply (wp_of_eq c (p' := apA hd34 c v142 q (stL c q 2 k2 (stL c q 1 k1 (stL c q 0 k0 (fun _ => k0_pay26)))) (stO c q 2 k2 v2 s2 (stO c q 1 k1 v1 s1 (stO c q 0 k0 v0 s0 (fun _ => k0_pay18)))) (srW (devW c) 3#32) >>= tlF) rfl)
  rw [show srW (devW c) 3#32 = BitVec.ofNat 32 (sr c 3).val from srW_eq c 3]
  simp only [apA]
  -- block 3
  ihave ⟨%k3, HK3, %hk3⟩ := (Entails.of_eq (lnd0 m ρ c (sr c 3))) $$ HK
  ihave ⟨%v3, HV3, %hv3⟩ := (Entails.of_eq (lnd1 m ρ c (sr c 3))) $$ HV
  unfold hd34 hd35 hd36 hd37 hd38 hd39 hd40
  simp only [k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel,
    app, bind_dite, Prog.lift, Prog.bind_op, Prog.bind_ret, Prog.pure_eq_ret]
  iapply (scaleWait_step m ρ K c 2 (VO c 2)) $$ [HR2 HO]
  · isplitr; · iexact Hc
    isplitl [HR2]; · iexact HR2
    iexact HO
  iintro ⟨HR2, HS, HO⟩
  ihave ⟨%s3, HS3, %hs3⟩ := (Entails.of_eq (lnd2 m ρ c (sr c 3) (sr c (((2 : Fin 7).val) + 1)) rfl)) $$ HS
  iapply (block_step c 3 _ rfl k3 v3 s3) $$ [HK3 HV3 HS3]
  · isplitl [HK3]; · iexact HK3
    isplitl [HV3]; · iexact HV3
    iexact HS3
  iintro Hb3
  ihave HKR := (KR_intro c _) $$ [HR0 HR1 HO]
  · isplitl [HR0]; · iexact HR0
    isplitl [HR1]; · iexact HR1
    iexact HO
  iapply (kvH_recv m ρ K c 3 k0_cond21 k0_off74 (by decide +kernel)) $$ [HKR]
  · isplitr; · iexact Hc
    iexact HKR
  iintro HKR
  iapply (kvF_recv m ρ K c 3 k0_cond22 k0_off77 (by decide +kernel)) $$ [HKR]
  · isplitr; · iexact Hc
    iexact HKR
  iintro HKR
  ihave ⟨HR0, HR1, HK, HV, HO⟩ := (Entails.of_eq (KRd_eq m ρ c ((3 : Fin 7).val) 4 rfl)) $$ HKR
  iapply (wp_of_eq c (p' := apA hd41 c v142 q (stL c q 3 k3 (stL c q 2 k2 (stL c q 1 k1 (stL c q 0 k0 (fun _ => k0_pay26))))) (stO c q 3 k3 v3 s3 (stO c q 2 k2 v2 s2 (stO c q 1 k1 v1 s1 (stO c q 0 k0 v0 s0 (fun _ => k0_pay18))))) (srW (devW c) 4#32) >>= tlF) rfl)
  rw [show srW (devW c) 4#32 = BitVec.ofNat 32 (sr c 4).val from srW_eq c 4]
  simp only [apA]
  -- block 4
  ihave ⟨%k4, HK4, %hk4⟩ := (Entails.of_eq (lnd0 m ρ c (sr c 4))) $$ HK
  ihave ⟨%v4, HV4, %hv4⟩ := (Entails.of_eq (lnd1 m ρ c (sr c 4))) $$ HV
  unfold hd41 hd42 hd43 hd44 hd45 hd46 hd47
  simp only [k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel,
    app, bind_dite, Prog.lift, Prog.bind_op, Prog.bind_ret, Prog.pure_eq_ret]
  iapply (scaleWait_step m ρ K c 3 (VO c 3)) $$ [HR2 HO]
  · isplitr; · iexact Hc
    isplitl [HR2]; · iexact HR2
    iexact HO
  iintro ⟨HR2, HS, HO⟩
  ihave ⟨%s4, HS4, %hs4⟩ := (Entails.of_eq (lnd2 m ρ c (sr c 4) (sr c (((3 : Fin 7).val) + 1)) rfl)) $$ HS
  iapply (block_step c 4 _ rfl k4 v4 s4) $$ [HK4 HV4 HS4]
  · isplitl [HK4]; · iexact HK4
    isplitl [HV4]; · iexact HV4
    iexact HS4
  iintro Hb4
  ihave HKR := (KR_intro c _) $$ [HR0 HR1 HO]
  · isplitl [HR0]; · iexact HR0
    isplitl [HR1]; · iexact HR1
    iexact HO
  iapply (kvH_recv m ρ K c 4 k0_cond23 k0_off79 (by decide +kernel)) $$ [HKR]
  · isplitr; · iexact Hc
    iexact HKR
  iintro HKR
  iapply (kvF_recv m ρ K c 4 k0_cond24 k0_off82 (by decide +kernel)) $$ [HKR]
  · isplitr; · iexact Hc
    iexact HKR
  iintro HKR
  ihave ⟨HR0, HR1, HK, HV, HO⟩ := (Entails.of_eq (KRd_eq m ρ c ((4 : Fin 7).val) 5 rfl)) $$ HKR
  iapply (wp_of_eq c (p' := apA hd48 c v142 q (stL c q 4 k4 (stL c q 3 k3 (stL c q 2 k2 (stL c q 1 k1 (stL c q 0 k0 (fun _ => k0_pay26)))))) (stO c q 4 k4 v4 s4 (stO c q 3 k3 v3 s3 (stO c q 2 k2 v2 s2 (stO c q 1 k1 v1 s1 (stO c q 0 k0 v0 s0 (fun _ => k0_pay18)))))) (srW (devW c) 5#32) >>= tlF) rfl)
  rw [show srW (devW c) 5#32 = BitVec.ofNat 32 (sr c 5).val from srW_eq c 5]
  simp only [apA]
  -- block 5
  ihave ⟨%k5, HK5, %hk5⟩ := (Entails.of_eq (lnd0 m ρ c (sr c 5))) $$ HK
  ihave ⟨%v5, HV5, %hv5⟩ := (Entails.of_eq (lnd1 m ρ c (sr c 5))) $$ HV
  unfold hd48 hd49 hd50 hd51 hd52 hd53 hd54
  simp only [k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel,
    app, bind_dite, Prog.lift, Prog.bind_op, Prog.bind_ret, Prog.pure_eq_ret]
  iapply (scaleWait_step m ρ K c 4 (VO c 4)) $$ [HR2 HO]
  · isplitr; · iexact Hc
    isplitl [HR2]; · iexact HR2
    iexact HO
  iintro ⟨HR2, HS, HO⟩
  ihave ⟨%s5, HS5, %hs5⟩ := (Entails.of_eq (lnd2 m ρ c (sr c 5) (sr c (((4 : Fin 7).val) + 1)) rfl)) $$ HS
  iapply (block_step c 5 _ rfl k5 v5 s5) $$ [HK5 HV5 HS5]
  · isplitl [HK5]; · iexact HK5
    isplitl [HV5]; · iexact HV5
    iexact HS5
  iintro Hb5
  ihave HKR := (KR_intro c _) $$ [HR0 HR1 HO]
  · isplitl [HR0]; · iexact HR0
    isplitl [HR1]; · iexact HR1
    iexact HO
  iapply (kvH_recv m ρ K c 5 k0_cond25 k0_off84 (by decide +kernel)) $$ [HKR]
  · isplitr; · iexact Hc
    iexact HKR
  iintro HKR
  iapply (kvF_recv m ρ K c 5 k0_cond26 k0_off87 (by decide +kernel)) $$ [HKR]
  · isplitr; · iexact Hc
    iexact HKR
  iintro HKR
  ihave ⟨HR0, HR1, HK, HV, HO⟩ := (Entails.of_eq (KRd_eq m ρ c ((5 : Fin 7).val) 6 rfl)) $$ HKR
  iapply (wp_of_eq c (p' := apA hd55 c v142 q (stL c q 5 k5 (stL c q 4 k4 (stL c q 3 k3 (stL c q 2 k2 (stL c q 1 k1 (stL c q 0 k0 (fun _ => k0_pay26))))))) (stO c q 5 k5 v5 s5 (stO c q 4 k4 v4 s4 (stO c q 3 k3 v3 s3 (stO c q 2 k2 v2 s2 (stO c q 1 k1 v1 s1 (stO c q 0 k0 v0 s0 (fun _ => k0_pay18))))))) (srW (devW c) 6#32) >>= tlF) rfl)
  rw [show srW (devW c) 6#32 = BitVec.ofNat 32 (sr c 6).val from srW_eq c 6]
  simp only [apA]
  -- block 6
  ihave ⟨%k6, HK6, %hk6⟩ := (Entails.of_eq (lnd0 m ρ c (sr c 6))) $$ HK
  ihave ⟨%v6, HV6, %hv6⟩ := (Entails.of_eq (lnd1 m ρ c (sr c 6))) $$ HV
  unfold hd55 hd56 hd57 hd58 hd59 hd60 tlF tlR tl61
  simp only [k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel,
    app, bind_dite, Prog.lift, Prog.bind_op, Prog.bind_ret, Prog.pure_eq_ret]
  iapply (scaleWait_step m ρ K c 5 (VO c 5)) $$ [HR2 HO]
  · isplitr; · iexact Hc
    isplitl [HR2]; · iexact HR2
    iexact HO
  iintro ⟨HR2, HS, HO⟩
  ihave ⟨%s6, HS6, %hs6⟩ := (Entails.of_eq (lnd2 m ρ c (sr c 6) (sr c (((5 : Fin 7).val) + 1)) rfl)) $$ HS
  iapply (block_step c 6 _ rfl k6 v6 s6) $$ [HK6 HV6 HS6]
  · isplitl [HK6]; · iexact HK6
    isplitl [HV6]; · iexact HV6
    iexact HS6
  iintro Hb6
  ihave HKR := (KR_intro c _) $$ [HR0 HR1 HO]
  · isplitl [HR0]; · iexact HR0
    isplitl [HR1]; · iexact HR1
    iexact HO
  iapply (kvH_recv m ρ K c 6 k0_cond27 k0_off89 (by decide +kernel)) $$ [HKR]
  · isplitr; · iexact Hc
    iexact HKR
  iintro HKR
  iapply (kvF_recv m ρ K c 6 k0_cond28 k0_off92 (by decide +kernel)) $$ [HKR]
  · isplitr; · iexact Hc
    iexact HKR
  iintro HKR
  ihave ⟨HR0, HR1, HK, HV, HO⟩ := (Entails.of_eq (KRd_eq m ρ c ((6 : Fin 7).val) 7 rfl)) $$ HKR
  iapply (scaleWait_step m ρ K c 6 (VO c 6)) $$ [HR2 HO]
  · isplitr; · iexact Hc
    isplitl [HR2]; · iexact HR2
    iexact HO
  iintro ⟨HR2, HS, HO⟩
  iapply (wp_of_eq c (p' := apA tl62 c v142 q (stL c q 6 k6 (stL c q 5 k5 (stL c q 4 k4 (stL c q 3 k3 (stL c q 2 k2 (stL c q 1 k1 (stL c q 0 k0 (fun _ => k0_pay26)))))))) (stO c q 6 k6 v6 s6 (stO c q 5 k5 v5 s5 (stO c q 4 k4 v4 s4 (stO c q 3 k3 v3 s3 (stO c q 2 k2 v2 s2 (stO c q 1 k1 v1 s1 (stO c q 0 k0 v0 s0 (fun _ => k0_pay18)))))))) (srW (devW c) 7#32) >>= fun _ => fin92 c) rfl)
  rw [show srW (devW c) 7#32 = BitVec.ofNat 32 (sr c 7).val from srW_eq c 7]
  simp only [apA]
  -- block 7
  ihave ⟨%k7, HK7, %hk7⟩ := (Entails.of_eq (lnd0 m ρ c (sr c 7))) $$ HK
  ihave ⟨%v7, HV7, %hv7⟩ := (Entails.of_eq (lnd1 m ρ c (sr c 7))) $$ HV
  unfold tl62 tl63 tl64 tl65 tl66 tl67 tl68
  simp only [k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel,
    app, bind_dite, Prog.lift, Prog.bind_op, Prog.bind_ret, Prog.pure_eq_ret]
  ihave ⟨%s7, HS7, %hs7⟩ := (Entails.of_eq (lnd2 m ρ c (sr c 7) (sr c (((6 : Fin 7).val) + 1)) rfl)) $$ HS
  iapply (block_step c 7 _ rfl k7 v7 s7) $$ [HK7 HV7 HS7]
  · isplitl [HK7]; · iexact HK7
    isplitl [HV7]; · iexact HV7
    iexact HS7
  iintro Hb7
  -- the product
  obtain ⟨kf, rfl, rfl, rfl, rfl, rfl, rfl, rfl, rfl⟩ := ex8 k0 k1 k2 k3 k4 k5 k6 k7
  obtain ⟨vf, rfl, rfl, rfl, rfl, rfl, rfl, rfl, rfl⟩ := ex8 v0 v1 v2 v3 v4 v5 v6 v7
  obtain ⟨sf, rfl, rfl, rfl, rfl, rfl, rfl, rfl, rfl⟩ := ex8 s0 s1 s2 s3 s4 s5 s6 s7
  iapply (ldW_step (i := 4) (hκ := rfl) c hz2 x4) $$ Hx4
  iintro Hx4
  iapply (ldW_step (i := cc0_scratch6.idx) (hκ := rfl) c hz2 w0) $$ Har
  iintro Har
  iapply (stW_step (i := cc0_scratch6.idx) (hκ := rfl) c hz2 w0 (finOf (stO c q 7 (kf 7) (vf 7) (sf 7) (stO c q 6 (kf 6) (vf 6) (sf 6) (stO c q 5 (kf 5) (vf 5) (sf 5) (stO c q 4 (kf 4) (vf 4) (sf 4) (stO c q 3 (kf 3) (vf 3) (sf 3) (stO c q 2 (kf 2) (vf 2) (sf 2) (stO c q 1 (kf 1) (vf 1) (sf 1) (stO c q 0 (kf 0) (vf 0) (sf 0) (fun _ => k0_pay18))))))))) (stL c q 7 (kf 7) (stL c q 6 (kf 6) (stL c q 5 (kf 5) (stL c q 4 (kf 4) (stL c q 3 (kf 3) (stL c q 2 (kf 2) (stL c q 1 (kf 1) (stL c q 0 (kf 0) (fun _ => k0_pay26))))))))) x4)) $$ Har
  iintro Har
  rw [accO_eight, accL_eight]
  iapply Hk
  isplitl [HR0 HR1 HO]
  · iapply (KR_intro c 7)
    isplitl [HR0]; · iexact HR0
    isplitl [HR1]; · iexact HR1
    iexact HO
  isplitl [HR2]; · iexact HR2
  isplitl [Hb0 Hb1 Hb2 Hb3 Hb4 Hb5 Hb6 Hb7]
  · iapply (fin8_intro (fun g : Fin 8 => slot3 (F := F) c (sr c g.val)))
    isplitl [Hb0]; · iapply (slot3_intro c (sr c 0) (kf 0) (vf 0) (sf 0)); iexact Hb0
    isplitl [Hb1]; · iapply (slot3_intro c (sr c 1) (kf 1) (vf 1) (sf 1)); iexact Hb1
    isplitl [Hb2]; · iapply (slot3_intro c (sr c 2) (kf 2) (vf 2) (sf 2)); iexact Hb2
    isplitl [Hb3]; · iapply (slot3_intro c (sr c 3) (kf 3) (vf 3) (sf 3)); iexact Hb3
    isplitl [Hb4]; · iapply (slot3_intro c (sr c 4) (kf 4) (vf 4) (sf 4)); iexact Hb4
    isplitl [Hb5]; · iapply (slot3_intro c (sr c 5) (kf 5) (vf 5) (sf 5)); iexact Hb5
    isplitl [Hb6]; · iapply (slot3_intro c (sr c 6) (kf 6) (vf 6) (sf 6)); iexact Hb6
    iapply (slot3_intro c (sr c 7) (kf 7) (vf 7) (sf 7)); iexact Hb7
  isplitl [Hx4]; · iexact Hx4
  iexists kf, vf, sf
  isplitl [Har]; · iexact Har
  ipureintro
  intro g hg
  match g, hg with
  | 0, _ => exact ⟨hk0, hv0, hs0⟩
  | 1, _ => exact ⟨hk1, hv1, hs1⟩
  | 2, _ => exact ⟨hk2, hv2, hs2⟩
  | 3, _ => exact ⟨hk3, hv3, hs3⟩
  | 4, _ => exact ⟨hk4, hv4, hs4⟩
  | 5, _ => exact ⟨hk5, hv5, hs5⟩
  | 6, _ => exact ⟨hk6, hv6, hs6⟩
  | 7, _ => exact ⟨hk7, hv7, hs7⟩
  | n + 8, h => exact absurd h (by omega)

end Cert.KProof
-- ==== Proof.Waits.lean ====
/-
The waits of the kernel outside its fold over the blocks, each with the copy's destination as the kernel writes it.
-/
module

public import proofs.«01_k».proof.Proof.Bufs
public import proofs.«01_k».proof.Proof.Att

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

variable (m : (ℓ : Loc nD τ sig) → Buf (Elt F) ℓ) (ρ : Dev nD → PrngReg)
variable (K : Dev nD × Fin 81 → ℕ)

/-- The wait for the device's own transfer of its scales. -/
theorem scaleDone_step {α : Type} {Q : α → sProp 𝕄} (c : Dev nD) (o : Fin 7) {so : Fin 1 → ℕ} (ho : so = ![o.val])
    {inb : ∀ a, so a + S1.size a ≤ S7.size a} {s : Shape} {e : EltTy} {src : Memref sig .tc .vmem s e}
    {hsrc : src.view.WordExact} {hdst : ((Memref.whole cc0_scratch2 : Memref sig .tc .vmem S2x128 .bf16)).view.WordExact}
    {k : PUnit → Prog (TpuEff nD τ sig (Elt F) Λ₀ .tc) α} :
    iprop(ctx m ρ K ∗ WQ m ρ c 2 o.val ∗ ow c 28)
      ⊢ iprop(((WQ m ρ c 2 (o.val + 1) ∗ ow c 28) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch12 (Rect.unit (s := S7) so S1.size inb)).squeeze S_ squeezes_S1_S_).sem src ((Memref.whole cc0_scratch2 : Memref sig .tc .vmem S2x128 .bf16)) hsrc hdst) k) Q) :=
  sendWait_step m ρ K c 2 o 28 (semS_eq 2 o ho) (src := src) (tgt := (Memref.whole cc0_scratch2 : Memref sig .tc .vmem S2x128 .bf16)) rfl

/-- The wait for the device's own transfer of a partial sum. -/
theorem sumDone_step {α : Type} {Q : α → sProp 𝕄} (c : Dev nD) (o : Fin 7) {so : Fin 1 → ℕ} (ho : so = ![o.val])
    {inb : ∀ a, so a + S1.size a ≤ S7.size a} {s : Shape} {e : EltTy} {src : Memref sig .tc .vmem s e}
    {off : Fin 2 → ℕ} {inb' : ∀ a, off a + S32x512.size a ≤ S256x512.size a}
    {hsrc : src.view.WordExact} {hdst : ((Memref.whole cc0_scratch6 : Memref sig .tc .vmem S256x512 .bf16).slice (Rect.unit (s := S256x512) off S32x512.size inb') (fun _ => rfl)).view.WordExact}
    {k : PUnit → Prog (TpuEff nD τ sig (Elt F) Λ₀ .tc) α} :
    iprop(ctx m ρ K ∗ WQ m ρ c 3 o.val ∗ ow c 42)
      ⊢ iprop(((WQ m ρ c 3 (o.val + 1) ∗ ow c 42) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch13 (Rect.unit (s := S7) so S1.size inb)).squeeze S_ squeezes_S1_S_).sem src ((Memref.whole cc0_scratch6 : Memref sig .tc .vmem S256x512 .bf16).slice (Rect.unit (s := S256x512) off S32x512.size inb') (fun _ => rfl)) hsrc hdst) k) Q) :=
  sendWait_step m ρ K c 3 o 42 (semS_eq 3 o ho) (src := src) (tgt := (Memref.whole cc0_scratch6 : Memref sig .tc .vmem S256x512 .bf16).slice (Rect.unit (s := S256x512) off S32x512.size inb') (fun _ => rfl)) rfl

/-- The wait for the device's own transfer of its reduced rows. -/
theorem rowsDone_step {α : Type} {Q : α → sProp 𝕄} (c : Dev nD) (o : Fin 7) {so : Fin 1 → ℕ} (ho : so = ![o.val])
    {inb : ∀ a, so a + S1.size a ≤ S7.size a} {s : Shape} {e : EltTy} {src : Memref sig .tc .vmem s e}
    {hsrc : src.view.WordExact} {hdst : ((Memref.whole cc0_scratch8 : Memref sig .tc .vmem S32x512 .bf16)).view.WordExact}
    {k : PUnit → Prog (TpuEff nD τ sig (Elt F) Λ₀ .tc) α} :
    iprop(ctx m ρ K ∗ WQ m ρ c 4 o.val ∗ ow c 42)
      ⊢ iprop(((WQ m ρ c 4 (o.val + 1) ∗ ow c 42) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch14 (Rect.unit (s := S7) so S1.size inb)).squeeze S_ squeezes_S1_S_).sem src ((Memref.whole cc0_scratch8 : Memref sig .tc .vmem S32x512 .bf16)) hsrc hdst) k) Q) :=
  sendWait_step m ρ K c 4 o 42 (semS_eq 4 o ho) (src := src) (tgt := (Memref.whole cc0_scratch8 : Memref sig .tc .vmem S32x512 .bf16)) rfl

/-- The wait for the device's copy of its own keys. -/
theorem keysOwn_step {α : Type} {Q : α → sProp 𝕄} (c : Dev nD) (n : ℕ) {so : Fin 1 → ℕ} (ho : so = ![0])
    {inb : ∀ a, so a + S1.size a ≤ S5.size a} {s : Shape} {e : EltTy} {src : Memref sig .tc .vmem s e}
    {off : Fin 4 → ℕ} {inb' : ∀ a, off a + S1x2x128x256.size a ≤ S8x2x128x256.size a}
    {hsrc : src.view.WordExact} {hdst : (((Memref.whole cc0_scratch3 : Memref sig .tc .vmem S8x2x128x256 .i8).slice (Rect.unit (s := S8x2x128x256) off S1x2x128x256.size inb') (fun _ => rfl)).squeeze S2x128x256 squeezes_S1x2x128x256_S2x128x256).view.WordExact}
    {k : PUnit → Prog (TpuEff nD τ sig (Elt F) Λ₀ .tc) α} :
    iprop(ctx m ρ K ∗ locD (F := F) c 0 ∗ ow c n)
      ⊢ iprop(((semVal (locC c 0) 0 ∗ (lndP m ρ c 0 c ∗ srcP m ρ c 0 c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch20 (Rect.unit (s := S5) so S1.size inb)).squeeze S_ squeezes_S1_S_).sem src (((Memref.whole cc0_scratch3 : Memref sig .tc .vmem S8x2x128x256 .i8).slice (Rect.unit (s := S8x2x128x256) off S1x2x128x256.size inb') (fun _ => rfl)).squeeze S2x128x256 squeezes_S1x2x128x256_S2x128x256) hsrc hdst) k) Q) :=
  locWait_step m ρ K c 0 n (semL_eq 0 ho) (src := src) (tgt := ((Memref.whole cc0_scratch3 : Memref sig .tc .vmem S8x2x128x256 .i8).slice (Rect.unit (s := S8x2x128x256) off S1x2x128x256.size inb') (fun _ => rfl)).squeeze S2x128x256 squeezes_S1x2x128x256_S2x128x256) rfl

/-- The wait for the device's copy of its own values. -/
theorem valuesOwn_step {α : Type} {Q : α → sProp 𝕄} (c : Dev nD) (n : ℕ) {so : Fin 1 → ℕ} (ho : so = ![1])
    {inb : ∀ a, so a + S1.size a ≤ S5.size a} {s : Shape} {e : EltTy} {src : Memref sig .tc .vmem s e}
    {off : Fin 4 → ℕ} {inb' : ∀ a, off a + S1x2x128x256.size a ≤ S8x2x128x256.size a}
    {hsrc : src.view.WordExact} {hdst : (((Memref.whole cc0_scratch4 : Memref sig .tc .vmem S8x2x128x256 .i8).slice (Rect.unit (s := S8x2x128x256) off S1x2x128x256.size inb') (fun _ => rfl)).squeeze S2x128x256 squeezes_S1x2x128x256_S2x128x256).view.WordExact}
    {k : PUnit → Prog (TpuEff nD τ sig (Elt F) Λ₀ .tc) α} :
    iprop(ctx m ρ K ∗ locD (F := F) c 1 ∗ ow c n)
      ⊢ iprop(((semVal (locC c 1) 0 ∗ (lndP m ρ c 1 c ∗ srcP m ρ c 1 c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch20 (Rect.unit (s := S5) so S1.size inb)).squeeze S_ squeezes_S1_S_).sem src (((Memref.whole cc0_scratch4 : Memref sig .tc .vmem S8x2x128x256 .i8).slice (Rect.unit (s := S8x2x128x256) off S1x2x128x256.size inb') (fun _ => rfl)).squeeze S2x128x256 squeezes_S1x2x128x256_S2x128x256) hsrc hdst) k) Q) :=
  locWait_step m ρ K c 1 n (semL_eq 1 ho) (src := src) (tgt := ((Memref.whole cc0_scratch4 : Memref sig .tc .vmem S8x2x128x256 .i8).slice (Rect.unit (s := S8x2x128x256) off S1x2x128x256.size inb') (fun _ => rfl)).squeeze S2x128x256 squeezes_S1x2x128x256_S2x128x256) rfl

/-- The wait for the device's copy of its own scales. -/
theorem scalesOwn_step {α : Type} {Q : α → sProp 𝕄} (c : Dev nD) (n : ℕ) {so : Fin 1 → ℕ} (ho : so = ![2])
    {inb : ∀ a, so a + S1.size a ≤ S5.size a} {s : Shape} {e : EltTy} {src : Memref sig .tc .vmem s e}
    {off : Fin 3 → ℕ} {inb' : ∀ a, off a + S1x2x128.size a ≤ S8x2x128.size a}
    {hsrc : src.view.WordExact} {hdst : (((Memref.whole cc0_scratch5 : Memref sig .tc .vmem S8x2x128 .bf16).slice (Rect.unit (s := S8x2x128) off S1x2x128.size inb') (fun _ => rfl)).squeeze S2x128 squeezes_S1x2x128_S2x128).view.WordExact}
    {k : PUnit → Prog (TpuEff nD τ sig (Elt F) Λ₀ .tc) α} :
    iprop(ctx m ρ K ∗ locD (F := F) c 2 ∗ ow c n)
      ⊢ iprop(((semVal (locC c 2) 0 ∗ (lndP m ρ c 2 c ∗ srcP m ρ c 2 c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch20 (Rect.unit (s := S5) so S1.size inb)).squeeze S_ squeezes_S1_S_).sem src (((Memref.whole cc0_scratch5 : Memref sig .tc .vmem S8x2x128 .bf16).slice (Rect.unit (s := S8x2x128) off S1x2x128.size inb') (fun _ => rfl)).squeeze S2x128 squeezes_S1x2x128_S2x128) hsrc hdst) k) Q) :=
  locWait_step m ρ K c 2 n (semL_eq 2 ho) (src := src) (tgt := ((Memref.whole cc0_scratch5 : Memref sig .tc .vmem S8x2x128 .bf16).slice (Rect.unit (s := S8x2x128) off S1x2x128.size inb') (fun _ => rfl)).squeeze S2x128 squeezes_S1x2x128_S2x128) rfl

/-- The wait for the device's copy of its own sum. -/
theorem sumOwn_step {α : Type} {Q : α → sProp 𝕄} (c : Dev nD) (n : ℕ) {so : Fin 1 → ℕ} (ho : so = ![3])
    {inb : ∀ a, so a + S1.size a ≤ S5.size a} {s : Shape} {e : EltTy} {src : Memref sig .tc .vmem s e}
    {off : Fin 3 → ℕ} {inb' : ∀ a, off a + S1x32x512.size a ≤ S8x32x512.size a}
    {hsrc : src.view.WordExact} {hdst : (((Memref.whole cc0_scratch7 : Memref sig .tc .vmem S8x32x512 .bf16).slice (Rect.unit (s := S8x32x512) off S1x32x512.size inb') (fun _ => rfl)).squeeze S32x512 squeezes_S1x32x512_S32x512).view.WordExact}
    {k : PUnit → Prog (TpuEff nD τ sig (Elt F) Λ₀ .tc) α} :
    iprop(ctx m ρ K ∗ locD (F := F) c 3 ∗ ow c n)
      ⊢ iprop(((semVal (locC c 3) 0 ∗ (lndP m ρ c 3 c ∗ srcP m ρ c 3 c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch20 (Rect.unit (s := S5) so S1.size inb)).squeeze S_ squeezes_S1_S_).sem src (((Memref.whole cc0_scratch7 : Memref sig .tc .vmem S8x32x512 .bf16).slice (Rect.unit (s := S8x32x512) off S1x32x512.size inb') (fun _ => rfl)).squeeze S32x512 squeezes_S1x32x512_S32x512) hsrc hdst) k) Q) :=
  locWait_step m ρ K c 3 n (semL_eq 3 ho) (src := src) (tgt := ((Memref.whole cc0_scratch7 : Memref sig .tc .vmem S8x32x512 .bf16).slice (Rect.unit (s := S8x32x512) off S1x32x512.size inb') (fun _ => rfl)).squeeze S32x512 squeezes_S1x32x512_S32x512) rfl

/-- The wait for the device's copy of its own rows. -/
theorem rowsOwn_step {α : Type} {Q : α → sProp 𝕄} (c : Dev nD) (n : ℕ) {so : Fin 1 → ℕ} (ho : so = ![4])
    {inb : ∀ a, so a + S1.size a ≤ S5.size a} {s : Shape} {e : EltTy} {src : Memref sig .tc .vmem s e}
    {off : Fin 3 → ℕ} {inb' : ∀ a, off a + S1x32x512.size a ≤ S8x32x512.size a}
    {hsrc : src.view.WordExact} {hdst : (((Memref.whole cc0_scratch9 : Memref sig .tc .vmem S8x32x512 .bf16).slice (Rect.unit (s := S8x32x512) off S1x32x512.size inb') (fun _ => rfl)).squeeze S32x512 squeezes_S1x32x512_S32x512).view.WordExact}
    {k : PUnit → Prog (TpuEff nD τ sig (Elt F) Λ₀ .tc) α} :
    iprop(ctx m ρ K ∗ locD (F := F) c 4 ∗ ow c n)
      ⊢ iprop(((semVal (locC c 4) 0 ∗ (lndP m ρ c 4 c ∗ srcP m ρ c 4 c) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch20 (Rect.unit (s := S5) so S1.size inb)).squeeze S_ squeezes_S1_S_).sem src (((Memref.whole cc0_scratch9 : Memref sig .tc .vmem S8x32x512 .bf16).slice (Rect.unit (s := S8x32x512) off S1x32x512.size inb') (fun _ => rfl)).squeeze S32x512 squeezes_S1x32x512_S32x512) hsrc hdst) k) Q) :=
  locWait_step m ρ K c 4 n (semL_eq 4 ho) (src := src) (tgt := ((Memref.whole cc0_scratch9 : Memref sig .tc .vmem S8x32x512 .bf16).slice (Rect.unit (s := S8x32x512) off S1x32x512.size inb') (fun _ => rfl)).squeeze S32x512 squeezes_S1x32x512_S32x512) rfl

theorem lev35 (s : Dev nD) : ∀ i, 35 ≤ i → i < 42 → lvK (.rcv 3 s) < lvI i := by
  intro i h1 h2
  unfold lvK lvI
  rw [if_neg (by omega), if_neg (by omega), if_neg (by omega)]
  exact (by decide : (3 : ℕ) < 4)

/-- The wait for another device's partial sum. -/
theorem sumRecv_step {α : Type} {Q : α → sProp 𝕄} (c : Dev nD) (o : Fin 7) {so : Fin 1 → ℕ} (ho : so = ![(sr c (o.val + 1)).val])
    {inb : ∀ a, so a + S1.size a ≤ S8.size a} {s : Shape} {e : EltTy} {src : Memref sig .tc .vmem s e}
    {off : Fin 3 → ℕ} {inb' : ∀ a, off a + S1x32x512.size a ≤ S8x32x512.size a}
    {hsrc : src.view.WordExact} {hdst : (((Memref.whole cc0_scratch7 : Memref sig .tc .vmem S8x32x512 .bf16).slice (Rect.unit (s := S8x32x512) off S1x32x512.size inb') (fun _ => rfl)).squeeze S32x512 squeezes_S1x32x512_S32x512).view.WordExact}
    {k : PUnit → Prog (TpuEff nD τ sig (Elt F) Λ₀ .tc) α} :
    iprop(ctx m ρ K ∗ RQ (F := F) c 3 o.val ∗ ow c 35)
      ⊢ iprop(((RQ (F := F) c 3 (o.val + 1) ∗ lndP m ρ c 3 (sr c (o.val + 1)) ∗ ow c 35) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch18 (Rect.unit (s := S8) so S1.size inb)).squeeze S_ squeezes_S1_S_).sem src (((Memref.whole cc0_scratch7 : Memref sig .tc .vmem S8x32x512 .bf16).slice (Rect.unit (s := S8x32x512) off S1x32x512.size inb') (fun _ => rfl)).squeeze S32x512 squeezes_S1x32x512_S32x512) hsrc hdst) k) Q) :=
  recvWait_step m ρ K c 3 o 35 (lev35 _) (semR_eq 3 (sr c (o.val + 1)) ho) (src := src) (tgt := ((Memref.whole cc0_scratch7 : Memref sig .tc .vmem S8x32x512 .bf16).slice (Rect.unit (s := S8x32x512) off S1x32x512.size inb') (fun _ => rfl)).squeeze S32x512 squeezes_S1x32x512_S32x512) rfl

/-- The wait for another device's reduced rows. -/
theorem rowsRecv_step {α : Type} {Q : α → sProp 𝕄} (c : Dev nD) (o : Fin 7) {so : Fin 1 → ℕ} (ho : so = ![(sr c (o.val + 1)).val])
    {inb : ∀ a, so a + S1.size a ≤ S8.size a} {s : Shape} {e : EltTy} {src : Memref sig .tc .vmem s e}
    {off : Fin 3 → ℕ} {inb' : ∀ a, off a + S1x32x512.size a ≤ S8x32x512.size a}
    {hsrc : src.view.WordExact} {hdst : (((Memref.whole cc0_scratch9 : Memref sig .tc .vmem S8x32x512 .bf16).slice (Rect.unit (s := S8x32x512) off S1x32x512.size inb') (fun _ => rfl)).squeeze S32x512 squeezes_S1x32x512_S32x512).view.WordExact}
    {k : PUnit → Prog (TpuEff nD τ sig (Elt F) Λ₀ .tc) α} :
    iprop(ctx m ρ K ∗ RQ (F := F) c 4 o.val ∗ ow c 42)
      ⊢ iprop(((RQ (F := F) c 4 (o.val + 1) ∗ lndP m ρ c 4 (sr c (o.val + 1)) ∗ ow c 42) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((SemArray.slice cc0_scratch19 (Rect.unit (s := S8) so S1.size inb)).squeeze S_ squeezes_S1_S_).sem src (((Memref.whole cc0_scratch9 : Memref sig .tc .vmem S8x32x512 .bf16).slice (Rect.unit (s := S8x32x512) off S1x32x512.size inb') (fun _ => rfl)).squeeze S32x512 squeezes_S1x32x512_S32x512) hsrc hdst) k) Q) :=
  recvWait_step m ρ K c 4 o 42 (fun i h1 h2 => absurd h2 (by omega)) (semR_eq 4 (sr c (o.val + 1)) ho) (src := src) (tgt := ((Memref.whole cc0_scratch9 : Memref sig .tc .vmem S8x32x512 .bf16).slice (Rect.unit (s := S8x32x512) off S1x32x512.size inb') (fun _ => rfl)).squeeze S32x512 squeezes_S1x32x512_S32x512) rfl

end Cert.KProof
-- ==== Proof.Rest1.lean ====
/-
After the fold, the waits for the device's own keys, values and scales.
-/
module

public import proofs.«01_k».proof.Proof.Waits

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

variable (m : (ℓ : Loc nD τ sig) → Buf (Elt F) ℓ) (ρ : Dev nD → PrngReg)
variable (K : Dev nD × Fin 81 → ℕ)

theorem KW_eq (c : Dev nD) (o : ℕ) : KW m ρ c o = iprop(WQ m ρ c 0 o ∗ WQ m ρ c 1 o ∗ ow c 28) := rfl

set_option maxHeartbeats 8000000 in
set_option maxRecDepth 65536 in
/-- The waits for the device's own keys, values and scales. -/
theorem sendsDone {Q : PUnit → sProp 𝕄} (c : Dev nD) (v2 : BitVec 32) (v142 : BitVec 1) (a b : BitVec 32) :
    iprop(ctx m ρ K ∗ KW m ρ c 0 ∗ WQ m ρ c 2 0)
      ⊢ iprop(((WQ m ρ c 0 7 ∗ WQ m ρ c 1 7 ∗ WQ m ρ c 2 7 ∗ ow c 28) -∗ wp frame (wpE (defs₀ (F := F)) 𝒱₀ (c : Thread nD τ) none) Set.univ (tl73 c v2 >>= fun _ => fin92 c) Q)
          -∗ wp frame (wpE (defs₀ (F := F)) 𝒱₀ (c : Thread nD τ) none) Set.univ (tl69 c v2 v142 a b >>= fun _ => fin92 c) Q) := by
  iintro ⟨#Hc, HK, H2⟩ Hk
  unfold tl69
  simp only [k0_part69_eq_skeleton, k0_part69_skel,
    app, bind_dite, Prog.lift, Prog.bind_op, Prog.bind_ret, Prog.pure_eq_ret]
  iapply (kvH_done m ρ K c 0 k0_cond29 _ rfl (by decide +kernel)) $$ [HK]
  · isplitr; · iexact Hc
    iexact HK
  iintro HK
  iapply (kvF_done m ρ K c 0 k0_cond30 _ rfl (by decide +kernel)) $$ [HK]
  · isplitr; · iexact Hc
    iexact HK
  iintro HK
  ihave ⟨H0, H1, HO⟩ := (Entails.of_eq (KW_eq m ρ c ((0 : Fin 7).val + 1))) $$ HK
  iapply (scaleDone_step m ρ K c 0 rfl) $$ [H2 HO]
  · isplitr; · iexact Hc
    isplitl [H2]; · iexact H2
    iexact HO
  iintro ⟨H2, HO⟩
  ihave HK := (Entails.of_eq (KW_eq m ρ c 1).symm) $$ [H0 H1 HO]
  · isplitl [H0]; · iexact H0
    isplitl [H1]; · iexact H1
    iexact HO
  iapply (kvH_done m ρ K c 1 k0_cond31 _ rfl (by decide +kernel)) $$ [HK]
  · isplitr; · iexact Hc
    iexact HK
  iintro HK
  iapply (kvF_done m ρ K c 1 k0_cond32 _ rfl (by decide +kernel)) $$ [HK]
  · isplitr; · iexact Hc
    iexact HK
  iintro HK
  ihave ⟨H0, H1, HO⟩ := (Entails.of_eq (KW_eq m ρ c ((1 : Fin 7).val + 1))) $$ HK
  iapply (scaleDone_step m ρ K c 1 rfl) $$ [H2 HO]
  · isplitr; · iexact Hc
    isplitl [H2]; · iexact H2
    iexact HO
  iintro ⟨H2, HO⟩
  ihave HK := (Entails.of_eq (KW_eq m ρ c 2).symm) $$ [H0 H1 HO]
  · isplitl [H0]; · iexact H0
    isplitl [H1]; · iexact H1
    iexact HO
  unfold tl70
  simp only [k0_part70_eq_skeleton, k0_part70_skel,
    app, bind_dite, Prog.lift, Prog.bind_op, Prog.bind_ret, Prog.pure_eq_ret]
  iapply (kvH_done m ρ K c 2 k0_cond33 _ rfl (by decide +kernel)) $$ [HK]
  · isplitr; · iexact Hc
    iexact HK
  iintro HK
  iapply (kvF_done m ρ K c 2 k0_cond34 _ rfl (by decide +kernel)) $$ [HK]
  · isplitr; · iexact Hc
    iexact HK
  iintro HK
  ihave ⟨H0, H1, HO⟩ := (Entails.of_eq (KW_eq m ρ c ((2 : Fin 7).val + 1))) $$ HK
  iapply (scaleDone_step m ρ K c 2 rfl) $$ [H2 HO]
  · isplitr; · iexact Hc
    isplitl [H2]; · iexact H2
    iexact HO
  iintro ⟨H2, HO⟩
  ihave HK := (Entails.of_eq (KW_eq m ρ c 3).symm) $$ [H0 H1 HO]
  · isplitl [H0]; · iexact H0
    isplitl [H1]; · iexact H1
    iexact HO
  iapply (kvH_done m ρ K c 3 k0_cond35 _ rfl (by decide +kernel)) $$ [HK]
  · isplitr; · iexact Hc
    iexact HK
  iintro HK
  iapply (kvF_done m ρ K c 3 k0_cond36 _ rfl (by decide +kernel)) $$ [HK]
  · isplitr; · iexact Hc
    iexact HK
  iintro HK
  unfold tl71
  simp only [k0_part71_eq_skeleton, k0_part71_skel,
    app, bind_dite, Prog.lift, Prog.bind_op, Prog.bind_ret, Prog.pure_eq_ret]
  ihave ⟨H0, H1, HO⟩ := (Entails.of_eq (KW_eq m ρ c ((3 : Fin 7).val + 1))) $$ HK
  iapply (scaleDone_step m ρ K c 3 rfl) $$ [H2 HO]
  · isplitr; · iexact Hc
    isplitl [H2]; · iexact H2
    iexact HO
  iintro ⟨H2, HO⟩
  ihave HK := (Entails.of_eq (KW_eq m ρ c 4).symm) $$ [H0 H1 HO]
  · isplitl [H0]; · iexact H0
    isplitl [H1]; · iexact H1
    iexact HO
  iapply (kvH_done m ρ K c 4 k0_cond37 _ rfl (by decide +kernel)) $$ [HK]
  · isplitr; · iexact Hc
    iexact HK
  iintro HK
  iapply (kvF_done m ρ K c 4 k0_cond38 _ rfl (by decide +kernel)) $$ [HK]
  · isplitr; · iexact Hc
    iexact HK
  iintro HK
  ihave ⟨H0, H1, HO⟩ := (Entails.of_eq (KW_eq m ρ c ((4 : Fin 7).val + 1))) $$ HK
  iapply (scaleDone_step m ρ K c 4 rfl) $$ [H2 HO]
  · isplitr; · iexact Hc
    isplitl [H2]; · iexact H2
    iexact HO
  iintro ⟨H2, HO⟩
  ihave HK := (Entails.of_eq (KW_eq m ρ c 5).symm) $$ [H0 H1 HO]
  · isplitl [H0]; · iexact H0
    isplitl [H1]; · iexact H1
    iexact HO
  unfold tl72
  simp only [k0_part72_eq_skeleton, k0_part72_skel,
    app, bind_dite, Prog.lift, Prog.bind_op, Prog.bind_ret, Prog.pure_eq_ret]
  iapply (kvH_done m ρ K c 5 k0_cond39 _ rfl (by decide +kernel)) $$ [HK]
  · isplitr; · iexact Hc
    iexact HK
  iintro HK
  iapply (kvF_done m ρ K c 5 k0_cond40 _ rfl (by decide +kernel)) $$ [HK]
  · isplitr; · iexact Hc
    iexact HK
  iintro HK
  ihave ⟨H0, H1, HO⟩ := (Entails.of_eq (KW_eq m ρ c ((5 : Fin 7).val + 1))) $$ HK
  iapply (scaleDone_step m ρ K c 5 rfl) $$ [H2 HO]
  · isplitr; · iexact Hc
    isplitl [H2]; · iexact H2
    iexact HO
  iintro ⟨H2, HO⟩
  ihave HK := (Entails.of_eq (KW_eq m ρ c 6).symm) $$ [H0 H1 HO]
  · isplitl [H0]; · iexact H0
    isplitl [H1]; · iexact H1
    iexact HO
  iapply (kvH_done m ρ K c 6 k0_cond41 _ rfl (by decide +kernel)) $$ [HK]
  · isplitr; · iexact Hc
    iexact HK
  iintro HK
  iapply (kvF_done m ρ K c 6 k0_cond42 _ rfl (by decide +kernel)) $$ [HK]
  · isplitr; · iexact Hc
    iexact HK
  iintro HK
  ihave ⟨H0, H1, HO⟩ := (Entails.of_eq (KW_eq m ρ c ((6 : Fin 7).val + 1))) $$ HK
  iapply (scaleDone_step m ρ K c 6 rfl) $$ [H2 HO]
  · isplitr; · iexact Hc
    isplitl [H2]; · iexact H2
    iexact HO
  iintro ⟨H2, HO⟩
  iapply Hk
  isplitl [H0]; · iexact H0
  isplitl [H1]; · iexact H1
  isplitl [H2]; · iexact H2
  iexact HO

end Cert.KProof
-- ==== Proof.Rest2.lean ====
/-
The exchange of the partial sums.
-/
module

public import proofs.«01_k».proof.Proof.Rest1

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

variable (m : (ℓ : Loc nD τ sig) → Buf (Elt F) ℓ) (ρ : Dev nD → PrngReg)
variable (K : Dev nD × Fin 81 → ℕ)

theorem offW (c : Dev nD) : k0_off122 c = ![c.val, 0, 0] := by revert c; decide +kernel
theorem offA (c : Dev nD) : k0_off123 c = ![32 * c.val, 0] := by revert c; decide +kernel
theorem offB (c : Dev nD) (o : Fin 7) : k0_off124 c (BitVec.ofNat 32 (o.val + 1)) = ![32 * (dst c o).val, 0] := by revert c o; decide +kernel
theorem off7 (c : Dev nD) : k0_off7 c = ![c.val] := by revert c; decide +kernel
theorem dev43 (c : Dev nD) (h : k0_dev43 c < nD) : (⟨k0_dev43 c, h⟩ : Dev nD) = dst c 0 := Fin.ext ((by decide +kernel : ∀ c, k0_dev43 c = (dst c 0).val) c)
theorem dev44 (c : Dev nD) (h : k0_dev44 c < nD) : (⟨k0_dev44 c, h⟩ : Dev nD) = dst c 1 := Fin.ext ((by decide +kernel : ∀ c, k0_dev44 c = (dst c 1).val) c)
theorem dev45 (c : Dev nD) (h : k0_dev45 c < nD) : (⟨k0_dev45 c, h⟩ : Dev nD) = dst c 2 := Fin.ext ((by decide +kernel : ∀ c, k0_dev45 c = (dst c 2).val) c)
theorem dev46 (c : Dev nD) (h : k0_dev46 c < nD) : (⟨k0_dev46 c, h⟩ : Dev nD) = dst c 3 := Fin.ext ((by decide +kernel : ∀ c, k0_dev46 c = (dst c 3).val) c)
theorem dev47 (c : Dev nD) (h : k0_dev47 c < nD) : (⟨k0_dev47 c, h⟩ : Dev nD) = dst c 4 := Fin.ext ((by decide +kernel : ∀ c, k0_dev47 c = (dst c 4).val) c)
theorem dev48 (c : Dev nD) (h : k0_dev48 c < nD) : (⟨k0_dev48 c, h⟩ : Dev nD) = dst c 5 := Fin.ext ((by decide +kernel : ∀ c, k0_dev48 c = (dst c 5).val) c)
theorem dev49 (c : Dev nD) (h : k0_dev49 c < nD) : (⟨k0_dev49 c, h⟩ : Dev nD) = dst c 6 := Fin.ext ((by decide +kernel : ∀ c, k0_dev49 c = (dst c 6).val) c)

/-- The device's part of every peer's sum, on its way, its own in place. -/
def SumS (c : Dev nD) : sProp 𝕄 := iprop(SQ m ρ c 3 7 ∗ ow c 35 ∗ (semVal (locC c 3) 0 ∗ lndP m ρ c 3 c ∗ srcP m ρ c 3 c))

set_option maxHeartbeats 8000000 in
set_option maxRecDepth 65536 in
/-- The transfers of the partial sums. -/
theorem sumsSent {Q : PUnit → sProp 𝕄} (c : Dev nD) (v2 : BitVec 32) :
    iprop(ctx m ρ K ∗ SQ m ρ c 3 0 ∗ ow c 28 ∗ locT (F := F) c 3 ∗ slotP (F := F) c 3 c ∗ srcP m ρ c 3 c)
      ⊢ iprop((SumS m ρ c -∗ wp frame (wpE (defs₀ (F := F)) 𝒱₀ (c : Thread nD τ) none) Set.univ (tl78 c v2 >>= fun _ => fin92 c) Q)
          -∗ wp frame (wpE (defs₀ (F := F)) 𝒱₀ (c : Thread nD τ) none) Set.univ (tl73 c v2 >>= fun _ => fin92 c) Q) := by
  iintro ⟨#Hc, HS, HO, Ht, Hl, Hs⟩ Hk
  unfold tl73
  simp only [k0_part73_eq_skeleton, k0_part73_skel,
    app, bind_dite, Prog.lift, Prog.bind_op, Prog.bind_ret, Prog.pure_eq_ret]
  iapply (copyR_step m ρ K c (offW c) (offA c) (semL_eq 3 rfl)) $$ [Ht Hl Hs]
  · isplitr; · iexact Hc
    isplitl [Ht]; · iexact Ht
    isplitl [Hl]; · iexact Hl
    iexact Hs
  iintro HL
  iapply (sendR_step m ρ K c _ 0 28 rfl (dev43 c _) (semS_eq 3 0 rfl) (semR_eq 3 c (off7 c)) (offW c) (offB c 0)) $$ [HS HO]
  · isplitr; · iexact Hc
    isplitl [HS]; · iexact HS
    iexact HO
  iintro ⟨HS, HO⟩
  unfold tl74
  simp only [k0_part74_eq_skeleton, k0_part74_skel,
    app, bind_dite, Prog.lift, Prog.bind_op, Prog.bind_ret, Prog.pure_eq_ret]
  iapply (sendR_step m ρ K c _ 1 29 rfl (dev44 c _) (semS_eq 3 1 rfl) (semR_eq 3 c (off7 c)) (offW c) (offB c 1)) $$ [HS HO]
  · isplitr; · iexact Hc
    isplitl [HS]; · iexact HS
    iexact HO
  iintro ⟨HS, HO⟩
  iapply (sendR_step m ρ K c _ 2 30 rfl (dev45 c _) (semS_eq 3 2 rfl) (semR_eq 3 c (off7 c)) (offW c) (offB c 2)) $$ [HS HO]
  · isplitr; · iexact Hc
    isplitl [HS]; · iexact HS
    iexact HO
  iintro ⟨HS, HO⟩
  unfold tl75
  simp only [k0_part75_eq_skeleton, k0_part75_skel,
    app, bind_dite, Prog.lift, Prog.bind_op, Prog.bind_ret, Prog.pure_eq_ret]
  iapply (sendR_step m ρ K c _ 3 31 rfl (dev46 c _) (semS_eq 3 3 rfl) (semR_eq 3 c (off7 c)) (offW c) (offB c 3)) $$ [HS HO]
  · isplitr; · iexact Hc
    isplitl [HS]; · iexact HS
    iexact HO
  iintro ⟨HS, HO⟩
  unfold tl76
  simp only [k0_part76_eq_skeleton, k0_part76_skel,
    app, bind_dite, Prog.lift, Prog.bind_op, Prog.bind_ret, Prog.pure_eq_ret]
  iapply (sendR_step m ρ K c _ 4 32 rfl (dev47 c _) (semS_eq 3 4 rfl) (semR_eq 3 c (off7 c)) (offW c) (offB c 4)) $$ [HS HO]
  · isplitr; · iexact Hc
    isplitl [HS]; · iexact HS
    iexact HO
  iintro ⟨HS, HO⟩
  iapply (sendR_step m ρ K c _ 5 33 rfl (dev48 c _) (semS_eq 3 5 rfl) (semR_eq 3 c (off7 c)) (offW c) (offB c 5)) $$ [HS HO]
  · isplitr; · iexact Hc
    isplitl [HS]; · iexact HS
    iexact HO
  iintro ⟨HS, HO⟩
  unfold tl77
  simp only [k0_part77_eq_skeleton, k0_part77_skel,
    app, bind_dite, Prog.lift, Prog.bind_op, Prog.bind_ret, Prog.pure_eq_ret]
  iapply (sendR_step m ρ K c _ 6 34 rfl (dev49 c _) (semS_eq 3 6 rfl) (semR_eq 3 c (off7 c)) (offW c) (offB c 6)) $$ [HS HO]
  · isplitr; · iexact Hc
    isplitl [HS]; · iexact HS
    iexact HO
  iintro ⟨HS, HO⟩
  iapply (sumOwn_step m ρ K c 35 rfl) $$ [HL HO]
  · isplitr; · iexact Hc
    isplitl [HL]; · iexact HL
    iexact HO
  iintro ⟨Hz, Hp, HO⟩
  iapply Hk
  unfold SumS
  isplitl [HS]; · iexact HS
  isplitl [HO]; · iexact HO
  isplitl [Hz]; · iexact Hz
  iexact Hp

/-- What has come from the nearer peers. -/
def got (c : Dev nD) (f : Fin 5) : sProp 𝕄 :=
  iprop(lndP m ρ c f (sr c 1) ∗ lndP m ρ c f (sr c 2) ∗ lndP m ρ c f (sr c 3) ∗ lndP m ρ c f (sr c 4) ∗ lndP m ρ c f (sr c 5) ∗ lndP m ρ c f (sr c 6))

set_option maxHeartbeats 8000000 in
set_option maxRecDepth 65536 in
/-- The waits for the partial sums of the six nearer peers. -/
theorem sumsGot {Q : PUnit → sProp 𝕄} (c : Dev nD) (v2 : BitVec 32) :
    iprop(ctx m ρ K ∗ RQ (F := F) c 3 0 ∗ ow c 35)
      ⊢ iprop((∀ a, ∀ b, (RQ (F := F) c 3 6 ∗ got m ρ c 3 ∗ ow c 35) -∗ wp frame (wpE (defs₀ (F := F)) 𝒱₀ (c : Thread nD τ) none) Set.univ (tl81 c v2 a b >>= fun _ => fin92 c) Q)
          -∗ wp frame (wpE (defs₀ (F := F)) 𝒱₀ (c : Thread nD τ) none) Set.univ (tl78 c v2 >>= fun _ => fin92 c) Q) := by
  iintro ⟨#Hc, HR, HO⟩ Hk
  unfold tl78
  simp only [k0_part78_eq_skeleton, k0_part78_skel,
    app, bind_dite, Prog.lift, Prog.bind_op, Prog.bind_ret, Prog.pure_eq_ret]
  iapply (sumRecv_step m ρ K c 0 (VO c 0)) $$ [HR HO]
  · isplitr; · iexact Hc
    isplitl [HR]; · iexact HR
    iexact HO
  iintro ⟨HR, H1, HO⟩
  iapply (sumRecv_step m ρ K c 1 (VO c 1)) $$ [HR HO]
  · isplitr; · iexact Hc
    isplitl [HR]; · iexact HR
    iexact HO
  iintro ⟨HR, H2, HO⟩
  unfold tl79
  simp only [k0_part79_eq_skeleton, k0_part79_skel,
    app, bind_dite, Prog.lift, Prog.bind_op, Prog.bind_ret, Prog.pure_eq_ret]
  iapply (sumRecv_step m ρ K c 2 (VO c 2)) $$ [HR HO]
  · isplitr; · iexact Hc
    isplitl [HR]; · iexact HR
    iexact HO
  iintro ⟨HR, H3, HO⟩
  iapply (sumRecv_step m ρ K c 3 (VO c 3)) $$ [HR HO]
  · isplitr; · iexact Hc
    isplitl [HR]; · iexact HR
    iexact HO
  iintro ⟨HR, H4, HO⟩
  unfold tl80
  simp only [k0_part80_eq_skeleton, k0_part80_skel,
    app, bind_dite, Prog.lift, Prog.bind_op, Prog.bind_ret, Prog.pure_eq_ret]
  iapply (sumRecv_step m ρ K c 4 (VO c 4)) $$ [HR HO]
  · isplitr; · iexact Hc
    isplitl [HR]; · iexact HR
    iexact HO
  iintro ⟨HR, H5, HO⟩
  iapply (sumRecv_step m ρ K c 5 (VO c 5)) $$ [HR HO]
  · isplitr; · iexact Hc
    isplitl [HR]; · iexact HR
    iexact HO
  iintro ⟨HR, H6, HO⟩
  iapply Hk
  isplitl [HR]; · iexact HR
  unfold got
  isplitl [H1 H2 H3 H4 H5 H6]
  · isplitl [H1]; · iexact H1
    isplitl [H2]; · iexact H2
    isplitl [H3]; · iexact H3
    isplitl [H4]; · iexact H4
    isplitl [H5]; · iexact H5
    iexact H6
  iexact HO

end Cert.KProof
-- ==== Proof.Parts.lean ====
/-
What a device holds between the stages: the sources cut up and put together again, and the slots joined to whole buffers.
-/
module

public import proofs.«01_k».proof.Proof.Rest2

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

theorem wp_ret_intro {α : Type} {Q : α → sProp 𝕄} (c : Dev nD) (a : α) :
    Q a ⊢ wp frame (wpE (defs₀ (F := F)) 𝒱₀ (c : Thread nD τ) none) Set.univ (.ret a) Q := by
  rw [wp_ret]; exact fupd_intro

/-! ## The transfers of a family -/

theorem SQ_intro (c : Dev nD) (f : Fin 5) :
    iprop((bigSep Finset.univ fun o : Fin 7 => iprop(sndT (F := F) c f o ∗ slotP (F := F) (dst c o) f c)) ∗ (bigSep Finset.univ fun o : Fin 7 => srcP m ρ c f (dst c o)))
      ⊢ SQ m ρ c f 0 := by
  have hm : ∀ o ∈ (Finset.univ : Finset (Fin 7)), (iprop((sndT (F := F) c f o ∗ slotP (F := F) (dst c o) f c) ∗ srcP m ρ c f (dst c o)) : sProp 𝕄) ⊢ sndR m ρ c f o := fun o _ => by
    unfold sndR
    iintro ⟨⟨H1, H2⟩, H3⟩
    isplitl [H1]; · iexact H1
    isplitl [H2]; · iexact H2
    iexact H3
  unfold SQ
  rw [seq_zero]
  iintro H
  iapply (sep_mono hm)
  iapply (Entails.of_eq (bigSep_sep' Finset.univ (fun o : Fin 7 => (iprop(sndT (F := F) c f o ∗ slotP (F := F) (dst c o) f c) : sProp 𝕄)) (fun o : Fin 7 => srcP m ρ c f (dst c o))).symm)
  iexact H
theorem WQ_of_SQ (c : Dev nD) (f : Fin 5) : SQ m ρ c f 7 ⊢ WQ m ρ c f 0 := by
  unfold SQ WQ; rw [seq_full, seq_zero]
theorem WQ_done (c : Dev nD) (f : Fin 5) : WQ m ρ c f 7
    ⊢ iprop((bigSep Finset.univ fun o : Fin 7 => semVal (sndC c f o) 0) ∗ bigSep Finset.univ fun o : Fin 7 => srcP m ρ c f (dst c o)) := by
  unfold WQ; rw [seq_full]
  exact Entails.of_eq (bigSep_sep' Finset.univ (fun o : Fin 7 => (semVal (sndC c f o) 0 : sProp 𝕄)) (fun o : Fin 7 => srcP m ρ c f (dst c o)))
theorem RQ_intro (c : Dev nD) (f : Fin 5) : (bigSep Finset.univ fun o : Fin 7 => rcvT (F := F) c f o) ⊢ RQ (F := F) c f 0 := by
  unfold RQ; rw [seq_zero]
theorem RQ_done (c : Dev nD) (f : Fin 5) : RQ (F := F) c f 7 ⊢ bigSep Finset.univ fun o : Fin 7 => semVal (rcvC c f (sr c (o.val + 1))) 0 := by
  unfold RQ; rw [seq_full]; exact Entails.rfl

/-! ## What has landed -/

theorem lnd_all (c : Dev nD) (f : Fin 5) : iprop(lndP m ρ c f c ∗ got m ρ c f ∗ lndP m ρ c f (sr c 7)) ⊢ bigSep Finset.univ fun s => lndP m ρ c f s := by
  rw [all_sr8 c]
  unfold got
  iintro ⟨H0, ⟨H1, H2, H3, H4, H5, H6⟩, H7⟩
  iapply (fin8_intro (fun g : Fin 8 => lndP m ρ c f (sr c g.val)))
  isplitl [H0]; · iapply (Entails.of_eq (congrArg (fun s => lndP m ρ c f s) (sr_zero c).symm)); iexact H0
  isplitl [H1]; · iexact H1
  isplitl [H2]; · iexact H2
  isplitl [H3]; · iexact H3
  isplitl [H4]; · iexact H4
  isplitl [H5]; · iexact H5
  isplitl [H6]; · iexact H6
  iexact H7

theorem lnd_3 (c s : Dev nD) : lndP m ρ c 3 s = iprop(∃ g : CSl F, (rsM.view.loc (c : Thread nD τ) ↦[I_3 s]{fullShare} g)
      ∗ ⌜∃ w, AR m ρ s w ∧ slotRr false s g = (slabR c).view.read (Elt F) w⌝) := rfl
theorem lnd_4 (c s : Dev nD) : lndP m ρ c 4 s = iprop(∃ g : CSl F, (agM.view.loc (c : Thread nD τ) ↦[I_4 s]{fullShare} g)
      ∗ ⌜∃ r, RED m ρ s r ∧ slotRr true s g = r⌝) := rfl

/-- The partial sums of all devices, in one buffer. -/
theorem join_sum (c : Dev nD) : iprop(lndP m ρ c 3 c ∗ got m ρ c 3 ∗ lndP m ρ c 3 (sr c 7))
    ⊢ iprop(∃ G : CSl F, (rsM.view.loc (c : Thread nD τ) ↦{fullShare} G) ∗ ⌜∀ s, ∃ w, AR m ρ s w ∧ slotRr false s G = (slabR c).view.read (Elt F) w⌝) := by
  iintro H
  ihave H := (lnd_all m ρ c 3) $$ H
  ihave H := (Entails.of_eq (congrArg (fun P => bigSep Finset.univ P) (funext (lnd_3 m ρ c)))) $$ H
  ihave ⟨%G, H, %hG⟩ := (join_all (F := F) (ℓ := rsM.view.loc (c : Thread nD τ)) I_3 dis_3 cov_3 (fun s g => ∃ w, AR m ρ s w ∧ slotRr false s g = (slabR c).view.read (Elt F) w)) $$ H
  iexists G
  isplitl [H]; · iexact H
  ipureintro
  intro s
  obtain ⟨g, ⟨w, hw, hg⟩, hi⟩ := hG s
  exact ⟨w, hw, (View.read_congr (v := (slotR false s).view) fun i h => hi i h).trans hg⟩

/-- The reduced rows of all devices, in one buffer. -/
theorem join_rows (c : Dev nD) : iprop(lndP m ρ c 4 c ∗ got m ρ c 4 ∗ lndP m ρ c 4 (sr c 7))
    ⊢ iprop(∃ G : CSl F, (agM.view.loc (c : Thread nD τ) ↦{fullShare} G) ∗ ⌜∀ s, ∃ r, RED m ρ s r ∧ slotRr true s G = r⌝) := by
  iintro H
  ihave H := (lnd_all m ρ c 4) $$ H
  ihave H := (Entails.of_eq (congrArg (fun P => bigSep Finset.univ P) (funext (lnd_4 m ρ c)))) $$ H
  ihave ⟨%G, H, %hG⟩ := (join_all (F := F) (ℓ := agM.view.loc (c : Thread nD τ)) I_4 dis_4 cov_4 (fun s g => ∃ r, RED m ρ s r ∧ slotRr true s g = r)) $$ H
  iexists G
  isplitl [H]; · iexact H
  ipureintro
  intro s
  obtain ⟨g, ⟨r, hr, hg⟩, hi⟩ := hG s
  exact ⟨r, hr, (View.read_congr (v := (slotR true s).view) fun i h => hi i h).trans hg⟩

omit [FloatOps F] in
theorem bufP_3' (c : Dev nD) (G : CSl F) : (rsM.view.loc (c : Thread nD τ) ↦{fullShare} G) ⊢ bufP (F := F) c 3 := by
  rw [bufP_3]; iintro H; iexists G; iexact H
omit [FloatOps F] in
theorem bufP_4' (c : Dev nD) (G : CSl F) : (agM.view.loc (c : Thread nD τ) ↦{fullShare} G) ⊢ bufP (F := F) c 4 := by
  rw [bufP_4]; iintro H; iexists G; iexact H

/-! ## Shares of a source -/

theorem src_2 (c d : Dev nD) : srcP m ρ c 2 d = (svsM.view.loc (c : Thread nD τ) ↦[svsM.view.set]{lf d} SVS m ρ c) := rfl
theorem src_3 (c d : Dev nD) : srcP m ρ c 3 d = iprop(∃ w : CAr F, (arM.view.loc (c : Thread nD τ) ↦[(slabR d).view.set]{fullShare} w) ∗ ⌜AR m ρ c w⌝) := rfl
theorem src_4 (c d : Dev nD) : srcP m ρ c 4 d = iprop(∃ r : CRd F, (redM.view.loc (c : Thread nD τ) ↦[redM.view.set]{lf d} r) ∗ ⌜RED m ρ c r⌝) := rfl

theorem svs_eq (c : Dev nD) : (svsM.view.loc (c : Thread nD τ) ↦[svsM.view.set]{fullShare} SVS m ρ c) = bigSep Finset.univ fun d => srcP m ρ c 2 d := by
  simp only [src_2]
  exact ShareLeaves.pointsTo_leaves (ℓ := svsM.view.loc (c : Thread nD τ)) svsM.view.set (SVS m ρ c) 3 fullShare
theorem svs_set : svsM.view.set = Finset.univ := View.set_whole _
theorem red_set : redM.view.set = Finset.univ := View.set_whole _

theorem red_split (c : Dev nD) (r : CRd F) (h : RED m ρ c r) :
    iprop((redM.view.loc (c : Thread nD τ) ↦{fullShare} r) ∗ (bigSep Finset.univ fun o : Fin 7 => iprop(sndT (F := F) c 4 o ∗ slotP (F := F) (dst c o) 4 c)))
      ⊢ iprop(srcP m ρ c 4 c ∗ SQ m ρ c 4 0) := by
  have hm : ∀ d ∈ (Finset.univ : Finset (Dev nD)), (redM.view.loc (c : Thread nD τ) ↦[Finset.univ]{lf d} r : sProp 𝕄) ⊢ srcP m ρ c 4 d := fun d _ => by
    rw [src_4, red_set]; iintro H; iexists r
    isplitl [H]; · iexact H
    ipureintro; exact h
  iintro ⟨H, HT⟩
  ihave H := (Entails.of_eq (ShareLeaves.pointsTo_leaves (ℓ := redM.view.loc (c : Thread nD τ)) Finset.univ r 3 fullShare)) $$ H
  ihave H := (sep_mono hm) $$ H
  ihave ⟨H0, H⟩ := (Entails.of_eq (all_dst c (fun d => srcP m ρ c 4 d))) $$ H
  isplitl [H0]; · iexact H0
  iapply (SQ_intro m ρ c 4)
  isplitl [HT]; · iexact HT
  iexact H

omit [FloatOps F] in
/-- Shares of one buffer agree, and come together. -/
theorem leaves_join {ℓ : Loc nD τ sig} : bigSep Finset.univ (fun d : Dev nD => iprop(∃ r, ℓ ↦[Finset.univ]{lf d} r))
    ⊢ (iprop(∃ r, (ℓ ↦{fullShare} r) ∗ ⌜True⌝) : sProp 𝕄) := by
  by_cases hne : Nonempty (Buf (Elt F) ℓ)
  · refine (bigSep_exists_pi Finset.univ (fun (d : Dev nD) (r : Buf (Elt F) ℓ) => (ℓ ↦[Finset.univ]{lf d} r : sProp 𝕄))).trans ?_
    iintro ⟨%rs, H⟩
    have hp : ∀ d : Dev nD, bigSep Finset.univ (fun d : Dev nD => (ℓ ↦[Finset.univ]{lf d} rs d : sProp 𝕄)) ⊢ ⌜rs d = rs 0⌝ := fun d => by
      by_cases hd : d = 0
      · subst hd; iintro -; ipureintro; rfl
      rw [bigSep_univ_at _ (0 : Dev nD)]
      iintro ⟨H0, H⟩
      ihave H := (sep_elim (fun d : Dev nD => (ℓ ↦[Finset.univ]{lf d} rs d : sProp 𝕄)) (Finset.mem_erase.mpr ⟨hd, Finset.mem_univ d⟩)) $$ H
      ihave %h := pointsTo_agree $$ [H H0]
      · isplitl [H]; · iexact H
        iexact H0
      ipureintro
      exact funext fun i => (h i (Finset.mem_inter.mpr ⟨Finset.mem_univ i, Finset.mem_univ i⟩)).1
    have hall : bigSep Finset.univ (fun d : Dev nD => (ℓ ↦[Finset.univ]{lf d} rs d : sProp 𝕄)) ⊢ ⌜∀ d, rs d = rs 0⌝ := by
      iintro H %d
      ihave %h := (hp d) $$ H
      ipureintro; exact h
    have hfin : bigSep Finset.univ (fun d : Dev nD => (ℓ ↦[Finset.univ]{lf d} rs d : sProp 𝕄)) ⊢ (ℓ ↦{fullShare} rs 0 : sProp 𝕄) :=
      pure_elim _ hall fun h => by
        rw [show rs = fun _ => rs 0 from funext h]
        exact Entails.of_eq (ShareLeaves.pointsTo_leaves (ℓ := ℓ) Finset.univ (rs 0) 3 fullShare).symm
    ihave H := hfin $$ H
    iexists (rs 0)
    isplitl [H]; · iexact H
    ipureintro; trivial
  · iintro H
    ihave ⟨%g, -⟩ := (sep_elim (fun d : Dev nD => (iprop(∃ r, ℓ ↦[Finset.univ]{lf d} r) : sProp 𝕄)) (Finset.mem_univ (0 : Dev nD))) $$ H
    exact absurd ⟨g⟩ hne

/-- The shares come together again. -/
theorem red_join (c : Dev nD) : iprop(srcP m ρ c 4 c ∗ bigSep Finset.univ fun o : Fin 7 => srcP m ρ c 4 (dst c o)) ⊢ iprop(∃ r : CRd F, redM.view.loc (c : Thread nD τ) ↦{fullShare} r) := by
  have hm : ∀ d ∈ (Finset.univ : Finset (Dev nD)), srcP m ρ c 4 d ⊢ (iprop(∃ r : CRd F, redM.view.loc (c : Thread nD τ) ↦[Finset.univ]{lf d} r) : sProp 𝕄) := fun d _ => by
    rw [src_4, red_set]; iintro ⟨%r, H, -⟩; iexists r; iexact H
  iintro H
  ihave H := (Entails.of_eq (all_dst c (fun d => srcP m ρ c 4 d)).symm) $$ H
  ihave H := (sep_mono hm) $$ H
  ihave ⟨%r, H, %hr⟩ := (leaves_join (F := F) (ℓ := redM.view.loc (c : Thread nD τ))) $$ H
  iexists r; iexact H

/-! ## Slabs -/

abbrev I_slabR (d : Dev nD) : Finset S256x512.Idx := (slabR d).view.set
theorem set_slabR (d : Dev nD) : (slabR d).view.set = (Rect.unit (s := S256x512) ![32 * d.val, 0] S32x512.size (inb_slabR d)).set := View.set_slice_whole _ _
theorem dis_slabR (s s' : Dev nD) (h : s ≠ s') : Disjoint (slabR s).view.set (slabR s').view.set := by
  rw [set_slabR, set_slabR]
  exact Ring.lead_disjoint (s := S256x512) (0 : Fin 2) 32 (fun s : Fin 8 => (![32 * s.val, 0] : Fin 2 → ℕ)) S32x512.size inb_slabR (fun j => by simp) rfl s s' h
theorem cov_slabR : Finset.univ.biUnion I_slabR = Finset.univ :=
  (congrArg (fun I => Finset.univ.biUnion I) (funext fun d => set_slabR d : I_slabR = _)).trans (Ring.lead_cover (s := S256x512) (0 : Fin 2) 32 (fun s : Fin 8 => (![32 * s.val, 0] : Fin 2 → ℕ)) S32x512.size inb_slabR (fun j => by simp)
    (fun b a h => by fin_cases a <;> first | rfl | exact absurd rfl h) rfl (fun a h => by fin_cases a <;> first | rfl | exact absurd rfl h) rfl)

theorem ar_split (c : Dev nD) (w : CAr F) (h : AR m ρ c w) : (arM.view.loc (c : Thread nD τ) ↦{fullShare} w)
    ⊢ iprop(srcP m ρ c 3 c ∗ bigSep Finset.univ fun o : Fin 7 => srcP m ρ c 3 (dst c o)) := by
  have hm : ∀ d ∈ (Finset.univ : Finset (Dev nD)), (arM.view.loc (c : Thread nD τ) ↦[(slabR d).view.set]{fullShare} w : sProp 𝕄) ⊢ srcP m ρ c 3 d := fun d _ => by
    rw [src_3]; iintro H; iexists w
    isplitl [H]; · iexact H
    ipureintro; exact h
  iintro H
  ihave H := (Entails.of_eq (Ring.pointsTo_blocks (ℓ := arM.view.loc (c : Thread nD τ)) I_slabR dis_slabR cov_slabR w)) $$ H
  ihave H := (sep_mono hm) $$ H
  iapply (Entails.of_eq (all_dst c (fun d => srcP m ρ c 3 d))); iexact H
theorem ar_join (c : Dev nD) : iprop(srcP m ρ c 3 c ∗ bigSep Finset.univ fun o : Fin 7 => srcP m ρ c 3 (dst c o)) ⊢ iprop(∃ w : CAr F, arM.view.loc (c : Thread nD τ) ↦{fullShare} w) := by
  have hm : ∀ d ∈ (Finset.univ : Finset (Dev nD)), srcP m ρ c 3 d ⊢ (iprop(∃ w : CAr F, (arM.view.loc (c : Thread nD τ) ↦[(slabR d).view.set]{fullShare} w) ∗ ⌜True⌝) : sProp 𝕄) := fun d _ => by
    rw [src_3]; iintro ⟨%r, H, -⟩; iexists r
    isplitl [H]; · iexact H
    ipureintro; trivial
  iintro H
  ihave H := (Entails.of_eq (all_dst c (fun d => srcP m ρ c 3 d)).symm) $$ H
  ihave H := (sep_mono hm) $$ H
  ihave ⟨%G, H, -⟩ := (join_all (F := F) (ℓ := arM.view.loc (c : Thread nD τ)) I_slabR dis_slabR cov_slabR (fun _ _ => True)) $$ H
  iexists G; iexact H

/-! ## The quantised block -/

def slabSet (b : Bool) (d : Dev nD) : Finset (S2x128x2048.Idx) := match b with
  | false => (slabF false d).view.set
  | true => (slabF true d).view.set
theorem slabSet_eq (b : Bool) (d : Dev nD) : slabSet b d = (Rect.unit (s := S2x128x2048) ![0, 0, 256 * d.val] S2x128x256.size (inb_slabF d)).set := by
  cases b <;> exact View.set_slice_whole _ _
theorem dis_slabF (b : Bool) (s s' : Dev nD) (h : s ≠ s') : Disjoint (slabSet b s) (slabSet b s') := by
  rw [slabSet_eq, slabSet_eq]
  exact Ring.lead_disjoint (s := S2x128x2048) (2 : Fin 3) 256 (fun s : Fin 8 => (![0, 0, 256 * s.val] : Fin 3 → ℕ)) S2x128x256.size inb_slabF (fun j => by simp) rfl s s' h
theorem cov_slabF (b : Bool) : Finset.univ.biUnion (fun d : Dev nD => slabSet b d) = Finset.univ :=
  (congrArg (fun I => Finset.univ.biUnion I) (funext (slabSet_eq b))).trans (Ring.lead_cover (s := S2x128x2048) (2 : Fin 3) 256 (fun s : Fin 8 => (![0, 0, 256 * s.val] : Fin 3 → ℕ)) S2x128x256.size inb_slabF (fun j => by simp)
    (fun b a h => by fin_cases a <;> first | rfl | exact absurd rfl h) rfl (fun a h => by fin_cases a <;> first | rfl | exact absurd rfl h) rfl)
theorem slabH_sub (c d : Dev nD) : (Rect.unit (s := S2x128x2048) ![0, j0 c, 256 * d.val] S2x64x256.size (inb_slabH c d)).set
    ⊆ (Rect.unit (s := S2x128x2048) ![0, 0, 256 * d.val] S2x128x256.size (inb_slabF d)).set := by
  intro i hi
  rw [Rect.mem_set_unit] at hi ⊢
  have hj := j0_le c
  intro a
  have h := hi a
  fin_cases a
  · exact h
  · refine ⟨Nat.zero_le _, ?_⟩
    have h2 : (i 1).val < j0 c + 64 := h.2
    show (i 1).val < 0 + 128
    omega
  · exact h
theorem sndSet_sub (b : Bool) (c d : Dev nD) : sndSet b c d ⊆ slabSet b d := by
  cases b
  all_goals
    unfold sndSet slabSet
    dsimp only
    split
    · rw [View.set_slice_whole, View.set_slice_whole]; exact slabH_sub c d
    · exact Finset.Subset.refl _

/-- The rows of the quantised block that nobody is sent. -/
def keep (c : Dev nD) (b : Bool) : sProp 𝕄 := match b with
  | false => bigSep Finset.univ fun d : Dev nD => (skM false).view.loc (c : Thread nD τ) ↦[slabSet false d \ sndSet false c d]{fullShare} SK m ρ false c
  | true => bigSep Finset.univ fun d : Dev nD => (skM true).view.loc (c : Thread nD τ) ↦[slabSet true d \ sndSet true c d]{fullShare} SK m ρ true c

theorem src_0 (c d : Dev nD) : srcP m ρ c 0 d = ((skM false).view.loc (c : Thread nD τ) ↦[sndSet false c d]{fullShare} SK m ρ false c) := rfl
theorem keep_false (c : Dev nD) : keep m ρ c false = bigSep Finset.univ fun d : Dev nD => (skM false).view.loc (c : Thread nD τ) ↦[slabSet false d \ sndSet false c d]{fullShare} SK m ρ false c := rfl
theorem sk_false (c : Dev nD) : ((skM false).view.loc (c : Thread nD τ) ↦{fullShare} SK m ρ false c)
    = iprop((srcP m ρ c 0 c ∗ bigSep Finset.univ fun o : Fin 7 => srcP m ρ c 0 (dst c o)) ∗ keep m ρ c false) := by
  refine (Ring.pointsTo_blocks (ℓ := (skM false).view.loc (c : Thread nD τ)) (fun d : Dev nD => slabSet false d) (dis_slabF false) (cov_slabF false) (SK m ρ false c)).trans ?_
  rw [← all_dst c (fun d => srcP m ρ c 0 d), keep_false]
  refine Eq.trans ?_ (bigSep_sep' Finset.univ (fun d => srcP m ρ c 0 d) _)
  refine bigSep_congr fun d _ => ?_
  rw [src_0]
  exact BI.Entails.antisymm (pointsTo_split_subset (sndSet_sub false c d)).1 (pointsTo_split_subset (sndSet_sub false c d)).2

theorem src_1 (c d : Dev nD) : srcP m ρ c 1 d = ((skM true).view.loc (c : Thread nD τ) ↦[sndSet true c d]{fullShare} SK m ρ true c) := rfl
theorem keep_true (c : Dev nD) : keep m ρ c true = bigSep Finset.univ fun d : Dev nD => (skM true).view.loc (c : Thread nD τ) ↦[slabSet true d \ sndSet true c d]{fullShare} SK m ρ true c := rfl
theorem sk_true (c : Dev nD) : ((skM true).view.loc (c : Thread nD τ) ↦{fullShare} SK m ρ true c)
    = iprop((srcP m ρ c 1 c ∗ bigSep Finset.univ fun o : Fin 7 => srcP m ρ c 1 (dst c o)) ∗ keep m ρ c true) := by
  refine (Ring.pointsTo_blocks (ℓ := (skM true).view.loc (c : Thread nD τ)) (fun d : Dev nD => slabSet true d) (dis_slabF true) (cov_slabF true) (SK m ρ true c)).trans ?_
  rw [← all_dst c (fun d => srcP m ρ c 1 d), keep_true]
  refine Eq.trans ?_ (bigSep_sep' Finset.univ (fun d => srcP m ρ c 1 d) _)
  refine bigSep_congr fun d _ => ?_
  rw [src_1]
  exact BI.Entails.antisymm (pointsTo_split_subset (sndSet_sub true c d)).1 (pointsTo_split_subset (sndSet_sub true c d)).2

end Cert.KProof
-- ==== Proof.Rest3.lean ====
/-
The sum of what has come, and the transfers of the reduced rows.
-/
module

public import proofs.«01_k».proof.Proof.Parts

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

variable (m : (ℓ : Loc nD τ sig) → Buf (Elt F) ℓ) (ρ : Dev nD → PrngReg)
variable (K : Dev nD × Fin 81 → ℕ)
theorem dev50 (c : Dev nD) (h : k0_dev50 c < nD) : (⟨k0_dev50 c, h⟩ : Dev nD) = dst c 0 := Fin.ext ((by decide +kernel : ∀ c, k0_dev50 c = (dst c 0).val) c)
theorem dev51 (c : Dev nD) (h : k0_dev51 c < nD) : (⟨k0_dev51 c, h⟩ : Dev nD) = dst c 1 := Fin.ext ((by decide +kernel : ∀ c, k0_dev51 c = (dst c 1).val) c)
theorem dev52 (c : Dev nD) (h : k0_dev52 c < nD) : (⟨k0_dev52 c, h⟩ : Dev nD) = dst c 2 := Fin.ext ((by decide +kernel : ∀ c, k0_dev52 c = (dst c 2).val) c)
theorem dev53 (c : Dev nD) (h : k0_dev53 c < nD) : (⟨k0_dev53 c, h⟩ : Dev nD) = dst c 3 := Fin.ext ((by decide +kernel : ∀ c, k0_dev53 c = (dst c 3).val) c)
theorem dev54 (c : Dev nD) (h : k0_dev54 c < nD) : (⟨k0_dev54 c, h⟩ : Dev nD) = dst c 4 := Fin.ext ((by decide +kernel : ∀ c, k0_dev54 c = (dst c 4).val) c)
theorem dev55 (c : Dev nD) (h : k0_dev55 c < nD) : (⟨k0_dev55 c, h⟩ : Dev nD) = dst c 5 := Fin.ext ((by decide +kernel : ∀ c, k0_dev55 c = (dst c 5).val) c)
theorem dev56 (c : Dev nD) (h : k0_dev56 c < nD) : (⟨k0_dev56 c, h⟩ : Dev nD) = dst c 6 := Fin.ext ((by decide +kernel : ∀ c, k0_dev56 c = (dst c 6).val) c)

/-- The reduced rows on their way, the device's own in place. -/
def RowS (c : Dev nD) : sProp 𝕄 := iprop(SQ m ρ c 4 7 ∗ ow c 42 ∗ (semVal (locC c 4) 0 ∗ lndP m ρ c 4 c ∗ srcP m ρ c 4 c))

set_option maxHeartbeats 8000000 in
set_option maxRecDepth 65536 in
/-- The last wait for a partial sum, the sum, and the transfers of the reduced rows. -/
theorem rowsSent {Q : PUnit → sProp 𝕄} (c : Dev nD) (v2 a b : BitVec 32) (r₀ : CRd F) :
    iprop(ctx m ρ K ∗ RQ (F := F) c 3 6 ∗ ow c 35 ∗ got m ρ c 3 ∗ lndP m ρ c 3 c ∗ (redM.view.loc (c : Thread nD τ) ↦{fullShare} r₀)
        ∗ (bigSep Finset.univ fun o : Fin 7 => iprop(sndT (F := F) c 4 o ∗ slotP (F := F) (dst c o) 4 c)) ∗ locT (F := F) c 4 ∗ slotP (F := F) c 4 c)
      ⊢ iprop((∀ x, (RQ (F := F) c 3 7 ∗ bufP (F := F) c 3 ∗ RowS m ρ c) -∗ wp frame (wpE (defs₀ (F := F)) 𝒱₀ (c : Thread nD τ) none) Set.univ (tl86 c v2 x >>= fun _ => fin92 c) Q)
          -∗ wp frame (wpE (defs₀ (F := F)) 𝒱₀ (c : Thread nD τ) none) Set.univ (tl81 c v2 a b >>= fun _ => fin92 c) Q) := by
  iintro ⟨#Hc, HR, HO, HG, H0, Hr, HT, Ht, Hl⟩ Hk
  unfold tl81
  simp only [k0_part81_eq_skeleton, k0_part81_skel,
    app, bind_dite, Prog.lift, Prog.bind_op, Prog.bind_ret, Prog.pure_eq_ret]
  iapply (sumRecv_step m ρ K c 6 (VO c 6)) $$ [HR HO]
  · isplitr; · iexact Hc
    isplitl [HR]; · iexact HR
    iexact HO
  iintro ⟨HR, H7, HO⟩
  ihave ⟨%G, HG, %hG⟩ := (join_sum m ρ c) $$ [H0 HG H7]
  · isplitl [H0]; · iexact H0
    isplitl [HG]; · iexact HG
    iexact H7
  iapply (ldW_step (i := cc0_scratch7.idx) (hκ := rfl) c hz3 G) $$ HG
  iintro HG
  iapply (ldW_step (i := cc0_scratch8.idx) (hκ := rfl) c hz2 r₀) $$ Hr
  iintro Hr
  iapply (stW_step (i := cc0_scratch8.idx) (hκ := rfl) c hz2 r₀ (k0_pay322 G)) $$ Hr
  iintro Hr
  ihave ⟨Hs, HS⟩ := (red_split m ρ c (k0_pay322 G) ⟨G, hG, rfl⟩) $$ [Hr HT]
  · isplitl [Hr]; · iexact Hr
    iexact HT
  iapply (copyG_step m ρ K c (offW c) (semL_eq 4 rfl)) $$ [Ht Hl Hs]
  · isplitr; · iexact Hc
    isplitl [Ht]; · iexact Ht
    isplitl [Hl]; · iexact Hl
    iexact Hs
  iintro HL
  unfold tl82
  simp only [k0_part82_eq_skeleton, k0_part82_skel,
    app, bind_dite, Prog.lift, Prog.bind_op, Prog.bind_ret, Prog.pure_eq_ret]
  iapply (sendG_step m ρ K c _ 0 35 rfl (dev50 c _) (semS_eq 4 0 rfl) (semR_eq 4 c (off7 c)) (offW c)) $$ [HS HO]
  · isplitr; · iexact Hc
    isplitl [HS]; · iexact HS
    iexact HO
  iintro ⟨HS, HO⟩
  iapply (sendG_step m ρ K c _ 1 36 rfl (dev51 c _) (semS_eq 4 1 rfl) (semR_eq 4 c (off7 c)) (offW c)) $$ [HS HO]
  · isplitr; · iexact Hc
    isplitl [HS]; · iexact HS
    iexact HO
  iintro ⟨HS, HO⟩
  unfold tl83
  simp only [k0_part83_eq_skeleton, k0_part83_skel,
    app, bind_dite, Prog.lift, Prog.bind_op, Prog.bind_ret, Prog.pure_eq_ret]
  iapply (sendG_step m ρ K c _ 2 37 rfl (dev52 c _) (semS_eq 4 2 rfl) (semR_eq 4 c (off7 c)) (offW c)) $$ [HS HO]
  · isplitr; · iexact Hc
    isplitl [HS]; · iexact HS
    iexact HO
  iintro ⟨HS, HO⟩
  iapply (sendG_step m ρ K c _ 3 38 rfl (dev53 c _) (semS_eq 4 3 rfl) (semR_eq 4 c (off7 c)) (offW c)) $$ [HS HO]
  · isplitr; · iexact Hc
    isplitl [HS]; · iexact HS
    iexact HO
  iintro ⟨HS, HO⟩
  unfold tl84
  simp only [k0_part84_eq_skeleton, k0_part84_skel,
    app, bind_dite, Prog.lift, Prog.bind_op, Prog.bind_ret, Prog.pure_eq_ret]
  iapply (sendG_step m ρ K c _ 4 39 rfl (dev54 c _) (semS_eq 4 4 rfl) (semR_eq 4 c (off7 c)) (offW c)) $$ [HS HO]
  · isplitr; · iexact Hc
    isplitl [HS]; · iexact HS
    iexact HO
  iintro ⟨HS, HO⟩
  iapply (sendG_step m ρ K c _ 5 40 rfl (dev55 c _) (semS_eq 4 5 rfl) (semR_eq 4 c (off7 c)) (offW c)) $$ [HS HO]
  · isplitr; · iexact Hc
    isplitl [HS]; · iexact HS
    iexact HO
  iintro ⟨HS, HO⟩
  unfold tl85
  simp only [k0_part85_eq_skeleton, k0_part85_skel,
    app, bind_dite, Prog.lift, Prog.bind_op, Prog.bind_ret, Prog.pure_eq_ret]
  iapply (sendG_step m ρ K c _ 6 41 rfl (dev56 c _) (semS_eq 4 6 rfl) (semR_eq 4 c (off7 c)) (offW c)) $$ [HS HO]
  · isplitr; · iexact Hc
    isplitl [HS]; · iexact HS
    iexact HO
  iintro ⟨HS, HO⟩
  iapply (rowsOwn_step m ρ K c 42 rfl) $$ [HL HO]
  · isplitr; · iexact Hc
    isplitl [HL]; · iexact HL
    iexact HO
  iintro ⟨Hz, Hp, HO⟩
  iapply Hk
  isplitl [HR]; · iexact HR
  isplitl [HG]
  · iapply (bufP_3' c G); iexact HG
  unfold RowS
  isplitl [HS]; · iexact HS
  isplitl [HO]; · iexact HO
  isplitl [Hz]; · iexact Hz
  iexact Hp

end Cert.KProof
-- ==== Proof.Rest4.lean ====
/-
The waits for the reduced rows, the result, and the last waits.
-/
module

public import proofs.«01_k».proof.Proof.Rest3

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

variable (m : (ℓ : Loc nD τ sig) → Buf (Elt F) ℓ) (ρ : Dev nD → PrngReg)
variable (K : Dev nD × Fin 81 → ℕ)
set_option maxHeartbeats 8000000 in
set_option maxRecDepth 65536 in
/-- The waits for the reduced rows, the result, and the waits for the device's own transfers. -/
theorem lastRows {Q : PUnit → sProp 𝕄} (c : Dev nD) (v2 x : BitVec 32) (y : S2x128x512.Idx → Elt F .f32) :
    iprop(ctx m ρ K ∗ RQ (F := F) c 4 0 ∗ ow c 42 ∗ lndP m ρ c 4 c ∗ WQ m ρ c 3 0 ∗ WQ m ρ c 4 0
        ∗ ((Memref.whole cc0_stg5_0 : Memref sig .tc .vmem _ _).view.loc (c : Thread nD τ) ↦{fullShare} y))
      ⊢ iprop(((RQ (F := F) c 4 7 ∗ bufP (F := F) c 4 ∗ WQ m ρ c 3 7 ∗ WQ m ρ c 4 7 ∗ ow c 42
          ∗ ∃ o, ((Memref.whole cc0_stg5_0 : Memref sig .tc .vmem _ _).view.loc (c : Thread nD τ) ↦{fullShare} o) ∗ ⌜OUT m ρ o⌝) -∗ Q ⟨⟩)
          -∗ wp frame (wpE (defs₀ (F := F)) 𝒱₀ (c : Thread nD τ) none) Set.univ (tl86 c v2 x >>= fun _ => fin92 c) Q) := by
  iintro ⟨#Hc, HR, HO, H0, H3, H4, Hy⟩ Hk
  unfold tl86
  simp only [k0_part86_eq_skeleton, k0_part86_skel,
    app, bind_dite, Prog.lift, Prog.bind_op, Prog.bind_ret, Prog.pure_eq_ret]
  iapply (rowsRecv_step m ρ K c 0 (VO c 0)) $$ [HR HO]
  · isplitr; · iexact Hc
    isplitl [HR]; · iexact HR
    iexact HO
  iintro ⟨HR, H1, HO⟩
  iapply (rowsRecv_step m ρ K c 1 (VO c 1)) $$ [HR HO]
  · isplitr; · iexact Hc
    isplitl [HR]; · iexact HR
    iexact HO
  iintro ⟨HR, H2, HO⟩
  unfold tl87
  simp only [k0_part87_eq_skeleton, k0_part87_skel,
    app, bind_dite, Prog.lift, Prog.bind_op, Prog.bind_ret, Prog.pure_eq_ret]
  iapply (rowsRecv_step m ρ K c 2 (VO c 2)) $$ [HR HO]
  · isplitr; · iexact Hc
    isplitl [HR]; · iexact HR
    iexact HO
  iintro ⟨HR, J3, HO⟩
  iapply (rowsRecv_step m ρ K c 3 (VO c 3)) $$ [HR HO]
  · isplitr; · iexact Hc
    isplitl [HR]; · iexact HR
    iexact HO
  iintro ⟨HR, J4, HO⟩
  unfold tl88
  simp only [k0_part88_eq_skeleton, k0_part88_skel,
    app, bind_dite, Prog.lift, Prog.bind_op, Prog.bind_ret, Prog.pure_eq_ret]
  iapply (rowsRecv_step m ρ K c 4 (VO c 4)) $$ [HR HO]
  · isplitr; · iexact Hc
    isplitl [HR]; · iexact HR
    iexact HO
  iintro ⟨HR, H5, HO⟩
  iapply (rowsRecv_step m ρ K c 5 (VO c 5)) $$ [HR HO]
  · isplitr; · iexact Hc
    isplitl [HR]; · iexact HR
    iexact HO
  iintro ⟨HR, H6, HO⟩
  unfold tl89
  simp only [k0_part89_eq_skeleton, k0_part89_skel,
    app, bind_dite, Prog.lift, Prog.bind_op, Prog.bind_ret, Prog.pure_eq_ret]
  iapply (rowsRecv_step m ρ K c 6 (VO c 6)) $$ [HR HO]
  · isplitr; · iexact Hc
    isplitl [HR]; · iexact HR
    iexact HO
  iintro ⟨HR, H7, HO⟩
  ihave ⟨%G, HG, %hG⟩ := (join_rows m ρ c) $$ [H0 H1 H2 J3 J4 H5 H6 H7]
  · isplitl [H0]; · iexact H0
    isplitl [H1 H2 J3 J4 H5 H6]
    · unfold got
      isplitl [H1]; · iexact H1
      isplitl [H2]; · iexact H2
      isplitl [J3]; · iexact J3
      isplitl [J4]; · iexact J4
      isplitl [H5]; · iexact H5
      iexact H6
    iexact H7
  iapply (ldW_step (i := cc0_scratch9.idx) (hκ := rfl) c hz3 G) $$ HG
  iintro HG
  iapply (ldW_step (i := cc0_stg5_0.idx) (hκ := rfl) c hz3 y) $$ Hy
  iintro Hy
  iapply (stW_step (i := cc0_stg5_0.idx) (hκ := rfl) c hz3 y (k0_pay323 G)) $$ Hy
  iintro Hy
  iapply (sumDone_step m ρ K c 0 rfl) $$ [H3 HO]
  · isplitr; · iexact Hc
    isplitl [H3]; · iexact H3
    iexact HO
  iintro ⟨H3, HO⟩
  iapply (sumDone_step m ρ K c 1 rfl) $$ [H3 HO]
  · isplitr; · iexact Hc
    isplitl [H3]; · iexact H3
    iexact HO
  iintro ⟨H3, HO⟩
  iapply (sumDone_step m ρ K c 2 rfl) $$ [H3 HO]
  · isplitr; · iexact Hc
    isplitl [H3]; · iexact H3
    iexact HO
  iintro ⟨H3, HO⟩
  unfold tl90
  simp only [k0_part90_eq_skeleton, k0_part90_skel,
    app, bind_dite, Prog.lift, Prog.bind_op, Prog.bind_ret, Prog.pure_eq_ret]
  iapply (sumDone_step m ρ K c 3 rfl) $$ [H3 HO]
  · isplitr; · iexact Hc
    isplitl [H3]; · iexact H3
    iexact HO
  iintro ⟨H3, HO⟩
  iapply (sumDone_step m ρ K c 4 rfl) $$ [H3 HO]
  · isplitr; · iexact Hc
    isplitl [H3]; · iexact H3
    iexact HO
  iintro ⟨H3, HO⟩
  iapply (sumDone_step m ρ K c 5 rfl) $$ [H3 HO]
  · isplitr; · iexact Hc
    isplitl [H3]; · iexact H3
    iexact HO
  iintro ⟨H3, HO⟩
  iapply (sumDone_step m ρ K c 6 rfl) $$ [H3 HO]
  · isplitr; · iexact Hc
    isplitl [H3]; · iexact H3
    iexact HO
  iintro ⟨H3, HO⟩
  iapply (rowsDone_step m ρ K c 0 rfl) $$ [H4 HO]
  · isplitr; · iexact Hc
    isplitl [H4]; · iexact H4
    iexact HO
  iintro ⟨H4, HO⟩
  iapply (rowsDone_step m ρ K c 1 rfl) $$ [H4 HO]
  · isplitr; · iexact Hc
    isplitl [H4]; · iexact H4
    iexact HO
  iintro ⟨H4, HO⟩
  unfold tl91
  simp only [k0_part91_eq_skeleton, k0_part91_skel,
    app, bind_dite, Prog.lift, Prog.bind_op, Prog.bind_ret, Prog.pure_eq_ret]
  iapply (rowsDone_step m ρ K c 2 rfl) $$ [H4 HO]
  · isplitr; · iexact Hc
    isplitl [H4]; · iexact H4
    iexact HO
  iintro ⟨H4, HO⟩
  iapply (rowsDone_step m ρ K c 3 rfl) $$ [H4 HO]
  · isplitr; · iexact Hc
    isplitl [H4]; · iexact H4
    iexact HO
  iintro ⟨H4, HO⟩
  iapply (rowsDone_step m ρ K c 4 rfl) $$ [H4 HO]
  · isplitr; · iexact Hc
    isplitl [H4]; · iexact H4
    iexact HO
  iintro ⟨H4, HO⟩
  unfold fin92
  simp only [app, Prog.lift, Prog.bind_op, Prog.bind_ret, Prog.pure_eq_ret]
  iapply (rowsDone_step m ρ K c 5 rfl) $$ [H4 HO]
  · isplitr; · iexact Hc
    isplitl [H4]; · iexact H4
    iexact HO
  iintro ⟨H4, HO⟩
  iapply (rowsDone_step m ρ K c 6 rfl) $$ [H4 HO]
  · isplitr; · iexact Hc
    isplitl [H4]; · iexact H4
    iexact HO
  iintro ⟨H4, HO⟩
  iapply (wp_ret_intro c _)
  iapply Hk
  isplitl [HR]; · iexact HR
  isplitl [HG]
  · iapply (bufP_4' c G); iexact HG
  isplitl [H3]; · iexact H3
  isplitl [H4]; · iexact H4
  isplitl [HO]; · iexact HO
  iexists _
  isplitl [Hy]; · iexact Hy
  ipureintro; exact ⟨G, hG, rfl⟩

end Cert.KProof
-- ==== Proof.Start1.lean ====
/-
The entry: a device signals every other and waits for their signals, which hand it their slots.
-/
module

public import proofs.«01_k».proof.Proof.Rest4

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## Signals -/

/-- What the signal of distance `o + 1` hands over: its duty, and the device's slots for what the other sends. -/
def sigT (c : Dev nD) (o : Fin 7) : sProp 𝕄 := iprop(dutyTok ER (barC (dst c o)) 0 c ∗ barP (dst c o) c)
abbrev GQ (c : Dev nD) (i : ℕ) : sProp 𝕄 := seq (sigT (F := F) c) (fun _ => iprop(emp)) i

theorem signal_step {α : Type} {Q : α → sProp 𝕄} (c c' : Dev nD) (o : Fin 7) (hc : c' = dst c o) {sm : Sem sig} (hs : sm = barS)
    {k : PUnit → Prog (TpuEff nD τ sig (Elt F) Λ₀ .tc) α} :
    iprop(ctx m ρ K ∗ GQ (F := F) c o.val ∗ ow c o.val)
      ⊢ iprop(((GQ (F := F) c (o.val + 1) ∗ ow c (o.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc c') sm (1#32 : BitVec 32).toInt) k) Q) := by
  subst hc hs
  unfold GQ
  rw [seq_at, seq_succ]
  unfold sigT ow
  iintro ⟨#Hc, ⟨⟨Ht, Hp⟩, HR⟩, ⟨%W, HO⟩⟩ Hk
  ihave ⟨#HI, #Hr⟩ := (ctx_at m ρ K (dst c o, 0) _ (kc_bar (dst c o))) $$ Hc
  have ht : Ow c o.val = Ow c (o.val + 1) + tallyAt (barC (dst c o)) () 1 := by rw [Ow_step c o.val (by omega), tal_bar]
  iapply (Rounds.wp_signal 𝒱₀ ER (Rd m ρ) (c : Thread nD τ) none (dst := ((dst c o : Dev nD) : Thread nD τ)) (κ := K (dst c o, 0))
      (d := c) (by rw [duties_bar]; exact Finset.mem_erase.mpr ⟨(dst_ne c o).symm, Finset.mem_univ _⟩) ((amount_bar m ρ (dst c o) c).trans (by decide)) () (Ow c (o.val + 1)) ht)
    $$ [HO Ht Hp]
  · isplitr; · iexact HI
    isplitl [HO]; · iexact HO
    isplitl [Ht]; · iexact Ht
    isplitl [Hp]; · rw [payload_bar]; iexact Hp
    iexact Hr
  iintro HO
  iapply Hk
  isplitl [HR]
  · isplitr; · iempintro
    iexact HR
  iexists W; iexact HO

theorem lev7 : ∀ i, 7 ≤ i → i < 42 → lvK (kind (.reg barS)) < lvI i := by
  intro i h1 h2
  show 1 < lvI i
  unfold lvI
  rw [if_neg (by omega)]
  split
  · decide
  · split <;> decide

/-- The wait for the seven signals; the cell is closed. -/
theorem entry_step {α : Type} {Q : α → sProp 𝕄} (c : Dev nD) {sm : Sem sig} (hs : sm = barS)
    {k : PUnit → Prog (TpuEff nD τ sig (Elt F) Λ₀ .tc) α} :
    iprop(ctx m ρ K ∗ cred (tallyAt (barC c) () 7) ∗ atPos ER (barC c) 0 ∅ 0 ∗ ow c 7)
      ⊢ iprop(((semVal (barC c) 0 ∗ ow c 7 ∗ bigSep Finset.univ fun o : Fin 7 => barP c (dst c o)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm (7#32 : BitVec 32).toInt) k) Q) := by
  subst hs
  unfold ow
  iintro ⟨#Hc, HC, Hat, ⟨%W, HO⟩⟩ Hk
  ihave ⟨#HI, -⟩ := (ctx_at m ρ K (c, 0) _ (kc_bar c)) $$ Hc
  ihave #Hl := (ctx_lev m ρ K) $$ Hc
  iapply (Rounds.wp_wait_rest_token 𝒱₀ ER (Rd m ρ) (c : Thread nD τ) none (κ := K (c, 0))
      (wpE_semWait_eq 𝒱₀ (c : Thread nD τ) none Set.univ) (Set.mem_univ _) () (O := Ow c 7) (W := W) (R := 0) (m := 0) (T := ∅)
      (by rw [expect_bar]; decide)) $$ [HC HO Hat]
  · isplitr; · iexact HI
    isplitl [HC]; · iexact HC
    isplitl [HO]; · iexact HO
    isplitr; · iapply (mayWait c (.reg barS) 7 lev7); iexact Hl
    iexact Hat
  iintro ⟨HO, Hat, -, Hp⟩
  ihave Hp := (Entails.of_eq ((rest_bar m ρ c).trans (others_dst c (fun d => barP c d)))) $$ Hp
  imod (Rounds.cell_close ER (Rd m ρ) (Set.mem_univ (K (c, 0))) (fun h => h) (R := 0 + 1) (duties_later m ρ (barC c))) $$ [Hat] with Hz
  · isplitr; · iexact HI
    iexact Hat
  iapply Hk
  isplitl [Hz]; · iexact Hz
  isplitl [HO]; · iexists _; iexact HO
  iexact Hp

omit [FloatOps F] in
/-- The slots by family. -/
theorem slots_eq (c : Dev nD) : (bigSep Finset.univ fun o : Fin 7 => barP (F := F) c (dst c o))
    = iprop((bigSep Finset.univ fun o : Fin 7 => slotP (F := F) (dst c o) 0 c) ∗ (bigSep Finset.univ fun o : Fin 7 => slotP (F := F) (dst c o) 1 c)
      ∗ (bigSep Finset.univ fun o : Fin 7 => slotP (F := F) (dst c o) 2 c) ∗ (bigSep Finset.univ fun o : Fin 7 => slotP (F := F) (dst c o) 3 c)
      ∗ bigSep Finset.univ fun o : Fin 7 => slotP (F := F) (dst c o) 4 c) := by
  have h : ∀ o ∈ (Finset.univ : Finset (Fin 7)), barP (F := F) c (dst c o) = iprop(slotP (F := F) (dst c o) 0 c ∗ slotP (F := F) (dst c o) 1 c
      ∗ slotP (F := F) (dst c o) 2 c ∗ slotP (F := F) (dst c o) 3 c ∗ slotP (F := F) (dst c o) 4 c) := fun o _ => fin5_eq _
  rw [bigSep_congr h, bigSep_sep', bigSep_sep', bigSep_sep', bigSep_sep']

theorem dev1 (c : Dev nD) (h : k0_dev1 c < nD) : (⟨k0_dev1 c, h⟩ : Dev nD) = dst c 0 := Fin.ext ((by decide +kernel : ∀ c, k0_dev1 c = (dst c 0).val) c)
theorem dev2 (c : Dev nD) (h : k0_dev2 c < nD) : (⟨k0_dev2 c, h⟩ : Dev nD) = dst c 1 := Fin.ext ((by decide +kernel : ∀ c, k0_dev2 c = (dst c 1).val) c)
theorem dev3 (c : Dev nD) (h : k0_dev3 c < nD) : (⟨k0_dev3 c, h⟩ : Dev nD) = dst c 2 := Fin.ext ((by decide +kernel : ∀ c, k0_dev3 c = (dst c 2).val) c)
theorem dev4 (c : Dev nD) (h : k0_dev4 c < nD) : (⟨k0_dev4 c, h⟩ : Dev nD) = dst c 3 := Fin.ext ((by decide +kernel : ∀ c, k0_dev4 c = (dst c 3).val) c)
theorem dev5 (c : Dev nD) (h : k0_dev5 c < nD) : (⟨k0_dev5 c, h⟩ : Dev nD) = dst c 4 := Fin.ext ((by decide +kernel : ∀ c, k0_dev5 c = (dst c 4).val) c)
theorem dev6 (c : Dev nD) (h : k0_dev6 c < nD) : (⟨k0_dev6 c, h⟩ : Dev nD) = dst c 5 := Fin.ext ((by decide +kernel : ∀ c, k0_dev6 c = (dst c 5).val) c)
theorem dev7 (c : Dev nD) (h : k0_dev7 c < nD) : (⟨k0_dev7 c, h⟩ : Dev nD) = dst c 6 := Fin.ext ((by decide +kernel : ∀ c, k0_dev7 c = (dst c 6).val) c)

set_option maxHeartbeats 8000000 in
set_option maxRecDepth 65536 in
/-- The entry. -/
theorem entered {Q : PUnit → sProp 𝕄} (c : Dev nD) :
    iprop(ctx m ρ K ∗ GQ (F := F) c 0 ∗ ow c 0 ∗ cred (tallyAt (barC c) () 7) ∗ atPos ER (barC c) 0 ∅ 0)
      ⊢ iprop(((semVal (barC c) 0 ∗ ow c 7 ∗ bigSep Finset.univ fun o : Fin 7 => barP c (dst c o)) -∗ wp frame (wpE (defs₀ (F := F)) 𝒱₀ (c : Thread nD τ) none) Set.univ (hd4 c (devW c) >>= tlF) Q)
          -∗ wp frame (wpE (defs₀ (F := F)) 𝒱₀ (c : Thread nD τ) none) Set.univ (hd1 >>= tlF) Q) := by
  iintro ⟨#Hc, HS, HO, HC, Hat⟩ Hk
  unfold hd1
  simp only [k0_part1_eq_skeleton, k0_part1_skel, semSignalWord, wp_deviceId,
    app, bind_dite, Prog.lift, Prog.bind_op, Prog.bind_ret, Prog.pure_eq_ret]
  iapply (signal_step m ρ K c _ 0 (dev1 c _) rfl) $$ [HS HO]
  · isplitr; · iexact Hc
    isplitl [HS]; · iexact HS
    iexact HO
  iintro ⟨HS, HO⟩
  iapply (signal_step m ρ K c _ 1 (dev2 c _) rfl) $$ [HS HO]
  · isplitr; · iexact Hc
    isplitl [HS]; · iexact HS
    iexact HO
  iintro ⟨HS, HO⟩
  unfold hd2
  simp only [k0_part2_eq_skeleton, k0_part2_skel, semSignalWord, semWaitWord,
    app, bind_dite, Prog.lift, Prog.bind_op, Prog.bind_ret, Prog.pure_eq_ret]
  iapply (signal_step m ρ K c _ 2 (dev3 c _) rfl) $$ [HS HO]
  · isplitr; · iexact Hc
    isplitl [HS]; · iexact HS
    iexact HO
  iintro ⟨HS, HO⟩
  iapply (signal_step m ρ K c _ 3 (dev4 c _) rfl) $$ [HS HO]
  · isplitr; · iexact Hc
    isplitl [HS]; · iexact HS
    iexact HO
  iintro ⟨HS, HO⟩
  unfold hd3
  simp only [k0_part3_eq_skeleton, k0_part3_skel, semSignalWord, semWaitWord,
    app, bind_dite, Prog.lift, Prog.bind_op, Prog.bind_ret, Prog.pure_eq_ret]
  iapply (signal_step m ρ K c _ 4 (dev5 c _) rfl) $$ [HS HO]
  · isplitr; · iexact Hc
    isplitl [HS]; · iexact HS
    iexact HO
  iintro ⟨HS, HO⟩
  iapply (signal_step m ρ K c _ 5 (dev6 c _) rfl) $$ [HS HO]
  · isplitr; · iexact Hc
    isplitl [HS]; · iexact HS
    iexact HO
  iintro ⟨HS, HO⟩
  iapply (signal_step m ρ K c _ 6 (dev7 c _) rfl) $$ [HS HO]
  · isplitr; · iexact Hc
    isplitl [HS]; · iexact HS
    iexact HO
  iintro ⟨HS, HO⟩
  iapply (entry_step m ρ K c rfl) $$ [HC Hat HO]
  · isplitr; · iexact Hc
    isplitl [HC]; · iexact HC
    isplitl [Hat]; · iexact Hat
    iexact HO
  iexact Hk

end Cert.KProof
-- ==== Proof.Start2.lean ====
/-
The keys and values quantised and sent.
-/
module

public import proofs.«01_k».proof.Proof.Start1

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

theorem off8 (c : Dev nD) : k0_off8 c = ![c.val, 0, 0] := by revert c; decide +kernel
theorem off45 (c : Dev nD) : k0_off45 c = ![c.val, 0, 0, 0] := by revert c; decide +kernel
theorem off46 (c : Dev nD) : k0_off46 c = ![0, 0, 256 * c.val] := by revert c; decide +kernel
theorem dev12 (c : Dev nD) (h : k0_dev12 c < nD) : (⟨k0_dev12 c, h⟩ : Dev nD) = dst c 0 := Fin.ext ((by decide +kernel : ∀ c, k0_dev12 c = (dst c 0).val) c)
theorem dev17 (c : Dev nD) (h : k0_dev17 c < nD) : (⟨k0_dev17 c, h⟩ : Dev nD) = dst c 1 := Fin.ext ((by decide +kernel : ∀ c, k0_dev17 c = (dst c 1).val) c)
theorem dev22 (c : Dev nD) (h : k0_dev22 c < nD) : (⟨k0_dev22 c, h⟩ : Dev nD) = dst c 2 := Fin.ext ((by decide +kernel : ∀ c, k0_dev22 c = (dst c 2).val) c)
theorem dev27 (c : Dev nD) (h : k0_dev27 c < nD) : (⟨k0_dev27 c, h⟩ : Dev nD) = dst c 3 := Fin.ext ((by decide +kernel : ∀ c, k0_dev27 c = (dst c 3).val) c)
theorem dev32 (c : Dev nD) (h : k0_dev32 c < nD) : (⟨k0_dev32 c, h⟩ : Dev nD) = dst c 4 := Fin.ext ((by decide +kernel : ∀ c, k0_dev32 c = (dst c 4).val) c)
theorem dev37 (c : Dev nD) (h : k0_dev37 c < nD) : (⟨k0_dev37 c, h⟩ : Dev nD) = dst c 5 := Fin.ext ((by decide +kernel : ∀ c, k0_dev37 c = (dst c 5).val) c)
theorem dev42 (c : Dev nD) (h : k0_dev42 c < nD) : (⟨k0_dev42 c, h⟩ : Dev nD) = dst c 6 := Fin.ext ((by decide +kernel : ∀ c, k0_dev42 c = (dst c 6).val) c)
theorem okH0 : KvHok 0 k0_cond1 k0_dev8 k0_dev9 k0_off1 k0_off2 k0_off3 := by decide +kernel
theorem okF0 : KvFok 0 k0_cond2 k0_dev10 k0_dev11 k0_off4 k0_off5 k0_off6 := by decide +kernel
theorem okH1 : KvHok 1 k0_cond3 k0_dev13 k0_dev14 k0_off9 k0_off10 k0_off11 := by decide +kernel
theorem okF1 : KvFok 1 k0_cond4 k0_dev15 k0_dev16 k0_off12 k0_off13 k0_off14 := by decide +kernel
theorem okH2 : KvHok 2 k0_cond5 k0_dev18 k0_dev19 k0_off15 k0_off16 k0_off17 := by decide +kernel
theorem okF2 : KvFok 2 k0_cond6 k0_dev20 k0_dev21 k0_off18 k0_off19 k0_off20 := by decide +kernel
theorem okH3 : KvHok 3 k0_cond7 k0_dev23 k0_dev24 k0_off21 k0_off22 k0_off23 := by decide +kernel
theorem okF3 : KvFok 3 k0_cond8 k0_dev25 k0_dev26 k0_off24 k0_off25 k0_off26 := by decide +kernel
theorem okH4 : KvHok 4 k0_cond9 k0_dev28 k0_dev29 k0_off27 k0_off28 k0_off29 := by decide +kernel
theorem okF4 : KvFok 4 k0_cond10 k0_dev30 k0_dev31 k0_off30 k0_off31 k0_off32 := by decide +kernel
theorem okH5 : KvHok 5 k0_cond11 k0_dev33 k0_dev34 k0_off33 k0_off34 k0_off35 := by decide +kernel
theorem okF5 : KvFok 5 k0_cond12 k0_dev35 k0_dev36 k0_off36 k0_off37 k0_off38 := by decide +kernel
theorem okH6 : KvHok 6 k0_cond13 k0_dev38 k0_dev39 k0_off39 k0_off40 k0_off41 := by decide +kernel
theorem okF6 : KvFok 6 k0_cond14 k0_dev40 k0_dev41 k0_off42 k0_off43 k0_off44 := by decide +kernel

set_option maxHeartbeats 8000000 in
set_option maxRecDepth 65536 in
/-- The keys and the scales of the values. -/
theorem quantised {Q : PUnit → sProp 𝕄} (c : Dev nD) (v2 : BitVec 32) (f0 : CSk F) (f2 : CSs F) :
    iprop(((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c)
        ∗ ((Memref.whole cc0_scratch0 : Memref sig .tc .vmem _ _).view.loc (c : Thread nD τ) ↦{fullShare} f0) ∗ ((Memref.whole cc0_scratch2 : Memref sig .tc .vmem _ _).view.loc (c : Thread nD τ) ↦{fullShare} f2))
      ⊢ iprop(((((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c)
        ∗ ((Memref.whole cc0_scratch0 : Memref sig .tc .vmem _ _).view.loc (c : Thread nD τ) ↦{fullShare} SK m ρ false c) ∗ ((Memref.whole cc0_scratch2 : Memref sig .tc .vmem _ _).view.loc (c : Thread nD τ) ↦{fullShare} SVS m ρ c)) -∗ wp frame (wpE (defs₀ (F := F)) 𝒱₀ (c : Thread nD τ) none) Set.univ (hd5 c v2 (k0_pay5 (xst3 m ρ c)) >>= tlF) Q)
          -∗ wp frame (wpE (defs₀ (F := F)) 𝒱₀ (c : Thread nD τ) none) Set.univ (hd4 c v2 >>= tlF) Q) := by
  iintro ⟨H2, H3, Hk0, Hs⟩ Hk
  unfold hd4
  simp only [k0_part4_eq_skeleton, k0_part4_skel,
    app, bind_dite, Prog.lift, Prog.bind_op, Prog.bind_ret, Prog.pure_eq_ret]
  iapply (ldW_step (i := cc0_stg2_0.idx) (hκ := rfl) c hz3 (xst2 m ρ c)) $$ H2
  iintro H2
  iapply (ldW_step (i := cc0_scratch0.idx) (hκ := rfl) c hz3 f0) $$ Hk0
  iintro Hk0
  iapply (stW_step (i := cc0_scratch0.idx) (hκ := rfl) c hz3 f0 (k0_pay1 (xst2 m ρ c))) $$ Hk0
  iintro Hk0
  iapply (ldW_step (i := cc0_stg3_0.idx) (hκ := rfl) c hz3 (xst3 m ρ c)) $$ H3
  iintro H3
  iapply (ldW_step (i := cc0_scratch2.idx) (hκ := rfl) c hz2 f2) $$ Hs
  iintro Hs
  iapply (stW_step (i := cc0_scratch2.idx) (hκ := rfl) c hz2 f2 (k0_pay4 (xst3 m ρ c))) $$ Hs
  iintro Hs
  iapply Hk
  isplitl [H2]; · iexact H2
  isplitl [H3]; · iexact H3
  isplitl [Hk0]; · iexact Hk0
  iexact Hs

set_option maxHeartbeats 8000000 in
set_option maxRecDepth 65536 in
/-- The values, and the transfers of the first four distances up to the last scales. -/
theorem sentA {Q : PUnit → sProp 𝕄} (c : Dev nD) (v2 : BitVec 32) (f1 : CSk F) :
    iprop(ctx m ρ K ∗ SQ m ρ c 0 0 ∗ (bigSep Finset.univ fun o : Fin 7 => iprop(sndT (F := F) c 1 o ∗ slotP (F := F) (dst c o) 1 c)) ∗ SQ m ρ c 2 0 ∗ ow c 7
        ∗ ((Memref.whole cc0_scratch1 : Memref sig .tc .vmem _ _).view.loc (c : Thread nD τ) ↦{fullShare} f1))
      ⊢ iprop((∀ w, (SQ m ρ c 0 4 ∗ SQ m ρ c 1 4 ∗ SQ m ρ c 2 3 ∗ ow c 18 ∗ srcP m ρ c 1 c ∗ keep m ρ c true)
            -∗ wp frame (wpE (defs₀ (F := F)) 𝒱₀ (c : Thread nD τ) none) Set.univ (hd8 c v2 w >>= tlF) Q)
          -∗ wp frame (wpE (defs₀ (F := F)) 𝒱₀ (c : Thread nD τ) none) Set.univ (hd5 c v2 (k0_pay5 (xst3 m ρ c)) >>= tlF) Q) := by
  iintro ⟨#Hc, HK, HV, HS, HO, H1⟩ Hk
  unfold hd5
  simp only [k0_part5_eq_skeleton, k0_part5_skel,
    app, bind_dite, Prog.lift, Prog.bind_op, Prog.bind_ret, Prog.pure_eq_ret]
  iapply (ldW_step (i := cc0_scratch1.idx) (hκ := rfl) c hz3 f1) $$ H1
  iintro H1
  iapply (stW_step (i := cc0_scratch1.idx) (hκ := rfl) c hz3 f1 (k0_pay6 (k0_pay5 (xst3 m ρ c)))) $$ H1
  iintro H1
  ihave ⟨⟨H1c, H1⟩, Hkeep⟩ := (Entails.of_eq (sk_true m ρ c)) $$ [H1]
  · iexact H1
  ihave HV := (SQ_intro m ρ c 1) $$ [HV H1]
  · isplitl [HV]; · iexact HV
    iexact H1
  iapply (kvH_send m ρ K c 0 k0_cond1 k0_dev8 k0_dev9 k0_off1 k0_off2 k0_off3 _ rfl okH0) $$ [HK HV HO]
  · isplitr; · iexact Hc
    unfold KV
    isplitl [HK]; · iexact HK
    isplitl [HV]; · iexact HV
    iexact HO
  iintro HX
  iapply (kvF_send m ρ K c 0 k0_cond2 k0_dev10 k0_dev11 k0_off4 k0_off5 k0_off6 _ rfl okF0) $$ [HX]
  · isplitr; · iexact Hc
    iexact HX
  iintro ⟨HK, HV, HO⟩
  iapply (sendS_step m ρ K c _ 0 9 rfl (dev12 c _) (semS_eq 2 0 rfl) (semR_eq 2 c (off7 c)) (off8 c)) $$ [HS HO]
  · isplitr; · iexact Hc
    isplitl [HS]; · iexact HS
    iexact HO
  iintro ⟨HS, HO⟩
  unfold hd6
  simp only [k0_part6_eq_skeleton, k0_part6_skel,
    app, bind_dite, Prog.lift, Prog.bind_op, Prog.bind_ret, Prog.pure_eq_ret]
  iapply (kvH_send m ρ K c 1 k0_cond3 k0_dev13 k0_dev14 k0_off9 k0_off10 k0_off11 _ rfl okH1) $$ [HK HV HO]
  · isplitr; · iexact Hc
    unfold KV
    isplitl [HK]; · iexact HK
    isplitl [HV]; · iexact HV
    iexact HO
  iintro HX
  iapply (kvF_send m ρ K c 1 k0_cond4 k0_dev15 k0_dev16 k0_off12 k0_off13 k0_off14 _ rfl okF1) $$ [HX]
  · isplitr; · iexact Hc
    iexact HX
  iintro ⟨HK, HV, HO⟩
  iapply (sendS_step m ρ K c _ 1 12 rfl (dev17 c _) (semS_eq 2 1 rfl) (semR_eq 2 c (off7 c)) (off8 c)) $$ [HS HO]
  · isplitr; · iexact Hc
    isplitl [HS]; · iexact HS
    iexact HO
  iintro ⟨HS, HO⟩
  unfold hd7
  simp only [k0_part7_eq_skeleton, k0_part7_skel,
    app, bind_dite, Prog.lift, Prog.bind_op, Prog.bind_ret, Prog.pure_eq_ret]
  iapply (kvH_send m ρ K c 2 k0_cond5 k0_dev18 k0_dev19 k0_off15 k0_off16 k0_off17 _ rfl okH2) $$ [HK HV HO]
  · isplitr; · iexact Hc
    unfold KV
    isplitl [HK]; · iexact HK
    isplitl [HV]; · iexact HV
    iexact HO
  iintro HX
  iapply (kvF_send m ρ K c 2 k0_cond6 k0_dev20 k0_dev21 k0_off18 k0_off19 k0_off20 _ rfl okF2) $$ [HX]
  · isplitr; · iexact Hc
    iexact HX
  iintro ⟨HK, HV, HO⟩
  iapply (sendS_step m ρ K c _ 2 15 rfl (dev22 c _) (semS_eq 2 2 rfl) (semR_eq 2 c (off7 c)) (off8 c)) $$ [HS HO]
  · isplitr; · iexact Hc
    isplitl [HS]; · iexact HS
    iexact HO
  iintro ⟨HS, HO⟩
  iapply (kvH_send m ρ K c 3 k0_cond7 k0_dev23 k0_dev24 k0_off21 k0_off22 k0_off23 _ rfl okH3) $$ [HK HV HO]
  · isplitr; · iexact Hc
    unfold KV
    isplitl [HK]; · iexact HK
    isplitl [HV]; · iexact HV
    iexact HO
  iintro HX
  iapply (kvF_send m ρ K c 3 k0_cond8 k0_dev25 k0_dev26 k0_off24 k0_off25 k0_off26 _ rfl okF3) $$ [HX]
  · isplitr; · iexact Hc
    iexact HX
  iintro ⟨HK, HV, HO⟩
  iapply Hk
  isplitl [HK]; · iexact HK
  isplitl [HV]; · iexact HV
  isplitl [HS]; · iexact HS
  isplitl [HO]; · iexact HO
  isplitl [H1c]; · iexact H1c
  iexact Hkeep

set_option maxHeartbeats 8000000 in
set_option maxRecDepth 65536 in
/-- The transfers of the other distances up to the last scales. -/
theorem sentB {Q : PUnit → sProp 𝕄} (c : Dev nD) (v2 : BitVec 32) (w : BitVec 1) :
    iprop(ctx m ρ K ∗ SQ m ρ c 0 4 ∗ SQ m ρ c 1 4 ∗ SQ m ρ c 2 3 ∗ ow c 18)
      ⊢ iprop(((SQ m ρ c 0 7 ∗ SQ m ρ c 1 7 ∗ SQ m ρ c 2 6 ∗ ow c 27)
            -∗ wp frame (wpE (defs₀ (F := F)) 𝒱₀ (c : Thread nD τ) none) Set.univ (hd10 c v2 w >>= tlF) Q)
          -∗ wp frame (wpE (defs₀ (F := F)) 𝒱₀ (c : Thread nD τ) none) Set.univ (hd8 c v2 w >>= tlF) Q) := by
  iintro ⟨#Hc, HK, HV, HS, HO⟩ Hk
  unfold hd8
  simp only [k0_part8_eq_skeleton, k0_part8_skel,
    app, bind_dite, Prog.lift, Prog.bind_op, Prog.bind_ret, Prog.pure_eq_ret]
  iapply (sendS_step m ρ K c _ 3 18 rfl (dev27 c _) (semS_eq 2 3 rfl) (semR_eq 2 c (off7 c)) (off8 c)) $$ [HS HO]
  · isplitr; · iexact Hc
    isplitl [HS]; · iexact HS
    iexact HO
  iintro ⟨HS, HO⟩
  iapply (kvH_send m ρ K c 4 k0_cond9 k0_dev28 k0_dev29 k0_off27 k0_off28 k0_off29 _ rfl okH4) $$ [HK HV HO]
  · isplitr; · iexact Hc
    unfold KV
    isplitl [HK]; · iexact HK
    isplitl [HV]; · iexact HV
    iexact HO
  iintro HX
  iapply (kvF_send m ρ K c 4 k0_cond10 k0_dev30 k0_dev31 k0_off30 k0_off31 k0_off32 _ rfl okF4) $$ [HX]
  · isplitr; · iexact Hc
    iexact HX
  iintro ⟨HK, HV, HO⟩
  iapply (sendS_step m ρ K c _ 4 21 rfl (dev32 c _) (semS_eq 2 4 rfl) (semR_eq 2 c (off7 c)) (off8 c)) $$ [HS HO]
  · isplitr; · iexact Hc
    isplitl [HS]; · iexact HS
    iexact HO
  iintro ⟨HS, HO⟩
  unfold hd9
  simp only [k0_part9_eq_skeleton, k0_part9_skel,
    app, bind_dite, Prog.lift, Prog.bind_op, Prog.bind_ret, Prog.pure_eq_ret]
  iapply (kvH_send m ρ K c 5 k0_cond11 k0_dev33 k0_dev34 k0_off33 k0_off34 k0_off35 _ rfl okH5) $$ [HK HV HO]
  · isplitr; · iexact Hc
    unfold KV
    isplitl [HK]; · iexact HK
    isplitl [HV]; · iexact HV
    iexact HO
  iintro HX
  iapply (kvF_send m ρ K c 5 k0_cond12 k0_dev35 k0_dev36 k0_off36 k0_off37 k0_off38 _ rfl okF5) $$ [HX]
  · isplitr; · iexact Hc
    iexact HX
  iintro ⟨HK, HV, HO⟩
  iapply (sendS_step m ρ K c _ 5 24 rfl (dev37 c _) (semS_eq 2 5 rfl) (semR_eq 2 c (off7 c)) (off8 c)) $$ [HS HO]
  · isplitr; · iexact Hc
    isplitl [HS]; · iexact HS
    iexact HO
  iintro ⟨HS, HO⟩
  iapply (kvH_send m ρ K c 6 k0_cond13 k0_dev38 k0_dev39 k0_off39 k0_off40 k0_off41 _ rfl okH6) $$ [HK HV HO]
  · isplitr; · iexact Hc
    unfold KV
    isplitl [HK]; · iexact HK
    isplitl [HV]; · iexact HV
    iexact HO
  iintro HX
  iapply (kvF_send m ρ K c 6 k0_cond14 k0_dev40 k0_dev41 k0_off42 k0_off43 k0_off44 _ rfl okF6) $$ [HX]
  · isplitr; · iexact Hc
    iexact HX
  iintro ⟨HK, HV, HO⟩
  iapply Hk
  isplitl [HK]; · iexact HK
  isplitl [HV]; · iexact HV
  isplitl [HS]; · iexact HS
  iexact HO

end Cert.KProof
-- ==== Proof.Start3.lean ====
/-
The last scales, the copies a device makes for itself, the queries.
-/
module

public import proofs.«01_k».proof.Proof.Start2

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-- The queries of device `c`. -/
abbrev qs (c : Dev nD) : Fin 8 → FVec F S128x64 .bf16 := qOf (xst0 m ρ c) (xst1 m ρ c)

/-- A device's own copy, before it and after. -/
def ownB (c : Dev nD) (f : Fin 5) : sProp 𝕄 := iprop(locT (F := F) c f ∗ slotP (F := F) c f c ∗ srcP m ρ c f c)
def ownA (c : Dev nD) (f : Fin 5) : sProp 𝕄 := iprop(semVal (locC c f) 0 ∗ lndP m ρ c f c ∗ srcP m ρ c f c)

set_option maxHeartbeats 8000000 in
set_option maxRecDepth 65536 in
/-- Up to the first block of keys. -/
theorem prepared {Q : PUnit → sProp 𝕄} (c : Dev nD) (w : BitVec 1) :
    iprop(ctx m ρ K ∗ SQ m ρ c 2 6 ∗ ow c 27 ∗ ownB m ρ c 0 ∗ ownB m ρ c 1 ∗ ownB m ρ c 2
        ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c))
      ⊢ iprop(((SQ m ρ c 2 7 ∗ ow c 28 ∗ ownA m ρ c 0 ∗ ownA m ρ c 1 ∗ ownA m ρ c 2
        ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c))
            -∗ wp frame (wpE (defs₀ (F := F)) 𝒱₀ (c : Thread nD τ) none) Set.univ (apA hd14h c w (qs m ρ c) (fun _ => k0_pay26) (fun _ => k0_pay18) (BitVec.ofNat 32 (sr c 0).val) >>= tlF) Q)
          -∗ wp frame (wpE (defs₀ (F := F)) 𝒱₀ (c : Thread nD τ) none) Set.univ (hd10 c (devW c) w >>= tlF) Q) := by
  unfold ownB ownA
  iintro ⟨#Hc, HS, HO, ⟨L0, D0, S0⟩, ⟨L1, D1, S1⟩, ⟨L2, D2, S2⟩, HX, HW⟩ Hk
  unfold hd10
  simp only [k0_part10_eq_skeleton, k0_part10_skel,
    app, bind_dite, Prog.lift, Prog.bind_op, Prog.bind_ret, Prog.pure_eq_ret]
  iapply (sendS_step m ρ K c _ 6 27 rfl (dev42 c _) (semS_eq 2 6 rfl) (semR_eq 2 c (off7 c)) (off8 c)) $$ [HS HO]
  · isplitr; · iexact Hc
    isplitl [HS]; · iexact HS
    iexact HO
  iintro ⟨HS, HO⟩
  iapply (copyKV_step m ρ K false c (off45 c) (off46 c) (semL_eq 0 rfl)) $$ [L0 D0 S0]
  · isplitr; · iexact Hc
    isplitl [L0]; · iexact L0
    isplitl [D0]; · iexact D0
    iexact S0
  iintro L0
  iapply (copyKV_step m ρ K true c (off45 c) (off46 c) (semL_eq 1 rfl)) $$ [L1 D1 S1]
  · isplitr; · iexact Hc
    isplitl [L1]; · iexact L1
    isplitl [D1]; · iexact D1
    iexact S1
  iintro L1
  iapply (copyS_step m ρ K c (off8 c) (semL_eq 2 rfl)) $$ [L2 D2 S2]
  · isplitr; · iexact Hc
    isplitl [L2]; · iexact L2
    isplitl [D2]; · iexact D2
    iexact S2
  iintro L2
  iapply (ldW_step (i := cc0_stg0_0.idx) (hκ := rfl) c hz3 (xst0 m ρ c)) $$ HX
  iintro HX
  iapply (ldW_step (i := cc0_stg1_0.idx) (hκ := rfl) c hz2 (xst1 m ρ c)) $$ HW
  iintro HW
  unfold hd11
  simp only [k0_part11_eq_skeleton, k0_part11_skel,
    app, bind_dite, Prog.lift, Prog.bind_op, Prog.bind_ret, Prog.pure_eq_ret]
  unfold hd12
  simp only [k0_part12_eq_skeleton, k0_part12_skel,
    app, bind_dite, Prog.lift, Prog.bind_op, Prog.bind_ret, Prog.pure_eq_ret]
  iapply (keysOwn_step m ρ K c 28 rfl) $$ [L0 HO]
  · isplitr; · iexact Hc
    isplitl [L0]; · iexact L0
    iexact HO
  iintro ⟨Z0, ⟨D0, S0⟩, HO⟩
  iapply (valuesOwn_step m ρ K c 28 rfl) $$ [L1 HO]
  · isplitr; · iexact Hc
    isplitl [L1]; · iexact L1
    iexact HO
  iintro ⟨Z1, ⟨D1, S1⟩, HO⟩
  unfold hd13
  simp only [k0_part13_eq_skeleton, k0_part13_skel,
    app, bind_dite, Prog.lift, Prog.bind_op, Prog.bind_ret, Prog.pure_eq_ret]
  iapply (scalesOwn_step m ρ K c 28 rfl) $$ [L2 HO]
  · isplitr; · iexact Hc
    isplitl [L2]; · iexact L2
    iexact HO
  iintro ⟨Z2, ⟨D2, S2⟩, HO⟩
  iapply (wp_of_eq c (p' := apA hd14h c w (qs m ρ c) (fun _ => k0_pay26) (fun _ => k0_pay18) (srW (devW c) 0#32) >>= tlF) rfl)
  rw [show srW (devW c) 0#32 = BitVec.ofNat 32 (sr c 0).val from srW_eq c 0]
  iapply Hk
  isplitl [HS]; · iexact HS
  isplitl [HO]; · iexact HO
  isplitl [Z0 D0 S0]
  · isplitl [Z0]; · iexact Z0
    isplitl [D0]; · iexact D0
    iexact S0
  isplitl [Z1 D1 S1]
  · isplitl [Z1]; · iexact Z1
    isplitl [D1]; · iexact D1
    iexact S1
  isplitl [Z2 D2 S2]
  · isplitl [Z2]; · iexact Z2
    isplitl [D2]; · iexact D2
    iexact S2
  isplitl [HX]; · iexact HX
  iexact HW

end Cert.KProof
-- ==== Proof.Body1.lean ====
/-
The body of the kernel, in two halves: up to the first block of keys, and from there to the end.
-/
module

public import proofs.«01_k».proof.Proof.Start3

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

omit [FloatOps F] in
/-- The signals' tokens and what they hand over. -/
theorem GQ_intro (c : Dev nD) :
    iprop((bigSep Finset.univ fun o : Fin 7 => dutyTok ER (barC (dst c o)) 0 c) ∗ (bigSep Finset.univ fun o : Fin 7 => slotP (F := F) c 0 (dst c o)) ∗ (bigSep Finset.univ fun o : Fin 7 => slotP (F := F) c 1 (dst c o)) ∗ (bigSep Finset.univ fun o : Fin 7 => slotP (F := F) c 2 (dst c o)) ∗ (bigSep Finset.univ fun o : Fin 7 => slotP (F := F) c 3 (dst c o)) ∗ (bigSep Finset.univ fun o : Fin 7 => slotP (F := F) c 4 (dst c o))) ⊢ GQ (F := F) c 0 := by
  have h : ∀ o ∈ (Finset.univ : Finset (Fin 7)), sigT (F := F) c o = iprop(dutyTok ER (barC (dst c o)) 0 c ∗ slotP (F := F) c 0 (dst c o) ∗ slotP (F := F) c 1 (dst c o)
      ∗ slotP (F := F) c 2 (dst c o) ∗ slotP (F := F) c 3 (dst c o) ∗ slotP (F := F) c 4 (dst c o)) := fun o _ => by
    unfold sigT barP; rw [fin5_eq]
  unfold GQ
  rw [seq_zero, bigSep_congr h, bigSep_sep', bigSep_sep', bigSep_sep', bigSep_sep', bigSep_sep']

/-- A device's transfers of a family, with the slots that the others gave. -/
theorem ST_intro (c : Dev nD) (f : Fin 5) :
    iprop((bigSep Finset.univ fun o : Fin 7 => sndT (F := F) c f o) ∗ (bigSep Finset.univ fun o : Fin 7 => slotP (F := F) (dst c o) f c)) ⊢ (bigSep Finset.univ fun o : Fin 7 => iprop(sndT (F := F) c f o ∗ slotP (F := F) (dst c o) f c)) :=
  Entails.of_eq (bigSep_sep' Finset.univ (fun o : Fin 7 => sndT (F := F) c f o) (fun o : Fin 7 => slotP (F := F) (dst c o) f c)).symm

set_option maxHeartbeats 8000000 in
/-- The first half. -/
theorem firstHalf {Q : PUnit → sProp 𝕄} (c : Dev nD) (f0 f1 : CSk F) (f2 : CSs F) :
    iprop(ctx m ρ K ∗ GQ (F := F) c 0 ∗ ow c 0 ∗ (cred (tallyAt (barC c) () 7) ∗ atPos ER (barC c) 0 ∅ 0)
        ∗ (locT (F := F) c 0 ∗ slotP (F := F) c 0 c) ∗ (locT (F := F) c 1 ∗ slotP (F := F) c 1 c) ∗ (locT (F := F) c 2 ∗ slotP (F := F) c 2 c)
        ∗ ((bigSep Finset.univ fun o : Fin 7 => sndT (F := F) c 0 o) ∗ (bigSep Finset.univ fun o : Fin 7 => sndT (F := F) c 1 o) ∗ (bigSep Finset.univ fun o : Fin 7 => sndT (F := F) c 2 o) ∗ (bigSep Finset.univ fun o : Fin 7 => sndT (F := F) c 3 o) ∗ (bigSep Finset.univ fun o : Fin 7 => sndT (F := F) c 4 o))
        ∗ ((Memref.whole cc0_scratch0 : Memref sig .tc .vmem _ _).view.loc (c : Thread nD τ) ↦{fullShare} f0) ∗ ((Memref.whole cc0_scratch1 : Memref sig .tc .vmem _ _).view.loc (c : Thread nD τ) ↦{fullShare} f1) ∗ ((Memref.whole cc0_scratch2 : Memref sig .tc .vmem _ _).view.loc (c : Thread nD τ) ↦{fullShare} f2)
        ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c) ∗ ((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c))
      ⊢ iprop((∀ w, (semVal (barC c) 0 ∗ WQ m ρ c 0 0 ∗ WQ m ρ c 1 0 ∗ WQ m ρ c 2 0 ∗ ow c 28 ∗ ownA m ρ c 0 ∗ ownA m ρ c 1 ∗ ownA m ρ c 2
            ∗ keep m ρ c false ∗ keep m ρ c true ∗ (bigSep Finset.univ fun o : Fin 7 => iprop(sndT (F := F) c 3 o ∗ slotP (F := F) (dst c o) 3 c)) ∗ (bigSep Finset.univ fun o : Fin 7 => iprop(sndT (F := F) c 4 o ∗ slotP (F := F) (dst c o) 4 c))
            ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c) ∗ ((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c)) -∗ wp frame (wpE (defs₀ (F := F)) 𝒱₀ (c : Thread nD τ) none) Set.univ (apA hd14h c w (qs m ρ c) (fun _ => k0_pay26) (fun _ => k0_pay18) (BitVec.ofNat 32 (sr c 0).val) >>= tlF) Q)
          -∗ wp frame (wpE (defs₀ (F := F)) 𝒱₀ (c : Thread nD τ) none) Set.univ (hd1 >>= tlF) Q) := by
  iintro ⟨#Hc, HG, HO, ⟨HC, Hat⟩, ⟨L0, D0⟩, ⟨L1, D1⟩, ⟨L2, D2⟩, ⟨T0, T1, T2, T3, T4⟩, Hk0, Hk1, Hs, X0, X1, X2, X3⟩ Hk
  iapply (entered m ρ K c) $$ [HG HO HC Hat]
  · isplitr; · iexact Hc
    isplitl [HG]; · iexact HG
    isplitl [HO]; · iexact HO
    isplitl [HC]; · iexact HC
    iexact Hat
  iintro ⟨Hz, HO, HB⟩
  ihave ⟨B0, B1, B2, B3, B4⟩ := (Entails.of_eq (slots_eq (F := F) c)) $$ HB
  iapply (quantised m ρ c (devW c) f0 f2) $$ [X2 X3 Hk0 Hs]
  · isplitl [X2]; · iexact X2
    isplitl [X3]; · iexact X3
    isplitl [Hk0]; · iexact Hk0
    iexact Hs
  iintro ⟨X2, X3, Hk0, Hs⟩
  ihave ⟨⟨S0, Q0⟩, N0⟩ := (Entails.of_eq (sk_false m ρ c)) $$ [Hk0]
  · iexact Hk0
  ihave Hs := (Entails.of_eq (svs_eq m ρ c)) $$ [Hs]
  · rw [svs_set]; iexact Hs
  ihave ⟨S2, Q2⟩ := (Entails.of_eq (all_dst c (fun d => srcP m ρ c 2 d))) $$ Hs
  ihave T0 := (ST_intro c 0) $$ [T0 B0]
  · isplitl [T0]; · iexact T0
    iexact B0
  ihave T0 := (SQ_intro m ρ c 0) $$ [T0 Q0]
  · isplitl [T0]; · iexact T0
    iexact Q0
  ihave T2 := (ST_intro c 2) $$ [T2 B2]
  · isplitl [T2]; · iexact T2
    iexact B2
  ihave T2 := (SQ_intro m ρ c 2) $$ [T2 Q2]
  · isplitl [T2]; · iexact T2
    iexact Q2
  ihave T1 := (ST_intro c 1) $$ [T1 B1]
  · isplitl [T1]; · iexact T1
    iexact B1
  ihave T3 := (ST_intro c 3) $$ [T3 B3]
  · isplitl [T3]; · iexact T3
    iexact B3
  ihave T4 := (ST_intro c 4) $$ [T4 B4]
  · isplitl [T4]; · iexact T4
    iexact B4
  iapply (sentA m ρ K c (devW c) f1) $$ [T0 T1 T2 HO Hk1]
  · isplitr; · iexact Hc
    isplitl [T0]; · iexact T0
    isplitl [T1]; · iexact T1
    isplitl [T2]; · iexact T2
    isplitl [HO]; · iexact HO
    iexact Hk1
  iintro %w ⟨T0, T1, T2, HO, S1, N1⟩
  iapply (sentB m ρ K c (devW c) w) $$ [T0 T1 T2 HO]
  · isplitr; · iexact Hc
    isplitl [T0]; · iexact T0
    isplitl [T1]; · iexact T1
    isplitl [T2]; · iexact T2
    iexact HO
  iintro ⟨T0, T1, T2, HO⟩
  iapply (prepared m ρ K c w) $$ [T2 HO L0 D0 S0 L1 D1 S1 L2 D2 S2 X0 X1]
  · isplitr; · iexact Hc
    isplitl [T2]; · iexact T2
    isplitl [HO]; · iexact HO
    unfold ownB
    isplitl [L0 D0 S0]
    · isplitl [L0]; · iexact L0
      isplitl [D0]; · iexact D0
      iexact S0
    isplitl [L1 D1 S1]
    · isplitl [L1]; · iexact L1
      isplitl [D1]; · iexact D1
      iexact S1
    isplitl [L2 D2 S2]
    · isplitl [L2]; · iexact L2
      isplitl [D2]; · iexact D2
      iexact S2
    isplitl [X0]; · iexact X0
    iexact X1
  iintro ⟨T2, HO, A0, A1, A2, X0, X1⟩
  ihave T0 := (WQ_of_SQ m ρ c 0) $$ T0
  ihave T1 := (WQ_of_SQ m ρ c 1) $$ T1
  ihave T2 := (WQ_of_SQ m ρ c 2) $$ T2
  ispecialize Hk $$ %w
  iapply Hk
  isplitl [Hz]; · iexact Hz
  isplitl [T0]; · iexact T0
  isplitl [T1]; · iexact T1
  isplitl [T2]; · iexact T2
  isplitl [HO]; · iexact HO
  isplitl [A0]; · iexact A0
  isplitl [A1]; · iexact A1
  isplitl [A2]; · iexact A2
  isplitl [N0]; · iexact N0
  isplitl [N1]; · iexact N1
  isplitl [T3]; · iexact T3
  isplitl [T4]; · iexact T4
  isplitl [X0]; · iexact X0
  isplitl [X1]; · iexact X1
  isplitl [X2]; · iexact X2
  iexact X3

/-- What a device holds at the end, before its parts are put together. -/
def ended (c : Dev nD) : sProp 𝕄 :=
  iprop((RQ (F := F) c 0 7 ∗ RQ (F := F) c 1 7 ∗ RQ (F := F) c 2 7 ∗ RQ (F := F) c 3 7 ∗ RQ (F := F) c 4 7)
    ∗ (WQ m ρ c 0 7 ∗ WQ m ρ c 1 7 ∗ WQ m ρ c 2 7 ∗ WQ m ρ c 3 7 ∗ WQ m ρ c 4 7) ∗ ow c 42
    ∗ (bigSep Finset.univ fun g : Fin 8 => slot3 (F := F) c (sr c g.val)) ∗ bufP (F := F) c 3 ∗ bufP (F := F) c 4
    ∗ (semVal (locC c 3) 0 ∗ srcP m ρ c 3 c) ∗ (semVal (locC c 4) 0 ∗ srcP m ρ c 4 c)
    ∗ ((Memref.whole cc0_stg4_0 : Memref sig .tc .vmem _ _).view.loc (c : Thread nD τ) ↦{fullShare} xst4 m ρ c) ∗ ∃ o, ((Memref.whole cc0_stg5_0 : Memref sig .tc .vmem _ _).view.loc (c : Thread nD τ) ↦{fullShare} o) ∗ ⌜OUT m ρ o⌝)

set_option maxHeartbeats 8000000 in
/-- The second half. -/
theorem secondHalf {Q : PUnit → sProp 𝕄} (c : Dev nD) (w : BitVec 1) (r₀ : CRd F) (y : S2x128x512.Idx → Elt F .f32) :
    iprop(ctx m ρ K ∗ (lndP m ρ c 0 c ∗ lndP m ρ c 1 c ∗ lndP m ρ c 2 c) ∗ (WQ m ρ c 0 0 ∗ WQ m ρ c 1 0 ∗ WQ m ρ c 2 0) ∗ ow c 28
        ∗ (RQ (F := F) c 0 0 ∗ RQ (F := F) c 1 0 ∗ RQ (F := F) c 2 0 ∗ RQ (F := F) c 3 0 ∗ RQ (F := F) c 4 0)
        ∗ (bigSep Finset.univ fun o : Fin 7 => iprop(sndT (F := F) c 3 o ∗ slotP (F := F) (dst c o) 3 c)) ∗ (bigSep Finset.univ fun o : Fin 7 => iprop(sndT (F := F) c 4 o ∗ slotP (F := F) (dst c o) 4 c)) ∗ (locT (F := F) c 3 ∗ slotP (F := F) c 3 c) ∗ (locT (F := F) c 4 ∗ slotP (F := F) c 4 c)
        ∗ ((Memref.whole cc0_stg4_0 : Memref sig .tc .vmem _ _).view.loc (c : Thread nD τ) ↦{fullShare} xst4 m ρ c) ∗ (∃ w : CAr F, arM.view.loc (c : Thread nD τ) ↦{fullShare} w)
        ∗ (redM.view.loc (c : Thread nD τ) ↦{fullShare} r₀) ∗ ((Memref.whole cc0_stg5_0 : Memref sig .tc .vmem _ _).view.loc (c : Thread nD τ) ↦{fullShare} y))
      ⊢ iprop((ended m ρ c -∗ Q ⟨⟩) -∗ wp frame (wpE (defs₀ (F := F)) 𝒱₀ (c : Thread nD τ) none) Set.univ (apA hd14h c w (qs m ρ c) (fun _ => k0_pay26) (fun _ => k0_pay18) (BitVec.ofNat 32 (sr c 0).val) >>= tlF) Q) := by
  iintro ⟨#Hc, ⟨N0, N1, N2⟩, ⟨W0, W1, W2⟩, HO, ⟨R0, R1, R2, R3, R4⟩, T3, T4, ⟨L3, D3⟩, ⟨L4, D4⟩, X4, HA, Hr, X5⟩ Hk
  ihave HKR := (KR_intro c 0) $$ [R0 R1 HO]
  · isplitl [R0]; · iexact R0
    isplitl [R1]; · iexact R1
    iexact HO
  iapply (att_step m ρ K c w (qs m ρ c) (xst4 m ρ c)) $$ [N0 N1 N2 HKR R2 X4 HA]
  · isplitr; · iexact Hc
    isplitl [N0 N1 N2]
    · rw [sr_zero]
      isplitl [N0]; · iexact N0
      isplitl [N1]; · iexact N1
      iexact N2
    isplitl [HKR]; · iexact HKR
    isplitl [R2]; · iexact R2
    isplitl [X4]; · iexact X4
    iexact HA
  iintro %a %b ⟨HKR, R2, HS, X4, ⟨%kf, %vf, %vsf, HA, %hA⟩⟩
  unfold KR
  icases HKR with ⟨R0, R1, HO⟩
  iapply (sendsDone m ρ K c (devW c) w a b) $$ [W0 W1 W2 HO]
  · isplitr; · iexact Hc
    unfold KW
    isplitl [W0 W1 HO]
    · isplitl [W0]; · iexact W0
      isplitl [W1]; · iexact W1
      iexact HO
    iexact W2
  iintro ⟨W0, W1, W2, HO⟩
  ihave ⟨S3, Q3⟩ := (ar_split m ρ c (arOf m ρ c kf vf vsf) ⟨kf, vf, vsf, hA, rfl⟩) $$ [HA]
  · iexact HA
  ihave T3 := (SQ_intro m ρ c 3) $$ [T3 Q3]
  · isplitl [T3]; · iexact T3
    iexact Q3
  iapply (sumsSent m ρ K c (devW c)) $$ [T3 HO L3 D3 S3]
  · isplitr; · iexact Hc
    isplitl [T3]; · iexact T3
    isplitl [HO]; · iexact HO
    isplitl [L3]; · iexact L3
    isplitl [D3]; · iexact D3
    iexact S3
  unfold SumS
  iintro ⟨T3, HO, ⟨Z3, N3, S3⟩⟩
  iapply (sumsGot m ρ K c (devW c)) $$ [R3 HO]
  · isplitr; · iexact Hc
    isplitl [R3]; · iexact R3
    iexact HO
  iintro %a2 %b2 ⟨R3, HG, HO⟩
  iapply (rowsSent m ρ K c (devW c) a2 b2 r₀) $$ [R3 HO HG N3 Hr T4 L4 D4]
  · isplitr; · iexact Hc
    isplitl [R3]; · iexact R3
    isplitl [HO]; · iexact HO
    isplitl [HG]; · iexact HG
    isplitl [N3]; · iexact N3
    isplitl [Hr]; · iexact Hr
    isplitl [T4]; · iexact T4
    isplitl [L4]; · iexact L4
    iexact D4
  unfold RowS
  iintro %x ⟨R3, B3, ⟨T4, HO, ⟨Z4, N4, S4⟩⟩⟩
  ihave T3 := (WQ_of_SQ m ρ c 3) $$ T3
  ihave T4 := (WQ_of_SQ m ρ c 4) $$ T4
  iapply (lastRows m ρ K c (devW c) x y) $$ [R4 HO N4 T3 T4 X5]
  · isplitr; · iexact Hc
    isplitl [R4]; · iexact R4
    isplitl [HO]; · iexact HO
    isplitl [N4]; · iexact N4
    isplitl [T3]; · iexact T3
    isplitl [T4]; · iexact T4
    iexact X5
  iintro ⟨R4, B4, W3, W4, HO, HY⟩
  iapply Hk
  unfold ended
  isplitl [R0 R1 R2 R3 R4]
  · isplitl [R0]; · iexact R0
    isplitl [R1]; · iexact R1
    isplitl [R2]; · iexact R2
    isplitl [R3]; · iexact R3
    iexact R4
  isplitl [W0 W1 W2 W3 W4]
  · isplitl [W0]; · iexact W0
    isplitl [W1]; · iexact W1
    isplitl [W2]; · iexact W2
    isplitl [W3]; · iexact W3
    iexact W4
  isplitl [HO]; · iexact HO
  isplitl [HS]; · iexact HS
  isplitl [B3]; · iexact B3
  isplitl [B4]; · iexact B4
  isplitl [Z3 S3]
  · isplitl [Z3]; · iexact Z3
    iexact S3
  isplitl [Z4 S4]
  · isplitl [Z4]; · iexact Z4
    iexact S4
  isplitl [X4]; · iexact X4
  iexact HY

end Cert.KProof
-- ==== Proof.Body2.lean ====
/-
The body of the kernel, from what the launch gives a device to what it leaves.
-/
module

public import proofs.«01_k».proof.Proof.Body1

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

omit [FloatOps F] in
/-- The cells of a device by family. -/
theorem kcells_eq (c : Dev nD) (Φ : GSem nD τ sig → sProp 𝕄) : (bigSep Finset.univ fun i : Fin 81 => Φ (kcell (c, i)))
    = iprop(Φ (barC c) ∗ (bigSep Finset.univ fun f : Fin 5 => (bigSep Finset.univ fun o : Fin 7 => Φ (sndC c f o))) ∗ (bigSep Finset.univ fun f : Fin 5 => (bigSep Finset.univ fun s : Dev nD => Φ (rcvC c f s))) ∗ (bigSep Finset.univ fun f : Fin 5 => Φ (locC c f))) := by
  rw [cells_eq (F := F) (fun i => Φ (kcell (c, i)))]
  refine congr (congrArg _ (by rw [kc_bar])) (congr (congrArg _ ?_) (congr (congrArg _ ?_) ?_))
  · exact bigSep_congr fun f _ => bigSep_congr fun o _ => by rw [kc_snd]
  · exact bigSep_congr fun f _ => bigSep_congr fun o _ => by rw [kc_rcv]
  · exact bigSep_congr fun f _ => by rw [kc_loc]

/-- A device's positions; -/
def posA (c : Dev nD) : sProp 𝕄 := bigSep Finset.univ fun i : Fin 81 => atPos ER (kcell (c, i)) 0 ∅ 0
/-- the tokens of what it pays; -/
def tokA (c : Dev nD) : sProp 𝕄 := iprop((bigSep Finset.univ fun o : Fin 7 => dutyTok ER (barC (dst c o)) 0 c) ∗ (bigSep Finset.univ fun f : Fin 5 => (bigSep Finset.univ fun o : Fin 7 => dutyTok ER (sndC c f o) 0 0))
  ∗ (bigSep Finset.univ fun f : Fin 5 => (bigSep Finset.univ fun o : Fin 7 => dutyTok ER (rcvC (dst c o) f c) 0 0)) ∗ (bigSep Finset.univ fun f : Fin 5 => dutyTok ER (locC c f) 0 0))
/-- the credit of what the others pay it; -/
def crA (c : Dev nD) : sProp 𝕄 := iprop(cred (tallyAt (barC c) () 7)
  ∗ (bigSep Finset.univ fun f : Fin 5 => (bigSep Finset.univ fun o : Fin 7 => cred (tallyAt (rcvC c f (sr c (o.val + 1))) () (amt f (half (sr c (o.val + 1))))))))
/-- and its counters at the end. -/
def semA (c : Dev nD) : sProp 𝕄 := bigSep Finset.univ fun i : Fin 81 => semVal (kcell (c, i)) 0

omit [FloatOps F] in
theorem snd_all (c : Dev nD) : iprop((bigSep Finset.univ fun f : Fin 5 => (bigSep Finset.univ fun o : Fin 7 => dutyTok ER (sndC c f o) 0 0)) ∗ (bigSep Finset.univ fun f : Fin 5 => (bigSep Finset.univ fun o : Fin 7 => dutyTok ER (rcvC (dst c o) f c) 0 0)) ∗ (bigSep Finset.univ fun f : Fin 5 => (bigSep Finset.univ fun o : Fin 7 => atPos ER (sndC c f o) 0 ∅ 0)))
    ⊢ (bigSep Finset.univ fun f : Fin 5 => (bigSep Finset.univ fun o : Fin 7 => sndT (F := F) c f o)) := by
  unfold sndT; simp only [bigSep_sep']; exact Entails.rfl
omit [FloatOps F] in
theorem rcv_all (c : Dev nD) : iprop((bigSep Finset.univ fun f : Fin 5 => (bigSep Finset.univ fun o : Fin 7 => cred (tallyAt (rcvC c f (sr c (o.val + 1))) () (amt f (half (sr c (o.val + 1))))))) ∗ (bigSep Finset.univ fun f : Fin 5 => (bigSep Finset.univ fun s : Dev nD => atPos ER (rcvC c f s) 0 ∅ 0)))
    ⊢ iprop((bigSep Finset.univ fun f : Fin 5 => (bigSep Finset.univ fun o : Fin 7 => rcvT (F := F) c f o)) ∗ (bigSep Finset.univ fun f : Fin 5 => atPos ER (rcvC c f c) 0 ∅ 0)) := by
  have h : ∀ f ∈ (Finset.univ : Finset (Fin 5)), (bigSep Finset.univ fun s : Dev nD => (atPos ER (rcvC c f s) 0 ∅ 0 : sProp 𝕄)) = iprop(atPos ER (rcvC c f c) 0 ∅ 0 ∗ (bigSep Finset.univ fun o : Fin 7 => atPos ER (rcvC c f (sr c (o.val + 1))) 0 ∅ 0)) :=
    fun f _ => all_sr c (fun s => (atPos ER (rcvC c f s) 0 ∅ 0 : sProp 𝕄))
  rw [bigSep_congr h]
  unfold rcvT; simp only [bigSep_sep']
  iintro ⟨H1, H2, H3⟩
  isplitl [H1 H3]
  · isplitl [H1]; · iexact H1
    iexact H3
  iexact H2
omit [FloatOps F] in
theorem loc_all (c : Dev nD) : iprop((bigSep Finset.univ fun f : Fin 5 => dutyTok ER (locC c f) 0 0) ∗ (bigSep Finset.univ fun f : Fin 5 => atPos ER (locC c f) 0 ∅ 0)) ⊢ (bigSep Finset.univ fun f : Fin 5 => locT (F := F) c f) := by
  unfold locT; simp only [bigSep_sep']; exact Entails.rfl

/-- A device's receive cell for itself takes no transfer: it is closed at once. -/
theorem own_close (c : Dev nD) (f : Fin 5) : iprop(ctx m ρ K ∗ atPos ER (rcvC c f c) 0 ∅ 0) ⊢ |={Set.univ}=> (semVal (rcvC c f c) 0 : sProp 𝕄) := by
  iintro ⟨#Hc, Hat⟩
  ihave ⟨#HI, -⟩ := (ctx_at m ρ K (c, ixR f c) _ (kc_rcv c f c)) $$ Hc
  iapply (Rounds.cell_close ER (Rd m ρ) (Set.mem_univ (K (c, ixR f c))) (fun h => h) (R := 0)
    (fun r _ => by
      rcases Nat.eq_zero_or_pos r with h | h
      · rw [h]; exact duties_own m ρ c f
      · exact duties_later m ρ _ r h))
  isplitr; · iexact HI
  iexact Hat

/-- The buffers of a device's own, whatever they hold. -/
abbrev scr (c : Dev nD) : sProp 𝕄 := Pipeline.scopedRest (Ix := Unit) (Name := ℕ) (U := UU) (Lvl := ℕ) (Val := Elt F) spec0 c

omit [FloatOps F] in
/-- The slots of the keys, the values and the scales together. -/
theorem slot3_join (c : Dev nD) : (bigSep Finset.univ fun g : Fin 8 => slot3 (F := F) c (sr c g.val)) ⊢ iprop(bufP (F := F) c 0 ∗ bufP (F := F) c 1 ∗ bufP (F := F) c 2) := by
  rw [← all_sr8 c (fun s => slot3 (F := F) c s)]
  unfold slot3; simp only [bigSep_sep']
  iintro ⟨H0, H1, H2⟩
  isplitl [H0]; · iapply (buf_join_0 c); iexact H0
  isplitl [H1]; · iapply (buf_join_1 c); iexact H1
  iapply (buf_join_2 c); iexact H2

/-- The counters of the sends and what they read. -/
theorem wq_all (c : Dev nD) : iprop(WQ m ρ c 0 7 ∗ WQ m ρ c 1 7 ∗ WQ m ρ c 2 7 ∗ WQ m ρ c 3 7 ∗ WQ m ρ c 4 7)
    ⊢ iprop((bigSep Finset.univ fun f : Fin 5 => (bigSep Finset.univ fun o : Fin 7 => semVal (sndC c f o) 0)) ∗ (bigSep Finset.univ fun o : Fin 7 => srcP m ρ c 0 (dst c o)) ∗ (bigSep Finset.univ fun o : Fin 7 => srcP m ρ c 1 (dst c o)) ∗ (bigSep Finset.univ fun o : Fin 7 => srcP m ρ c 2 (dst c o)) ∗ (bigSep Finset.univ fun o : Fin 7 => srcP m ρ c 3 (dst c o)) ∗ (bigSep Finset.univ fun o : Fin 7 => srcP m ρ c 4 (dst c o))) := by
  iintro ⟨H0, H1, H2, H3, H4⟩
  ihave ⟨Z0, S0⟩ := (WQ_done m ρ c 0) $$ H0
  ihave ⟨Z1, S1⟩ := (WQ_done m ρ c 1) $$ H1
  ihave ⟨Z2, S2⟩ := (WQ_done m ρ c 2) $$ H2
  ihave ⟨Z3, S3⟩ := (WQ_done m ρ c 3) $$ H3
  ihave ⟨Z4, S4⟩ := (WQ_done m ρ c 4) $$ H4
  isplitl [Z0 Z1 Z2 Z3 Z4]
  · rw [fin5_eq]
    isplitl [Z0]; · iexact Z0
    isplitl [Z1]; · iexact Z1
    isplitl [Z2]; · iexact Z2
    isplitl [Z3]; · iexact Z3
    iexact Z4
  isplitl [S0]; · iexact S0
  isplitl [S1]; · iexact S1
  isplitl [S2]; · iexact S2
  isplitl [S3]; · iexact S3
  iexact S4

theorem rq_all (c : Dev nD) : iprop((RQ (F := F) c 0 7 ∗ RQ (F := F) c 1 7 ∗ RQ (F := F) c 2 7 ∗ RQ (F := F) c 3 7 ∗ RQ (F := F) c 4 7) ∗ (bigSep Finset.univ fun f : Fin 5 => semVal (rcvC c f c) 0))
    ⊢ ((bigSep Finset.univ fun f : Fin 5 => (bigSep Finset.univ fun s : Dev nD => semVal (rcvC c f s) 0)) : sProp 𝕄) := by
  have h : ∀ f ∈ (Finset.univ : Finset (Fin 5)), (bigSep Finset.univ fun s : Dev nD => (semVal (rcvC c f s) 0 : sProp 𝕄)) = iprop(semVal (rcvC c f c) 0 ∗ (bigSep Finset.univ fun o : Fin 7 => semVal (rcvC c f (sr c (o.val + 1))) 0)) :=
    fun f _ => all_sr c (fun s => (semVal (rcvC c f s) 0 : sProp 𝕄))
  rw [bigSep_congr h, bigSep_sep']
  iintro ⟨⟨H0, H1, H2, H3, H4⟩, HO⟩
  ihave Z0 := (RQ_done (F := F) c 0) $$ H0
  ihave Z1 := (RQ_done (F := F) c 1) $$ H1
  ihave Z2 := (RQ_done (F := F) c 2) $$ H2
  ihave Z3 := (RQ_done (F := F) c 3) $$ H3
  ihave Z4 := (RQ_done (F := F) c 4) $$ H4
  isplitl [HO]; · iexact HO
  rw [fin5_eq]
  isplitl [Z0]; · iexact Z0
  isplitl [Z1]; · iexact Z1
  isplitl [Z2]; · iexact Z2
  isplitl [Z3]; · iexact Z3
  iexact Z4

/-- What is left after the second half, put together. -/
theorem finish (c : Dev nD) :
    iprop(semVal (barC c) 0 ∗ (bigSep Finset.univ fun f : Fin 5 => semVal (rcvC c f c) 0) ∗ (semVal (locC c 0) 0 ∗ srcP m ρ c 0 c) ∗ (semVal (locC c 1) 0 ∗ srcP m ρ c 1 c) ∗ (semVal (locC c 2) 0 ∗ srcP m ρ c 2 c)
        ∗ keep m ρ c false ∗ keep m ρ c true ∗ ended m ρ c)
      ⊢ iprop(semA c ∗ scr c ∗ ow c 42 ∗ ((Memref.whole cc0_stg4_0 : Memref sig .tc .vmem _ _).view.loc (c : Thread nD τ) ↦{fullShare} xst4 m ρ c) ∗ ∃ o, ((Memref.whole cc0_stg5_0 : Memref sig .tc .vmem _ _).view.loc (c : Thread nD τ) ↦{fullShare} o) ∗ ⌜OUT m ρ o⌝) := by
  unfold ended semA scr
  rw [scopedRest0_eq, kcells_eq (F := F) c (fun g => semVal g 0)]
  iintro ⟨Hz, Hown, ⟨L0, S0⟩, ⟨L1, S1⟩, ⟨L2, S2⟩, N0, N1, ⟨HR, HW, HO, HS, B3, B4, ⟨L3, S3⟩, ⟨L4, S4⟩, X4, HY⟩⟩
  ihave ⟨HW, Q0, Q1, Q2, Q3, Q4⟩ := (wq_all m ρ c) $$ HW
  ihave HR := (rq_all (F := F) c) $$ [HR Hown]
  · isplitl [HR]; · iexact HR
    iexact Hown
  ihave ⟨B0, B1, B2⟩ := (slot3_join (F := F) c) $$ HS
  ihave S0 := (Entails.of_eq (sk_false m ρ c).symm) $$ [S0 Q0 N0]
  · isplitl [S0 Q0]
    · isplitl [S0]; · iexact S0
      iexact Q0
    iexact N0
  ihave S1 := (Entails.of_eq (sk_true m ρ c).symm) $$ [S1 Q1 N1]
  · isplitl [S1 Q1]
    · isplitl [S1]; · iexact S1
      iexact Q1
    iexact N1
  ihave S2 := (Entails.of_eq (all_dst c (fun d => srcP m ρ c 2 d)).symm) $$ [S2 Q2]
  · isplitl [S2]; · iexact S2
    iexact Q2
  ihave S2 := (Entails.of_eq (svs_eq m ρ c).symm) $$ S2
  rw [svs_set]
  ihave S3 := (ar_join m ρ c) $$ [S3 Q3]
  · isplitl [S3]; · iexact S3
    iexact Q3
  ihave S4 := (red_join m ρ c) $$ [S4 Q4]
  · isplitl [S4]; · iexact S4
    iexact Q4
  unfold bufP
  dsimp only
  icases B0 with ⟨%b0, B0⟩
  icases B1 with ⟨%b1, B1⟩
  icases B2 with ⟨%b2, B2⟩
  icases B3 with ⟨%b3, B3⟩
  icases B4 with ⟨%b4, B4⟩
  icases S3 with ⟨%s3, S3⟩
  icases S4 with ⟨%s4, S4⟩
  isplitl [Hz HW HR L0 L1 L2 L3 L4]
  · isplitl [Hz]; · iexact Hz
    isplitl [HW]; · iexact HW
    isplitl [HR]; · iexact HR
    rw [fin5_eq]
    isplitl [L0]; · iexact L0
    isplitl [L1]; · iexact L1
    isplitl [L2]; · iexact L2
    isplitl [L3]; · iexact L3
    iexact L4
  isplitl [S0 S1 S2 S3 S4 B0 B1 B2 B3 B4]
  · isplitl [S0]; · iexists _; iexact S0
    isplitl [S1]; · iexists _; iexact S1
    isplitl [S2]; · iexists _; iexact S2
    isplitl [B0]; · iexists _; iexact B0
    isplitl [B1]; · iexists _; iexact B1
    isplitl [B2]; · iexists _; iexact B2
    isplitl [S3]; · iexists _; iexact S3
    isplitl [B3]; · iexists _; iexact B3
    isplitl [S4]; · iexists _; iexact S4
    iexists _; iexact B4
  isplitl [HO]; · iexact HO
  isplitl [X4]; · iexact X4
  iexact HY

set_option maxHeartbeats 8000000 in
/-- The kernel's body on device `c`. -/
theorem body_wp {Q : PUnit → sProp 𝕄} (c : Dev nD) (y : S2x128x512.Idx → Elt F .f32) :
    iprop(ctx m ρ K ∗ posA c ∗ tokA c ∗ crA c ∗ scr c ∗ ow c 0 ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c) ∗ ((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c) ∗ ((Memref.whole cc0_stg4_0 : Memref sig .tc .vmem _ _).view.loc (c : Thread nD τ) ↦{fullShare} xst4 m ρ c) ∗ ((Memref.whole cc0_stg5_0 : Memref sig .tc .vmem _ _).view.loc (c : Thread nD τ) ↦{fullShare} y))
      ⊢ iprop(((semA c ∗ scr c ∗ ow c 42 ∗ ((Memref.whole cc0_stg0_0 : Memref sig .tc .vmem _ _).view.loc (c : Thread nD τ) ↦{fullShare} xst0 m ρ c) ∗ ((Memref.whole cc0_stg1_0 : Memref sig .tc .vmem _ _).view.loc (c : Thread nD τ) ↦{fullShare} xst1 m ρ c) ∗ ((Memref.whole cc0_stg2_0 : Memref sig .tc .vmem _ _).view.loc (c : Thread nD τ) ↦{fullShare} xst2 m ρ c) ∗ ((Memref.whole cc0_stg3_0 : Memref sig .tc .vmem _ _).view.loc (c : Thread nD τ) ↦{fullShare} xst3 m ρ c) ∗ ((Memref.whole cc0_stg4_0 : Memref sig .tc .vmem _ _).view.loc (c : Thread nD τ) ↦{fullShare} xst4 m ρ c) ∗ ∃ o, ((Memref.whole cc0_stg5_0 : Memref sig .tc .vmem _ _).view.loc (c : Thread nD τ) ↦{fullShare} o) ∗ ⌜OUT m ρ o⌝) -∗ Q ⟨⟩)
          -∗ wp frame (wpE (defs₀ (F := F)) 𝒱₀ (c : Thread nD τ) none) Set.univ (hd1 >>= tlF) Q) := by
  have ep : posA (F := F) c = _ := kcells_eq (F := F) c (fun g => atPos ER g 0 ∅ 0)
  have es : scr (F := F) c = _ := scopedRest0_eq c
  rw [ep, es]
  unfold tokA crA
  iintro ⟨#Hc, ⟨Pb, Ps, Pr, Pl⟩, ⟨Tb, Ts, Tr, Tl⟩, ⟨Cb, Cr⟩, ⟨⟨%k0, K0⟩, ⟨%k1, K1⟩, ⟨%k2, K2⟩, ⟨%k3, K3⟩, ⟨%k4, K4⟩, ⟨%k5, K5⟩, ⟨%k6, K6⟩, ⟨%k7, K7⟩, ⟨%k8, K8⟩, ⟨%k9, K9⟩⟩, HO, X0, X1, X2, X3, X4, X5⟩ Hk
  ihave HT := (snd_all (F := F) c) $$ [Ts Tr Ps]
  · isplitl [Ts]; · iexact Ts
    isplitl [Tr]; · iexact Tr
    iexact Ps
  ihave ⟨HR, HW⟩ := (rcv_all (F := F) c) $$ [Cr Pr]
  · isplitl [Cr]; · iexact Cr
    iexact Pr
  ihave HL := (loc_all (F := F) c) $$ [Tl Pl]
  · isplitl [Tl]; · iexact Tl
    iexact Pl
  ihave HT := (Entails.of_eq (fin5_eq _)) $$ HT
  ihave HR := (Entails.of_eq (fin5_eq _)) $$ HR
  ihave HL := (Entails.of_eq (fin5_eq _)) $$ HL
  ihave HW := (Entails.of_eq (fin5_eq _)) $$ HW
  icases HT with ⟨T0, T1, T2, T3, T4⟩
  icases HR with ⟨R0, R1, R2, R3, R4⟩
  icases HL with ⟨L0, L1, L2, L3, L4⟩
  icases HW with ⟨W0, W1, W2, W3, W4⟩
  imod (own_close m ρ K c 0) $$ [W0] with W0
  · isplitr; · iexact Hc
    iexact W0
  imod (own_close m ρ K c 1) $$ [W1] with W1
  · isplitr; · iexact Hc
    iexact W1
  imod (own_close m ρ K c 2) $$ [W2] with W2
  · isplitr; · iexact Hc
    iexact W2
  imod (own_close m ρ K c 3) $$ [W3] with W3
  · isplitr; · iexact Hc
    iexact W3
  imod (own_close m ρ K c 4) $$ [W4] with W4
  · isplitr; · iexact Hc
    iexact W4
  ihave B0 := (buf_split_0 (F := F) c) $$ [K3]
  · unfold bufP; iexists k3; iexact K3
  ihave ⟨D0, B0⟩ := (Entails.of_eq (all_dst c (fun s => slotP (F := F) c 0 s))) $$ B0
  ihave R0 := (RQ_intro (F := F) c 0) $$ R0
  ihave B1 := (buf_split_1 (F := F) c) $$ [K4]
  · unfold bufP; iexists k4; iexact K4
  ihave ⟨D1, B1⟩ := (Entails.of_eq (all_dst c (fun s => slotP (F := F) c 1 s))) $$ B1
  ihave R1 := (RQ_intro (F := F) c 1) $$ R1
  ihave B2 := (buf_split_2 (F := F) c) $$ [K5]
  · unfold bufP; iexists k5; iexact K5
  ihave ⟨D2, B2⟩ := (Entails.of_eq (all_dst c (fun s => slotP (F := F) c 2 s))) $$ B2
  ihave R2 := (RQ_intro (F := F) c 2) $$ R2
  ihave B3 := (buf_split_3 (F := F) c) $$ [K7]
  · unfold bufP; iexists k7; iexact K7
  ihave ⟨D3, B3⟩ := (Entails.of_eq (all_dst c (fun s => slotP (F := F) c 3 s))) $$ B3
  ihave R3 := (RQ_intro (F := F) c 3) $$ R3
  ihave B4 := (buf_split_4 (F := F) c) $$ [K9]
  · unfold bufP; iexists k9; iexact K9
  ihave ⟨D4, B4⟩ := (Entails.of_eq (all_dst c (fun s => slotP (F := F) c 4 s))) $$ B4
  ihave R4 := (RQ_intro (F := F) c 4) $$ R4
  ihave HG := (GQ_intro (F := F) c) $$ [Tb B0 B1 B2 B3 B4]
  · isplitl [Tb]; · iexact Tb
    isplitl [B0]; · iexact B0
    isplitl [B1]; · iexact B1
    isplitl [B2]; · iexact B2
    isplitl [B3]; · iexact B3
    iexact B4
  iapply (firstHalf m ρ K c k0 k1 k2) $$ [HG HO Cb Pb L0 D0 L1 D1 L2 D2 T0 T1 T2 T3 T4 K0 K1 K2 X0 X1 X2 X3]
  · isplitr; · iexact Hc
    isplitl [HG]; · iexact HG
    isplitl [HO]; · iexact HO
    isplitl [Cb Pb]
    · isplitl [Cb]; · iexact Cb
      iexact Pb
    isplitl [L0 D0]
    · isplitl [L0]; · iexact L0
      iexact D0
    isplitl [L1 D1]
    · isplitl [L1]; · iexact L1
      iexact D1
    isplitl [L2 D2]
    · isplitl [L2]; · iexact L2
      iexact D2
    isplitl [T0 T1 T2 T3 T4]
    · isplitl [T0]; · iexact T0
      isplitl [T1]; · iexact T1
      isplitl [T2]; · iexact T2
      isplitl [T3]; · iexact T3
      iexact T4
    isplitl [K0]; · iexact K0
    isplitl [K1]; · iexact K1
    isplitl [K2]; · iexact K2
    isplitl [X0]; · iexact X0
    isplitl [X1]; · iexact X1
    isplitl [X2]; · iexact X2
    iexact X3
  unfold ownA
  iintro %w ⟨Hz, T0, T1, T2, HO, ⟨Z0, A0, S0⟩, ⟨Z1, A1, S1⟩, ⟨Z2, A2, S2⟩, N0, N1, T3, T4, X0, X1, X2, X3⟩
  iapply (secondHalf m ρ K c w k8 y) $$ [A0 A1 A2 T0 T1 T2 HO R0 R1 R2 R3 R4 T3 T4 L3 D3 L4 D4 X4 K6 K8 X5]
  · isplitr; · iexact Hc
    isplitl [A0 A1 A2]
    · isplitl [A0]; · iexact A0
      isplitl [A1]; · iexact A1
      iexact A2
    isplitl [T0 T1 T2]
    · isplitl [T0]; · iexact T0
      isplitl [T1]; · iexact T1
      iexact T2
    isplitl [HO]; · iexact HO
    isplitl [R0 R1 R2 R3 R4]
    · isplitl [R0]; · iexact R0
      isplitl [R1]; · iexact R1
      isplitl [R2]; · iexact R2
      isplitl [R3]; · iexact R3
      iexact R4
    isplitl [T3]; · iexact T3
    isplitl [T4]; · iexact T4
    isplitl [L3 D3]
    · isplitl [L3]; · iexact L3
      iexact D3
    isplitl [L4 D4]
    · isplitl [L4]; · iexact L4
      iexact D4
    isplitl [X4]; · iexact X4
    isplitl [K6]; · iexists k6; iexact K6
    isplitl [K8]; · iexact K8
    iexact X5
  iintro HE
  ihave ⟨H1, H2, H3, H4, H5⟩ := (finish m ρ c) $$ [Hz W0 W1 W2 W3 W4 Z0 S0 Z1 S1 Z2 S2 N0 N1 HE]
  · isplitl [Hz]; · iexact Hz
    isplitl [W0 W1 W2 W3 W4]
    · rw [fin5_eq]
      isplitl [W0]; · iexact W0
      isplitl [W1]; · iexact W1
      isplitl [W2]; · iexact W2
      isplitl [W3]; · iexact W3
      iexact W4
    isplitl [Z0 S0]
    · isplitl [Z0]; · iexact Z0
      iexact S0
    isplitl [Z1 S1]
    · isplitl [Z1]; · iexact Z1
      iexact S1
    isplitl [Z2 S2]
    · isplitl [Z2]; · iexact Z2
      iexact S2
    isplitl [N0]; · iexact N0
    isplitl [N1]; · iexact N1
    iexact HE
  iapply Hk
  isplitl [H1]; · iexact H1
  isplitl [H2]; · rw [← es]; iexact H2
  isplitl [H3]; · iexact H3
  isplitl [X0]; · iexact X0
  isplitl [X1]; · iexact X1
  isplitl [X2]; · iexact X2
  isplitl [X3]; · iexact X3
  isplitl [H4]; · iexact H4
  iexact H5

end Cert.KProof
-- ==== Proof.Fund.lean ====
/-
The resources of the launch: tokens, invariants, and the credit each device has from the others.
-/
module

public import proofs.«01_k».proof.Proof.Body2

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 81 → ℕ)

/-! ## Cells and tokens -/

/-- The kernel's own semaphores. -/
def osem (k : Fin 80) : SemLoc sig := csem k.succ
theorem csem_inj : Function.Injective csem := by
  intro i j h
  unfold csem at h
  by_cases hi : i.val = 0 <;> by_cases hj : j.val = 0
  · exact Fin.ext (hi.trans hj.symm)
  · rw [dif_pos hi, dif_neg hj] at h; cases h
  · rw [dif_neg hi, dif_pos hj] at h; cases h
  · rw [dif_neg hi, dif_neg hj] at h
    have := congrArg (fun s : SemLoc sig => match s with | .dma q => q.val | .reg _ => 0) h
    exact Fin.ext (by dsimp only at this; omega)
theorem kcell_inj : Function.Injective (kcell : Dev nD × Fin 81 → GSem nD τ sig) := by
  rintro ⟨c, k⟩ ⟨c', k'⟩ h
  have h1 : c = c' := congrArg (fun g : GSem nD τ sig => g.1.1) h
  have h2 : k = k' := csem_inj (congrArg Prod.snd h)
  subst h1; subst h2; rfl
def allCells : Finset (GSem nD τ sig) := Finset.univ.map ⟨kcell, kcell_inj⟩

/-- The payments of a device, numbered. -/
abbrev TI : Type := Fin 7 ⊕ (Fin 5 × Fin 7) ⊕ (Fin 5 × Fin 7) ⊕ Fin 5
/-- The token that pays one. -/
abbrev tokOf (p : Dev nD × TI) : GSem nD τ sig × ℕ × Dev nD := match p.2 with
  | .inl o => (barC (dst p.1 o), 0, p.1)
  | .inr (.inl fo) => (sndC p.1 fo.1 fo.2, 0, 0)
  | .inr (.inr (.inl fo)) => (rcvC (dst p.1 fo.2) fo.1 p.1, 0, 0)
  | .inr (.inr (.inr f)) => (locC p.1 f, 0, 0)
theorem barC_inj {c c' : Dev nD} (h : barC c = barC c') : c = c' := congrArg (fun g : GSem nD τ sig => g.1.1) h
theorem rcvC_inj {c c' s s' : Dev nD} {f f' : Fin 5} (h : rcvC c f s = rcvC c' f' s') : c = c' ∧ f = f' ∧ s = s' := by
  have hk : kind (.dma (rcvS f s)) = kind (.dma (rcvS f' s')) := congrArg (fun g : GSem nD τ sig => kind g.2) h
  rw [kind_rcv, kind_rcv] at hk
  injection hk with h1 h2
  exact ⟨congrArg (fun g : GSem nD τ sig => g.1.1) h, h1, h2⟩
theorem sndC_inj {c c' : Dev nD} {f f' : Fin 5} {o o' : Fin 7} (h : sndC c f o = sndC c' f' o') : c = c' ∧ f = f' ∧ o = o' := by
  have hk : kind (.dma (sndS f o)) = kind (.dma (sndS f' o')) := congrArg (fun g : GSem nD τ sig => kind g.2) h
  rw [kind_snd, kind_snd] at hk
  injection hk with h1 h2
  exact ⟨congrArg (fun g : GSem nD τ sig => g.1.1) h, h1, h2⟩
theorem locC_inj {c c' : Dev nD} {f f' : Fin 5} (h : locC c f = locC c' f') : c = c' ∧ f = f' := by
  have hk : kind (.dma (locS f)) = kind (.dma (locS f')) := congrArg (fun g : GSem nD τ sig => kind g.2) h
  rw [kind_loc, kind_loc] at hk
  injection hk with h1
  exact ⟨congrArg (fun g : GSem nD τ sig => g.1.1) h, h1⟩
/-- The kind of the cell a token belongs to. -/
theorem kind_tok (p : Dev nD × TI) : kind (tokOf p).1.2 = match p.2 with
    | .inl _ => .bar | .inr (.inl fo) => .snd fo.1 fo.2 | .inr (.inr (.inl fo)) => .rcv fo.1 p.1 | .inr (.inr (.inr f)) => .loc f := by
  rcases p with ⟨c, o | fo | fo | f⟩
  · rfl
  · exact kind_snd _ _
  · exact kind_rcv _ _
  · exact kind_loc _
theorem tokOf_inj : Function.Injective tokOf := by
  intro p p' h
  have hk : kind (tokOf p).1.2 = kind (tokOf p').1.2 := congrArg (fun x => kind x.1.2) h
  rw [kind_tok, kind_tok] at hk
  have h1 : (tokOf p).1 = (tokOf p').1 := congrArg Prod.fst h
  rcases p with ⟨c, o | ⟨f, o⟩ | ⟨f, o⟩ | f⟩ <;> rcases p' with ⟨c', o' | ⟨f', o'⟩ | ⟨f', o'⟩ | f'⟩ <;> dsimp only at hk
  all_goals try cases hk
  · have hc : c = c' := congrArg (fun x => x.2.2) h
    subst hc
    rw [dst_inj c (barC_inj h1)]
  · have e : c = c' := (sndC_inj h1).1
    subst e; rfl
  · have e : o = o' := dst_inj c (rcvC_inj h1).1
    subst e; rfl
  · have e : c = c' := (locC_inj h1).1
    subst e; rfl
def allToks : Finset (GSem nD τ sig × ℕ × Dev nD) := Finset.univ.map ⟨tokOf, tokOf_inj⟩

def u₀ : UU :=
  (initOf (Pipeline.cells cfgs cellOf_inj) (Pipeline.launchToks cfgs cellOf_inj), initOf allCells allToks)

/-! ## What a device has of them -/

/-- What the launch element deals a device, -/
def G (c : Dev nD) : sProp 𝕄 :=
  iprop((bigSep Finset.univ fun k : Fin 81 => roundState ER (Rd m ρ) (kcell (c, k)) 0)
    ∗ (bigSep Finset.univ fun k : Fin 81 => reached ER (kcell (c, k)) 0) ∗ posA c ∗ tokA c)
/-- and what the invariants' allocation makes of it. -/
def G' (c : Dev nD) : sProp 𝕄 := iprop(∃ K, recs m ρ K ∗ posA c ∗ tokA c)

omit [FloatOps F] in
theorem tokA_eq (c : Dev nD) : (bigSep Finset.univ fun i : TI => (dutyTok ER (tokOf (c, i)).1 (tokOf (c, i)).2.1 (tokOf (c, i)).2.2 : sProp 𝕄)) = tokA c := by
  unfold tokA
  rw [bigSep_univ_sum, bigSep_univ_sum, bigSep_univ_sum, bigSep_univ_prod, bigSep_univ_prod]
  rfl

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 81 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => tokA c := by
    unfold allToks; rw [bigSep_map, bigSep_univ_prod]
    exact bigSep_congr fun c _ => tokA_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · unfold posA; iexact Hat'
  iexact Htok'

theorem fin81_eq : (Finset.univ : Finset (Fin 81)).erase 0 = Finset.univ.image (Fin.succ : Fin 80 → Fin 81) := by decide +kernel
omit [FloatOps F] in
theorem sems_eq (c : Dev nD) : semA (F := F) c = iprop(semVal (barC c) 0 ∗ (Pipeline.ownSems0 (Ix := Unit) (Name := ℕ) (U := UU) (Lvl := ℕ) (Val := Elt F) (τ := τ) osem c)) := by
  unfold semA Pipeline.ownSems0 osem
  rw [bigSep_univ_at _ (0 : Fin 81), fin81_eq, bigSep_image_of_injOn (Fin.succ_injective 80).injOn]
  rfl
omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl

theorem core_alloc (c : Dev nD) :
    iprop((Pipeline.ownSems0 (Ix := Unit) (Name := ℕ) (U := UU) (Lvl := ℕ) (Val := Elt F) (τ := τ) osem c) ∗ unscopedSems0 c ∗ G m ρ c)
      ⊢ |={Set.univ}=> iprop((bigSep Finset.univ fun k => iprop(∃ κ : ℕ, cellInv ER (Rd m ρ) κ (kcell (c, k))))
          ∗ (bigSep Finset.univ fun k : Fin 81 => reached ER (kcell (c, k)) 0) ∗ posA c ∗ tokA c) := by
  unfold G
  rw [unscopedSems0_eq]
  iintro ⟨Hos, Hus, Hst, Hr, Hat, Htok⟩
  ihave Hv := (Entails.of_eq (sems_eq (F := F) c).symm) $$ [Hos Hus]
  · isplitl [Hus] <;> iassumption
  unfold semA
  imod (show iprop((bigSep Finset.univ fun k : Fin 81 => semVal (kcell (c, k)) 0) ∗ bigSep Finset.univ fun k : Fin 81 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

omit [FloatOps F] in
/-- What every device may use goes to each beside its own. -/
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd m ρ) κ (kcell (c, k))))
          ∗ (bigSep Finset.univ fun k : Fin 81 => reached ER (kcell (c, k)) 0) ∗ posA c ∗ tokA c) : sProp 𝕄)
      ⊢ bigSep Finset.univ (G' m ρ) := by
  rw [bigSep_sep', bigSep_sep', ← bigSep_univ_prod (fun ck : Dev nD × Fin 81 => iprop(∃ κ : ℕ, cellInv ER (Rd m ρ) κ (kcell ck))),
    ← bigSep_univ_prod (fun ck : Dev nD × Fin 81 => (reached ER (kcell ck) 0 : sProp 𝕄))]
  iintro ⟨HI, HR, Hl⟩
  ihave HK := (BI.bigSep_exists_pi Finset.univ (fun (ck : Dev nD × Fin 81) (κ : ℕ) => (cellInv ER (Rd m ρ) κ (kcell ck) : sProp 𝕄))) $$ HI
  icases HK with ⟨%K, HI⟩
  iapply (deal (R := recs m ρ K) (Φ := fun c => iprop(posA c ∗ tokA c)) fun c => by
    unfold G'; iintro ⟨HR, H1, H2⟩; iexists K
    isplitl [HR]; · iexact HR
    isplitl [H1] <;> iassumption)
  isplitr [Hl]
  · unfold recs
    iapply (Entails.of_eq (bigSep_sep' Finset.univ (fun p : Dev nD × Fin 81 => (cellInv ER (Rd m ρ) (K p) (kcell p) : sProp 𝕄)) (fun p => reached ER (kcell p) 0)).symm)
    isplitl [HI] <;> iassumption
  iexact Hl

theorem glob : (bigSep Finset.univ fun c => iprop((Pipeline.ownSems0 (Ix := Unit) (Name := ℕ) (U := UU) (Lvl := ℕ) (Val := Elt F) (τ := τ) osem c) ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- The family and the distance of a device's later payments. -/
def famN (i : ℕ) : Fin 5 := if i < 28 then ⟨(i - 7) % 3, by omega⟩ else if i < 35 then 3 else 4
def offN (i : ℕ) : Fin 7 := if i < 28 then ⟨(i - 7) / 3 % 7, by omega⟩ else if i < 35 then ⟨(i - 28) % 7, by omega⟩ else ⟨(i - 35) % 7, by omega⟩
theorem tal_ge (d : Dev nD) (i : ℕ) (h : 7 ≤ i) (h' : i < 42) :
    tal d i = tallyAt (rcvC (dst d (offN i)) (famN i) d) () (amt (famN i) (half d)) := by
  unfold tal famN offN
  rw [dif_neg (by omega)]
  by_cases h1 : i < 28
  · rw [dif_pos h1, if_pos h1, if_pos h1]
    have e : (⟨(i - 7) / 3, by omega⟩ : Fin 7) = ⟨(i - 7) / 3 % 7, by omega⟩ := Fin.ext (by show _ / _ = _ % 7; omega)
    rw [e]
  · rw [dif_neg h1, if_neg h1, if_neg h1]
    by_cases h2 : i < 35
    · rw [dif_pos h2, if_pos h2, if_pos h2]
      have e : (⟨i - 28, by omega⟩ : Fin 7) = ⟨(i - 28) % 7, by omega⟩ := Fin.ext (by show _ - _ = _ % 7; omega)
      rw [e]
    · rw [dif_neg h2, dif_pos h', if_neg h2, if_neg h2]
      have e : (⟨i - 35, by omega⟩ : Fin 7) = ⟨(i - 35) % 7, by omega⟩ := Fin.ext (by show _ - _ = _ % 7; omega)
      rw [e]
theorem Ow_at (d : Dev nD) (g : GSem nD τ sig) : Ow d 0 g () = ∑ i ∈ Finset.Ico 0 42, tal d i g () := by
  unfold Ow; rw [Finset.sum_apply, Finsupp.finset_sum_apply]

theorem bar_at (d c : Dev nD) (i : ℕ) (h : i < 42) : tal d i (barC c) () = if h : i < 7 then (if dst d ⟨i, h⟩ = c then 1 else 0) else 0 := by
  by_cases h7 : i < 7
  · rw [dif_pos h7, tal_bar d ⟨i, h7⟩, tallyAt_apply]
    by_cases hd : dst d ⟨i, h7⟩ = c
    · rw [if_pos hd, if_pos ⟨by rw [hd], rfl⟩]
    · rw [if_neg hd, if_neg fun hh => hd (barC_inj hh.1).symm]
  · rw [dif_neg h7, tal_ge d i (by omega) h, tallyAt_apply, if_neg]
    rintro ⟨hh, -⟩
    have := congrArg (fun g : GSem nD τ sig => kind g.2) hh
    dsimp only at this
    rw [kind_rcv] at this
    cases this
theorem rcv_at (d c s : Dev nD) (f : Fin 5) (i : ℕ) (h : i < 42) :
    tal d i (rcvC c f s) () = (if 7 ≤ i ∧ dst d (offN i) = c ∧ famN i = f ∧ d = s then 1 else 0) * amt f (half s) := by
  by_cases h7 : 7 ≤ i
  · rw [tal_ge d i h7 h, tallyAt_apply]
    by_cases hd : dst d (offN i) = c ∧ famN i = f ∧ d = s
    · rw [show (if 7 ≤ i ∧ dst d (offN i) = c ∧ famN i = f ∧ d = s then 1 else 0 : ℕ) = 1 from if_pos ⟨h7, hd⟩, one_mul]
      obtain ⟨h1, h2, h3⟩ := hd
      subst h1 h2 h3
      rw [if_pos ⟨rfl, rfl⟩]
    · rw [show (if 7 ≤ i ∧ dst d (offN i) = c ∧ famN i = f ∧ d = s then 1 else 0 : ℕ) = 0 from if_neg fun hh => hd hh.2, zero_mul, if_neg]
      rintro ⟨hh, -⟩
      obtain ⟨h1, h2, h3⟩ := rcvC_inj hh
      exact hd ⟨h1.symm, h2.symm, h3.symm⟩
  · rw [show (if 7 ≤ i ∧ dst d (offN i) = c ∧ famN i = f ∧ d = s then 1 else 0 : ℕ) = 0 from if_neg fun hh => h7 hh.1, zero_mul, tal_bar d ⟨i, by omega⟩, tallyAt_apply, if_neg]
    rintro ⟨hh, -⟩
    have := congrArg (fun g : GSem nD τ sig => kind g.2) hh
    dsimp only at this
    rw [kind_rcv] at this
    cases this

theorem bar_count : ∀ c : Dev nD, (∑ d : Dev nD, ∑ i ∈ Finset.Ico 0 42, if h : i < 7 then (if dst d ⟨i, h⟩ = c then 1 else 0) else 0) = 7 := by decide +kernel
theorem rcv_count : ∀ (c : Dev nD) (f : Fin 5) (o : Fin 7), (∑ d : Dev nD, ∑ i ∈ Finset.Ico 0 42, if 7 ≤ i ∧ dst d (offN i) = c ∧ famN i = f ∧ d = sr c (o.val + 1) then 1 else 0) = 1 := by decide +kernel

theorem launch_bar (c : Dev nD) :
    tallyOn (barC c) (launchCredit (Pipeline.owing fun d => Ow d 0) 0 (barC c)) = (tallyAt (barC c) () 7 : CellTallies nD τ sig Unit) := by
  unfold tallyAt; refine congrArg _ (Finsupp.ext fun u => ?_); cases u
  rw [Pipeline.launchCredit_owing, Finsupp.single_eq_same, ← bar_count c]
  refine Finset.sum_congr rfl fun d _ => ?_
  rw [Ow_at]
  exact Finset.sum_congr rfl fun i hi => bar_at d c i (Finset.mem_Ico.mp hi).2
theorem launch_rcv (c : Dev nD) (f : Fin 5) (o : Fin 7) :
    tallyOn (rcvC c f (sr c (o.val + 1))) (launchCredit (Pipeline.owing fun d => Ow d 0) 0 (rcvC c f (sr c (o.val + 1))))
      = (tallyAt (rcvC c f (sr c (o.val + 1))) () (amt f (half (sr c (o.val + 1)))) : CellTallies nD τ sig Unit) := by
  unfold tallyAt; refine congrArg _ (Finsupp.ext fun u => ?_); cases u
  rw [Pipeline.launchCredit_owing, Finsupp.single_eq_same]
  have h : ∀ d ∈ (Finset.univ : Finset (Dev nD)), Ow d 0 (rcvC c f (sr c (o.val + 1))) ()
      = (∑ i ∈ Finset.Ico 0 42, if 7 ≤ i ∧ dst d (offN i) = c ∧ famN i = f ∧ d = sr c (o.val + 1) then 1 else 0) * amt f (half (sr c (o.val + 1))) := fun d _ => by
    rw [Ow_at, Finset.sum_mul]
    exact Finset.sum_congr rfl fun i hi => rcv_at d c _ f i (Finset.mem_Ico.mp hi).2
  rw [Finset.sum_congr rfl h, ← Finset.sum_mul, rcv_count, one_mul]

/-- The semaphores on which a device has credit beside its barrier. -/
def crS (c : Dev nD) (fo : Fin 5 × Fin 7) : SemLoc sig := .dma (rcvS fo.1 (sr c (fo.2.val + 1)))
theorem crS_inj (c : Dev nD) : Function.Injective (crS c) := by
  intro a b h
  have hk : kind (crS c a) = kind (crS c b) := congrArg kind h
  unfold crS at hk
  rw [kind_rcv, kind_rcv] at hk
  injection hk with h1 h2
  exact Prod.ext h1 (sr_inj c h2)

omit [FloatOps F] in
theorem creds (c : Dev nD) : (Pipeline.launchCred (fun d => Ow d 0) c : sProp 𝕄) ⊢ crA c := by
  have hs (Φ : SemLoc sig → sProp 𝕄) : bigSep (Finset.univ.erase (SemLoc.reg barS)) Φ ⊢ (bigSep Finset.univ fun f : Fin 5 => (bigSep Finset.univ fun o : Fin 7 => Φ (crS c (f, o)))) := by
    rw [← show bigSep (Finset.univ.image (crS c)) Φ = (bigSep Finset.univ fun f : Fin 5 => (bigSep Finset.univ fun o : Fin 7 => Φ (crS c (f, o)))) by rw [bigSep_image_of_injOn (crS_inj c).injOn, bigSep_univ_prod]]
    exact BI.bigSep_subset fun x hx => (by
      obtain ⟨j, -, rfl⟩ := Finset.mem_image.mp hx
      exact Finset.mem_erase.mpr ⟨fun h => (by cases h), Finset.mem_univ _⟩)
  unfold Pipeline.launchCred crA
  rw [bigSep_univ_at _ (SemLoc.reg barS), launch_bar]
  iintro ⟨H1, H2⟩
  isplitl [H1]; · iexact H1
  ihave H := (hs _) $$ H2
  iapply (Entails.of_eq (bigSep_congr fun f _ => bigSep_congr fun o _ => (congrArg cred (launch_rcv c f o)))); iexact H

end Cert.KProof
-- ==== Proof.Launch.lean ====
/-
The launch: the body obligation, the side conditions, the run.
-/
module

public import proofs.«01_k».proof.Proof.Fund
public import proofs.«01_k».proof.Proof.Gen.KernelIdeal.Points
public import Idealize.ShloMosaic.Lib.Pipeline.DatRel
public import Idealize.ShloMosaic.Lib.Pipeline.ArrRel
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from, -/
def start (c : Dev nD) : sProp 𝕄 := iprop(G' m ρ c ∗ crA c ∗ levAts L lv)
def Φ₀ (c : Dev nD) : sProp 𝕄 := iprop(start m ρ c ∗ scr c)
/-- and what it leaves. -/
def Φ₁ (c : Dev nD) : sProp 𝕄 := iprop(semA (F := F) c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst0 m ρ c
    | ⟨1, _⟩ => xst1 m ρ c
    | ⟨2, _⟩ => xst2 m ρ c
    | ⟨3, _⟩ => xst3 m ρ c
    | ⟨4, _⟩ => xst4 m ρ c
    | ⟨5, _⟩ => fun _ => Classical.arbitrary _
  Φ t := match t with
    | ⟨0, _⟩ => Φ₀ m ρ c
    | ⟨_ + 1, _⟩ => Φ₁ c
  q _ := fullShare
  owed t := match t with
    | ⟨0, _⟩ => Ow c 0
    | ⟨_ + 1, _⟩ => 0

/-- The one window of which only a relation is known: the result. -/
def fgt (w : Fin cfg0.W) : Bool := w.val == 5
def Rl (w : Fin cfg0.W) (_ : Fin cfg0.N) : ((cfg0.win w).block.Idx → Elt F (cfg0.win w).elt) → Prop := match w with
  | ⟨5, _⟩ => fun X => OUT m ρ X
  | _ => fun _ => True

def rdats (p : Fin 1) (c : Dev nD) : RDat τ (Elt F) Unit ℕ UU ℕ cfg0 c := (dats m ρ p c).toRRel fgt (Rl m ρ)

omit [FloatOps F] in
theorem owns_whole_eq (c : Dev nD) {b : Ref sig .tc} (X : b.ty.Contents (Elt F)) :
    (owns c (Memref.whole b) fullShare X : sProp 𝕄) = iprop(∃ f, ⌜f = X⌝ ∗ ((Memref.whole b).view.loc (c : Thread nD τ) ↦{fullShare} f)) := by
  unfold owns; simp only [Memref.view_whole, View.read_whole, View.set_whole]

theorem before_0 (c : Dev nD) (d) : (dats m ρ 0 c).before (0 : Fin 6) t0_0 d = xst0 m ρ c := by unfold Dat.before; rw [if_pos (fetch0_0 t0_0)]; rfl
theorem before_1 (c : Dev nD) (d) : (dats m ρ 0 c).before (1 : Fin 6) t0_0 d = xst1 m ρ c := by unfold Dat.before; rw [if_pos (fetch0_1 t0_0)]; rfl
theorem before_2 (c : Dev nD) (d) : (dats m ρ 0 c).before (2 : Fin 6) t0_0 d = xst2 m ρ c := by unfold Dat.before; rw [if_pos (fetch0_2 t0_0)]; rfl
theorem before_3 (c : Dev nD) (d) : (dats m ρ 0 c).before (3 : Fin 6) t0_0 d = xst3 m ρ c := by unfold Dat.before; rw [if_pos (fetch0_3 t0_0)]; rfl
theorem before_4 (c : Dev nD) (d) : (dats m ρ 0 c).before (4 : Fin 6) t0_0 d = xst4 m ρ c := by unfold Dat.before; rw [if_pos (fetch0_4 t0_0)]; rfl

set_option maxRecDepth 65536 in
set_option maxHeartbeats 4000000 in
theorem body_obligation (c : Dev nD) : BodyObligationRel (dats m ρ 0 c) (defs₀ (F := F)) 𝒱₀ () Set.univ fgt (Rl m ρ) := fun t => by
  rw [fin_N0 t, bigSep_W0, bigSep_W0]
  show iprop(Φ₀ m ρ c ∗ (dats m ρ 0 c).owesAt () t0_0.castSucc
      ∗ (∃ d, owns c (Memref.whole cc0_stg0_0) fullShare ((dats m ρ 0 c).before (0 : Fin 6) t0_0 d))
      ∗ (∃ d, owns c (Memref.whole cc0_stg1_0) fullShare ((dats m ρ 0 c).before (1 : Fin 6) t0_0 d))
      ∗ (∃ d, owns c (Memref.whole cc0_stg2_0) fullShare ((dats m ρ 0 c).before (2 : Fin 6) t0_0 d))
      ∗ (∃ d, owns c (Memref.whole cc0_stg3_0) fullShare ((dats m ρ 0 c).before (3 : Fin 6) t0_0 d))
      ∗ (∃ d, owns c (Memref.whole cc0_stg4_0) fullShare ((dats m ρ 0 c).before (4 : Fin 6) t0_0 d))
      ∗ (∃ Y, ⌜((dats m ρ 0 c).toRRel fgt (Rl m ρ)).Finds (5 : Fin 6) t0_0 Y⌝ ∗ owns c (Memref.whole cc0_stg5_0) fullShare Y))
    ⊢ wp frame (wpE (defs₀ (F := F)) 𝒱₀ c none) Set.univ (app (cc0_body (F := F))) (fun _ =>
      iprop(Φ₁ (F := F) c ∗ (dats m ρ 0 c).owesAt () t0_0.succ
        ∗ owns c (Memref.whole cc0_stg0_0) fullShare (xst0 m ρ c)
        ∗ owns c (Memref.whole cc0_stg1_0) fullShare (xst1 m ρ c)
        ∗ owns c (Memref.whole cc0_stg2_0) fullShare (xst2 m ρ c)
        ∗ owns c (Memref.whole cc0_stg3_0) fullShare (xst3 m ρ c)
        ∗ owns c (Memref.whole cc0_stg4_0) fullShare (xst4 m ρ c)
        ∗ ∃ X, ⌜OUT m ρ X⌝ ∗ owns c (Memref.whole cc0_stg5_0) fullShare X))
  rw [body_eq]
  simp only [owns_whole_eq, before_0, before_1, before_2, before_3, before_4]
  unfold Φ₀ start G' Dat.owesAt Pipeline.owesWithin
  iintro ⟨⟨⟨⟨%K, HR, Hp, Ht⟩, Hcr, Hlev⟩, Hscr⟩, ⟨%W, %hW, HO⟩, ⟨%d0, %g0, %h0, X0⟩, ⟨%d1, %g1, %h1, X1⟩, ⟨%d2, %g2, %h2, X2⟩, ⟨%d3, %g3, %h3, X3⟩, ⟨%d4, %g4, %h4, X4⟩, ⟨%Y, -, %g5, %h5, X5⟩⟩
  subst h0 h1 h2 h3 h4
  rw [show (dats m ρ 0 c).owed t0_0.castSucc = Ow c 0 from rfl]
  iapply (body_wp m ρ K c g5) $$ [HR Hp Ht Hcr Hlev Hscr HO X0 X1 X2 X3 X4 X5]
  · isplitl [HR Hlev]
    · unfold ctx
      isplitl [HR]; · iexact HR
      iexact Hlev
    isplitl [Hp]; · iexact Hp
    isplitl [Ht]; · iexact Ht
    isplitl [Hcr]; · iexact Hcr
    isplitl [Hscr]; · iexact Hscr
    isplitl [HO]; · unfold ow; iexists W; iexact HO
    isplitl [X0]; · iexact X0
    isplitl [X1]; · iexact X1
    isplitl [X2]; · iexact X2
    isplitl [X3]; · iexact X3
    isplitl [X4]; · iexact X4
    iexact X5
  iintro ⟨Hs, Hscr, HO, X0, X1, X2, X3, X4, ⟨%o, X5, %ho⟩⟩
  unfold ow
  icases HO with ⟨%W', HO⟩
  unfold Φ₁
  isplitl [Hs Hscr]
  · isplitl [Hs]; · iexact Hs
    iexact Hscr
  isplitl [HO]
  · iexists W'; isplitr; · ipureintro; exact fun _ _ => Or.inl trivial
    rw [show (dats m ρ 0 c).owed t0_0.succ = Ow c 42 from (Ow_end c).symm]
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists o; isplitr; · (ipureintro; exact ho)
  iexists _; isplitr; · (ipureintro; rfl)
  iexact X5

/-! ## The side conditions -/

theorem ownSemFacts : Pipeline.OwnSemFacts cfg0.spec osem :=
  ⟨by decide +kernel, fun i j h => Fin.succ_injective 80 (csem_inj h), by decide +kernel⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (rdats m ρ 0 c).Φ 0 := by
  rw [show (rdats m ρ 0 c).Φ 0 = Φ₀ m ρ c from rfl]
  unfold Φ₀
  iintro ⟨Hs, -, Hr⟩
  isplitl [Hs]; · iexact Hs
  iexact Hr

theorem phi1_exit (c : Dev nD) :
    (rdats m ρ 0 c).Φ (Fin.last cfg0.N) ⊢ iprop(unscopedSems0 c ∗ Pipeline.ownSems0 osem c ∗ Pipeline.scopedRest cfg0.spec c) := by
  rw [show (rdats m ρ 0 c).Φ (Fin.last cfg0.N) = Φ₁ (F := F) c from rfl, unscopedSems0_eq]
  unfold Φ₁
  rw [sems_eq]
  iintro ⟨⟨Hb, Hs⟩, Hr⟩
  isplitl [Hb]; · iexact Hb
  isplitl [Hs]; · iexact Hs
  iexact Hr

theorem stage_kind : ∀ (w : Fin cfg0.W) (s : Fin (cfg0.win w).nbuf), lvK (kind (.dma ((cfg0.win w).sem s))) = 0 := by decide +kernel

theorem waits (c : Dev nD) : (levAts L lv : sProp 𝕄) ⊢ Pipeline.RDat.cellsWaits cfgs (rdats m ρ) () 0 c :=
  Pipeline.RDat.cellsWaits_intro cfgs (rdats m ρ) () 0 c fun w s t => by
    have hn : ∃ n, (rdats m ρ 0 c).owed t = Ow c n := by
      rcases t with ⟨_ | _, ht⟩
      · exact ⟨0, rfl⟩
      · exact ⟨42, (Ow_end c).symm⟩
    obtain ⟨n, hn⟩ := hn
    rw [hn]
    exact mayWait c _ n fun i _ _ => by rw [stage_kind]; exact lvI_pos i

/-! ## The run -/

/-- What holds at the end: every array is as the windows leave it. -/
def QC : PUnit × MemSt nD τ sig (Elt F) → Prop := fun r =>
  ∀ c : Dev nD, ∀ w : Fin cfg0.W, (rdats m ρ 0 c).ArrAt w cfg0.N (r.2.mem ((cfg0.win w).arr.view.loc (c : Thread nD τ)))

set_option maxRecDepth 8000 in
/-- Every run ends, with the counters at zero and the result as `OUT` says. -/
theorem run_main : θ_run defs (onTc (τ := τ) (main (F := F))) (s₀ m ρ) (fun r => QC m ρ r ∧ r.2.sem = fun _ => 0) :=
  Pipeline.RDat.θ_run_region_owing_glob_pf (fun p => (cfgs p).toPCfg) (fun p => (cfgs p).toPCfg_adm) (rdats m ρ) () cellOf_inj (0 : Fin 1)
    winFacts0.to₀ ownSemFacts (Pipeline.PreFacts.none _) EP defs₀ 𝒱₀ m ρ main
    (hmain := fun _ => rfl)
    (hbody := fun c => (body_obligation m ρ c).toRRel) (hne := block_pos0) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · have := h c (0 : Fin 6)
    rw [Pipeline.RDat.ArrAt_in (rdats m ρ 0 c) (0 : Fin 6) rfl] at this
    exact this
  · have := h c (1 : Fin 6)
    rw [Pipeline.RDat.ArrAt_in (rdats m ρ 0 c) (1 : Fin 6) rfl] at this
    exact this
  · have := h c (2 : Fin 6)
    rw [Pipeline.RDat.ArrAt_in (rdats m ρ 0 c) (2 : Fin 6) rfl] at this
    exact this
  · have := h c (3 : Fin 6)
    rw [Pipeline.RDat.ArrAt_in (rdats m ρ 0 c) (3 : Fin 6) rfl] at this
    exact this
  · have := h c (4 : Fin 6)
    rw [Pipeline.RDat.ArrAt_in (rdats m ρ 0 c) (4 : Fin 6) rfl] at this
    exact this

/-- Every run ends with the arguments as they were and the counters at zero. -/
theorem run_kept : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨args_kept m ρ h.1, h.2⟩) (run_main m ρ)

end Cert.KProof
-- ==== Proof.Num.lean ====
/- Extended-real arithmetic of the quantiser and of the softmax. -/
module

public import Idealize.ShloMosaic.PureOps.Ideal

@[expose] public section

namespace Cert.KProof

open Idealize Idealize.ShloMosaic

/-- A sum times a nonnegative real is the sum of the products. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, scaled by a real, is real. -/
theorem real_dot {ι : Type*} [Fintype ι] (f g : ι → EReal) (c : EReal) (hf : ∀ i, ∃ r : ℝ, f i = r)
    (hg : ∀ i, ∃ r : ℝ, g i = r) (hc : ∃ r : ℝ, c = r) : ∃ r : ℝ, (∑ i, f i * g i) * c = r := by
  choose a ha using hf
  choose b hb using hg
  obtain ⟨c, rfl⟩ := hc
  refine ⟨(∑ i, a i * b i) * c, ?_⟩
  rw [EReal.coe_mul, coe_sum]
  simp only [ha, hb, EReal.coe_mul]

theorem real_sum {ι : Type*} [Fintype ι] (f g : ι → EReal) (hf : ∀ i, ∃ r : ℝ, f i = r)
    (hg : ∀ i, ∃ r : ℝ, g i = r) : ∃ r : ℝ, (∑ i, f i * g i) = r := by
  obtain ⟨r, h⟩ := real_dot f g 1 hf hg ⟨1, rfl⟩
  exact ⟨r, by rw [← h, mul_one]⟩

section Softmax

variable {n : ℕ} (p : Fin n → ℝ) (V : Fin n → EReal)

theorem weights_scaled (hp : ∀ t, 0 ≤ p t) (hP : 0 < ∑ t, p t) {a : ℝ} (ha : 0 < a) :
    Ideal.div (∑ t, ((p t * a : ℝ) : EReal) * V t) (∑ t, ((p t * a : ℝ) : EReal))
      = (∑ t, (p t : EReal) * V t) * (((∑ t, p t)⁻¹ : ℝ) : EReal) := by
  have h1 : ∑ t, ((p t * a : ℝ) : EReal) = (((∑ t, p t) * a : ℝ) : EReal) := by
    rw [Finset.sum_mul, coe_sum]
  have h2 : ∑ t, ((p t * a : ℝ) : EReal) * V t = (∑ t, (p t : EReal) * V t) * (a : EReal) := by
    rw [sum_mul_coe _ _ ha.le]
    refine Finset.sum_congr rfl fun t _ => ?_
    rw [EReal.coe_mul, mul_assoc, mul_assoc, mul_comm (a : EReal)]
  have h3 : (∑ t, p t) * a ≠ 0 := (mul_pos hP ha).ne'
  rw [h1, h2, Ideal.div_coe h3, mul_assoc, ← EReal.coe_mul]
  congr 2
  field_simp

theorem weights_each (hp : ∀ t, 0 ≤ p t) (hP : 0 < ∑ t, p t) {a : ℝ} (ha : 0 < a) :
    ∑ t, V t * Ideal.div ((p t * a : ℝ) : EReal) (∑ t, ((p t * a : ℝ) : EReal))
      = (∑ t, (p t : EReal) * V t) * (((∑ t, p t)⁻¹ : ℝ) : EReal) := by
  have h1 : ∑ t, ((p t * a : ℝ) : EReal) = (((∑ t, p t) * a : ℝ) : EReal) := by
    rw [Finset.sum_mul, coe_sum]
  have h3 : (∑ t, p t) * a ≠ 0 := (mul_pos hP ha).ne'
  rw [sum_mul_coe _ _ (inv_nonneg.mpr hP.le)]
  refine Finset.sum_congr rfl fun t _ => ?_
  rw [h1, Ideal.div_coe h3, mul_comm (p t : EReal), mul_assoc]
  congr 1
  rw [← EReal.coe_mul, ← EReal.coe_mul, EReal.coe_eq_coe_iff]
  have := hP.ne'
  field_simp

end Softmax

/-- The largest of the kept scores is real. -/
theorem fold_max_real {n : ℕ} (r : Fin n → ℝ) (M : Fin n → Bool) (t0 : Fin n) (h0 : M t0 = true) :
    ∃ m : ℝ, (Finset.univ.fold max (⊥ : EReal) fun t => if M t then (r t : EReal) else ⊥) = m := by
  have hb : (Finset.univ.fold max (⊥ : EReal) fun t => if M t then (r t : EReal) else ⊥) ≠ ⊥ := by
    have : (r t0 : EReal) ≤ Finset.univ.fold max (⊥ : EReal) fun t => if M t then (r t : EReal) else ⊥ := by
      rw [Finset.le_fold_max]
      exact Or.inr ⟨t0, Finset.mem_univ _, by simp [h0]⟩
    intro h
    rw [h] at this
    exact absurd this (by simp)
  have ht : (Finset.univ.fold max (⊥ : EReal) fun t => if M t then (r t : EReal) else ⊥) ≠ ⊤ := by
    refine ne_of_lt ?_
    rw [Finset.fold_max_lt]
    refine ⟨bot_lt_top, fun t _ => ?_⟩
    split
    · exact EReal.coe_lt_top _
    · exact bot_lt_top
  exact ⟨_, (EReal.coe_toReal ht hb).symm⟩

/-- A softmax taken with a fixed shift and divided at the end, against one shifted by the maximum and divided at each
weight. -/
theorem softmax_eq {n : ℕ} (S : Fin n → EReal) (M : Fin n → Bool) (V : Fin n → EReal)
    (hS : ∀ t, ∃ r : ℝ, S t = r) (t0 : Fin n) (h0 : M t0 = true) (c : EReal) (hc : ∃ r : ℝ, c = r) :
    Ideal.div (∑ t, (if M t then Ideal.exp (S t - c) else 0) * V t) (∑ t, if M t then Ideal.exp (S t - c) else 0)
      = ∑ t, V t * Ideal.div
          (Ideal.exp ((if M t then S t else ⊥) - Finset.univ.fold max (⊥ : EReal) fun t => if M t then S t else ⊥))
          (∑ t, Ideal.exp ((if M t then S t else ⊥)
            - Finset.univ.fold max (⊥ : EReal) fun t => if M t then S t else ⊥)) := by
  choose r hr using hS
  obtain ⟨c, rfl⟩ := hc
  obtain rfl : S = fun t => (r t : EReal) := funext hr
  obtain ⟨m, hm⟩ := fold_max_real r M t0 h0
  simp only [hm]
  set p : Fin n → ℝ := fun t => if M t then Real.exp (r t) else 0 with hpd
  have hp : ∀ t, 0 ≤ p t := fun t => by
    simp only [hpd]; split
    · exact (Real.exp_pos _).le
    · exact le_rfl
  have hP : 0 < ∑ t, p t := Finset.sum_pos' (fun t _ => hp t)
    ⟨t0, Finset.mem_univ _, by simp only [hpd, h0, if_true]; exact Real.exp_pos _⟩
  have e1 : ∀ t, (if M t then Ideal.exp ((r t : EReal) - (c : EReal)) else 0)
      = ((p t * Real.exp (-c) : ℝ) : EReal) := fun t => by
    simp only [hpd]
    split
    · rw [← EReal.coe_sub, Ideal.exp_coe, sub_eq_add_neg, Real.exp_add]
    · simp
  have e2 : ∀ t, Ideal.exp ((if M t then (r t : EReal) else ⊥) - (m : EReal))
      = ((p t * Real.exp (-m) : ℝ) : EReal) := fun t => by
    simp only [hpd]
    split
    · rw [← EReal.coe_sub, Ideal.exp_coe, sub_eq_add_neg, Real.exp_add]
    · simp
  simp only [e1, e2]
  rw [weights_scaled p V hp hP (Real.exp_pos _), weights_each p V hp hP (Real.exp_pos _)]

/-- An extended real rounded and clipped to a signed byte is unchanged by the cast to the byte and back. -/
theorem byte_round (lo hi : EReal) (hlo : lo = ((-127 : ℝ) : EReal)) (hhi : hi = ((127 : ℝ) : EReal)) (z : EReal) :
    (((Ideal.fptosi 8 (min hi (max lo (Ideal.liftRound Ideal.roundHalfEven z)))).toInt : ℝ) : EReal)
      = min hi (max lo (Ideal.liftRound Ideal.roundHalfEven z)) := by
  have key : ∃ k : ℤ, -127 ≤ k ∧ k ≤ 127 ∧
      min hi (max lo (Ideal.liftRound Ideal.roundHalfEven z)) = ((k : ℝ) : EReal) := by
    subst hlo hhi
    induction z with
    | bot =>
      refine ⟨-127, by norm_num, by norm_num, ?_⟩
      rw [Ideal.liftRound_bot, max_eq_left bot_le, min_eq_right (by rw [EReal.coe_le_coe_iff]; norm_num)]
      norm_num
    | top =>
      refine ⟨127, by norm_num, by norm_num, ?_⟩
      rw [Ideal.liftRound_top, max_eq_right le_top, min_eq_left le_top]
      norm_num
    | coe r =>
      refine ⟨min 127 (max (-127) (Ideal.roundHalfEven r)), by omega, by omega, ?_⟩
      rw [Ideal.liftRound_coe, ← EReal.coe_strictMono.monotone.map_max, ← EReal.coe_strictMono.monotone.map_min]
      push_cast
      rfl
  obtain ⟨k, h1, h2, hk⟩ := key
  rw [hk]
  unfold Ideal.fptosi
  rw [Ideal.toIntClamped_coe]
  have h3 : (if (0 : ℝ) ≤ (k : ℝ) then ⌊(k : ℝ)⌋ else ⌈(k : ℝ)⌉) = k := by
    split
    · exact Int.floor_intCast k
    · exact Int.ceil_intCast k
  rw [h3]
  have h4 : (max (-((2 ^ (8 - 1) : ℕ) : ℤ)) (min (((2 ^ (8 - 1) : ℕ) : ℤ) - 1) k)) = k := by norm_num; omega
  rw [h4, BitVec.toInt_ofInt, Int.bmod_def]
  congr 2
  norm_num
  omega

theorem byte_real (lo hi : EReal) (hlo : lo = ((-127 : ℝ) : EReal)) (hhi : hi = ((127 : ℝ) : EReal)) (z : EReal) :
    ∃ r : ℝ, min hi (max lo (Ideal.liftRound Ideal.roundHalfEven z)) = r :=
  ⟨_, (byte_round lo hi hlo hhi z).symm⟩

/-! ## The quantiser, the scores and the mask -/

noncomputable section

/-- A key quantised by the fixed scale. -/
def kqf (x : EReal) : EReal :=
  min (Ideal.ofBits .f32 0x42FE0000#32) (max (Ideal.ofBits .f32 0xC2FE0000#32)
    (Ideal.liftRound Ideal.roundHalfEven (x * Ideal.ofBits .bf16 0x41A9#16)))
/-- The scale of a row of values. -/
def vsf (v : Fin 2048 → EReal) : EReal :=
  max (Ideal.div (Finset.univ.fold max (Ideal.ofBits .bf16 0xFF80#16) fun D => max (v D) (-(v D))) (Ideal.ofBits .bf16 0x42FE#16))
    (Ideal.ofBits .bf16 0x3586#16)
/-- A value quantised by its row's scale. -/
def vqf (x s : EReal) : EReal :=
  min (Ideal.ofBits .f32 0x42FE0000#32) (max (Ideal.ofBits .f32 0xC2FE0000#32)
    (Ideal.liftRound Ideal.roundHalfEven (Ideal.div x s)))
/-- A query against a key of one head, scaled. -/
def sq (q k : Fin 64 → EReal) : EReal := (∑ d, q d * k d) * Ideal.ofBits .f32 0x3BC18306#32

/-- Whether the queries of block `q` see the keys of block `k`. -/
def mk (q k : ℕ) : Bool := q = k || k = 0 || (q + k) % 3 = 0

theorem f32_127 : Ideal.ofBits .f32 0x42FE0000#32 = ((127 : ℝ) : EReal) := by
  simp [Ideal.ofBits, Ideal.ieee, -EReal.coe_mul]
  norm_num
theorem f32_m127 : Ideal.ofBits .f32 0xC2FE0000#32 = ((-127 : ℝ) : EReal) := by
  simp [Ideal.ofBits, Ideal.ieee, -EReal.coe_mul]
  norm_num
theorem f32_bot : Ideal.ofBits .f32 0xFF800000#32 = ⊥ := by
  simp [Ideal.ofBits, Ideal.ieee]
theorem scale_real : ∃ r : ℝ, Ideal.ofBits .f32 0x3BC18306#32 = r := by
  simp only [Ideal.ofBits, Ideal.ieee]
  rw [if_neg (by decide), if_neg (by decide)]
  exact ⟨_, rfl⟩
theorem shift_real : ∃ r : ℝ, Ideal.ofBits .f32 0x40800000#32 = r := by
  simp only [Ideal.ofBits, Ideal.ieee]
  rw [if_neg (by decide), if_neg (by decide)]
  exact ⟨_, rfl⟩

theorem kqf_real (x : EReal) : ∃ r : ℝ, kqf x = r := byte_real _ _ f32_m127 f32_127 _
theorem kqf_byte (x : EReal) : (((Ideal.fptosi 8 (kqf x)).toInt : ℝ) : EReal) = kqf x := byte_round _ _ f32_m127 f32_127 _
theorem vqf_byte (x s : EReal) : (((Ideal.fptosi 8 (vqf x s)).toInt : ℝ) : EReal) = vqf x s := byte_round _ _ f32_m127 f32_127 _

/-- The scale of the keys may be multiplied into each key and the scores' factor into the sum. -/
theorem sq_scaled (q k : Fin 64 → EReal) (hq : ∀ d, ∃ r : ℝ, q d = r) (hk : ∀ d, ∃ r : ℝ, k d = r) :
    (∑ d, q d * (k d * Ideal.ofBits .f32 0x3D418306#32)) * Ideal.ofBits .f32 0x3E000000#32 = sq q k := by
  have hc : ∃ a : ℝ, Ideal.ofBits .f32 0x3D418306#32 = a ∧ Ideal.ofBits .f32 0x3BC18306#32 = ((a * (1 / 8) : ℝ) : EReal) := by
    refine ⟨12681990 / 268435456, ?_, ?_⟩
    · simp [Ideal.ofBits, Ideal.ieee, -EReal.coe_mul]
      norm_num
    · simp [Ideal.ofBits, Ideal.ieee, -EReal.coe_mul]
      norm_num
  have h8 : Ideal.ofBits .f32 0x3E000000#32 = ((1 / 8 : ℝ) : EReal) := by
    simp [Ideal.ofBits, Ideal.ieee, -EReal.coe_mul]
    norm_num
  obtain ⟨a, ha, hb⟩ := hc
  choose x hx using hq
  choose y hy using hk
  unfold sq
  rw [ha, hb, h8]
  simp only [hx, hy, ← EReal.coe_mul, ← coe_sum]
  refine congrArg _ ?_
  rw [Finset.sum_mul, Finset.sum_mul]
  exact Finset.sum_congr rfl fun d _ => by ring

theorem sq_real (q k : Fin 64 → EReal) (hq : ∀ d, ∃ r : ℝ, q d = r) (hk : ∀ d, ∃ r : ℝ, k d = r) : ∃ r : ℝ, sq q k = r :=
  real_dot q k _ hq hk scale_real

end

end Cert.KProof
-- ==== Proof.Slots.lean ====
/- The kernel's blocks, slots and slabs read at an index. -/
module

public import proofs.«01_k».proof.Proof.Spec
public import Idealize.ShloMosaic.Lib.Pointwise
public import Idealize.ShloMosaic.Lib.ValueLayout
public import Idealize.ShloMosaic.Lib.Pipeline.Value

@[expose] public section

set_option maxRecDepth 16384

noncomputable section

namespace Cert.KProof

open Cert.KernelIdeal Cert.KernelIdeal.Gen
open Idealize.ShloMosaic Idealize.ShloMosaic.Pointwise
open Idealize.ShloMosaic.TcCoe

variable {F : FTy → Type} [FloatOps F]
variable (m : (ℓ : Loc nD τ sig) → Buf (Elt F) ℓ) (ρ : Dev nD → PrngReg)

/-! ## The arguments -/

theorem xst0_eq (c : Dev nD) : xst0 m ρ c = m ((c : Thread nD τ).loc main_arg0) := by
  funext j
  refine congrArg (m ((c : Thread nD τ).loc main_arg0)) (funext fun a => Fin.ext ?_)
  exact Pipeline.Window.rect_emb_val_of_index_zero win0_0 (0 : Fin 1) a rfl j
theorem xst1_eq (c : Dev nD) : xst1 m ρ c = m ((c : Thread nD τ).loc main_arg1) := by
  funext j
  refine congrArg (m ((c : Thread nD τ).loc main_arg1)) (funext fun a => Fin.ext ?_)
  exact Pipeline.Window.rect_emb_val_of_index_zero win0_1 (0 : Fin 1) a rfl j
theorem xst2_eq (c : Dev nD) : xst2 m ρ c = m ((c : Thread nD τ).loc main_arg2) := by
  funext j
  refine congrArg (m ((c : Thread nD τ).loc main_arg2)) (funext fun a => Fin.ext ?_)
  exact Pipeline.Window.rect_emb_val_of_index_zero win0_2 (0 : Fin 1) a rfl j
theorem xst3_eq (c : Dev nD) : xst3 m ρ c = m ((c : Thread nD τ).loc main_arg3) := by
  funext j
  refine congrArg (m ((c : Thread nD τ).loc main_arg3)) (funext fun a => Fin.ext ?_)
  exact Pipeline.Window.rect_emb_val_of_index_zero win0_3 (0 : Fin 1) a rfl j
theorem xst4_eq (c : Dev nD) : xst4 m ρ c = m ((c : Thread nD τ).loc main_arg4) := by
  funext j
  refine congrArg (m ((c : Thread nD τ).loc main_arg4)) (funext fun a => Fin.ext ?_)
  exact Pipeline.Window.rect_emb_val_of_index_zero win0_4 (0 : Fin 1) a rfl j

/-! ## A unit rectangle's index, axis by axis -/

theorem unit4 {d : Fin 4 → ℕ} {off size : Fin 4 → ℕ} (inb : ∀ a, off a + size a ≤ d a) (x : (⟨4, size⟩ : Shape).Idx) (y : (⟨4, d⟩ : Shape).Idx)
    (h : ∀ a, off a + (x a).val = (y a).val) : (Rect.unit (s := ⟨4, d⟩) off size inb).emb x = y := by
  funext a
  refine Fin.ext ?_
  rw [← h a]
  show off a + 1 * (x a).val = _
  omega
theorem unit3 {d : Fin 3 → ℕ} {off size : Fin 3 → ℕ} (inb : ∀ a, off a + size a ≤ d a) (x : (⟨3, size⟩ : Shape).Idx) (y : (⟨3, d⟩ : Shape).Idx)
    (h : ∀ a, off a + (x a).val = (y a).val) : (Rect.unit (s := ⟨3, d⟩) off size inb).emb x = y := by
  funext a
  refine Fin.ext ?_
  rw [← h a]
  show off a + 1 * (x a).val = _
  omega
theorem unit2 {d : Fin 2 → ℕ} {off size : Fin 2 → ℕ} (inb : ∀ a, off a + size a ≤ d a) (x : (⟨2, size⟩ : Shape).Idx) (y : (⟨2, d⟩ : Shape).Idx)
    (h : ∀ a, off a + (x a).val = (y a).val) : (Rect.unit (s := ⟨2, d⟩) off size inb).emb x = y := by
  funext a
  refine Fin.ext ?_
  rw [← h a]
  show off a + 1 * (x a).val = _
  omega

/-! ## The slots -/

theorem slotF_apply (b : Bool) (s : Dev nD) (f : CRv F) (i : Fin 2) (k : Fin 128) (x : Fin 256) : slotFr b s f (ix3 i k x) = f (ix4 s i k x) := by
  have h : (Rect.unit (s := S8x2x128x256) ![s.val, 0, 0, 0] S1x2x128x256.size (inb_slotF s)).emb
      (Shape.reshapeEquiv (Shape.Squeezes.numel_eq squeezes_S1x2x128x256_S2x128x256) (ix3 i k x)) = ix4 s i k x := by
    rw [ix3_eq_valueIdx, ValueIdx.reshapeEquiv_ix3_1abc]
    refine unit4 _ _ _ fun a => ?_
    fin_cases a
    all_goals simp
  cases b <;> exact congrArg f h

theorem slotH_apply (b : Bool) (s : Dev nD) (f : CRv F) (i : Fin 2) (k : Fin 64) (x : Fin 256) :
    slotHr b s f (ix3 i k x) = f (ix4 s i ⟨j0 s + k.val, by have := j0_le s; omega⟩ x) := by
  have h : (Rect.unit (s := S8x2x128x256) ![s.val, 0, j0 s, 0] S1x2x64x256.size (inb_slotH s)).emb
      (Shape.reshapeEquiv (Shape.Squeezes.numel_eq squeezes_S1x2x64x256_S2x64x256) (ix3 i k x))
        = ix4 s i ⟨j0 s + k.val, by have := j0_le s; omega⟩ x := by
    rw [ix3_eq_valueIdx, ValueIdx.reshapeEquiv_ix3_1abc]
    refine unit4 _ _ _ fun a => ?_
    fin_cases a
    all_goals simp
  cases b <;> exact congrArg f h

theorem slabF_apply (b : Bool) (d : Dev nD) (f : CSk F) (i : Fin 2) (k : Fin 128) (x : Fin 256) :
    slabFr b d f (ix3 i k x) = f (ix3 i k ⟨256 * d.val + x.val, by have := lt8 d; omega⟩) := by
  have h : (Rect.unit (s := S2x128x2048) ![0, 0, 256 * d.val] S2x128x256.size (inb_slabF d)).emb (ix3 i k x)
        = ix3 i k ⟨256 * d.val + x.val, by have := lt8 d; omega⟩ := by
    refine unit3 _ _ _ fun a => ?_
    fin_cases a
    all_goals simp
  cases b <;> exact congrArg f h

theorem slabH_apply (b : Bool) (s d : Dev nD) (f : CSk F) (i : Fin 2) (k : Fin 64) (x : Fin 256) :
    slabHr b s d f (ix3 i k x)
      = f (ix3 i ⟨j0 s + k.val, by have := j0_le s; omega⟩ ⟨256 * d.val + x.val, by have := lt8 d; omega⟩) := by
  have h : (Rect.unit (s := S2x128x2048) ![0, j0 s, 256 * d.val] S2x64x256.size (inb_slabH s d)).emb (ix3 i k x)
        = ix3 i ⟨j0 s + k.val, by have := j0_le s; omega⟩ ⟨256 * d.val + x.val, by have := lt8 d; omega⟩ := by
    refine unit3 _ _ _ fun a => ?_
    fin_cases a
    all_goals simp
  cases b <;> exact congrArg f h

theorem slotS_apply (s : Dev nD) (f : CRs F) (i : Fin 2) (k : Fin 128) : (slotS s).view.read (Elt F) f (ix2 i k) = f (ix3 s i k) := by
  have h : (Rect.unit (s := S8x2x128) ![s.val, 0, 0] S1x2x128.size (inb_slotS s)).emb
      (Shape.reshapeEquiv (Shape.Squeezes.numel_eq squeezes_S1x2x128_S2x128) (ix2 i k)) = ix3 s i k := by
    rw [ix2_eq_valueIdx, ValueIdx.reshapeEquiv_ix2_1ab]
    refine unit3 _ _ _ fun a => ?_
    fin_cases a
    all_goals simp
  exact congrArg f h

theorem slotR_apply (b : Bool) (s : Dev nD) (f : CSl F) (r : Fin 32) (n : Fin 512) : slotRr b s f (ix2 r n) = f (ix3 s r n) := by
  have h : (Rect.unit (s := S8x32x512) ![s.val, 0, 0] S1x32x512.size (inb_slotR s)).emb
      (Shape.reshapeEquiv (Shape.Squeezes.numel_eq squeezes_S1x32x512_S32x512) (ix2 r n)) = ix3 s r n := by
    rw [ix2_eq_valueIdx, ValueIdx.reshapeEquiv_ix2_1ab]
    refine unit3 _ _ _ fun a => ?_
    fin_cases a
    all_goals simp
  cases b <;> exact congrArg f h

theorem slabR_apply (d : Dev nD) (f : CAr F) (r : Fin 32) (n : Fin 512) :
    (slabR d).view.read (Elt F) f (ix2 r n) = f (ix2 ⟨32 * d.val + r.val, by have := lt8 d; omega⟩ n) := by
  have h : (Rect.unit (s := S256x512) ![32 * d.val, 0] S32x512.size (inb_slabR d)).emb (ix2 r n)
        = ix2 ⟨32 * d.val + r.val, by have := lt8 d; omega⟩ n := by
    refine unit2 _ _ _ fun a => ?_
    fin_cases a
    all_goals simp
  exact congrArg f h

theorem ldK_apply (b : Bool) (s : Dev nD) (j : Fin 8) (f : CRv F) (k : Fin 128) (x : Fin 64) :
    ldK b s j f (ix4 0 0 k x) = f (ix4 s ⟨j.val / 4, by omega⟩ k ⟨64 * (j.val % 4) + x.val, by omega⟩) := by
  have h : (Rect.unit (s := S8x2x128x256) ![s.val, j.val / 4, 0, 64 * (j.val % 4)] S1x1x128x64.size (inb_ldK s j)).emb (ix4 0 0 k x)
        = ix4 s ⟨j.val / 4, by omega⟩ k ⟨64 * (j.val % 4) + x.val, by omega⟩ := by
    refine unit4 _ _ _ fun a => ?_
    fin_cases a
    all_goals simp
  cases b <;> exact congrArg f h

theorem ldS_apply (s : Dev nD) (b : Fin 2) (f : CRs F) (k : Fin 128) : ldS s b f (ix3 0 0 k) = f (ix3 s b k) := by
  have h : (Rect.unit (s := S8x2x128) ![s.val, b.val, 0] S1x1x128.size (inb_ldS s b)).emb (ix3 0 0 k) = ix3 s b k := by
    refine unit3 _ _ _ fun a => ?_
    fin_cases a
    all_goals simp
  exact congrArg f h

/-! ## What has landed -/

/-- A row of a slot that was sent holds the sender's row. -/
theorem landOk_apply (b : Bool) (s c : Dev nD) (f : CRv F) (h : landOk m ρ b s c f) (i : Fin 2) (k : Fin 128) (x : Fin 256)
    (hk : half s = true → j0 s ≤ k.val ∧ k.val < j0 s + 64) :
    f (ix4 s i k x) = SK m ρ b s (ix3 i k ⟨256 * c.val + x.val, by have := lt8 c; omega⟩) := by
  unfold landOk at h
  split at h
  · next hs =>
    obtain ⟨h1, h2⟩ := hk hs.1
    have e := congrFun h (ix3 i (⟨k.val - j0 s, by omega⟩ : Fin 64) x)
    rw [slotH_apply, slabH_apply] at e
    have hk' : (⟨j0 s + (k.val - j0 s), by omega⟩ : Fin 128) = k := Fin.ext (by show j0 s + (k.val - j0 s) = k.val; omega)
    simpa only [hk'] using e
  · have e := congrFun h (ix3 i k x)
    rw [slotF_apply, slabF_apply] at e
    exact e

end Cert.KProof
-- ==== Proof.RefVal.lean ====
/- The reference program's result, stage by stage, each stage read at an index. -/
module

public import proofs.«01_k».proof.Proof.Num
public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.RProof

open Cert.ReferenceIdeal Cert.ReferenceIdeal.Gen
open Idealize.ShloMosaic Idealize.ShloMosaic.Pointwise
open Idealize.ShloMosaic.TcCoe
open Cert.KProof (kqf vsf vqf mk sq)

/-! ## The stages -/

def qbR : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))
def kbR : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
def maskR : IVec S128x1024 1 :=
  ori (ori (cmpi .eq (broadcastInDim S128x1024 ![0, 1] bcast_S128x1_S128x1024_0_1 (broadcastInDim S128x1 ![0] bcast_S128_S128x1_0 qbR)) (broadcastInDim S128x1024 ![0, 1] bcast_S1x1024_S128x1024_0_1 (broadcastInDim S1x1024 ![1] bcast_S1024_S1x1024_1 kbR))) (broadcastInDim S128x1024 ![0, 1] bcast_S1x1024_S128x1024_0_1 (cmpi .eq (broadcastInDim S1x1024 ![1] bcast_S1024_S1x1024_1 kbR) (broadcastInDim S1x1024 ![] bcast_S_S1x1024 (constantI S_ 32 0#32))))) (cmpi .eq (select (andi (cmpi .ne (cmpi .slt (Host.remsi (addi (broadcastInDim S128x1024 ![0, 1] bcast_S128x1_S128x1024_0_1 (broadcastInDim S128x1 ![0] bcast_S128_S128x1_0 qbR)) (broadcastInDim S128x1024 ![0, 1] bcast_S1x1024_S128x1024_0_1 (broadcastInDim S1x1024 ![1] bcast_S1024_S1x1024_1 kbR))) (broadcastInDim S128x1024 ![] bcast_S_S128x1024 (select (cmpi .eq (id (constantI S_ 32 3#32)) (constantI S_ 32 0#32)) (constantI S_ 32 1#32) (id (constantI S_ 32 3#32))))) (broadcastInDim S128x1024 ![] bcast_S_S128x1024 (constantI S_ 32 0#32))) (broadcastInDim S128x1024 ![] bcast_S_S128x1024 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S128x1024 ![0, 1] bcast_S128x1_S128x1024_0_1 (broadcastInDim S128x1 ![0] bcast_S128_S128x1_0 qbR)) (broadcastInDim S128x1024 ![0, 1] bcast_S1x1024_S128x1024_0_1 (broadcastInDim S1x1024 ![1] bcast_S1024_S1x1024_1 kbR))) (broadcastInDim S128x1024 ![] bcast_S_S128x1024 (select (cmpi .eq (id (constantI S_ 32 3#32)) (constantI S_ 32 0#32)) (constantI S_ 32 1#32) (id (constantI S_ 32 3#32))))) (broadcastInDim S128x1024 ![] bcast_S_S128x1024 (constantI S_ 32 0#32)))) (addi (Host.remsi (addi (broadcastInDim S128x1024 ![0, 1] bcast_S128x1_S128x1024_0_1 (broadcastInDim S128x1 ![0] bcast_S128_S128x1_0 qbR)) (broadcastInDim S128x1024 ![0, 1] bcast_S1x1024_S128x1024_0_1 (broadcastInDim S1x1024 ![1] bcast_S1024_S1x1024_1 kbR))) (broadcastInDim S128x1024 ![] bcast_S_S128x1024 (select (cmpi .eq (id (constantI S_ 32 3#32)) (constantI S_ 32 0#32)) (constantI S_ 32 1#32) (id (constantI S_ 32 3#32))))) (broadcastInDim S128x1024 ![] bcast_S_S128x1024 (select (cmpi .eq (id (constantI S_ 32 3#32)) (constantI S_ 32 0#32)) (constantI S_ 32 1#32) (id (constantI S_ 32 3#32))))) (Host.remsi (addi (broadcastInDim S128x1024 ![0, 1] bcast_S128x1_S128x1024_0_1 (broadcastInDim S128x1 ![0] bcast_S128_S128x1_0 qbR)) (broadcastInDim S128x1024 ![0, 1] bcast_S1x1024_S128x1024_0_1 (broadcastInDim S1x1024 ![1] bcast_S1024_S1x1024_1 kbR))) (broadcastInDim S128x1024 ![] bcast_S_S128x1024 (select (cmpi .eq (id (constantI S_ 32 3#32)) (constantI S_ 32 0#32)) (constantI S_ 32 1#32) (id (constantI S_ 32 3#32)))))) (broadcastInDim S128x1024 ![] bcast_S_S128x1024 (constantI S_ 32 0#32)))
def keepR : IVec S128 1 :=
  Host.reduce IntOp.ori maskR (constantI S_ 1 0#1) reducesTo_S128x1024_S128_d1 h_S_
def vsR (VE : FVec Ideal S2x1024x2048 .bf16) : FVec Ideal S2x1024x1 .f32 :=
  extf .f32 (maximumf (Host.divf (broadcastInDim S2x1024x1 ![0, 1] bcast_S2x1024_S2x1024x1_0_1 (Host.reduce FloatOps.maximumf (Host.absf VE) (constant S_ .bf16 0xFF80#16) reducesTo_S2x1024x2048_S2x1024_d2 h_S_)) (broadcastInDim S2x1024x1 ![] bcast_S_S2x1024x1 (constant S_ .bf16 0x42FE#16))) (broadcastInDim S2x1024x1 ![] bcast_S_S2x1024x1 (constant S_ .bf16 0x3586#16))) bitsLt_bf16_f32
def vqR (VE : FVec Ideal S2x1024x2048 .bf16) : FVec Ideal S2x1024x2048 .f32 :=
  mulf (minimumf (broadcastInDim S2x1024x2048 ![] bcast_S_S2x1024x2048 (id (constant S_ .f32 0x42FE0000#32))) (maximumf (broadcastInDim S2x1024x2048 ![] bcast_S_S2x1024x2048 (id (constant S_ .f32 0xC2FE0000#32))) (Host.roundeven (Host.divf (extf .f32 VE bitsLt_bf16_f32) (broadcastInDim S2x1024x2048 ![0, 1, 2] bcast_S2x1024x1_S2x1024x2048_0_1_2 (vsR VE)))))) (broadcastInDim S2x1024x2048 ![0, 1, 2] bcast_S2x1024x1_S2x1024x2048_0_1_2 (vsR VE))
def kqR (KE : FVec Ideal S2x1024x2048 .bf16) : FVec Ideal S2x1024x2048 .f32 :=
  extf .f32 (minimumf (broadcastInDim S2x1024x2048 ![] bcast_S_S2x1024x2048 (truncf .bf16 (constant S_ .f32 0x42FE0000#32) bitsLt_bf16_f32)) (maximumf (broadcastInDim S2x1024x2048 ![] bcast_S_S2x1024x2048 (truncf .bf16 (constant S_ .f32 0xC2FE0000#32) bitsLt_bf16_f32)) (Host.roundeven (mulf KE (broadcastInDim S2x1024x2048 ![] bcast_S_S2x1024x2048 (constant S_ .bf16 0x41A9#16)))))) bitsLt_bf16_f32
def kdR (KE : FVec Ideal S2x1024x2048 .bf16) : FVec Ideal S2x1024x2048 .f32 :=
  mulf (kqR KE) (broadcastInDim S2x1024x2048 ![] bcast_S_S2x1024x2048 (constant S_ .f32 0x3D418306#32))
def qR (X : FVec Ideal S2x128x512 .bf16) (WQ : FVec Ideal S512x2048 .bf16) : FVec Ideal S2x128x2048 .f32 :=
  extf .f32 (truncf .bf16 (Host.dotGeneral dot_S2x128x512_S512x2048_S2x128x2048_2_0_01_1_n_n none (extf .f32 X bitsLt_bf16_f32) (extf .f32 WQ bitsLt_bf16_f32)) bitsLt_bf16_f32) bitsLt_bf16_f32
def scR (X : FVec Ideal S2x128x512 .bf16) (WQ : FVec Ideal S512x2048 .bf16) (KE : FVec Ideal S2x1024x2048 .bf16) : FVec Ideal S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 maskR)) (mulf (extf .f32 (truncf .bf16 (Host.dotGeneral dot_S2x128x32x64_S2x1024x32x64_S2x32x128x1024_3_3_1_1_02_02 none (shapeCast S2x128x32x64 (qR X WQ) shapeCasts_S2x128x2048_S2x128x32x64) (shapeCast S2x1024x32x64 (kdR KE) shapeCasts_S2x1024x2048_S2x1024x32x64)) bitsLt_bf16_f32) bitsLt_bf16_f32) (broadcastInDim S2x32x128x1024 ![] bcast_S_S2x32x128x1024 (constant S_ .f32 0x3E000000#32))) (broadcastInDim S2x32x128x1024 ![] bcast_S_S2x32x128x1024 (id (constant S_ .f32 0xFF800000#32)))
def eR (X : FVec Ideal S2x128x512 .bf16) (WQ : FVec Ideal S512x2048 .bf16) (KE : FVec Ideal S2x1024x2048 .bf16) : FVec Ideal S2x32x128x1024 .f32 :=
  Host.exp (subf (scR X WQ KE) (broadcastInDim S2x32x128x1024 ![0, 1, 2, 3] bcast_S2x32x128x1_S2x32x128x1024_0_1_2_3 (broadcastInDim S2x32x128x1 ![0, 1, 2] bcast_S2x32x128_S2x32x128x1_0_1_2 (Host.reduce FloatOps.maximumf (scR X WQ KE) (constant S_ .f32 0xFF800000#32) reducesTo_S2x32x128x1024_S2x32x128_d3 h_S_))))
def wR (X : FVec Ideal S2x128x512 .bf16) (WQ : FVec Ideal S512x2048 .bf16) (KE : FVec Ideal S2x1024x2048 .bf16) : FVec Ideal S2x32x128x1024 .f32 :=
  select (broadcastInDim S2x32x128x1024 ![0, 1, 2, 3] bcast_S1x1x128x1_S2x32x128x1024_0_1_2_3 (broadcastInDim S1x1x128x1 ![2] bcast_S128_S1x1x128x1_2 keepR)) (Host.divf (eR X WQ KE) (broadcastInDim S2x32x128x1024 ![0, 1, 2, 3] bcast_S2x32x128x1_S2x32x128x1024_0_1_2_3 (select (broadcastInDim S2x32x128x1 ![0, 1, 2, 3] bcast_S1x1x128x1_S2x32x128x1_0_1_2_3 (broadcastInDim S1x1x128x1 ![2] bcast_S128_S1x1x128x1_2 keepR)) (broadcastInDim S2x32x128x1 ![0, 1, 2] bcast_S2x32x128_S2x32x128x1_0_1_2 (Host.reduceAdd (eR X WQ KE) (constant S_ .f32 0x00000000#32) reducesTo_S2x32x128x1024_S2x32x128_d3 h_S_)) (broadcastInDim S2x32x128x1 ![] bcast_S_S2x32x128x1 (id (constant S_ .f32 0x3F800000#32)))))) (broadcastInDim S2x32x128x1024 ![] bcast_S_S2x32x128x1024 (id (constant S_ .f32 0x00000000#32)))
def cxR (X : FVec Ideal S2x128x512 .bf16) (WQ : FVec Ideal S512x2048 .bf16) (KE : FVec Ideal S2x1024x2048 .bf16) (VE : FVec Ideal S2x1024x2048 .bf16) : FVec Ideal S2x32x64x128 .f32 :=
  Host.dotGeneral dot_S2x1024x32x64_S2x32x128x1024_S2x32x64x128_1_3_3_2_02_01 none (shapeCast S2x1024x32x64 (vqR VE) shapeCasts_S2x1024x2048_S2x1024x32x64) (wR X WQ KE)
def outR (X : FVec Ideal S2x128x512 .bf16) (WQ : FVec Ideal S512x2048 .bf16) (KE : FVec Ideal S2x1024x2048 .bf16) (VE : FVec Ideal S2x1024x2048 .bf16) (WO : FVec Ideal S2048x512 .bf16) : FVec Ideal S2x128x512 .f32 :=
  Host.dotGeneral dot_S2x128x2048_S2048x512_S2x128x512_2_0_01_1_n_n none (shapeCast S2x128x2048 (transpose S2x128x32x64 [0, 3, 1, 2] (cxR X WQ KE VE) transposes_S2x32x64x128_S2x128x32x64_0_3_1_2) shapeCasts_S2x128x32x64_S2x128x2048) (extf .f32 WO bitsLt_bf16_f32)

theorem res_eq (m : (ℓ : Loc nD τ sig) → Buf (Elt Ideal) ℓ) (c : Dev nD) :
    Cert.ReferenceIdeal.Value.res_main_v74 m c
      = outR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## The mask -/

theorem qbR_apply (i : Fin 128) : qbR (ix1 i) = BitVec.ofNat 32 (i.val / 64) := by
  pointwise [qbR]
  revert i
  decide +kernel

theorem kbR_apply (t : Fin 1024) : kbR (ix1 t) = BitVec.ofNat 32 (t.val / 64) := by
  pointwise [kbR]
  revert t
  decide +kernel

theorem maskR_apply (i : Fin 128) (t : Fin 1024) : maskR (ix2 i t) = BitVec.ofBool (mk (i.val / 64) (t.val / 64)) := by
  pointwise [maskR]
  rw [qbR_apply, kbR_apply]
  have hq : i.val / 64 < 2 := by omega
  have hk : t.val / 64 < 16 := by omega
  generalize i.val / 64 = q at *
  generalize t.val / 64 = k at *
  revert k
  revert q
  decide +kernel

theorem keepR_apply (i : Fin 128) : keepR (ix1 i) = 1#1 := by
  pointwise [keepR]
  refine (Routing.fold_ori _ _).2 ⟨0, Finset.mem_univ _, ?_⟩
  rw [maskR_apply]
  simp [mk]

/-! ## The quantiser and the queries -/

variable (X : FVec Ideal S2x128x512 .bf16) (WQ : FVec Ideal S512x2048 .bf16) (KE VE : FVec Ideal S2x1024x2048 .bf16)
  (WO : FVec Ideal S2048x512 .bf16)

theorem kqR_apply (b : Fin 2) (t : Fin 1024) (D : Fin 2048) : kqR KE (ix3 b t D) = kqf (KE (ix3 b t D)) := by
  pointwise [kqR]
  rfl

theorem kdR_apply (b : Fin 2) (t : Fin 1024) (D : Fin 2048) :
    kdR KE (ix3 b t D) = kqf (KE (ix3 b t D)) * Ideal.ofBits .f32 0x3D418306#32 := by
  rw [← kqR_apply]
  pointwise [kdR]

theorem vsR_apply (b : Fin 2) (t : Fin 1024) : vsR VE (ix3 b t 0) = vsf fun D => VE (ix3 b t D) := by
  pointwise [vsR]
  rfl

theorem vqR_apply (b : Fin 2) (t : Fin 1024) (D : Fin 2048) :
    vqR VE (ix3 b t D) = vqf (VE (ix3 b t D)) (vsf fun D => VE (ix3 b t D)) * (vsf fun D => VE (ix3 b t D)) := by
  rw [← vsR_apply]
  pointwise [vqR]
  rfl

theorem qR_apply (b : Fin 2) (i : Fin 128) (D : Fin 2048) : qR X WQ (ix3 b i D) = ∑ e : Fin 512, X (ix3 b i e) * WQ (ix2 e D) := by
  pointwise [qR]

/-! ## The attention -/

/-- The column of head `D / 64` at the place `d` in it. -/
def hd (D : Fin 2048) (d : Fin 64) : Fin 2048 := ⟨D.val / 64 * 64 + d.val, by omega⟩
/-- The score of query row `i` against key row `t` in the head that column `D` lies in. -/
def Sc (b : Fin 2) (D : Fin 2048) (i : Fin 128) (t : Fin 1024) : EReal :=
  sq (fun d => ∑ e : Fin 512, X (ix3 b i e) * WQ (ix2 e (hd D d))) (fun d => kqf (KE (ix3 b t (hd D d))))
/-- The value at row `t`, quantised and scaled back. -/
def Vl (b : Fin 2) (t : Fin 1024) (D : Fin 2048) : EReal :=
  vqf (VE (ix3 b t D)) (vsf fun D => VE (ix3 b t D)) * (vsf fun D => VE (ix3 b t D))
/-- The weight, before it is divided, of key row `t` for query row `i`. -/
def Ex (b : Fin 2) (D : Fin 2048) (i : Fin 128) (t : Fin 1024) : EReal :=
  if mk (i.val / 64) (t.val / 64) then Ideal.exp (Sc X WQ KE b D i t - Ideal.ofBits .f32 0x40800000#32) else 0
/-- The attention at column `D`. -/
def CX (b : Fin 2) (i : Fin 128) (D : Fin 2048) : EReal :=
  Ideal.div (∑ t, Ex X WQ KE b D i t * Vl VE b t D) (∑ t, Ex X WQ KE b D i t)

theorem sel (m : Bool) (x y : EReal) : Scalar.select (BitVec.ofBool m) x y = if m then x else y := by
  cases m <;> rfl

theorem scR_apply (hX : ∀ j, ∃ r : ℝ, X j = r) (hW : ∀ j, ∃ r : ℝ, WQ j = r) (b : Fin 2) (D : Fin 2048) (i : Fin 128) (t : Fin 1024) :
    scR X WQ KE (ix4 b ⟨D.val / 64, by omega⟩ i t) = if mk (i.val / 64) (t.val / 64) then Sc X WQ KE b D i t else ⊥ := by
  pointwise [scR]
  rw [maskR_apply, sel]
  simp only [qR_apply, kdR_apply]
  rw [show (id (constant (F := Ideal) S_ FTy.f32 4286578688#32) ix0 : EReal) = ⊥ from Cert.KProof.f32_bot]
  refine congrArg (fun z : EReal => if mk (i.val / 64) (t.val / 64) then z else ⊥) ?_
  exact Cert.KProof.sq_scaled (fun d => ∑ e : Fin 512, X (ix3 b i e) * WQ (ix2 e (hd D d))) (fun d => kqf (KE (ix3 b t (hd D d))))
    (fun d => Cert.KProof.real_sum _ _ (fun e => hX _) fun e => hW _) fun d => Cert.KProof.kqf_real _

theorem eR_apply (b : Fin 2) (h : Fin 32) (i : Fin 128) (t : Fin 1024) :
    eR X WQ KE (ix4 b h i t)
      = Ideal.exp (scR X WQ KE (ix4 b h i t) - Finset.univ.fold max (⊥ : EReal) fun t => scR X WQ KE (ix4 b h i t)) := by
  pointwise [eR]
  rw [Cert.KProof.f32_bot]

theorem wR_apply (b : Fin 2) (h : Fin 32) (i : Fin 128) (t : Fin 1024) :
    wR X WQ KE (ix4 b h i t) = Ideal.div (eR X WQ KE (ix4 b h i t)) (∑ t, eR X WQ KE (ix4 b h i t)) := by
  pointwise [wR]
  rw [keepR_apply]
  rfl

theorem Sc_real (hX : ∀ j, ∃ r : ℝ, X j = r) (hW : ∀ j, ∃ r : ℝ, WQ j = r) (b : Fin 2) (D : Fin 2048) (i : Fin 128) (t : Fin 1024) :
    ∃ r : ℝ, Sc X WQ KE b D i t = r :=
  Cert.KProof.sq_real _ _ (fun d => Cert.KProof.real_sum _ _ (fun e => hX _) fun e => hW _) fun d => Cert.KProof.kqf_real _

theorem cxR_apply (hX : ∀ j, ∃ r : ℝ, X j = r) (hW : ∀ j, ∃ r : ℝ, WQ j = r) (b : Fin 2) (i : Fin 128) (D : Fin 2048) :
    cxR X WQ KE VE (ix4 b ⟨D.val / 64, by omega⟩ ⟨D.val % 64, by omega⟩ i) = CX X WQ KE VE b i D := by
  have hD : ∀ h : D.val / 64 * 64 + D.val % 64 < 2048, (⟨D.val / 64 * 64 + D.val % 64, h⟩ : Fin 2048) = D :=
    fun h => Fin.ext (by simp only; omega)
  pointwise [cxR]
  simp only [hD, wR_apply, eR_apply, scR_apply X WQ KE hX hW, vqR_apply]
  have h := Cert.KProof.softmax_eq (fun t => Sc X WQ KE b D i t) (fun t => mk (i.val / 64) (t.val / 64)) (fun t => Vl VE b t D)
    (Sc_real X WQ KE hX hW b D i) 0 (by simp [mk]) (Ideal.ofBits .f32 0x40800000#32) Cert.KProof.shift_real
  exact h.symm

/-- The reference's result. -/
theorem outR_apply (hX : ∀ j, ∃ r : ℝ, X j = r) (hW : ∀ j, ∃ r : ℝ, WQ j = r) (b : Fin 2) (i : Fin 128) (n : Fin 512) :
    outR X WQ KE VE WO (ix3 b i n) = ∑ D : Fin 2048, CX X WQ KE VE b i D * WO (ix2 D n) := by
  pointwise [outR]
  exact Finset.sum_congr rfl fun D _ => congrArg (· * _) (cxR_apply X WQ KE VE hX hW b i D)

end Cert.RProof
-- ==== Proof.KerVal.lean ====
/- What the kernel's payloads compute on the extended reals, and the fold of the attention put together from them. -/
module

public import proofs.«01_k».proof.Proof.Num
public import proofs.«01_k».proof.Proof.Slots
public import proofs.«01_k».proof.Proof.RefVal

@[expose] public section

set_option maxRecDepth 16384

noncomputable section

namespace Cert.KProof

open Cert.KernelIdeal Cert.KernelIdeal.Gen
open Idealize.ShloMosaic Idealize.ShloMosaic.Pointwise
open Idealize.ShloMosaic.TcCoe
open Cert.RProof (hd Sc Vl Ex CX sel outR outR_apply)

variable (m : (ℓ : Loc nD τ sig) → Buf (Elt Ideal) ℓ) (ρ : Dev nD → PrngReg)

/-! ## The payloads -/

theorem pay1_apply (v : Vec Ideal S2x128x2048 .bf16) (b : Fin 2) (k : Fin 128) (D : Fin 2048) :
    (k0_pay1 v (ix3 b k D) : BitVec 8) = Ideal.fptosi 8 (kqf (v (ix3 b k D))) := by
  pointwise [k0_pay1]
  rfl

theorem pay4_apply (v : Vec Ideal S2x128x2048 .bf16) (b : Fin 2) (k : Fin 128) :
    k0_pay4 v (ix2 b k) = vsf fun D => v (ix3 b k D) := by
  pointwise [k0_pay4, k0_pay2, k0_pay3]
  rfl

theorem pay6_apply (v : Vec Ideal S2x128x2048 .bf16) (b : Fin 2) (k : Fin 128) (D : Fin 2048) :
    (k0_pay6 (k0_pay5 v) (ix3 b k D) : BitVec 8) = Ideal.fptosi 8 (vqf (v (ix3 b k D)) (vsf fun D => v (ix3 b k D))) := by
  pointwise [k0_pay4, k0_pay2, k0_pay3, k0_pay5, k0_pay6]
  rfl

theorem qOf_apply (x : Vec Ideal S2x128x512 .bf16) (w : Vec Ideal S512x256 .bf16) (j : Fin 8) (i : Fin 128) (d : Fin 64) :
    qOf x w j (ix2 i d)
      = ∑ e : Fin 512, x (ix3 (⟨j.val / 4, by omega⟩ : Fin 2) i e) * w (ix2 e (⟨64 * (j.val % 4) + d.val, by omega⟩ : Fin 256)) := by
  fin_cases j
  all_goals
    simp only [qOf]
    pointwise [k0_pay8, k0_pay10, k0_pay9, k0_pay11, k0_pay12, k0_pay13, k0_pay14, k0_pay15, k0_pay16, k0_pay7]
    refine Finset.sum_congr rfl fun e _ => ?_
    refine congrArg₂ _ (congrArg x ?_) (congrArg w ?_)
    · refine congrArg₂ (fun a b => ix3 a b e) (Fin.ext ?_) (Fin.ext ?_)
      · simp
      · simp
    · refine congrArg (fun a => ix2 e a) (Fin.ext ?_)
      simp

theorem pay34_apply (w : Fin 8) (i k : Fin 128) :
    k0_pay34 (BitVec.ofNat 32 w.val) (ix2 i k) = BitVec.ofNat 32 ((128 * w.val + k.val) / 64) := by
  pointwise [k0_pay34]
  revert w k
  decide +kernel

theorem maskW_apply (w : Fin 8) (i k : Fin 128) :
    maskW (BitVec.ofNat 32 w.val) (ix2 i k) = BitVec.ofBool (mk (i.val / 64) ((128 * w.val + k.val) / 64)) := by
  have h := pay34_apply w i k
  pointwise [maskW, k0_pay38, k0_pay35, k0_pay36, k0_pay37, k0_pay17]
  rw [h]
  generalize hq : (128 * w.val + k.val) / 64 = q
  have hq' : q < 16 := by omega
  clear h hq
  obtain ⟨q, rfl⟩ : ∃ q' : Fin 16, q = q'.val := ⟨⟨q, hq'⟩, rfl⟩
  clear hq' k w
  revert i q
  decide +kernel

theorem pay44_apply (q : FVec Ideal S128x64 .bf16) (a : FVec Ideal S128x1 .f32) (M : IVec S128x128 1) (kk : Vec Ideal S1x1x128x64 .i8) (i : Fin 128)
    (B : Fin 128 → Bool) (hM : ∀ k, M (ix2 i k) = BitVec.ofBool (B k)) :
    k0_pay44 q a M kk (ix2 i 0) = a (ix2 i 0) + ∑ k : Fin 128,
      if B k then Ideal.exp (sq (fun d => q (ix2 i d)) (fun d => (((kk (ix4 0 0 k d) : BitVec 8).toInt : ℝ) : EReal)) - Ideal.ofBits .f32 0x40800000#32) else 0 := by
  pointwise [k0_pay44, k0_pay43, k0_pay40, k0_pay41, k0_pay42]
  refine congrArg (a (ix2 i 0) + ·) (Finset.sum_congr rfl fun k _ => ?_)
  rw [hM k, sel]
  rfl

theorem pay45_apply (q : FVec Ideal S128x64 .bf16) (a : FVec Ideal S128x64 .f32) (M : IVec S128x128 1) (vs : Vec Ideal S1x1x128 .bf16)
    (kk vv : Vec Ideal S1x1x128x64 .i8) (i : Fin 128) (d : Fin 64) (B : Fin 128 → Bool) (hM : ∀ k, M (ix2 i k) = BitVec.ofBool (B k)) :
    k0_pay45 q a M (k0_pay39 vs) kk vv (ix2 i d) = a (ix2 i d) + ∑ k : Fin 128,
      (if B k then Ideal.exp (sq (fun d => q (ix2 i d)) (fun d => (((kk (ix4 0 0 k d) : BitVec 8).toInt : ℝ) : EReal)) - Ideal.ofBits .f32 0x40800000#32) else 0)
        * ((((vv (ix4 0 0 k d) : BitVec 8).toInt : ℝ) : EReal) * vs (ix3 0 0 k)) := by
  pointwise [k0_pay45, k0_pay43, k0_pay40, k0_pay41, k0_pay42, k0_pay39]
  refine congrArg (a (ix2 i d) + ·) (Finset.sum_congr rfl fun k _ => ?_)
  rw [hM k, sel]
  cases B k
  · exact (zero_mul _).symm
  · rfl

theorem pay322_apply (g : CSl Ideal) (r : Fin 32) (n : Fin 512) : k0_pay322 g (ix2 r n) = ∑ s : Fin 8, g (ix3 s r n) := by
  pointwise [k0_pay322]

theorem pay323_apply (g : CSl Ideal) (b : Fin 2) (r : Fin 128) (n : Fin 512) :
    k0_pay323 g (ix3 b r n) = g (ix3 ⟨b.val * 4 + r.val / 32, by omega⟩ ⟨r.val % 32, by omega⟩ n) := by
  pointwise [k0_pay323]

theorem pay26_apply (i : Fin 128) : (k0_pay26 (F := Ideal)) (ix2 i 0) = 0 := by
  pointwise [k0_pay26]
theorem pay18_apply (i : Fin 128) (d : Fin 64) : (k0_pay18 (F := Ideal)) (ix2 i d) = 0 := by
  pointwise [k0_pay18]

theorem div_at (o : Fin 8 → FVec Ideal S128x64 .f32) (l : Fin 8 → FVec Ideal S128x1 .f32) {j j' : Fin 8} {i i' : Fin 128} {d d' : Fin 64}
    (hj : j.val = j'.val) (hi : i.val = i'.val) (hd : d.val = d'.val) :
    Ideal.div (o j (ix2 i d)) (l j (ix2 i 0)) = Ideal.div (o j' (ix2 i' d')) (l j' (ix2 i' 0)) := by
  rw [Fin.ext hj, Fin.ext hi, Fin.ext hd]

theorem finOf_apply (o : Fin 8 → FVec Ideal S128x64 .f32) (l : Fin 8 → FVec Ideal S128x1 .f32) (w : Vec Ideal S256x512 .bf16)
    (r : Fin 256) (n : Fin 512) :
    finOf o l w (ix2 r n) = ∑ D : Fin 256,
      Ideal.div (o ⟨4 * (r.val / 128) + D.val / 64, by omega⟩ (ix2 ⟨r.val % 128, by omega⟩ ⟨D.val % 64, by omega⟩))
        (l ⟨4 * (r.val / 128) + D.val / 64, by omega⟩ (ix2 ⟨r.val % 128, by omega⟩ 0)) * w (ix2 D n) := by
  pointwise [finOf]
  refine Finset.sum_congr rfl fun D _ => congrArg (· * w (ix2 D n)) ?_
  have hr := r.isLt
  have hD := D.isLt
  split_ifs
  all_goals
    refine div_at o l ?_ ?_ ?_
    all_goals
      simp
      omega

/-! ## The fold over the blocks of keys -/

/-- A row of keys that the mask lets through has landed. -/
theorem mk_landed (s : Dev nD) (i k : Fin 128) (h : mk (i.val / 64) ((128 * s.val + k.val) / 64) = true) :
    half s = true → j0 s ≤ k.val ∧ k.val < j0 s + 64 := by
  have key : ∀ (s : Fin 8) (q kb : Fin 2), mk q.val (2 * s.val + kb.val) = true → half s = true → j0 s = 64 * kb.val := by decide +kernel
  intro hs
  have e : (128 * s.val + k.val) / 64 = 2 * s.val + k.val / 64 := by omega
  rw [e] at h
  have := key s ⟨i.val / 64, by omega⟩ ⟨k.val / 64, by omega⟩ h hs
  simp only at this
  omega

theorem sr_bijective (c : Dev nD) : Function.Bijective fun g : Fin 8 => sr c g.val := by
  revert c
  decide +kernel

/-- The sum over the keys, one block after the other in the order of the fold. -/
theorem sum_blocks (c : Dev nD) (f : Fin 1024 → EReal) :
    ∑ g ∈ Finset.range 8, ∑ k : Fin 128, f ⟨128 * (sr c g).val + k.val, by have := lt8 (sr c g); omega⟩ = ∑ t : Fin 1024, f t := by
  rw [Finset.sum_range fun g => ∑ k : Fin 128, f ⟨128 * (sr c g).val + k.val, by have := lt8 (sr c g); omega⟩]
  rw [Function.Bijective.sum_comp (sr_bijective c) fun s : Fin 8 => ∑ k : Fin 128, f ⟨128 * s.val + k.val, by omega⟩]
  rw [Fin.sum_univ_tiles 8 128 rfl f]
  refine Finset.sum_congr rfl fun s _ => Finset.sum_congr rfl fun k _ => congrArg f (Fin.ext ?_)
  simp
  omega

section
variable (X : Vec Ideal S2x128x512 .bf16) (WQ : (⟨2, ![512, 2048]⟩ : Shape).Idx → EReal) (KE VE : (⟨3, ![2, 1024, 2048]⟩ : Shape).Idx → EReal)
  (WO : (⟨2, ![2048, 512]⟩ : Shape).Idx → EReal)

/-- Every device's blocks are its parts of the whole arrays. -/
structure Parts : Prop where
  x : ∀ c : Dev nD, m ((c : Thread nD τ).loc main_arg0) = X
  wq : ∀ (c : Dev nD) (e : Fin 512) (D : Fin 256), (m ((c : Thread nD τ).loc main_arg1) : S512x256.Idx → EReal) (ix2 e D)
    = WQ (ix2 e ⟨256 * c.val + D.val, by have := lt8 c; omega⟩)
  k : ∀ (c : Dev nD) (b : Fin 2) (k : Fin 128) (D : Fin 2048), (m ((c : Thread nD τ).loc main_arg2) : S2x128x2048.Idx → EReal) (ix3 b k D)
    = KE (ix3 b ⟨128 * c.val + k.val, by have := lt8 c; omega⟩ D)
  v : ∀ (c : Dev nD) (b : Fin 2) (k : Fin 128) (D : Fin 2048), (m ((c : Thread nD τ).loc main_arg3) : S2x128x2048.Idx → EReal) (ix3 b k D)
    = VE (ix3 b ⟨128 * c.val + k.val, by have := lt8 c; omega⟩ D)
  wo : ∀ (c : Dev nD) (D : Fin 256) (n : Fin 512), (m ((c : Thread nD τ).loc main_arg4) : S256x512.Idx → EReal) (ix2 D n)
    = WO (ix2 ⟨256 * c.val + D.val, by have := lt8 c; omega⟩ n)

variable {X WQ KE VE WO}

/-- The column of the whole arrays that entry `d` of head `j % 4` on device `c` is. -/
def colOf (c : Dev nD) (j : Fin 8) (d : Fin 64) : Fin 2048 := ⟨256 * c.val + (64 * (j.val % 4) + d.val), by have := lt8 c; omega⟩
theorem hd_colOf (c : Dev nD) (j : Fin 8) (d e : Fin 64) : hd (colOf c j d) e = colOf c j e :=
  Fin.ext (by show (256 * c.val + (64 * (j.val % 4) + d.val)) / 64 * 64 + e.val = 256 * c.val + (64 * (j.val % 4) + e.val); omega)

abbrev btch (j : Fin 8) : Fin 2 := ⟨j.val / 4, by omega⟩
abbrev keyOf (s : Dev nD) (k : Fin 128) : Fin 1024 := ⟨128 * s.val + k.val, by have := lt8 s; omega⟩

include ρ in
theorem score_eq (h : Parts m X WQ KE VE WO) (c s : Dev nD) (j : Fin 8) (i k : Fin 128) (d : Fin 64) (f : CRv Ideal) (hf : landOk m ρ false s c f)
    (hk : half s = true → j0 s ≤ k.val ∧ k.val < j0 s + 64) :
    sq (fun d => qOf (xst0 m ρ c) (xst1 m ρ c) j (ix2 i d)) (fun d => (((ldK false s j f (ix4 0 0 k d) : BitVec 8).toInt : ℝ) : EReal))
      = Sc X WQ KE (btch j) (colOf c j d) i (keyOf s k) := by
  unfold Sc
  refine congrArg₂ sq (funext fun e => ?_) (funext fun e => ?_)
  · rw [qOf_apply, xst0_eq, xst1_eq, h.x c]
    refine Finset.sum_congr rfl fun a _ => congrArg (X (ix3 (btch j) i a) * ·) ?_
    rw [h.wq c, hd_colOf]
    rfl
  · rw [ldK_apply, landOk_apply m ρ false s c f hf _ _ _ hk, hd_colOf]
    show (((k0_pay1 (xst2 m ρ s) _ : BitVec 8).toInt : ℝ) : EReal) = _
    rw [pay1_apply, kqf_byte, xst2_eq, h.k s]
    rfl

theorem accL_eq (h : Parts m X WQ KE VE WO) (c : Dev nD) (kf : ℕ → CRv Ideal) (j : Fin 8) (i : Fin 128) (d : Fin 64) (N : ℕ)
    (hf : ∀ g, g < N → landOk m ρ false (sr c g) c (kf g)) :
    accL c (qOf (xst0 m ρ c) (xst1 m ρ c)) kf j N (ix2 i 0)
      = ∑ g ∈ Finset.range N, ∑ k : Fin 128, Ex X WQ KE (btch j) (colOf c j d) i (keyOf (sr c g) k) := by
  induction N with
  | zero => exact pay26_apply i
  | succ N ih =>
    rw [Finset.sum_range_succ, ← ih fun g hg => hf g (by omega)]
    refine (pay44_apply _ _ _ _ i _ fun k => maskW_apply (sr c N) i k).trans ?_
    refine congrArg (_ + ·) (Finset.sum_congr rfl fun k _ => ?_)
    unfold Ex
    by_cases hm : mk (i.val / 64) ((128 * (sr c N).val + k.val) / 64) = true
    · rw [if_pos hm, if_pos hm, score_eq m ρ h c (sr c N) j i k d (kf N) (hf N (by omega)) (mk_landed _ i k hm)]
    · rw [if_neg hm, if_neg hm]

theorem accO_eq (h : Parts m X WQ KE VE WO) (c : Dev nD) (kf vf : ℕ → CRv Ideal) (vsf : ℕ → CRs Ideal) (j : Fin 8) (i : Fin 128) (d : Fin 64) (N : ℕ)
    (hf : ∀ g, g < N → landOk m ρ false (sr c g) c (kf g) ∧ landOk m ρ true (sr c g) c (vf g)
      ∧ (slotS (sr c g)).view.read (Elt Ideal) (vsf g) = SVS m ρ (sr c g)) :
    accO c (qOf (xst0 m ρ c) (xst1 m ρ c)) kf vf vsf j N (ix2 i d)
      = ∑ g ∈ Finset.range N, ∑ k : Fin 128, Ex X WQ KE (btch j) (colOf c j d) i (keyOf (sr c g) k) * Vl VE (btch j) (keyOf (sr c g) k) (colOf c j d) := by
  induction N with
  | zero => exact pay18_apply i d
  | succ N ih =>
    rw [Finset.sum_range_succ, ← ih fun g hg => hf g (by omega)]
    obtain ⟨h1, h2, h3⟩ := hf N (by omega)
    refine (pay45_apply _ _ _ _ _ _ i d _ fun k => maskW_apply (sr c N) i k).trans ?_
    refine congrArg (_ + ·) (Finset.sum_congr rfl fun k _ => ?_)
    unfold Ex
    by_cases hm : mk (i.val / 64) ((128 * (sr c N).val + k.val) / 64) = true
    · have hk := mk_landed _ i k hm
      rw [if_pos hm, if_pos hm, score_eq m ρ h c (sr c N) j i k d (kf N) h1 hk]
      refine congrArg (fun y : EReal => Ideal.exp (Sc X WQ KE (btch j) (colOf c j d) i (keyOf (sr c N) k) - Ideal.ofBits .f32 0x40800000#32) * y) ?_
      have hs : (fun D => xst3 m ρ (sr c N) (ix3 (btch j) k D)) = fun D => VE (ix3 (btch j) (keyOf (sr c N) k) D) :=
        funext fun D => by rw [xst3_eq, h.v]
      unfold Vl
      refine congrArg₂ (· * ·) ?_ ?_
      · rw [ldK_apply, landOk_apply m ρ true (sr c N) c (vf N) h2 _ _ _ hk]
        show (((k0_pay6 (k0_pay5 (xst3 m ρ (sr c N))) _ : BitVec 8).toInt : ℝ) : EReal) = _
        rw [pay6_apply, vqf_byte]
        refine congrArg₂ vqf (congrFun hs _) (congrArg KProof.vsf hs)
      · refine (ldS_apply _ _ _ _).trans ((slotS_apply _ _ _ _).symm.trans ((congrFun h3 _).trans ?_))
        exact (pay4_apply _ _ _).trans (congrArg KProof.vsf hs)
    · rw [if_neg hm, if_neg hm, zero_mul, zero_mul]

/-! ## The partial products, their sums and the result -/

theorem AR_apply (h : Parts m X WQ KE VE WO) (c : Dev nD) (w : CAr Ideal) (hw : AR m ρ c w) (r : Fin 256) (n : Fin 512) :
    w (ix2 r n) = ∑ D : Fin 256, CX X WQ KE VE ⟨r.val / 128, by omega⟩ ⟨r.val % 128, by omega⟩ ⟨256 * c.val + D.val, by have := lt8 c; omega⟩
      * WO (ix2 ⟨256 * c.val + D.val, by have := lt8 c; omega⟩ n) := by
  obtain ⟨kf, vf, vsf, hf, rfl⟩ := hw
  unfold arOf
  rw [finOf_apply]
  refine Finset.sum_congr rfl fun D _ => ?_
  rw [xst4_eq, h.wo c]
  refine congrArg (· * _) ?_
  rw [accL_eq m ρ h c kf _ _ ⟨D.val % 64, by omega⟩ 8 fun g hg => (hf g hg).1, accO_eq m ρ h c kf vf vsf _ _ _ 8 hf]
  rw [sum_blocks c fun t => Ex X WQ KE _ _ _ t, sum_blocks c fun t => Ex X WQ KE _ _ _ t * Vl VE _ t _]
  have e1 : btch ⟨4 * (r.val / 128) + D.val / 64, by omega⟩ = ⟨r.val / 128, by omega⟩ := Fin.ext (by simp; omega)
  have e2 : colOf c ⟨4 * (r.val / 128) + D.val / 64, by omega⟩ ⟨D.val % 64, by omega⟩
      = ⟨256 * c.val + D.val, by have := lt8 c; omega⟩ := Fin.ext (by simp [colOf]; omega)
  rw [e1, e2]
  rfl

theorem RED_apply (h : Parts m X WQ KE VE WO) (c : Dev nD) (q : CRd Ideal) (hq : RED m ρ c q) (r : Fin 32) (n : Fin 512) :
    q (ix2 r n) = ∑ D : Fin 2048, CX X WQ KE VE ⟨(32 * c.val + r.val) / 128, by have := lt8 c; omega⟩ ⟨(32 * c.val + r.val) % 128, by omega⟩ D
      * WO (ix2 D n) := by
  obtain ⟨g, hg, rfl⟩ := hq
  rw [pay322_apply, Fin.sum_univ_tiles 8 256 rfl]
  refine Finset.sum_congr rfl fun s _ => ?_
  obtain ⟨w, hw, e⟩ := hg s
  have e := congrFun e (ix2 r n)
  rw [slotR_apply, slabR_apply, AR_apply m ρ h s w hw] at e
  rw [e]
  refine Finset.sum_congr rfl fun D _ => ?_
  have e3 : (⟨256 * s.val + D.val, by omega⟩ : Fin 2048) = ⟨s.val * 256 + D.val, by omega⟩ := Fin.ext (by simp; omega)
  exact congrArg (fun a => CX X WQ KE VE _ _ a * WO (ix2 a n)) e3

theorem OUT_eq (h : Parts m X WQ KE VE WO) (hX : ∀ j, ∃ r : ℝ, X j = r) (hW : ∀ j, ∃ r : ℝ, WQ j = r)
    (o : S2x128x512.Idx → Elt Ideal .f32) (ho : OUT m ρ o) : o = outR X WQ KE VE WO := by
  obtain ⟨g, hg, rfl⟩ := ho
  funext j
  obtain ⟨b, i, n, rfl⟩ : ∃ (b : Fin 2) (i : Fin 128) (n : Fin 512), j = ix3 b i n := ⟨j 0, j 1, j 2, eq_ix3 j⟩
  refine Eq.trans ?_ (outR_apply X WQ KE VE WO hX hW b i n).symm
  refine (pay323_apply g b i n).trans ?_
  obtain ⟨q, hq, e⟩ := hg ⟨b.val * 4 + i.val / 32, by show _ < 8; omega⟩
  have e := congrFun e (ix2 ⟨i.val % 32, by omega⟩ n)
  rw [slotR_apply, RED_apply m ρ h _ q hq] at e
  refine Eq.trans e (Finset.sum_congr rfl fun D _ => congrArg (· * WO (ix2 D n)) ?_)
  refine congrArg₂ (fun b i => CX X WQ KE VE b i D) (Fin.ext ?_) (Fin.ext ?_)
  · simp
    omega
  · simp
    omega

end

end Cert.KProof
-- ==== Proof.Result.lean ====
/- What the precondition and the layout of the arguments give, and the result that the kernel's run leaves. -/
module

public import proofs.«01_k».proof.Defs
public import proofs.«01_k».proof.Proof.KerVal
public import proofs.«01_k».proof.Proof.Launch
public import proofs.«01_k».proof.Proof.Gen.Pre_finite_KernelIdeal
public import Idealize.ShloMosaic.Lib.Layout

@[expose] public section

set_option maxRecDepth 16384

noncomputable section

namespace Cert.KProof

open Cert.KernelIdeal Cert.KernelIdeal.Gen
open Idealize.ShloMosaic Idealize.ShloMosaic.Pointwise
open Idealize.ShloMosaic.TcCoe
open Cert.RProof (outR)

/-! ## The layout -/

theorem block_wq (c : Fin 8) (v : (⟨2, ![512, 2048]⟩ : Shape).Idx → EReal) (e : Fin 512) (D : Fin 256) :
    (Layout.block ⟨2, ![512, 256]⟩ ⟨2, ![512, 2048]⟩ 1 8 c v) (ix2 e D) = v (ix2 e ⟨256 * c.val + D.val, by omega⟩) := by
  rw [Layout.block_apply]
  refine congrArg v (funext fun a => Fin.ext ?_)
  rw [Layout.Tiles.idx_val]
  fin_cases a
  · simp
  · simp
    omega

theorem block_kv (c : Fin 8) (v : (⟨3, ![2, 1024, 2048]⟩ : Shape).Idx → EReal) (b : Fin 2) (k : Fin 128) (D : Fin 2048) :
    (Layout.block ⟨3, ![2, 128, 2048]⟩ ⟨3, ![2, 1024, 2048]⟩ 1 8 c v) (ix3 b k D) = v (ix3 b ⟨128 * c.val + k.val, by omega⟩ D) := by
  rw [Layout.block_apply]
  refine congrArg v (funext fun a => Fin.ext ?_)
  rw [Layout.Tiles.idx_val]
  fin_cases a
  · simp
  · simp
    omega
  · simp

theorem block_wo (c : Fin 8) (v : (⟨2, ![2048, 512]⟩ : Shape).Idx → EReal) (D : Fin 256) (n : Fin 512) :
    (Layout.block ⟨2, ![256, 512]⟩ ⟨2, ![2048, 512]⟩ 0 8 c v) (ix2 D n) = v (ix2 ⟨256 * c.val + D.val, by omega⟩ n) := by
  rw [Layout.block_apply]
  refine congrArg v (funext fun a => Fin.ext ?_)
  rw [Layout.Tiles.idx_val]
  fin_cases a
  · simp
    omega
  · simp

/-! ## The precondition -/

theorem f32_top : Ideal.ofBits .f32 0x7F800000#32 = ⊤ := by
  simp [Ideal.ofBits, Ideal.ieee]

/-- A number whose magnitude is below infinity is real. -/
theorem real_of_lt (x : EReal) (h : max x (-x) < ⊤) : ∃ r : ℝ, x = r := by
  induction x with
  | bot => simp at h
  | top => simp at h
  | coe r => exact ⟨r, rfl⟩

theorem real_of_olt (x : EReal) (h : (FloatOps.cmpf (F := Ideal) (φ := .f32) .olt (max x (-x)) (Ideal.ofBits .f32 0x7F800000#32) : BitVec 1) = 1#1) :
    ∃ r : ℝ, x = r := by
  refine real_of_lt x ?_
  rw [f32_top] at h
  by_contra hn
  have : (FloatOps.cmpf (F := Ideal) (φ := .f32) .olt (max x (-x)) ⊤ : BitVec 1) = 0#1 := by
    show BitVec.ofBool (decide (_ < _)) = _
    rw [decide_eq_false hn]
    rfl
  rw [this] at h
  exact absurd h (by decide)

variable (m : (ℓ : Loc nD τ sig) → Buf (Elt Ideal) ℓ) (ρ : Dev nD → PrngReg)

theorem pre_x (h : Cert.Pre_KernelIdeal_finite_KernelIdeal m) (c : Dev nD) (j : S2x128x512.Idx) :
    ∃ r : ℝ, (m ((c : Thread nD τ).loc main_arg0) : S2x128x512.Idx → EReal) j = (r : EReal) :=
  real_of_olt _ (congrFun (h c).1 j)

theorem pre_wq (h : Cert.Pre_KernelIdeal_finite_KernelIdeal m) (c : Dev nD) (j : S512x256.Idx) :
    ∃ r : ℝ, (m ((c : Thread nD τ).loc main_arg1) : S512x256.Idx → EReal) j = (r : EReal) :=
  real_of_olt _ (congrFun (h c).2 j)

/-- The whole of the first weights is real when every device's block is. -/
theorem wq_real (h : Cert.Pre_KernelIdeal_finite_KernelIdeal m) {X : Vec Ideal S2x128x512 .bf16} {WQ : (⟨2, ![512, 2048]⟩ : Shape).Idx → EReal}
    {KE VE : (⟨3, ![2, 1024, 2048]⟩ : Shape).Idx → EReal} {WO : (⟨2, ![2048, 512]⟩ : Shape).Idx → EReal} (hp : Parts m X WQ KE VE WO)
    (j : (⟨2, ![512, 2048]⟩ : Shape).Idx) : ∃ r : ℝ, WQ j = r := by
  obtain ⟨e, D, rfl⟩ : ∃ (e : Fin 512) (D : Fin 2048), j = ix2 e D := ⟨j 0, j 1, eq_ix2 j⟩
  obtain ⟨r, hr⟩ := pre_wq m h (⟨D.val / 256, by show _ < 8; omega⟩ : Dev nD) (ix2 e (⟨D.val % 256, by omega⟩ : Fin 256))
  refine ⟨r, Eq.trans ?_ hr⟩
  rw [hp.wq]
  exact congrArg (fun D => WQ (ix2 e D)) (Fin.ext (by show D.val = 256 * (D.val / 256) + D.val % 256; omega))

/-! ## The result -/

/-- What a run leaves in the result is what `OUT` says. -/
theorem out_of_run {r : PUnit × MemSt nD τ sig (Elt Ideal)} (h : QC m ρ r) (c : Dev nD) :
    OUT m ρ (r.2.mem ((c.tc : Thread nD τ).loc main_v1)) := by
  have hw : (cfg0.win (5 : Fin 6)).WholeAt t0_0 := by
    unfold Pipeline.Window.WholeAt
    decide +kernel
  obtain ⟨X, hX, e⟩ := Pipeline.RDat.ArrAt.emb_eq_of_wholeAt (h c (5 : Fin 6)) hw
  have hX := Pipeline.Dat.toRRel_leaves (dats m ρ 0 c) (fgt := fgt) (Rl := Rl m ρ) (w := (5 : Fin 6)) rfl hX
  have e' : r.2.mem ((c.tc : Thread nD τ).loc main_v1) = X := funext fun j => e j
  rw [e']
  exact hX

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs have one table of bodies, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
/-- and so one of the calls. -/
theorem defs_eq : Cert.Kernel.defs (F := Bits) = Cert.KernelIdeal.defs (F := Bits) :=
  congrArg (Pipeline.defs (Cert.Kernel.pcfgs (F := Bits))) defs₀_eq

/-- The kernel as printed runs to an end, keeps its arguments and leaves every counter at zero. -/
theorem frame_kernel : Cert.quiescent_Kernel := fun m ρ _ => by
  rw [defs_eq]
  exact Cert.KProof.run_kept (F := Bits) m ρ

/-- So does the idealised one. -/
theorem frame_ideal : Cert.quiescent_KernelIdeal := fun m ρ _ => Cert.KProof.run_kept (F := Ideal) m ρ

/-- With the precondition, all the more. -/
theorem frame_ideal_pre : Cert.quiescent_KernelIdeal_pre_finite_KernelIdeal := fun m ρ _ => Cert.KProof.run_kept (F := Ideal) m ρ

/-- The reference runs to an end and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_ReferenceIdeal := fun m ρ _ => frame_reference m ρ trivial

/-- From each device's parts of the reference's arrays the kernel leaves the reference's result on every device. -/
theorem value : Cert.algebraic_KernelIdeal_ReferenceIdeal_pre_finite_KernelIdeal := by
  intro m g m' g' hpre hlay
  have hp : Cert.KProof.Parts m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hlay c).1
      wq := fun c e D => (congrFun (hlay c).2.1 _).trans (Cert.KProof.block_wq c _ e D)
      k := fun c b k D => (congrFun (hlay c).2.2.1 _).trans (Cert.KProof.block_kv c _ b k D)
      v := fun c b k D => (congrFun (hlay c).2.2.2.1 _).trans (Cert.KProof.block_kv c _ b k D)
      wo := fun c D n => (congrFun (hlay c).2.2.2.2 _).trans (Cert.KProof.block_wo c _ D n) }
  refine ⟨Cert.ReferenceIdeal.Value.res_main_v74 m' 0, ?_, ?_⟩
  · refine (θ_run Cert.KernelIdeal.defs _ _).mono (fun r h c => ⟨?_, Cert.KProof.args_kept m g h.1 c⟩) (Cert.KProof.run_main (F := Ideal) m g)
    refine Eq.trans ?_ (Cert.RProof.res_eq m' 0).symm
    refine Cert.KProof.OUT_eq m g hp (fun j => ?_) (fun j => ?_) _ (Cert.KProof.out_of_run m g h.1 c)
    · obtain ⟨q, e⟩ := Cert.KProof.pre_x m hpre 0 j
      exact ⟨q, (congrFun (hp.x 0) j).symm.trans e⟩
    · exact Cert.KProof.wq_real m hpre hp j
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_pre, frame_reference, frame_reference_pre, trivial, value⟩

end Cert.Proof

end
